-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def preserves_Kernel_KernelIdeal : Prop :=
  IdealRules.named_const.Statement Cert.KernelIdeal.κ "scale" .f32 0x3E38AA3B#32 (((Real.log 2)⁻¹ * (1 / 8) : ℝ) : EReal)
  ∧ IdealRules.named_const.Statement Cert.KernelIdeal.κ "log2e" .f32 0x3FB8AA3B#32 (((Real.log 2)⁻¹ : ℝ) : EReal)
  ∧ IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v50) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v34) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  IdealRules.named_const.Statement Cert.Kernel4Ideal.κ "mask" .f32 0xF149F2CA#32 ⊥
  ∧ IdealRules.named_const.Statement Cert.Kernel4Ideal.κ "scale" .f32 0x3E16C740#32 (((Real.log 2)⁻¹ * (Real.sqrt 96)⁻¹ : ℝ) : EReal)

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
-- ==== Pre_finite.lean ====
abbrev S32x24 : Shape := ⟨2, ![32, 24]⟩
abbrev S8 : Shape := ⟨1, ![8]⟩
abbrev S8x2048x2x4x64 : Shape := ⟨5, ![8, 2048, 2, 4, 64]⟩
abbrev S8x2048x2x64 : Shape := ⟨4, ![8, 2048, 2, 64]⟩
abbrev S_ : Shape := ⟨0, ![]⟩

class Facts : Prop where
  bcast_S_S32x24 : S_.BroadcastsInDim S32x24 (![] : Fin 0 → Fin S32x24.rank)
  bcast_S_S8 : S_.BroadcastsInDim S8 (![] : Fin 0 → Fin S8.rank)
  bcast_S_S8x2048x2x4x64 : S_.BroadcastsInDim S8x2048x2x4x64 (![] : Fin 0 → Fin S8x2048x2x4x64.rank)
  bcast_S_S8x2048x2x64 : S_.BroadcastsInDim S8x2048x2x64 (![] : Fin 0 → Fin S8x2048x2x64.rank)

variable [Facts]

def fn {F : FTy → Type} [FloatOps F] (main_arg0 : FVec F S32x24 .f32) (main_arg1 : FVec F S8 .f32) (main_arg2 : FVec F S8x2048x2x4x64 .f32) (main_arg3 : FVec F S8x2048x2x64 .f32) (main_arg4 : FVec F S8x2048x2x64 .f32) : IVec S32x24 1 × IVec S8 1 × IVec S8x2048x2x4x64 1 × IVec S8x2048x2x64 1 :=
  let main_v0 : FVec F S32x24 .f32 := Host.absf main_arg0
  let main_cst : FVec F S_ .f32 := constant S_ .f32 0x7F800000#32
  let main_v1 : FVec F S32x24 .f32 := broadcastInDim S32x24 ![] bcast_S_S32x24 main_cst
  let main_v2 : IVec S32x24 1 := cmpf .olt main_v0 main_v1
  let main_v3 : FVec F S8 .f32 := Host.absf main_arg1
  let main_cst_0 : FVec F S_ .f32 := constant S_ .f32 0x7F800000#32
  let main_v4 : FVec F S8 .f32 := broadcastInDim S8 ![] bcast_S_S8 main_cst_0
  let main_v5 : IVec S8 1 := cmpf .olt main_v3 main_v4
  let main_v6 : FVec F S8x2048x2x4x64 .f32 := Host.absf main_arg2
  let main_cst_1 : FVec F S_ .f32 := constant S_ .f32 0x7F800000#32
  let main_v7 : FVec F S8x2048x2x4x64 .f32 := broadcastInDim S8x2048x2x4x64 ![] bcast_S_S8x2048x2x4x64 main_cst_1
  let main_v8 : IVec S8x2048x2x4x64 1 := cmpf .olt main_v6 main_v7
  let main_v9 : FVec F S8x2048x2x64 .f32 := Host.absf main_arg3
  let main_cst_2 : FVec F S_ .f32 := constant S_ .f32 0x7F800000#32
  let main_v10 : FVec F S8x2048x2x64 .f32 := broadcastInDim S8x2048x2x64 ![] bcast_S_S8x2048x2x64 main_cst_2
  let main_v11 : IVec S8x2048x2x64 1 := cmpf .olt main_v9 main_v10
  (main_v2, main_v5, main_v8, main_v11)
-- ==== Kernel.lean ====
abbrev S32x24 : Shape := ⟨2, ![32, 24]⟩
abbrev S8 : Shape := ⟨1, ![8]⟩
abbrev S8x2048x2x4x64 : Shape := ⟨5, ![8, 2048, 2, 4, 64]⟩
abbrev S8x2048x2x64 : Shape := ⟨4, ![8, 2048, 2, 64]⟩
abbrev S2 : Shape := ⟨1, ![2]⟩
abbrev S2x1x1 : Shape := ⟨3, ![2, 1, 1]⟩
abbrev S128 : Shape := ⟨1, ![128]⟩
abbrev S1x128x1 : Shape := ⟨3, ![1, 128, 1]⟩
abbrev S1x1x128 : Shape := ⟨3, ![1, 1, 128]⟩
abbrev S_ : Shape := ⟨0, ![]⟩
abbrev S2x1x128 : Shape := ⟨3, ![2, 1, 128]⟩
abbrev S2x128x128 : Shape := ⟨3, ![2, 128, 128]⟩
abbrev S32x8 : Shape := ⟨2, ![32, 8]⟩
abbrev S2x128x128x1 : Shape := ⟨4, ![2, 128, 128, 1]⟩
abbrev S2x128x128x8 : Shape := ⟨4, ![2, 128, 128, 8]⟩
abbrev S8x2x128x128 : Shape := ⟨4, ![8, 2, 128, 128]⟩
abbrev S8x2048x512 : Shape := ⟨3, ![8, 2048, 512]⟩
abbrev S8x2048x128 : Shape := ⟨3, ![8, 2048, 128]⟩
abbrev S8x16x128x2x64 : Shape := ⟨5, ![8, 16, 128, 2, 64]⟩
abbrev S8x16x2x64x128 : Shape := ⟨5, ![8, 16, 2, 64, 128]⟩
abbrev S8x16x2x16x128 : Shape := ⟨5, ![8, 16, 2, 16, 128]⟩
abbrev S8x16x2x80x128 : Shape := ⟨5, ![8, 16, 2, 80, 128]⟩
abbrev S8x16x160x128 : Shape := ⟨4, ![8, 16, 160, 128]⟩
abbrev S1x2048x512 : Shape := ⟨3, ![1, 2048, 512]⟩
abbrev S1x2048x128 : Shape := ⟨3, ![1, 2048, 128]⟩
abbrev S1x16x160x128 : Shape := ⟨4, ![1, 16, 160, 128]⟩
abbrev S128x2048 : Shape := ⟨2, ![128, 2048]⟩
abbrev S1x128x64 : Shape := ⟨3, ![1, 128, 64]⟩
abbrev S128x64 : Shape := ⟨2, ![128, 64]⟩
abbrev S512x64 : Shape := ⟨2, ![512, 64]⟩
abbrev S1x1x128x128 : Shape := ⟨4, ![1, 1, 128, 128]⟩
abbrev S128x128 : Shape := ⟨2, ![128, 128]⟩
abbrev S128x512 : Shape := ⟨2, ![128, 512]⟩
abbrev S1 : Shape := ⟨1, ![1]⟩
abbrev S1x128 : Shape := ⟨2, ![1, 128]⟩
abbrev S1x512 : Shape := ⟨2, ![1, 512]⟩
abbrev S1x2048 : Shape := ⟨2, ![1, 2048]⟩
abbrev S2048 : Shape := ⟨1, ![2048]⟩
abbrev S1x1x80x128 : Shape := ⟨4, ![1, 1, 80, 128]⟩
abbrev S80x128 : Shape := ⟨2, ![80, 128]⟩
abbrev S80x512 : Shape := ⟨2, ![80, 512]⟩
abbrev S80x2048 : Shape := ⟨2, ![80, 2048]⟩
abbrev S64x2048 : Shape := ⟨2, ![64, 2048]⟩
abbrev S64x128 : Shape := ⟨2, ![64, 128]⟩
abbrev S64x256 : Shape := ⟨2, ![64, 256]⟩
abbrev S512x256 : Shape := ⟨2, ![512, 256]⟩
abbrev S256x512 : Shape := ⟨2, ![256, 512]⟩
abbrev S1x256x512 : Shape := ⟨3, ![1, 256, 512]⟩

abbrev nBuf : Space → Nat
  | .hbm => 70
  | .vmem => 9
  | .smem => 1
  | _ => 0

abbrev bufTy : (tb : Table) → Fin (tcTables nBuf tb) → BufTy
  | .hbm, ⟨0, _⟩ => ⟨S32x24, .f32⟩
  | .hbm, ⟨1, _⟩ => ⟨S8, .f32⟩
  | .hbm, ⟨2, _⟩ => ⟨S8x2048x2x4x64, .f32⟩
  | .hbm, ⟨3, _⟩ => ⟨S8x2048x2x64, .f32⟩
  | .hbm, ⟨4, _⟩ => ⟨S8x2048x2x64, .f32⟩
  | .hbm, ⟨5, _⟩ => ⟨S2, .i32⟩
  | .hbm, ⟨6, _⟩ => ⟨S2x1x1, .i32⟩
  | .hbm, ⟨7, _⟩ => ⟨S128, .i32⟩
  | .hbm, ⟨8, _⟩ => ⟨S1x128x1, .i32⟩
  | .hbm, ⟨9, _⟩ => ⟨S128, .i32⟩
  | .hbm, ⟨10, _⟩ => ⟨S1x1x128, .i32⟩
  | .hbm, ⟨11, _⟩ => ⟨S_, .i32⟩
  | .hbm, ⟨12, _⟩ => ⟨S2x1x1, .i32⟩
  | .hbm, ⟨13, _⟩ => ⟨S2x1x1, .i32⟩
  | .hbm, ⟨14, _⟩ => ⟨S2x1x128, .i32⟩
  | .hbm, ⟨15, _⟩ => ⟨S2x1x128, .i32⟩
  | .hbm, ⟨16, _⟩ => ⟨S2x1x128, .i32⟩
  | .hbm, ⟨17, _⟩ => ⟨S2x128x128, .i32⟩
  | .hbm, ⟨18, _⟩ => ⟨S2x128x128, .i32⟩
  | .hbm, ⟨19, _⟩ => ⟨S2x128x128, .i32⟩
  | .hbm, ⟨20, _⟩ => ⟨S_, .i32⟩
  | .hbm, ⟨21, _⟩ => ⟨S2x128x128, .i32⟩
  | .hbm, ⟨22, _⟩ => ⟨S2x128x128, .i32⟩
  | .hbm, ⟨23, _⟩ => ⟨S_, .i32⟩
  | .hbm, ⟨24, _⟩ => ⟨S2x128x128, .i32⟩
  | .hbm, ⟨25, _⟩ => ⟨S2x128x128, .i32⟩
  | .hbm, ⟨26, _⟩ => ⟨S2x128x128, .f32⟩
  | .hbm, ⟨27, _⟩ => ⟨S_, .f32⟩
  | .hbm, ⟨28, _⟩ => ⟨S2x128x128, .f32⟩
  | .hbm, ⟨29, _⟩ => ⟨S2x128x128, .f32⟩
  | .hbm, ⟨30, _⟩ => ⟨S2x128x128, .f32⟩
  | .hbm, ⟨31, _⟩ => ⟨S_, .f32⟩
  | .hbm, ⟨32, _⟩ => ⟨S2x128x128, .f32⟩
  | .hbm, ⟨33, _⟩ => ⟨S2x128x128, .f32⟩
  | .hbm, ⟨34, _⟩ => ⟨S_, .f32⟩
  | .hbm, ⟨35, _⟩ => ⟨S2x128x128, .f32⟩
  | .hbm, ⟨36, _⟩ => ⟨S2x128x128, .f32⟩
  | .hbm, ⟨37, _⟩ => ⟨S2x128x128, .i32⟩
  | .hbm, ⟨38, _⟩ => ⟨S_, .i32⟩
  | .hbm, ⟨39, _⟩ => ⟨S2x128x128, .i32⟩
  | .hbm, ⟨40, _⟩ => ⟨S2x128x128, .i32⟩
  | .hbm, ⟨41, _⟩ => ⟨S_, .i32⟩
  | .hbm, ⟨42, _⟩ => ⟨S2x128x128, .i32⟩
  | .hbm, ⟨43, _⟩ => ⟨S2x128x128, .i1⟩
  | .hbm, ⟨44, _⟩ => ⟨S_, .i32⟩
  | .hbm, ⟨45, _⟩ => ⟨S2x128x128, .i32⟩
  | .hbm, ⟨46, _⟩ => ⟨S2x128x128, .i32⟩
  | .hbm, ⟨47, _⟩ => ⟨S2x128x128, .i32⟩
  | .hbm, ⟨48, _⟩ => ⟨S32x8, .f32⟩
  | .hbm, ⟨49, _⟩ => ⟨S_, .i32⟩
  | .hbm, ⟨50, _⟩ => ⟨S2x128x128, .i32⟩
  | .hbm, ⟨51, _⟩ => ⟨S2x128x128, .i1⟩
  | .hbm, ⟨52, _⟩ => ⟨S_, .i32⟩
  | .hbm, ⟨53, _⟩ => ⟨S2x128x128, .i32⟩
  | .hbm, ⟨54, _⟩ => ⟨S2x128x128, .i32⟩
  | .hbm, ⟨55, _⟩ => ⟨S2x128x128, .i32⟩
  | .hbm, ⟨56, _⟩ => ⟨S2x128x128x1, .i32⟩
  | .hbm, ⟨57, _⟩ => ⟨S2x128x128x8, .f32⟩
  | .hbm, ⟨58, _⟩ => ⟨S8x2x128x128, .f32⟩
  | .hbm, ⟨59, _⟩ => ⟨S8x2048x512, .f32⟩
  | .hbm, ⟨60, _⟩ => ⟨S8x2048x128, .f32⟩
  | .hbm, ⟨61, _⟩ => ⟨S8x2048x128, .bf16⟩
  | .hbm, ⟨62, _⟩ => ⟨S8x16x128x2x64, .f32⟩
  | .hbm, ⟨63, _⟩ => ⟨S8x16x2x64x128, .f32⟩
  | .hbm, ⟨64, _⟩ => ⟨S_, .f32⟩
  | .hbm, ⟨65, _⟩ => ⟨S8x16x2x16x128, .f32⟩
  | .hbm, ⟨66, _⟩ => ⟨S8x16x2x80x128, .f32⟩
  | .hbm, ⟨67, _⟩ => ⟨S8x16x160x128, .f32⟩
  | .hbm, ⟨68, _⟩ => ⟨S8x16x160x128, .bf16⟩
  | .hbm, ⟨69, _⟩ => ⟨S8x2048x512, .bf16⟩
  | .local _ .vmem, ⟨0, _⟩ => ⟨S1x2048x512, .f32⟩
  | .local _ .vmem, ⟨1, _⟩ => ⟨S1x2048x512, .f32⟩
  | .local _ .vmem, ⟨2, _⟩ => ⟨S1x2048x128, .bf16⟩
  | .local _ .vmem, ⟨3, _⟩ => ⟨S1x2048x128, .bf16⟩
  | .local _ .vmem, ⟨4, _⟩ => ⟨S1x16x160x128, .bf16⟩
  | .local _ .vmem, ⟨5, _⟩ => ⟨S1x16x160x128, .bf16⟩
  | .local _ .vmem, ⟨6, _⟩ => ⟨S8x2x128x128, .f32⟩
  | .local _ .vmem, ⟨7, _⟩ => ⟨S1x2048x512, .bf16⟩
  | .local _ .vmem, ⟨8, _⟩ => ⟨S1x2048x512, .bf16⟩
  | .local _ .smem, ⟨0, _⟩ => ⟨S8, .f32⟩
  | _, _ => ⟨S32x24, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c_0 : Ref sig .tc := ⟨.hbm, 20, rfl⟩
abbrev main_v14 : Ref sig .tc := ⟨.hbm, 21, rfl⟩
abbrev main_v15 : Ref sig .tc := ⟨.hbm, 22, rfl⟩
abbrev main_c_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c_4 : Ref sig .tc := ⟨.hbm, 38, rfl⟩
abbrev main_v27 : Ref sig .tc := ⟨.hbm, 39, rfl⟩
abbrev main_v28 : Ref sig .tc := ⟨.hbm, 40, rfl⟩
abbrev main_c_5 : Ref sig .tc := ⟨.hbm, 41, rfl⟩
abbrev main_v29 : Ref sig .tc := ⟨.hbm, 42, rfl⟩
abbrev main_v30 : Ref sig .tc := ⟨.hbm, 43, rfl⟩
abbrev main_c_6 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_c_7 : Ref sig .tc := ⟨.hbm, 49, rfl⟩
abbrev main_v35 : Ref sig .tc := ⟨.hbm, 50, rfl⟩
abbrev main_v36 : Ref sig .tc := ⟨.hbm, 51, rfl⟩
abbrev main_c_8 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_9 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c8_i32 : BitVec 32 := 8#32
  let v0 : BitVec 32 := Scalar.addi c0_i32 c8_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg7 : BitVec 32 := Scf.iv c0_i32 c1_i32 k0_t1
  let c2_i32 : BitVec 32 := 2#32
  let v5 : BitVec 32 := Scalar.muli arg7 c2_i32
  let c0_i32_1 : BitVec 32 := 0#32
  let v6 : BitVec 32 := Scalar.addi v5 c0_i32_1
  let c128_i32 : BitVec 32 := 128#32
  let v9 : BitVec 32 := Scalar.muli v6 c128_i32
  v9
def k0_off1 (k0_t1 : Fin k0_t1_loop.trips) (c0_i32_1 : BitVec 32) : Fin 3 → Nat :=
  let c0 : Index := 0#32
  let c0_i32 : BitVec 32 := 0#32
  let c1_i32 : BitVec 32 := 1#32
  let arg7 : BitVec 32 := Scf.iv c0_i32 c1_i32 k0_t1
  let c2_i32 : BitVec 32 := 2#32
  let v5 : BitVec 32 := Scalar.muli arg7 c2_i32
  let v6 : BitVec 32 := Scalar.addi v5 c0_i32_1
  let c128_i32 : BitVec 32 := 128#32
  let v9 : BitVec 32 := Scalar.muli v6 c128_i32
  let v10 : BitVec 32 := v9
  let v11 : Index := Scalar.indexCast v10
  let c0_4 : Index := 0#32
  ![0, v11.toNat, 0]
def k0_off2 (k0_t1 : Fin k0_t1_loop.trips) (c0_i32_1 : BitVec 32) : Fin 3 → Nat :=
  let c0_5 : Index := 0#32
  let c0_i32 : BitVec 32 := 0#32
  let c1_i32 : BitVec 32 := 1#32
  let arg7 : BitVec 32 := Scf.iv c0_i32 c1_i32 k0_t1
  let c2_i32 : BitVec 32 := 2#32
  let v5 : BitVec 32 := Scalar.muli arg7 c2_i32
  let v6 : BitVec 32 := Scalar.addi v5 c0_i32_1
  let c128_i32 : BitVec 32 := 128#32
  let v9 : BitVec 32 := Scalar.muli v6 c128_i32
  let v10 : BitVec 32 := v9
  let v14 : Index := Scalar.indexCast v10
  let c64 : Index := 64#32
  ![0, v14.toNat, 64]
def k0_off3 (k0_t1 : Fin k0_t1_loop.trips) (c0_i32_1 : BitVec 32) : Fin 3 → Nat :=
  let c0_6 : Index := 0#32
  let c0_i32 : BitVec 32 := 0#32
  let c1_i32 : BitVec 32 := 1#32
  let arg7 : BitVec 32 := Scf.iv c0_i32 c1_i32 k0_t1
  let c2_i32 : BitVec 32 := 2#32
  let v5 : BitVec 32 := Scalar.muli arg7 c2_i32
  let v6 : BitVec 32 := Scalar.addi v5 c0_i32_1
  let c128_i32 : BitVec 32 := 128#32
  let v9 : BitVec 32 := Scalar.muli v6 c128_i32
  let v10 : BitVec 32 := v9
  let v17 : Index := Scalar.indexCast v10
  let c128 : Index := 128#32
  ![0, v17.toNat, 128]
def k0_off4 (k0_t1 : Fin k0_t1_loop.trips) (c0_i32_1 : BitVec 32) : Fin 3 → Nat :=
  let c0_7 : Index := 0#32
  let c0_i32 : BitVec 32 := 0#32
  let c1_i32 : BitVec 32 := 1#32
  let arg7 : BitVec 32 := Scf.iv c0_i32 c1_i32 k0_t1
  let c2_i32 : BitVec 32 := 2#32
  let v5 : BitVec 32 := Scalar.muli arg7 c2_i32
  let v6 : BitVec 32 := Scalar.addi v5 c0_i32_1
  let c128_i32 : BitVec 32 := 128#32
  let v9 : BitVec 32 := Scalar.muli v6 c128_i32
  let v10 : BitVec 32 := v9
  let v20 : Index := Scalar.indexCast v10
  let c192 : Index := 192#32
  ![0, v20.toNat, 192]
def k0_mult2 (k0_t1 : Fin k0_t1_loop.trips) : BitVec 32 :=
  let c0_i32 : BitVec 32 := 0#32
  let c1_i32 : BitVec 32 := 1#32
  let arg7 : BitVec 32 := Scf.iv c0_i32 c1_i32 k0_t1
  let c2_i32 : BitVec 32 := 2#32
  let v5 : BitVec 32 := Scalar.muli arg7 c2_i32
  let c0_i32_1 : BitVec 32 := 0#32
  let v6 : BitVec 32 := Scalar.addi v5 c0_i32_1
  let c128_i32_39 : BitVec 32 := 128#32
  let v49 : BitVec 32 := Scalar.muli v6 c128_i32_39
  v49
def k0_off5 (k0_t1 : Fin k0_t1_loop.trips) (c0_i32_1 : BitVec 32) : Fin 3 → Nat :=
  let c0_40 : Index := 0#32
  let c0_i32 : BitVec 32 := 0#32
  let c1_i32 : BitVec 32 := 1#32
  let arg7 : BitVec 32 := Scf.iv c0_i32 c1_i32 k0_t1
  let c2_i32 : BitVec 32 := 2#32
  let v5 : BitVec 32 := Scalar.muli arg7 c2_i32
  let v6 : BitVec 32 := Scalar.addi v5 c0_i32_1
  let c128_i32_39 : BitVec 32 := 128#32
  let v49 : BitVec 32 := Scalar.muli v6 c128_i32_39
  let v50 : BitVec 32 := v49
  let v51 : Index := Scalar.indexCast v50
  let c0_41 : Index := 0#32
  ![0, v51.toNat, 0]
def k0_mult3 (k0_t1 : Fin k0_t1_loop.trips) : BitVec 32 :=
  let c0_i32 : BitVec 32 := 0#32
  let c1_i32 : BitVec 32 := 1#32
  let arg7 : BitVec 32 := Scf.iv c0_i32 c1_i32 k0_t1
  let c2_i32 : BitVec 32 := 2#32
  let v5 : BitVec 32 := Scalar.muli arg7 c2_i32
  let c0_i32_1 : BitVec 32 := 0#32
  let v6 : BitVec 32 := Scalar.addi v5 c0_i32_1
  let c1_i32_2 : BitVec 32 := 1#32
  let v7 : BitVec 32 := Scalar.subi v6 c1_i32_2
  let c0_i32_3 : BitVec 32 := 0#32
  let v8 : BitVec 32 := Scalar.maxsi v7 c0_i32_3
  let c128_i32_43 : BitVec 32 := 128#32
  let v56 : BitVec 32 := Scalar.muli v8 c128_i32_43
  v56
def k0_off6 (k0_t1 : Fin k0_t1_loop.trips) (c0_i32_1 : BitVec 32) : Fin 3 → Nat :=
  let c0_44 : Index := 0#32
  let c0_i32 : BitVec 32 := 0#32
  let c1_i32 : BitVec 32 := 1#32
  let arg7 : BitVec 32 := Scf.iv c0_i32 c1_i32 k0_t1
  let c2_i32 : BitVec 32 := 2#32
  let v5 : BitVec 32 := Scalar.muli arg7 c2_i32
  let v6 : BitVec 32 := Scalar.addi v5 c0_i32_1
  let c1_i32_2 : BitVec 32 := 1#32
  let v7 : BitVec 32 := Scalar.subi v6 c1_i32_2
  let c0_i32_3 : BitVec 32 := 0#32
  let v8 : BitVec 32 := Scalar.maxsi v7 c0_i32_3
  let c128_i32_43 : BitVec 32 := 128#32
  let v56 : BitVec 32 := Scalar.muli v8 c128_i32_43
  let v57 : BitVec 32 := v56
  let v58 : Index := Scalar.indexCast v57
  let c0_45 : Index := 0#32
  ![0, v58.toNat, 0]
def k0_mult4 (k0_t1 : Fin k0_t1_loop.trips) : BitVec 32 :=
  let c0_i32 : BitVec 32 := 0#32
  let c1_i32 : BitVec 32 := 1#32
  let arg7 : BitVec 32 := Scf.iv c0_i32 c1_i32 k0_t1
  let c2_i32_58 : BitVec 32 := 2#32
  let v78 : BitVec 32 := Scalar.muli arg7 c2_i32_58
  let c1_i32_59 : BitVec 32 := 1#32
  let v79 : BitVec 32 := Scalar.addi v78 c1_i32_59
  let c128_i32_62 : BitVec 32 := 128#32
  let v82 : BitVec 32 := Scalar.muli v79 c128_i32_62
  v82
def k0_mult5 (k0_t1 : Fin k0_t1_loop.trips) : BitVec 32 :=
  let c0_i32 : BitVec 32 := 0#32
  let c1_i32 : BitVec 32 := 1#32
  let arg7 : BitVec 32 := Scf.iv c0_i32 c1_i32 k0_t1
  let c2_i32_58 : BitVec 32 := 2#32
  let v78 : BitVec 32 := Scalar.muli arg7 c2_i32_58
  let c1_i32_59 : BitVec 32 := 1#32
  let v79 : BitVec 32 := Scalar.addi v78 c1_i32_59
  let c128_i32_106 : BitVec 32 := 128#32
  let v122 : BitVec 32 := Scalar.muli v79 c128_i32_106
  v122
def k0_mult6 (k0_t1 : Fin k0_t1_loop.trips) : BitVec 32 :=
  let c0_i32 : BitVec 32 := 0#32
  let c1_i32 : BitVec 32 := 1#32
  let arg7 : BitVec 32 := Scf.iv c0_i32 c1_i32 k0_t1
  let c2_i32_58 : BitVec 32 := 2#32
  let v78 : BitVec 32 := Scalar.muli arg7 c2_i32_58
  let c1_i32_59 : BitVec 32 := 1#32
  let v79 : BitVec 32 := Scalar.addi v78 c1_i32_59
  let c1_i32_60 : BitVec 32 := 1#32
  let v80 : BitVec 32 := Scalar.subi v79 c1_i32_60
  let c0_i32_61 : BitVec 32 := 0#32
  let v81 : BitVec 32 := Scalar.maxsi v80 c0_i32_61
  let c128_i32_110 : BitVec 32 := 128#32
  let v129 : BitVec 32 := Scalar.muli v81 c128_i32_110
  v129
def k0_mult7 (k0_t1 : Fin k0_t1_loop.trips) : BitVec 32 :=
  let c0_i32 : BitVec 32 := 0#32
  let c1_i32 : BitVec 32 := 1#32
  let arg7 : BitVec 32 := Scf.iv c0_i32 c1_i32 k0_t1
  let c2_i32_125 : BitVec 32 := 2#32
  let v151 : BitVec 32 := Scalar.muli arg7 c2_i32_125
  let c0_i32_126 : BitVec 32 := 0#32
  let v152 : BitVec 32 := Scalar.addi v151 c0_i32_126
  let c128_i32_129 : BitVec 32 := 128#32
  let v155 : BitVec 32 := Scalar.muli v152 c128_i32_129
  v155
def k0_off7 (k0_t1 : Fin k0_t1_loop.trips) (c0_i32_126 : BitVec 32) : Fin 3 → Nat :=
  let c0_130 : Index := 0#32
  let c0_i32 : BitVec 32 := 0#32
  let c1_i32 : BitVec 32 := 1#32
  let arg7 : BitVec 32 := Scf.iv c0_i32 c1_i32 k0_t1
  let c2_i32_125 : BitVec 32 := 2#32
  let v151 : BitVec 32 := Scalar.muli arg7 c2_i32_125
  let v152 : BitVec 32 := Scalar.addi v151 c0_i32_126
  let c128_i32_129 : BitVec 32 := 128#32
  let v155 : BitVec 32 := Scalar.muli v152 c128_i32_129
  let v156 : BitVec 32 := v155
  let v157 : Index := Scalar.indexCast v156
  let c256 : Index := 256#32
  ![0, v157.toNat, 256]
def k0_off8 (k0_t1 : Fin k0_t1_loop.trips) (c0_i32_126 : BitVec 32) : Fin 3 → Nat :=
  let c0_131 : Index := 0#32
  let c0_i32 : BitVec 32 := 0#32
  let c1_i32 : BitVec 32 := 1#32
  let arg7 : BitVec 32 := Scf.iv c0_i32 c1_i32 k0_t1
  let c2_i32_125 : BitVec 32 := 2#32
  let v151 : BitVec 32 := Scalar.muli arg7 c2_i32_125
  let v152 : BitVec 32 := Scalar.addi v151 c0_i32_126
  let c128_i32_129 : BitVec 32 := 128#32
  let v155 : BitVec 32 := Scalar.muli v152 c128_i32_129
  let v156 : BitVec 32 := v155
  let v160 : Index := Scalar.indexCast v156
  let c320 : Index := 320#32
  ![0, v160.toNat, 320]
def k0_off9 (k0_t1 : Fin k0_t1_loop.trips) (c0_i32_126 : BitVec 32) : Fin 3 → Nat :=
  let c0_132 : Index := 0#32
  let c0_i32 : BitVec 32 := 0#32
  let c1_i32 : BitVec 32 := 1#32
  let arg7 : BitVec 32 := Scf.iv c0_i32 c1_i32 k0_t1
  let c2_i32_125 : BitVec 32 := 2#32
  let v151 : BitVec 32 := Scalar.muli arg7 c2_i32_125
  let v152 : BitVec 32 := Scalar.addi v151 c0_i32_126
  let c128_i32_129 : BitVec 32 := 128#32
  let v155 : BitVec 32 := Scalar.muli v152 c128_i32_129
  let v156 : BitVec 32 := v155
  let v163 : Index := Scalar.indexCast v156
  let c384 : Index := 384#32
  ![0, v163.toNat, 384]
def k0_off10 (k0_t1 : Fin k0_t1_loop.trips) (c0_i32_126 : BitVec 32) : Fin 3 → Nat :=
  let c0_133 : Index := 0#32
  let c0_i32 : BitVec 32 := 0#32
  let c1_i32 : BitVec 32 := 1#32
  let arg7 : BitVec 32 := Scf.iv c0_i32 c1_i32 k0_t1
  let c2_i32_125 : BitVec 32 := 2#32
  let v151 : BitVec 32 := Scalar.muli arg7 c2_i32_125
  let v152 : BitVec 32 := Scalar.addi v151 c0_i32_126
  let c128_i32_129 : BitVec 32 := 128#32
  let v155 : BitVec 32 := Scalar.muli v152 c128_i32_129
  let v156 : BitVec 32 := v155
  let v166 : Index := Scalar.indexCast v156
  let c448 : Index := 448#32
  ![0, v166.toNat, 448]
def k0_mult8 (k0_t1 : Fin k0_t1_loop.trips) : BitVec 32 :=
  let c0_i32 : BitVec 32 := 0#32
  let c1_i32 : BitVec 32 := 1#32
  let arg7 : BitVec 32 := Scf.iv c0_i32 c1_i32 k0_t1
  let c2_i32_125 : BitVec 32 := 2#32
  let v151 : BitVec 32 := Scalar.muli arg7 c2_i32_125
  let c0_i32_126 : BitVec 32 := 0#32
  let v152 : BitVec 32 := Scalar.addi v151 c0_i32_126
  let c128_i32_165 : BitVec 32 := 128#32
  let v195 : BitVec 32 := Scalar.muli v152 c128_i32_165
  v195
def k0_off11 (k0_t1 : Fin k0_t1_loop.trips) (c0_i32_126 : BitVec 32) : Fin 3 → Nat :=
  let c0_166 : Index := 0#32
  let c0_i32 : BitVec 32 := 0#32
  let c1_i32 : BitVec 32 := 1#32
  let arg7 : BitVec 32 := Scf.iv c0_i32 c1_i32 k0_t1
  let c2_i32_125 : BitVec 32 := 2#32
  let v151 : BitVec 32 := Scalar.muli arg7 c2_i32_125
  let v152 : BitVec 32 := Scalar.addi v151 c0_i32_126
  let c128_i32_165 : BitVec 32 := 128#32
  let v195 : BitVec 32 := Scalar.muli v152 c128_i32_165
  let v196 : BitVec 32 := v195
  let v197 : Index := Scalar.indexCast v196
  let c64_167 : Index := 64#32
  ![0, v197.toNat, 64]
def k0_mult9 (k0_t1 : Fin k0_t1_loop.trips) : BitVec 32 :=
  let c0_i32 : BitVec 32 := 0#32
  let c1_i32 : BitVec 32 := 1#32
  let arg7 : BitVec 32 := Scf.iv c0_i32 c1_i32 k0_t1
  let c2_i32_125 : BitVec 32 := 2#32
  let v151 : BitVec 32 := Scalar.muli arg7 c2_i32_125
  let c0_i32_126 : BitVec 32 := 0#32
  let v152 : BitVec 32 := Scalar.addi v151 c0_i32_126
  let c1_i32_127 : BitVec 32 := 1#32
  let v153 : BitVec 32 := Scalar.subi v152 c1_i32_127
  let c0_i32_128 : BitVec 32 := 0#32
  let v154 : BitVec 32 := Scalar.maxsi v153 c0_i32_128
  let c128_i32_169 : BitVec 32 := 128#32
  let v202 : BitVec 32 := Scalar.muli v154 c128_i32_169
  v202
def k0_off12 (k0_t1 : Fin k0_t1_loop.trips) (c0_i32_126 : BitVec 32) : Fin 3 → Nat :=
  let c0_170 : Index := 0#32
  let c0_i32 : BitVec 32 := 0#32
  let c1_i32 : BitVec 32 := 1#32
  let arg7 : BitVec 32 := Scf.iv c0_i32 c1_i32 k0_t1
  let c2_i32_125 : BitVec 32 := 2#32
  let v151 : BitVec 32 := Scalar.muli arg7 c2_i32_125
  let v152 : BitVec 32 := Scalar.addi v151 c0_i32_126
  let c1_i32_127 : BitVec 32 := 1#32
  let v153 : BitVec 32 := Scalar.subi v152 c1_i32_127
  let c0_i32_128 : BitVec 32 := 0#32
  let v154 : BitVec 32 := Scalar.maxsi v153 c0_i32_128
  let c128_i32_169 : BitVec 32 := 128#32
  let v202 : BitVec 32 := Scalar.muli v154 c128_i32_169
  let v203 : BitVec 32 := v202
  let v204 : Index := Scalar.indexCast v203
  let c64_171 : Index := 64#32
  ![0, v204.toNat, 64]
def k0_mult10 (k0_t1 : Fin k0_t1_loop.trips) : BitVec 32 :=
  let c0_i32 : BitVec 32 := 0#32
  let c1_i32 : BitVec 32 := 1#32
  let arg7 : BitVec 32 := Scf.iv c0_i32 c1_i32 k0_t1
  let c2_i32_184 : BitVec 32 := 2#32
  let v224 : BitVec 32 := Scalar.muli arg7 c2_i32_184
  let c1_i32_185 : BitVec 32 := 1#32
  let v225 : BitVec 32 := Scalar.addi v224 c1_i32_185
  let c128_i32_188 : BitVec 32 := 128#32
  let v228 : BitVec 32 := Scalar.muli v225 c128_i32_188
  v228
def k0_mult11 (k0_t1 : Fin k0_t1_loop.trips) : BitVec 32 :=
  let c0_i32 : BitVec 32 := 0#32
  let c1_i32 : BitVec 32 := 1#32
  let arg7 : BitVec 32 := Scf.iv c0_i32 c1_i32 k0_t1
  let c2_i32_184 : BitVec 32 := 2#32
  let v224 : BitVec 32 := Scalar.muli arg7 c2_i32_184
  let c1_i32_185 : BitVec 32 := 1#32
  let v225 : BitVec 32 := Scalar.addi v224 c1_i32_185
  let c128_i32_232 : BitVec 32 := 128#32
  let v268 : BitVec 32 := Scalar.muli v225 c128_i32_232
  v268
def k0_mult12 (k0_t1 : Fin k0_t1_loop.trips) : BitVec 32 :=
  let c0_i32 : BitVec 32 := 0#32
  let c1_i32 : BitVec 32 := 1#32
  let arg7 : BitVec 32 := Scf.iv c0_i32 c1_i32 k0_t1
  let c2_i32_184 : BitVec 32 := 2#32
  let v224 : BitVec 32 := Scalar.muli arg7 c2_i32_184
  let c1_i32_185 : BitVec 32 := 1#32
  let v225 : BitVec 32 := Scalar.addi v224 c1_i32_185
  let c1_i32_186 : BitVec 32 := 1#32
  let v226 : BitVec 32 := Scalar.subi v225 c1_i32_186
  let c0_i32_187 : BitVec 32 := 0#32
  let v227 : BitVec 32 := Scalar.maxsi v226 c0_i32_187
  let c128_i32_236 : BitVec 32 := 128#32
  let v275 : BitVec 32 := Scalar.muli v227 c128_i32_236
  v275
def k0_off13 (k0_t1 : Fin k0_t1_loop.trips) (c0_i32_256 : BitVec 32) : Fin 4 → Nat :=
  let c0_257 : Index := 0#32
  let c0_i32 : BitVec 32 := 0#32
  let c1_i32 : BitVec 32 := 1#32
  let arg7 : BitVec 32 := Scf.iv c0_i32 c1_i32 k0_t1
  let c2_i32_255 : BitVec 32 := 2#32
  let v323 : BitVec 32 := Scalar.muli arg7 c2_i32_255
  let v324 : BitVec 32 := Scalar.addi v323 c0_i32_256
  let v325 : Index := Scalar.indexCast v324
  let c0_258 : Index := 0#32
  let c0_259 : Index := 0#32
  ![0, v325.toNat, 0, 0]
def k0_off14 (k0_t1 : Fin k0_t1_loop.trips) (c0_i32_256 : BitVec 32) : Fin 4 → Nat :=
  let c0_263 : Index := 0#32
  let c0_i32 : BitVec 32 := 0#32
  let c1_i32 : BitVec 32 := 1#32
  let arg7 : BitVec 32 := Scf.iv c0_i32 c1_i32 k0_t1
  let c2_i32_255 : BitVec 32 := 2#32
  let v323 : BitVec 32 := Scalar.muli arg7 c2_i32_255
  let v324 : BitVec 32 := Scalar.addi v323 c0_i32_256
  let c1_i32_261 : BitVec 32 := 1#32
  let v330 : BitVec 32 := Scalar.subi v324 c1_i32_261
  let c0_i32_262 : BitVec 32 := 0#32
  let v331 : BitVec 32 := Scalar.maxsi v330 c0_i32_262
  let v332 : Index := Scalar.indexCast v331
  let c0_264 : Index := 0#32
  let c0_265 : Index := 0#32
  ![0, v332.toNat, 0, 0]
def k0_off15 (k0_t1 : Fin k0_t1_loop.trips) (c0_i32_280 : BitVec 32) : Fin 4 → Nat :=
  let c0_281 : Index := 0#32
  let c0_i32 : BitVec 32 := 0#32
  let c1_i32 : BitVec 32 := 1#32
  let arg7 : BitVec 32 := Scf.iv c0_i32 c1_i32 k0_t1
  let c2_i32_279 : BitVec 32 := 2#32
  let v353 : BitVec 32 := Scalar.muli arg7 c2_i32_279
  let v354 : BitVec 32 := Scalar.addi v353 c0_i32_280
  let v355 : Index := Scalar.indexCast v354
  let c80 : Index := 80#32
  let c0_282 : Index := 0#32
  ![0, v355.toNat, 80, 0]
def k0_off16 (k0_t1 : Fin k0_t1_loop.trips) (c0_i32_280 : BitVec 32) : Fin 4 → Nat :=
  let c0_286 : Index := 0#32
  let c0_i32 : BitVec 32 := 0#32
  let c1_i32 : BitVec 32 := 1#32
  let arg7 : BitVec 32 := Scf.iv c0_i32 c1_i32 k0_t1
  let c2_i32_279 : BitVec 32 := 2#32
  let v353 : BitVec 32 := Scalar.muli arg7 c2_i32_279
  let v354 : BitVec 32 := Scalar.addi v353 c0_i32_280
  let c1_i32_284 : BitVec 32 := 1#32
  let v360 : BitVec 32 := Scalar.subi v354 c1_i32_284
  let c0_i32_285 : BitVec 32 := 0#32
  let v361 : BitVec 32 := Scalar.maxsi v360 c0_i32_285
  let v362 : Index := Scalar.indexCast v361
  let c80_287 : Index := 80#32
  let c0_288 : Index := 0#32
  ![0, v362.toNat, 80, 0]
def k0_mult13 (k0_t1 : Fin k0_t1_loop.trips) : BitVec 32 :=
  let c0_i32 : BitVec 32 := 0#32
  let c1_i32 : BitVec 32 := 1#32
  let arg7 : BitVec 32 := Scf.iv c0_i32 c1_i32 k0_t1
  let c256_i32 : BitVec 32 := 256#32
  let v418 : BitVec 32 := Scalar.muli arg7 c256_i32
  v418
def k0_off17 (k0_t1 : Fin k0_t1_loop.trips) : Fin 3 → Nat :=
  let c0_302 : Index := 0#32
  let c0_i32 : BitVec 32 := 0#32
  let c1_i32 : BitVec 32 := 1#32
  let arg7 : BitVec 32 := Scf.iv c0_i32 c1_i32 k0_t1
  let c256_i32 : BitVec 32 := 256#32
  let v418 : BitVec 32 := Scalar.muli arg7 c256_i32
  let v419 : BitVec 32 := v418
  let v420 : Index := Scalar.indexCast v419
  let c0_303 : Index := 0#32
  ![0, v420.toNat, 0]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x16x160x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x2x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelIdeal.lean ====
variable {F : FTy → Type} [FloatOps F] [Named F]
def κ : String → Option EReal := fun
  | "log2e" => some (((Real.log 2)⁻¹ : ℝ) : EReal)
  | "mask" => some ⊥
  | "scale" => some (((Real.log 2)⁻¹ * (1 / 8) : ℝ) : EReal)
  | _ => none
-- ==== ReferenceIdeal.lean ====
abbrev S32x24 : Shape := ⟨2, ![32, 24]⟩
abbrev S8 : Shape := ⟨1, ![8]⟩
abbrev S8x2048x2x4x64 : Shape := ⟨5, ![8, 2048, 2, 4, 64]⟩
abbrev S8x2048x2x64 : Shape := ⟨4, ![8, 2048, 2, 64]⟩
abbrev S32x8 : Shape := ⟨2, ![32, 8]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S_ : Shape := ⟨0, ![]⟩
abbrev S2048x2048x1 : Shape := ⟨3, ![2048, 2048, 1]⟩
abbrev S2048x2048x8 : Shape := ⟨3, ![2048, 2048, 8]⟩
abbrev S2048x2048x2x4 : Shape := ⟨4, ![2048, 2048, 2, 4]⟩
abbrev S2x4x2048x2048 : Shape := ⟨4, ![2, 4, 2048, 2048]⟩
abbrev S8x2x2048x2048x4 : Shape := ⟨5, ![8, 2, 2048, 2048, 4]⟩
abbrev S8x2x4x2048x2048 : Shape := ⟨5, ![8, 2, 4, 2048, 2048]⟩
abbrev S1x2x4x2048x2048 : Shape := ⟨5, ![1, 2, 4, 2048, 2048]⟩
abbrev S2x4x1x1 : Shape := ⟨4, ![2, 4, 1, 1]⟩
abbrev S8x2x4x2048x1 : Shape := ⟨5, ![8, 2, 4, 2048, 1]⟩
abbrev S8x2x4x2048x2049 : Shape := ⟨5, ![8, 2, 4, 2048, 2049]⟩
abbrev S8x2x4x2048 : Shape := ⟨4, ![8, 2, 4, 2048]⟩
abbrev S8x2x64x4x2048 : Shape := ⟨5, ![8, 2, 64, 4, 2048]⟩
abbrev S8x2048x512 : Shape := ⟨3, ![8, 2048, 512]⟩

abbrev nBuf : Space → Nat
  | .hbm => 94
  | .vmem => 0
  | .smem => 0
  | _ => 0

abbrev bufTy : (tb : Table) → Fin (tcTables nBuf tb) → BufTy
  | .hbm, ⟨0, _⟩ => ⟨S32x24, .f32⟩
  | .hbm, ⟨1, _⟩ => ⟨S8, .f32⟩
  | .hbm, ⟨2, _⟩ => ⟨S8x2048x2x4x64, .f32⟩
  | .hbm, ⟨3, _⟩ => ⟨S8x2048x2x64, .f32⟩
  | .hbm, ⟨4, _⟩ => ⟨S8x2048x2x64, .f32⟩
  | .hbm, ⟨5, _⟩ => ⟨S32x8, .f32⟩
  | .hbm, ⟨6, _⟩ => ⟨S2048, .i32⟩
  | .hbm, ⟨7, _⟩ => ⟨S2048x1, .i32⟩
  | .hbm, ⟨8, _⟩ => ⟨S2048, .i32⟩
  | .hbm, ⟨9, _⟩ => ⟨S1x2048, .i32⟩
  | .hbm, ⟨10, _⟩ => ⟨S2048x2048, .i32⟩
  | .hbm, ⟨11, _⟩ => ⟨S2048x2048, .i32⟩
  | .hbm, ⟨12, _⟩ => ⟨S2048x2048, .i32⟩
  | .hbm, ⟨13, _⟩ => ⟨S_, .i32⟩
  | .hbm, ⟨14, _⟩ => ⟨S2048x2048, .i32⟩
  | .hbm, ⟨15, _⟩ => ⟨S2048x2048, .i1⟩
  | .hbm, ⟨16, _⟩ => ⟨S_, .i32⟩
  | .hbm, ⟨17, _⟩ => ⟨S2048x2048, .i32⟩
  | .hbm, ⟨18, _⟩ => ⟨S2048x2048, .i1⟩
  | .hbm, ⟨19, _⟩ => ⟨S2048x2048, .i1⟩
  | .hbm, ⟨20, _⟩ => ⟨S_, .i32⟩
  | .hbm, ⟨21, _⟩ => ⟨S2048x2048, .i32⟩
  | .hbm, ⟨22, _⟩ => ⟨S2048x2048, .i32⟩
  | .hbm, ⟨23, _⟩ => ⟨S_, .i32⟩
  | .hbm, ⟨24, _⟩ => ⟨S2048x2048, .i32⟩
  | .hbm, ⟨25, _⟩ => ⟨S2048x2048, .i32⟩
  | .hbm, ⟨26, _⟩ => ⟨S2048x2048, .f32⟩
  | .hbm, ⟨27, _⟩ => ⟨S_, .f32⟩
  | .hbm, ⟨28, _⟩ => ⟨S2048x2048, .f32⟩
  | .hbm, ⟨29, _⟩ => ⟨S2048x2048, .f32⟩
  | .hbm, ⟨30, _⟩ => ⟨S2048x2048, .f32⟩
  | .hbm, ⟨31, _⟩ => ⟨S_, .f32⟩
  | .hbm, ⟨32, _⟩ => ⟨S2048x2048, .f32⟩
  | .hbm, ⟨33, _⟩ => ⟨S2048x2048, .f32⟩
  | .hbm, ⟨34, _⟩ => ⟨S_, .f32⟩
  | .hbm, ⟨35, _⟩ => ⟨S2048x2048, .f32⟩
  | .hbm, ⟨36, _⟩ => ⟨S2048x2048, .f32⟩
  | .hbm, ⟨37, _⟩ => ⟨S2048x2048, .i32⟩
  | .hbm, ⟨38, _⟩ => ⟨S_, .i32⟩
  | .hbm, ⟨39, _⟩ => ⟨S2048x2048, .i32⟩
  | .hbm, ⟨40, _⟩ => ⟨S2048x2048, .i32⟩
  | .hbm, ⟨41, _⟩ => ⟨S_, .i32⟩
  | .hbm, ⟨42, _⟩ => ⟨S2048x2048, .i32⟩
  | .hbm, ⟨43, _⟩ => ⟨S2048x2048, .i1⟩
  | .hbm, ⟨44, _⟩ => ⟨S_, .i32⟩
  | .hbm, ⟨45, _⟩ => ⟨S2048x2048, .i32⟩
  | .hbm, ⟨46, _⟩ => ⟨S2048x2048, .i32⟩
  | .hbm, ⟨47, _⟩ => ⟨S2048x2048, .i32⟩
  | .hbm, ⟨48, _⟩ => ⟨S_, .i32⟩
  | .hbm, ⟨49, _⟩ => ⟨S2048x2048, .i32⟩
  | .hbm, ⟨50, _⟩ => ⟨S2048x2048, .i1⟩
  | .hbm, ⟨51, _⟩ => ⟨S_, .i32⟩
  | .hbm, ⟨52, _⟩ => ⟨S2048x2048, .i32⟩
  | .hbm, ⟨53, _⟩ => ⟨S2048x2048, .i32⟩
  | .hbm, ⟨54, _⟩ => ⟨S2048x2048, .i32⟩
  | .hbm, ⟨55, _⟩ => ⟨S2048x2048x1, .i32⟩
  | .hbm, ⟨56, _⟩ => ⟨S2048x2048x8, .f32⟩
  | .hbm, ⟨57, _⟩ => ⟨S2048x2048x2x4, .f32⟩
  | .hbm, ⟨58, _⟩ => ⟨S2x4x2048x2048, .f32⟩
  | .hbm, ⟨59, _⟩ => ⟨S8x2x2048x2048x4, .f32⟩
  | .hbm, ⟨60, _⟩ => ⟨S8x2x4x2048x2048, .f32⟩
  | .hbm, ⟨61, _⟩ => ⟨S_, .f32⟩
  | .hbm, ⟨62, _⟩ => ⟨S8x2x4x2048x2048, .f32⟩
  | .hbm, ⟨63, _⟩ => ⟨S8x2x4x2048x2048, .f32⟩
  | .hbm, ⟨64, _⟩ => ⟨S1x2x4x2048x2048, .f32⟩
  | .hbm, ⟨65, _⟩ => ⟨S8x2x4x2048x2048, .f32⟩
  | .hbm, ⟨66, _⟩ => ⟨S8x2x4x2048x2048, .f32⟩
  | .hbm, ⟨67, _⟩ => ⟨S_, .f32⟩
  | .hbm, ⟨68, _⟩ => ⟨S_, .f32⟩
  | .hbm, ⟨69, _⟩ => ⟨S8x2x4x2048x2048, .i1⟩
  | .hbm, ⟨70, _⟩ => ⟨S8x2x4x2048x2048, .f32⟩
  | .hbm, ⟨71, _⟩ => ⟨S8x2x4x2048x2048, .f32⟩
  | .hbm, ⟨72, _⟩ => ⟨S2x4x1x1, .f32⟩
  | .hbm, ⟨73, _⟩ => ⟨S8x2x4x2048x1, .f32⟩
  | .hbm, ⟨74, _⟩ => ⟨S8x2x4x2048x2049, .f32⟩
  | .hbm, ⟨75, _⟩ => ⟨S_, .f32⟩
  | .hbm, ⟨76, _⟩ => ⟨S8x2x4x2048, .f32⟩
  | .hbm, ⟨77, _⟩ => ⟨S_, .f32⟩
  | .hbm, ⟨78, _⟩ => ⟨S8x2x4x2048, .f32⟩
  | .hbm, ⟨79, _⟩ => ⟨S8x2x4x2048, .f32⟩
  | .hbm, ⟨80, _⟩ => ⟨S8x2x4x2048x1, .f32⟩
  | .hbm, ⟨81, _⟩ => ⟨S8x2x4x2048x2049, .f32⟩
  | .hbm, ⟨82, _⟩ => ⟨S8x2x4x2048x2049, .f32⟩
  | .hbm, ⟨83, _⟩ => ⟨S8x2x4x2048x2049, .f32⟩
  | .hbm, ⟨84, _⟩ => ⟨S_, .f32⟩
  | .hbm, ⟨85, _⟩ => ⟨S8x2x4x2048, .f32⟩
  | .hbm, ⟨86, _⟩ => ⟨S8x2x4x2048x1, .f32⟩
  | .hbm, ⟨87, _⟩ => ⟨S8x2x4x2048x2049, .f32⟩
  | .hbm, ⟨88, _⟩ => ⟨S8x2x4x2048x2049, .f32⟩
  | .hbm, ⟨89, _⟩ => ⟨S8x2x4x2048x2048, .f32⟩
  | .hbm, ⟨90, _⟩ => ⟨S8x2x64x4x2048, .f32⟩
  | .hbm, ⟨91, _⟩ => ⟨S8x2048x2x4x64, .f32⟩
  | .hbm, ⟨92, _⟩ => ⟨S8x2048x512, .f32⟩
  | .hbm, ⟨93, _⟩ => ⟨S8x2048x512, .bf16⟩
  | _, _ => ⟨S32x24, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_v8 : Ref sig .tc := ⟨.hbm, 14, rfl⟩
abbrev main_v9 : Ref sig .tc := ⟨.hbm, 15, rfl⟩
abbrev main_c_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_1 : Ref sig .tc := ⟨.hbm, 20, rfl⟩
abbrev main_v13 : Ref sig .tc := ⟨.hbm, 21, rfl⟩
abbrev main_v14 : Ref sig .tc := ⟨.hbm, 22, rfl⟩
abbrev main_c_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c_5 : Ref sig .tc := ⟨.hbm, 38, rfl⟩
abbrev main_v26 : Ref sig .tc := ⟨.hbm, 39, rfl⟩
abbrev main_v27 : Ref sig .tc := ⟨.hbm, 40, rfl⟩
abbrev main_c_6 : Ref sig .tc := ⟨.hbm, 41, rfl⟩
abbrev main_v28 : Ref sig .tc := ⟨.hbm, 42, rfl⟩
abbrev main_v29 : Ref sig .tc := ⟨.hbm, 43, rfl⟩
abbrev main_c_7 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_c_8 : Ref sig .tc := ⟨.hbm, 48, rfl⟩
abbrev main_v33 : Ref sig .tc := ⟨.hbm, 49, rfl⟩
abbrev main_v34 : Ref sig .tc := ⟨.hbm, 50, rfl⟩
abbrev main_c_9 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_10 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_11 : Ref sig .tc := ⟨.hbm, 67, rfl⟩
abbrev main_call1_v0 : Ref sig .tc := ⟨.hbm, 68, rfl⟩
abbrev main_call1_v1 : Ref sig .tc := ⟨.hbm, 69, rfl⟩
abbrev main_call1_v2 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_12 : Ref sig .tc := ⟨.hbm, 75, rfl⟩
abbrev main_v53 : Ref sig .tc := ⟨.hbm, 76, rfl⟩
abbrev main_cst_13 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_14 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩

abbrev nD : Nat := 1
abbrev τ : Topo := Topo.v7x

variable {F : FTy → Type} [FloatOps F]
-- ==== Kernel2.lean ====
abbrev S8x2048x1024 : Shape := ⟨3, ![8, 2048, 1024]⟩
abbrev S8x2048x512 : Shape := ⟨3, ![8, 2048, 512]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S16384x1024 : Shape := ⟨2, ![16384, 1024]⟩
abbrev S16384x512 : Shape := ⟨2, ![16384, 512]⟩
abbrev S1x1024 : Shape := ⟨2, ![1, 1024]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 19
  | .vmem => 16
  | .smem => 0
  | _ => 0

abbrev bufTy : (tb : Table) → Fin (tcTables nBuf tb) → BufTy
  | .hbm, ⟨0, _⟩ => ⟨S8x2048x1024, .f32⟩
  | .hbm, ⟨1, _⟩ => ⟨S8x2048x512, .f32⟩
  | .hbm, ⟨2, _⟩ => ⟨S8x2048x512, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024x2816, .f32⟩
  | .hbm, ⟨8, _⟩ => ⟨S1024x2816, .f32⟩
  | .hbm, ⟨9, _⟩ => ⟨S2816x1024, .f32⟩
  | .hbm, ⟨10, _⟩ => ⟨S16384x1024, .f32⟩
  | .hbm, ⟨11, _⟩ => ⟨S8x2048x512, .bf16⟩
  | .hbm, ⟨12, _⟩ => ⟨S16384x512, .bf16⟩
  | .hbm, ⟨13, _⟩ => ⟨S8x2048x512, .bf16⟩
  | .hbm, ⟨14, _⟩ => ⟨S16384x512, .bf16⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1024x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1024x2816, .f32⟩
  | .local _ .vmem, ⟨11, _⟩ => ⟨S1024x2816, .f32⟩
  | .local _ .vmem, ⟨12, _⟩ => ⟨S2816x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2816 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2816 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2816x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference2Ideal.lean ====
abbrev S8x2048x1024 : Shape := ⟨3, ![8, 2048, 1024]⟩
abbrev S8x2048x512 : Shape := ⟨3, ![8, 2048, 512]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x2816 : Shape := ⟨3, ![8, 2048, 2816]⟩
abbrev S16384x1024 : Shape := ⟨2, ![16384, 1024]⟩

abbrev nBuf : Space → Nat
  | .hbm => 79
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x512, .f32⟩
  | .hbm, ⟨2, _⟩ => ⟨S8x2048x512, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024x2816, .f32⟩
  | .hbm, ⟨8, _⟩ => ⟨S1024x2816, .f32⟩
  | .hbm, ⟨9, _⟩ => ⟨S2816x1024, .f32⟩
  | .hbm, ⟨10, _⟩ => ⟨S8x2048x1024, .f32⟩
  | .hbm, ⟨11, _⟩ => ⟨S8x2048x1024, .f32⟩
  | .hbm, ⟨12, _⟩ => ⟨S8x2048x1024, .f32⟩
  | .hbm, ⟨13, _⟩ => ⟨S_, .f32⟩
  | .hbm, ⟨14, _⟩ => ⟨S8x2048, .f32⟩
  | .hbm, ⟨15, _⟩ => ⟨S8x2048x1, .f32⟩
  | .hbm, ⟨16, _⟩ => ⟨S_, .f32⟩
  | .hbm, ⟨17, _⟩ => ⟨S8x2048x1, .f32⟩
  | .hbm, ⟨18, _⟩ => ⟨S8x2048x1, .f32⟩
  | .hbm, ⟨19, _⟩ => ⟨S_, .f32⟩
  | .hbm, ⟨20, _⟩ => ⟨S8x2048x1, .f32⟩
  | .hbm, ⟨21, _⟩ => ⟨S8x2048x1, .f32⟩
  | .hbm, ⟨22, _⟩ => ⟨S8x2048x1, .f32⟩
  | .hbm, ⟨23, _⟩ => ⟨S8x2048x1024, .f32⟩
  | .hbm, ⟨24, _⟩ => ⟨S8x2048x1024, .f32⟩
  | .hbm, ⟨25, _⟩ => ⟨S1x1x1024, .f32⟩
  | .hbm, ⟨26, _⟩ => ⟨S8x2048x1024, .f32⟩
  | .hbm, ⟨27, _⟩ => ⟨S8x2048x1024, .f32⟩
  | .hbm, ⟨28, _⟩ => ⟨S8x2048x1024, .f32⟩
  | .hbm, ⟨29, _⟩ => ⟨S8x2048x1024, .f32⟩
  | .hbm, ⟨30, _⟩ => ⟨S_, .f32⟩
  | .hbm, ⟨31, _⟩ => ⟨S8x2048, .f32⟩
  | .hbm, ⟨32, _⟩ => ⟨S8x2048x1, .f32⟩
  | .hbm, ⟨33, _⟩ => ⟨S_, .f32⟩
  | .hbm, ⟨34, _⟩ => ⟨S8x2048x1, .f32⟩
  | .hbm, ⟨35, _⟩ => ⟨S8x2048x1, .f32⟩
  | .hbm, ⟨36, _⟩ => ⟨S_, .f32⟩
  | .hbm, ⟨37, _⟩ => ⟨S8x2048x1, .f32⟩
  | .hbm, ⟨38, _⟩ => ⟨S8x2048x1, .f32⟩
  | .hbm, ⟨39, _⟩ => ⟨S8x2048x1, .f32⟩
  | .hbm, ⟨40, _⟩ => ⟨S8x2048x1024, .f32⟩
  | .hbm, ⟨41, _⟩ => ⟨S8x2048x1024, .f32⟩
  | .hbm, ⟨42, _⟩ => ⟨S1x1x1024, .f32⟩
  | .hbm, ⟨43, _⟩ => ⟨S8x2048x1024, .f32⟩
  | .hbm, ⟨44, _⟩ => ⟨S8x2048x1024, .f32⟩
  | .hbm, ⟨45, _⟩ => ⟨S8x2048x2816, .f32⟩
  | .hbm, ⟨46, _⟩ => ⟨S8x2048x2816, .f32⟩
  | .hbm, ⟨47, _⟩ => ⟨S8x2048x2816, .f32⟩
  | .hbm, ⟨48, _⟩ => ⟨S_, .f32⟩
  | .hbm, ⟨49, _⟩ => ⟨S8x2048x2816, .f32⟩
  | .hbm, ⟨50, _⟩ => ⟨S8x2048x2816, .f32⟩
  | .hbm, ⟨51, _⟩ => ⟨S_, .f32⟩
  | .hbm, ⟨52, _⟩ => ⟨S8x2048x2816, .f32⟩
  | .hbm, ⟨53, _⟩ => ⟨S8x2048x2816, .f32⟩
  | .hbm, ⟨54, _⟩ => ⟨S8x2048x2816, .f32⟩
  | .hbm, ⟨55, _⟩ => ⟨S8x2048x2816, .f32⟩
  | .hbm, ⟨56, _⟩ => ⟨S8x2048x2816, .f32⟩
  | .hbm, ⟨57, _⟩ => ⟨S8x2048x1024, .f32⟩
  | .hbm, ⟨58, _⟩ => ⟨S8x2048x1024, .f32⟩
  | .hbm, ⟨59, _⟩ => ⟨S_, .f32⟩
  | .hbm, ⟨60, _⟩ => ⟨S8x2048, .f32⟩
  | .hbm, ⟨61, _⟩ => ⟨S8x2048x1, .f32⟩
  | .hbm, ⟨62, _⟩ => ⟨S_, .f32⟩
  | .hbm, ⟨63, _⟩ => ⟨S8x2048x1, .f32⟩
  | .hbm, ⟨64, _⟩ => ⟨S8x2048x1, .f32⟩
  | .hbm, ⟨65, _⟩ => ⟨S_, .f32⟩
  | .hbm, ⟨66, _⟩ => ⟨S8x2048x1, .f32⟩
  | .hbm, ⟨67, _⟩ => ⟨S8x2048x1, .f32⟩
  | .hbm, ⟨68, _⟩ => ⟨S8x2048x1, .f32⟩
  | .hbm, ⟨69, _⟩ => ⟨S8x2048x1024, .f32⟩
  | .hbm, ⟨70, _⟩ => ⟨S8x2048x1024, .f32⟩
  | .hbm, ⟨71, _⟩ => ⟨S1x1x1024, .f32⟩
  | .hbm, ⟨72, _⟩ => ⟨S8x2048x1024, .f32⟩
  | .hbm, ⟨73, _⟩ => ⟨S8x2048x1024, .f32⟩
  | .hbm, ⟨74, _⟩ => ⟨S_, .f32⟩
  | .hbm, ⟨75, _⟩ => ⟨S8x2048x1024, .f32⟩
  | .hbm, ⟨76, _⟩ => ⟨S8x2048x1024, .f32⟩
  | .hbm, ⟨77, _⟩ => ⟨S8x2048x1024, .f32⟩
  | .hbm, ⟨78, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_v18 : Ref sig .tc := ⟨.hbm, 32, rfl⟩
abbrev main_cst_3 : Ref sig .tc := ⟨.hbm, 33, rfl⟩
abbrev main_v19 : Ref sig .tc := ⟨.hbm, 34, rfl⟩
abbrev main_v20 : Ref sig .tc := ⟨.hbm, 35, rfl⟩
abbrev main_cst_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_call0_v0 : Ref sig .tc := ⟨.hbm, 46, rfl⟩
abbrev main_call0_v1 : Ref sig .tc := ⟨.hbm, 47, rfl⟩
abbrev main_call0_cst : Ref sig .tc := ⟨.hbm, 48, rfl⟩
abbrev main_call0_v2 : Ref sig .tc := ⟨.hbm, 49, rfl⟩
abbrev main_call0_v3 : Ref sig .tc := ⟨.hbm, 50, rfl⟩
abbrev main_call0_cst_0 : Ref sig .tc := ⟨.hbm, 51, rfl⟩
abbrev main_call0_v4 : Ref sig .tc := ⟨.hbm, 52, rfl⟩
abbrev main_call0_v5 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_cst_5 : Ref sig .tc := ⟨.hbm, 59, rfl⟩
abbrev main_v35 : Ref sig .tc := ⟨.hbm, 60, rfl⟩
abbrev main_v36 : Ref sig .tc := ⟨.hbm, 61, rfl⟩
abbrev main_cst_6 : Ref sig .tc := ⟨.hbm, 62, rfl⟩
abbrev main_v37 : Ref sig .tc := ⟨.hbm, 63, rfl⟩
abbrev main_v38 : Ref sig .tc := ⟨.hbm, 64, rfl⟩
abbrev main_cst_7 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_8 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩

abbrev nD : Nat := 1
abbrev τ : Topo := Topo.v7x

variable {F : FTy → Type} [FloatOps F]
-- ==== Kernel3.lean ====
abbrev S8x2048x1024 : Shape := ⟨3, ![8, 2048, 1024]⟩
abbrev S1024 : Shape := ⟨1, ![1024]⟩
abbrev S1024x2816 : Shape := ⟨2, ![1024, 2816]⟩
abbrev S2816x1024 : Shape := ⟨2, ![2816, 1024]⟩
abbrev S16384x1024 : Shape := ⟨2, ![16384, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 10
  | .vmem => 10
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S16384x1024, .f32⟩
  | .hbm, ⟨7, _⟩ => ⟨S1x1024, .f32⟩
  | .hbm, ⟨8, _⟩ => ⟨S1x1024, .f32⟩
  | .hbm, ⟨9, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1024x2816, .f32⟩
  | .local _ .vmem, ⟨5, _⟩ => ⟨S1024x2816, .f32⟩
  | .local _ .vmem, ⟨6, _⟩ => ⟨S2816x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference3Ideal.lean ====
abbrev S8x2048x1024 : Shape := ⟨3, ![8, 2048, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x2816 : Shape := ⟨3, ![8, 2048, 2816]⟩
abbrev S16384x1024 : Shape := ⟨2, ![16384, 1024]⟩

abbrev nBuf : Space → Nat
  | .hbm => 56
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S8x2048x1024, .f32⟩
  | .hbm, ⟨7, _⟩ => ⟨S_, .f32⟩
  | .hbm, ⟨8, _⟩ => ⟨S8x2048, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S_, .f32⟩
  | .hbm, ⟨14, _⟩ => ⟨S8x2048x1, .f32⟩
  | .hbm, ⟨15, _⟩ => ⟨S8x2048x1, .f32⟩
  | .hbm, ⟨16, _⟩ => ⟨S8x2048x1, .f32⟩
  | .hbm, ⟨17, _⟩ => ⟨S8x2048x1024, .f32⟩
  | .hbm, ⟨18, _⟩ => ⟨S8x2048x1024, .f32⟩
  | .hbm, ⟨19, _⟩ => ⟨S1x1x1024, .f32⟩
  | .hbm, ⟨20, _⟩ => ⟨S8x2048x1024, .f32⟩
  | .hbm, ⟨21, _⟩ => ⟨S8x2048x1024, .f32⟩
  | .hbm, ⟨22, _⟩ => ⟨S8x2048x2816, .f32⟩
  | .hbm, ⟨23, _⟩ => ⟨S8x2048x2816, .f32⟩
  | .hbm, ⟨24, _⟩ => ⟨S8x2048x2816, .f32⟩
  | .hbm, ⟨25, _⟩ => ⟨S_, .f32⟩
  | .hbm, ⟨26, _⟩ => ⟨S8x2048x2816, .f32⟩
  | .hbm, ⟨27, _⟩ => ⟨S8x2048x2816, .f32⟩
  | .hbm, ⟨28, _⟩ => ⟨S_, .f32⟩
  | .hbm, ⟨29, _⟩ => ⟨S8x2048x2816, .f32⟩
  | .hbm, ⟨30, _⟩ => ⟨S8x2048x2816, .f32⟩
  | .hbm, ⟨31, _⟩ => ⟨S8x2048x2816, .f32⟩
  | .hbm, ⟨32, _⟩ => ⟨S8x2048x2816, .f32⟩
  | .hbm, ⟨33, _⟩ => ⟨S8x2048x2816, .f32⟩
  | .hbm, ⟨34, _⟩ => ⟨S8x2048x1024, .f32⟩
  | .hbm, ⟨35, _⟩ => ⟨S8x2048x1024, .f32⟩
  | .hbm, ⟨36, _⟩ => ⟨S_, .f32⟩
  | .hbm, ⟨37, _⟩ => ⟨S8x2048, .f32⟩
  | .hbm, ⟨38, _⟩ => ⟨S8x2048x1, .f32⟩
  | .hbm, ⟨39, _⟩ => ⟨S_, .f32⟩
  | .hbm, ⟨40, _⟩ => ⟨S8x2048x1, .f32⟩
  | .hbm, ⟨41, _⟩ => ⟨S8x2048x1, .f32⟩
  | .hbm, ⟨42, _⟩ => ⟨S_, .f32⟩
  | .hbm, ⟨43, _⟩ => ⟨S8x2048x1, .f32⟩
  | .hbm, ⟨44, _⟩ => ⟨S8x2048x1, .f32⟩
  | .hbm, ⟨45, _⟩ => ⟨S8x2048x1, .f32⟩
  | .hbm, ⟨46, _⟩ => ⟨S8x2048x1024, .f32⟩
  | .hbm, ⟨47, _⟩ => ⟨S8x2048x1024, .f32⟩
  | .hbm, ⟨48, _⟩ => ⟨S1x1x1024, .f32⟩
  | .hbm, ⟨49, _⟩ => ⟨S8x2048x1024, .f32⟩
  | .hbm, ⟨50, _⟩ => ⟨S8x2048x1024, .f32⟩
  | .hbm, ⟨51, _⟩ => ⟨S_, .f32⟩
  | .hbm, ⟨52, _⟩ => ⟨S8x2048x1024, .f32⟩
  | .hbm, ⟨53, _⟩ => ⟨S8x2048x1024, .f32⟩
  | .hbm, ⟨54, _⟩ => ⟨S8x2048x1024, .f32⟩
  | .hbm, ⟨55, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_2 : Ref sig .tc := ⟨.hbm, 36, rfl⟩
abbrev main_v19 : Ref sig .tc := ⟨.hbm, 37, rfl⟩
abbrev main_v20 : Ref sig .tc := ⟨.hbm, 38, rfl⟩
abbrev main_cst_3 : Ref sig .tc := ⟨.hbm, 39, rfl⟩
abbrev main_v21 : Ref sig .tc := ⟨.hbm, 40, rfl⟩
abbrev main_v22 : Ref sig .tc := ⟨.hbm, 41, rfl⟩
abbrev main_cst_4 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_5 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩

abbrev nD : Nat := 1
abbrev τ : Topo := Topo.v7x

variable {F : FTy → Type} [FloatOps F]
-- ==== Kernel4.lean ====
abbrev S8x2048x8x96 : Shape := ⟨4, ![8, 2048, 8, 96]⟩
abbrev S8x2048x8x64 : Shape := ⟨4, ![8, 2048, 8, 64]⟩
abbrev S_ : Shape := ⟨0, ![]⟩
abbrev S8x2048x8x128 : Shape := ⟨4, ![8, 2048, 8, 128]⟩
abbrev S8x2048x1024 : Shape := ⟨3, ![8, 2048, 1024]⟩
abbrev S8x8x256x8x64 : Shape := ⟨5, ![8, 8, 256, 8, 64]⟩
abbrev S8x8x8x64x256 : Shape := ⟨5, ![8, 8, 8, 64, 256]⟩
abbrev S8x8x8x16x256 : Shape := ⟨5, ![8, 8, 8, 16, 256]⟩
abbrev S8x8x8x80x256 : Shape := ⟨5, ![8, 8, 8, 80, 256]⟩
abbrev S8x8x640x256 : Shape := ⟨4, ![8, 8, 640, 256]⟩
abbrev S8x2048x512 : Shape := ⟨3, ![8, 2048, 512]⟩
abbrev S1x2048x1024 : Shape := ⟨3, ![1, 2048, 1024]⟩
abbrev S1x8x640x256 : Shape := ⟨4, ![1, 8, 640, 256]⟩
abbrev S1x2048x512 : Shape := ⟨3, ![1, 2048, 512]⟩
abbrev S80x2048 : Shape := ⟨2, ![80, 2048]⟩
abbrev S2x256x2048 : Shape := ⟨3, ![2, 256, 2048]⟩
abbrev S256x2048 : Shape := ⟨2, ![256, 2048]⟩
abbrev S1x2048 : Shape := ⟨2, ![1, 2048]⟩
abbrev S1x256x128 : Shape := ⟨3, ![1, 256, 128]⟩
abbrev S256x128 : Shape := ⟨2, ![256, 128]⟩
abbrev S256x256 : Shape := ⟨2, ![256, 256]⟩
abbrev S1x256x2048 : Shape := ⟨3, ![1, 256, 2048]⟩
abbrev S2048 : Shape := ⟨1, ![2048]⟩
abbrev S1x1x80x256 : Shape := ⟨4, ![1, 1, 80, 256]⟩
abbrev S80x256 : Shape := ⟨2, ![80, 256]⟩
abbrev S64x2048 : Shape := ⟨2, ![64, 2048]⟩
abbrev S64x256 : Shape := ⟨2, ![64, 256]⟩
abbrev S512x256 : Shape := ⟨2, ![512, 256]⟩
abbrev S256x512 : Shape := ⟨2, ![256, 512]⟩
abbrev S1x256x512 : Shape := ⟨3, ![1, 256, 512]⟩

abbrev nBuf : Space → Nat
  | .hbm => 20
  | .vmem => 10
  | .smem => 0
  | _ => 0

abbrev bufTy : (tb : Table) → Fin (tcTables nBuf tb) → BufTy
  | .hbm, ⟨0, _⟩ => ⟨S8x2048x8x96, .f32⟩
  | .hbm, ⟨1, _⟩ => ⟨S8x2048x8x96, .f32⟩
  | .hbm, ⟨2, _⟩ => ⟨S8x2048x8x64, .f32⟩
  | .hbm, ⟨3, _⟩ => ⟨S_, .i32⟩
  | .hbm, ⟨4, _⟩ => ⟨S_, .f32⟩
  | .hbm, ⟨5, _⟩ => ⟨S8x2048x8x128, .f32⟩
  | .hbm, ⟨6, _⟩ => ⟨S8x2048x1024, .f32⟩
  | .hbm, ⟨7, _⟩ => ⟨S_, .i32⟩
  | .hbm, ⟨8, _⟩ => ⟨S_, .f32⟩
  | .hbm, ⟨9, _⟩ => ⟨S8x2048x8x128, .f32⟩
  | .hbm, ⟨10, _⟩ => ⟨S8x2048x1024, .f32⟩
  | .hbm, ⟨11, _⟩ => ⟨S8x2048x1024, .bf16⟩
  | .hbm, ⟨12, _⟩ => ⟨S8x8x256x8x64, .f32⟩
  | .hbm, ⟨13, _⟩ => ⟨S8x8x8x64x256, .f32⟩
  | .hbm, ⟨14, _⟩ => ⟨S_, .f32⟩
  | .hbm, ⟨15, _⟩ => ⟨S8x8x8x16x256, .f32⟩
  | .hbm, ⟨16, _⟩ => ⟨S8x8x8x80x256, .f32⟩
  | .hbm, ⟨17, _⟩ => ⟨S8x8x640x256, .f32⟩
  | .hbm, ⟨18, _⟩ => ⟨S8x8x640x256, .bf16⟩
  | .hbm, ⟨19, _⟩ => ⟨S8x2048x512, .bf16⟩
  | .local _ .vmem, ⟨0, _⟩ => ⟨S1x2048x1024, .f32⟩
  | .local _ .vmem, ⟨1, _⟩ => ⟨S1x2048x1024, .f32⟩
  | .local _ .vmem, ⟨2, _⟩ => ⟨S1x2048x1024, .bf16⟩
  | .local _ .vmem, ⟨3, _⟩ => ⟨S1x2048x1024, .bf16⟩
  | .local _ .vmem, ⟨4, _⟩ => ⟨S1x8x640x256, .bf16⟩
  | .local _ .vmem, ⟨5, _⟩ => ⟨S1x8x640x256, .bf16⟩
  | .local _ .vmem, ⟨6, _⟩ => ⟨S1x2048x512, .bf16⟩
  | .local _ .vmem, ⟨7, _⟩ => ⟨S1x2048x512, .bf16⟩
  | .local _ .vmem, ⟨8, _⟩ => ⟨S80x2048, .f32⟩
  | .local _ .vmem, ⟨9, _⟩ => ⟨S2x256x2048, .f32⟩
  | _, _ => ⟨S8x2048x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_call1_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c8_i32 : BitVec 32 := 8#32
  let v0 : BitVec 32 := Scalar.addi c0_i32 c8_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg7 : BitVec 32 := Scf.iv c0_i32 c1_i32 k0_t1
  let c256_i32 : BitVec 32 := 256#32
  let v1 : BitVec 32 := Scalar.muli arg7 c256_i32
  v1
def k0_mult2 (k0_t1 : Fin k0_t1_loop.trips) : BitVec 32 :=
  let c0_i32 : BitVec 32 := 0#32
  let c1_i32 : BitVec 32 := 1#32
  let arg7 : BitVec 32 := Scf.iv c0_i32 c1_i32 k0_t1
  let c256_i32_11 : BitVec 32 := 256#32
  let v32 : BitVec 32 := Scalar.muli arg7 c256_i32_11
  v32
def k0_off1 (k0_t1 : Fin k0_t1_loop.trips) : Fin 3 → Nat :=
  let c0_12 : Index := 0#32
  let c0_i32 : BitVec 32 := 0#32
  let c1_i32 : BitVec 32 := 1#32
  let arg7 : BitVec 32 := Scf.iv c0_i32 c1_i32 k0_t1
  let c256_i32_11 : BitVec 32 := 256#32
  let v32 : BitVec 32 := Scalar.muli arg7 c256_i32_11
  let v33 : BitVec 32 := v32
  let v34 : Index := Scalar.indexCast v33
  let c0_13 : Index := 0#32
  ![0, v34.toNat, 0]
def k0_off2 (k0_t1 : Fin k0_t1_loop.trips) : Fin 3 → Nat :=
  let c0_18 : Index := 0#32
  let c0_i32 : BitVec 32 := 0#32
  let c1_i32 : BitVec 32 := 1#32
  let arg7 : BitVec 32 := Scf.iv c0_i32 c1_i32 k0_t1
  let c256_i32_11 : BitVec 32 := 256#32
  let v32 : BitVec 32 := Scalar.muli arg7 c256_i32_11
  let v33 : BitVec 32 := v32
  let v44 : Index := Scalar.indexCast v33
  let c128 : Index := 128#32
  ![0, v44.toNat, 128]
def k0_off3 (k0_t1 : Fin k0_t1_loop.trips) : Fin 3 → Nat :=
  let c0_23 : Index := 0#32
  let c0_i32 : BitVec 32 := 0#32
  let c1_i32 : BitVec 32 := 1#32
  let arg7 : BitVec 32 := Scf.iv c0_i32 c1_i32 k0_t1
  let c256_i32_11 : BitVec 32 := 256#32
  let v32 : BitVec 32 := Scalar.muli arg7 c256_i32_11
  let v33 : BitVec 32 := v32
  let v54 : Index := Scalar.indexCast v33
  let c256 : Index := 256#32
  ![0, v54.toNat, 256]
def k0_off4 (k0_t1 : Fin k0_t1_loop.trips) : Fin 3 → Nat :=
  let c0_28 : Index := 0#32
  let c0_i32 : BitVec 32 := 0#32
  let c1_i32 : BitVec 32 := 1#32
  let arg7 : BitVec 32 := Scf.iv c0_i32 c1_i32 k0_t1
  let c256_i32_11 : BitVec 32 := 256#32
  let v32 : BitVec 32 := Scalar.muli arg7 c256_i32_11
  let v33 : BitVec 32 := v32
  let v64 : Index := Scalar.indexCast v33
  let c384 : Index := 384#32
  ![0, v64.toNat, 384]
def k0_off5 (k0_t1 : Fin k0_t1_loop.trips) : Fin 3 → Nat :=
  let c0_33 : Index := 0#32
  let c0_i32 : BitVec 32 := 0#32
  let c1_i32 : BitVec 32 := 1#32
  let arg7 : BitVec 32 := Scf.iv c0_i32 c1_i32 k0_t1
  let c256_i32_11 : BitVec 32 := 256#32
  let v32 : BitVec 32 := Scalar.muli arg7 c256_i32_11
  let v33 : BitVec 32 := v32
  let v74 : Index := Scalar.indexCast v33
  let c512 : Index := 512#32
  ![0, v74.toNat, 512]
def k0_off6 (k0_t1 : Fin k0_t1_loop.trips) : Fin 3 → Nat :=
  let c0_38 : Index := 0#32
  let c0_i32 : BitVec 32 := 0#32
  let c1_i32 : BitVec 32 := 1#32
  let arg7 : BitVec 32 := Scf.iv c0_i32 c1_i32 k0_t1
  let c256_i32_11 : BitVec 32 := 256#32
  let v32 : BitVec 32 := Scalar.muli arg7 c256_i32_11
  let v33 : BitVec 32 := v32
  let v84 : Index := Scalar.indexCast v33
  let c640 : Index := 640#32
  ![0, v84.toNat, 640]
def k0_off7 (k0_t1 : Fin k0_t1_loop.trips) : Fin 3 → Nat :=
  let c0_43 : Index := 0#32
  let c0_i32 : BitVec 32 := 0#32
  let c1_i32 : BitVec 32 := 1#32
  let arg7 : BitVec 32 := Scf.iv c0_i32 c1_i32 k0_t1
  let c256_i32_11 : BitVec 32 := 256#32
  let v32 : BitVec 32 := Scalar.muli arg7 c256_i32_11
  let v33 : BitVec 32 := v32
  let v94 : Index := Scalar.indexCast v33
  let c768 : Index := 768#32
  ![0, v94.toNat, 768]
def k0_off8 (k0_t1 : Fin k0_t1_loop.trips) : Fin 3 → Nat :=
  let c0_48 : Index := 0#32
  let c0_i32 : BitVec 32 := 0#32
  let c1_i32 : BitVec 32 := 1#32
  let arg7 : BitVec 32 := Scf.iv c0_i32 c1_i32 k0_t1
  let c256_i32_11 : BitVec 32 := 256#32
  let v32 : BitVec 32 := Scalar.muli arg7 c256_i32_11
  let v33 : BitVec 32 := v32
  let v104 : Index := Scalar.indexCast v33
  let c896 : Index := 896#32
  ![0, v104.toNat, 896]
@[reducible] def k0_t2_loop (k0_t1 : Fin k0_t1_loop.trips) : Scf.Loop 32 :=
  let c0_i32_58 : BitVec 32 := 0#32
  let c0_i32 : BitVec 32 := 0#32
  let c1_i32 : BitVec 32 := 1#32
  let arg7 : BitVec 32 := Scf.iv c0_i32 c1_i32 k0_t1
  let c1_i32_2 : BitVec 32 := 1#32
  let v11 : BitVec 32 := Scalar.addi arg7 c1_i32_2
  let c1_i32_4 : BitVec 32 := 1#32
  let v13 : BitVec 32 := Scalar.subi v11 c1_i32_4
  let c0_i32_5 : BitVec 32 := 0#32
  let v15 : BitVec 1 := Scalar.cmpi .sgt v13 c0_i32_5
  let v16 : BitVec 32 := Scalar.extui v15
  let c0_i32_6 : BitVec 32 := 0#32
  let v17 : BitVec 1 := Scalar.cmpi .slt v13 c0_i32_6
  let v18 : BitVec 32 := Scalar.extui v17
  let v19 : BitVec 32 := Scalar.subi v16 v18
  let c2_i32 : BitVec 32 := 2#32
  let c0_i32_7 : BitVec 32 := 0#32
  let v20 : BitVec 1 := Scalar.cmpi .sgt c2_i32 c0_i32_7
  let v21 : BitVec 32 := Scalar.extui v20
  let c0_i32_8 : BitVec 32 := 0#32
  let v22 : BitVec 1 := Scalar.cmpi .slt c2_i32 c0_i32_8
  let v23 : BitVec 32 := Scalar.extui v22
  let v24 : BitVec 32 := Scalar.subi v21 v23
  let v25 : BitVec 1 := Scalar.cmpi .ne v19 v24
  let v26 : BitVec 32 := Scalar.remsi v13 c2_i32
  let c0_i32_9 : BitVec 32 := 0#32
  let v27 : BitVec 1 := Scalar.cmpi .ne v26 c0_i32_9
  let v28 : BitVec 1 := Scalar.andi v25 v27
  let v14 : BitVec 32 := Scalar.divsi v13 c2_i32
  let c1_i32_10 : BitVec 32 := 1#32
  let v29 : BitVec 32 := Scalar.subi v14 c1_i32_10
  let v30 : BitVec 32 := Scalar.select v28 v29 v14
  let v122 : BitVec 32 := Scalar.subi v30 c0_i32_58
  let c1_i32_59 : BitVec 32 := 1#32
  let v124 : BitVec 32 := Scalar.divsi v122 c1_i32_59
  let v125 : BitVec 32 := Scalar.muli v124 c1_i32_59
  let v126 : BitVec 32 := Scalar.addi c0_i32_58 v125
  let c1_i32_60 : BitVec 32 := 1#32
  ⟨c0_i32_58, v126, c1_i32_60⟩
def k0_mult3 (k0_t1 : Fin k0_t1_loop.trips) (k0_t2 : Fin (k0_t2_loop k0_t1).trips) : BitVec 32 :=
  let c2_i32_69 : BitVec 32 := 2#32
  let c0_i32_58 : BitVec 32 := 0#32
  let c1_i32_60 : BitVec 32 := 1#32
  let arg8 : BitVec 32 := Scf.iv c0_i32_58 c1_i32_60 k0_t2
  let v154 : BitVec 32 := Scalar.muli c2_i32_69 arg8
  let c1_i32_70 : BitVec 32 := 1#32
  let v155 : BitVec 32 := Scalar.addi v154 c1_i32_70
  let c1_i32_71 : BitVec 32 := 1#32
  let v156 : BitVec 32 := Scalar.subi v155 c1_i32_71
  let c256_i32_72 : BitVec 32 := 256#32
  let v157 : BitVec 32 := Scalar.muli v156 c256_i32_72
  v157
def k0_off9 (k0_t1 : Fin k0_t1_loop.trips) (k0_t2 : Fin (k0_t2_loop k0_t1).trips) (c1_i32_70 : BitVec 32) : Fin 3 → Nat :=
  let c0_73 : Index := 0#32
  let c2_i32_69 : BitVec 32 := 2#32
  let c0_i32_58 : BitVec 32 := 0#32
  let c1_i32_60 : BitVec 32 := 1#32
  let arg8 : BitVec 32 := Scf.iv c0_i32_58 c1_i32_60 k0_t2
  let v154 : BitVec 32 := Scalar.muli c2_i32_69 arg8
  let v155 : BitVec 32 := Scalar.addi v154 c1_i32_70
  let c1_i32_71 : BitVec 32 := 1#32
  let v156 : BitVec 32 := Scalar.subi v155 c1_i32_71
  let c256_i32_72 : BitVec 32 := 256#32
  let v157 : BitVec 32 := Scalar.muli v156 c256_i32_72
  let v158 : BitVec 32 := v157
  let v159 : Index := Scalar.indexCast v158
  let c0_74 : Index := 0#32
  ![0, v159.toNat, 0]
def k0_off10 (k0_t1 : Fin k0_t1_loop.trips) : Fin 3 → Nat :=
  let c0_75 : Index := 0#32
  let c0_i32 : BitVec 32 := 0#32
  let c1_i32 : BitVec 32 := 1#32
  let arg7 : BitVec 32 := Scf.iv c0_i32 c1_i32 k0_t1
  let c256_i32 : BitVec 32 := 256#32
  let v1 : BitVec 32 := Scalar.muli arg7 c256_i32
  let v2 : BitVec 32 := v1
  let v162 : Index := Scalar.indexCast v2
  let c0_76 : Index := 0#32
  ![0, v162.toNat, 0]
def k0_off11 (k0_t1 : Fin k0_t1_loop.trips) (k0_t2 : Fin (k0_t2_loop k0_t1).trips) (c1_i32_70 : BitVec 32) : Fin 3 → Nat :=
  let c0_79 : Index := 0#32
  let c2_i32_69 : BitVec 32 := 2#32
  let c0_i32_58 : BitVec 32 := 0#32
  let c1_i32_60 : BitVec 32 := 1#32
  let arg8 : BitVec 32 := Scf.iv c0_i32_58 c1_i32_60 k0_t2
  let v154 : BitVec 32 := Scalar.muli c2_i32_69 arg8
  let v155 : BitVec 32 := Scalar.addi v154 c1_i32_70
  let c1_i32_71 : BitVec 32 := 1#32
  let v156 : BitVec 32 := Scalar.subi v155 c1_i32_71
  let c256_i32_72 : BitVec 32 := 256#32
  let v157 : BitVec 32 := Scalar.muli v156 c256_i32_72
  let v158 : BitVec 32 := v157
  let v169 : Index := Scalar.indexCast v158
  let c128_80 : Index := 128#32
  ![0, v169.toNat, 128]
def k0_off12 (k0_t1 : Fin k0_t1_loop.trips) : Fin 3 → Nat :=
  let c0_81 : Index := 0#32
  let c0_i32 : BitVec 32 := 0#32
  let c1_i32 : BitVec 32 := 1#32
  let arg7 : BitVec 32 := Scf.iv c0_i32 c1_i32 k0_t1
  let c256_i32 : BitVec 32 := 256#32
  let v1 : BitVec 32 := Scalar.muli arg7 c256_i32
  let v2 : BitVec 32 := v1
  let v172 : Index := Scalar.indexCast v2
  let c128_82 : Index := 128#32
  ![0, v172.toNat, 128]
def k0_off13 (k0_t1 : Fin k0_t1_loop.trips) (k0_t2 : Fin (k0_t2_loop k0_t1).trips) (c1_i32_70 : BitVec 32) : Fin 3 → Nat :=
  let c0_85 : Index := 0#32
  let c2_i32_69 : BitVec 32 := 2#32
  let c0_i32_58 : BitVec 32 := 0#32
  let c1_i32_60 : BitVec 32 := 1#32
  let arg8 : BitVec 32 := Scf.iv c0_i32_58 c1_i32_60 k0_t2
  let v154 : BitVec 32 := Scalar.muli c2_i32_69 arg8
  let v155 : BitVec 32 := Scalar.addi v154 c1_i32_70
  let c1_i32_71 : BitVec 32 := 1#32
  let v156 : BitVec 32 := Scalar.subi v155 c1_i32_71
  let c256_i32_72 : BitVec 32 := 256#32
  let v157 : BitVec 32 := Scalar.muli v156 c256_i32_72
  let v158 : BitVec 32 := v157
  let v179 : Index := Scalar.indexCast v158
  let c256_86 : Index := 256#32
  ![0, v179.toNat, 256]
def k0_off14 (k0_t1 : Fin k0_t1_loop.trips) : Fin 3 → Nat :=
  let c0_87 : Index := 0#32
  let c0_i32 : BitVec 32 := 0#32
  let c1_i32 : BitVec 32 := 1#32
  let arg7 : BitVec 32 := Scf.iv c0_i32 c1_i32 k0_t1
  let c256_i32 : BitVec 32 := 256#32
  let v1 : BitVec 32 := Scalar.muli arg7 c256_i32
  let v2 : BitVec 32 := v1
  let v182 : Index := Scalar.indexCast v2
  let c256_88 : Index := 256#32
  ![0, v182.toNat, 256]
def k0_off15 (k0_t1 : Fin k0_t1_loop.trips) (k0_t2 : Fin (k0_t2_loop k0_t1).trips) (c1_i32_70 : BitVec 32) : Fin 3 → Nat :=
  let c0_91 : Index := 0#32
  let c2_i32_69 : BitVec 32 := 2#32
  let c0_i32_58 : BitVec 32 := 0#32
  let c1_i32_60 : BitVec 32 := 1#32
  let arg8 : BitVec 32 := Scf.iv c0_i32_58 c1_i32_60 k0_t2
  let v154 : BitVec 32 := Scalar.muli c2_i32_69 arg8
  let v155 : BitVec 32 := Scalar.addi v154 c1_i32_70
  let c1_i32_71 : BitVec 32 := 1#32
  let v156 : BitVec 32 := Scalar.subi v155 c1_i32_71
  let c256_i32_72 : BitVec 32 := 256#32
  let v157 : BitVec 32 := Scalar.muli v156 c256_i32_72
  let v158 : BitVec 32 := v157
  let v189 : Index := Scalar.indexCast v158
  let c384_92 : Index := 384#32
  ![0, v189.toNat, 384]
def k0_off16 (k0_t1 : Fin k0_t1_loop.trips) : Fin 3 → Nat :=
  let c0_93 : Index := 0#32
  let c0_i32 : BitVec 32 := 0#32
  let c1_i32 : BitVec 32 := 1#32
  let arg7 : BitVec 32 := Scf.iv c0_i32 c1_i32 k0_t1
  let c256_i32 : BitVec 32 := 256#32
  let v1 : BitVec 32 := Scalar.muli arg7 c256_i32
  let v2 : BitVec 32 := v1
  let v192 : Index := Scalar.indexCast v2
  let c384_94 : Index := 384#32
  ![0, v192.toNat, 384]
def k0_off17 (k0_t1 : Fin k0_t1_loop.trips) (k0_t2 : Fin (k0_t2_loop k0_t1).trips) (c1_i32_70 : BitVec 32) : Fin 3 → Nat :=
  let c0_97 : Index := 0#32
  let c2_i32_69 : BitVec 32 := 2#32
  let c0_i32_58 : BitVec 32 := 0#32
  let c1_i32_60 : BitVec 32 := 1#32
  let arg8 : BitVec 32 := Scf.iv c0_i32_58 c1_i32_60 k0_t2
  let v154 : BitVec 32 := Scalar.muli c2_i32_69 arg8
  let v155 : BitVec 32 := Scalar.addi v154 c1_i32_70
  let c1_i32_71 : BitVec 32 := 1#32
  let v156 : BitVec 32 := Scalar.subi v155 c1_i32_71
  let c256_i32_72 : BitVec 32 := 256#32
  let v157 : BitVec 32 := Scalar.muli v156 c256_i32_72
  let v158 : BitVec 32 := v157
  let v199 : Index := Scalar.indexCast v158
  let c512_98 : Index := 512#32
  ![0, v199.toNat, 512]
def k0_off18 (k0_t1 : Fin k0_t1_loop.trips) : Fin 3 → Nat :=
  let c0_99 : Index := 0#32
  let c0_i32 : BitVec 32 := 0#32
  let c1_i32 : BitVec 32 := 1#32
  let arg7 : BitVec 32 := Scf.iv c0_i32 c1_i32 k0_t1
  let c256_i32 : BitVec 32 := 256#32
  let v1 : BitVec 32 := Scalar.muli arg7 c256_i32
  let v2 : BitVec 32 := v1
  let v202 : Index := Scalar.indexCast v2
  let c512_100 : Index := 512#32
  ![0, v202.toNat, 512]
def k0_off19 (k0_t1 : Fin k0_t1_loop.trips) (k0_t2 : Fin (k0_t2_loop k0_t1).trips) (c1_i32_70 : BitVec 32) : Fin 3 → Nat :=
  let c0_103 : Index := 0#32
  let c2_i32_69 : BitVec 32 := 2#32
  let c0_i32_58 : BitVec 32 := 0#32
  let c1_i32_60 : BitVec 32 := 1#32
  let arg8 : BitVec 32 := Scf.iv c0_i32_58 c1_i32_60 k0_t2
  let v154 : BitVec 32 := Scalar.muli c2_i32_69 arg8
  let v155 : BitVec 32 := Scalar.addi v154 c1_i32_70
  let c1_i32_71 : BitVec 32 := 1#32
  let v156 : BitVec 32 := Scalar.subi v155 c1_i32_71
  let c256_i32_72 : BitVec 32 := 256#32
  let v157 : BitVec 32 := Scalar.muli v156 c256_i32_72
  let v158 : BitVec 32 := v157
  let v209 : Index := Scalar.indexCast v158
  let c640_104 : Index := 640#32
  ![0, v209.toNat, 640]
def k0_off20 (k0_t1 : Fin k0_t1_loop.trips) : Fin 3 → Nat :=
  let c0_105 : Index := 0#32
  let c0_i32 : BitVec 32 := 0#32
  let c1_i32 : BitVec 32 := 1#32
  let arg7 : BitVec 32 := Scf.iv c0_i32 c1_i32 k0_t1
  let c256_i32 : BitVec 32 := 256#32
  let v1 : BitVec 32 := Scalar.muli arg7 c256_i32
  let v2 : BitVec 32 := v1
  let v212 : Index := Scalar.indexCast v2
  let c640_106 : Index := 640#32
  ![0, v212.toNat, 640]
def k0_off21 (k0_t1 : Fin k0_t1_loop.trips) (k0_t2 : Fin (k0_t2_loop k0_t1).trips) (c1_i32_70 : BitVec 32) : Fin 3 → Nat :=
  let c0_109 : Index := 0#32
  let c2_i32_69 : BitVec 32 := 2#32
  let c0_i32_58 : BitVec 32 := 0#32
  let c1_i32_60 : BitVec 32 := 1#32
  let arg8 : BitVec 32 := Scf.iv c0_i32_58 c1_i32_60 k0_t2
  let v154 : BitVec 32 := Scalar.muli c2_i32_69 arg8
  let v155 : BitVec 32 := Scalar.addi v154 c1_i32_70
  let c1_i32_71 : BitVec 32 := 1#32
  let v156 : BitVec 32 := Scalar.subi v155 c1_i32_71
  let c256_i32_72 : BitVec 32 := 256#32
  let v157 : BitVec 32 := Scalar.muli v156 c256_i32_72
  let v158 : BitVec 32 := v157
  let v219 : Index := Scalar.indexCast v158
  let c768_110 : Index := 768#32
  ![0, v219.toNat, 768]
def k0_off22 (k0_t1 : Fin k0_t1_loop.trips) : Fin 3 → Nat :=
  let c0_111 : Index := 0#32
  let c0_i32 : BitVec 32 := 0#32
  let c1_i32 : BitVec 32 := 1#32
  let arg7 : BitVec 32 := Scf.iv c0_i32 c1_i32 k0_t1
  let c256_i32 : BitVec 32 := 256#32
  let v1 : BitVec 32 := Scalar.muli arg7 c256_i32
  let v2 : BitVec 32 := v1
  let v222 : Index := Scalar.indexCast v2
  let c768_112 : Index := 768#32
  ![0, v222.toNat, 768]
def k0_off23 (k0_t1 : Fin k0_t1_loop.trips) (k0_t2 : Fin (k0_t2_loop k0_t1).trips) (c1_i32_70 : BitVec 32) : Fin 3 → Nat :=
  let c0_115 : Index := 0#32
  let c2_i32_69 : BitVec 32 := 2#32
  let c0_i32_58 : BitVec 32 := 0#32
  let c1_i32_60 : BitVec 32 := 1#32
  let arg8 : BitVec 32 := Scf.iv c0_i32_58 c1_i32_60 k0_t2
  let v154 : BitVec 32 := Scalar.muli c2_i32_69 arg8
  let v155 : BitVec 32 := Scalar.addi v154 c1_i32_70
  let c1_i32_71 : BitVec 32 := 1#32
  let v156 : BitVec 32 := Scalar.subi v155 c1_i32_71
  let c256_i32_72 : BitVec 32 := 256#32
  let v157 : BitVec 32 := Scalar.muli v156 c256_i32_72
  let v158 : BitVec 32 := v157
  let v229 : Index := Scalar.indexCast v158
  let c896_116 : Index := 896#32
  ![0, v229.toNat, 896]
def k0_off24 (k0_t1 : Fin k0_t1_loop.trips) : Fin 3 → Nat :=
  let c0_117 : Index := 0#32
  let c0_i32 : BitVec 32 := 0#32
  let c1_i32 : BitVec 32 := 1#32
  let arg7 : BitVec 32 := Scf.iv c0_i32 c1_i32 k0_t1
  let c256_i32 : BitVec 32 := 256#32
  let v1 : BitVec 32 := Scalar.muli arg7 c256_i32
  let v2 : BitVec 32 := v1
  let v232 : Index := Scalar.indexCast v2
  let c896_118 : Index := 896#32
  ![0, v232.toNat, 896]
def k0_off25 (k0_t1 : Fin k0_t1_loop.trips) (k0_t2 : Fin (k0_t2_loop k0_t1).trips) : Fin 4 → Nat :=
  let c0_131 : Index := 0#32
  let c2_i32_69 : BitVec 32 := 2#32
  let c0_i32_58 : BitVec 32 := 0#32
  let c1_i32_60 : BitVec 32 := 1#32
  let arg8 : BitVec 32 := Scf.iv c0_i32_58 c1_i32_60 k0_t2
  let v154 : BitVec 32 := Scalar.muli c2_i32_69 arg8
  let c0_i32_124 : BitVec 32 := 0#32
  let v245 : BitVec 1 := Scalar.cmpi .eq v154 c0_i32_124
  let c0_i32 : BitVec 32 := 0#32
  let c1_i32 : BitVec 32 := 1#32
  let arg7 : BitVec 32 := Scf.iv c0_i32 c1_i32 k0_t1
  let c1_i32_125 : BitVec 32 := 1#32
  let v246 : BitVec 32 := Scalar.subi v154 c1_i32_125
  let v247 : BitVec 32 := Scalar.select v245 arg7 v246
  let v260 : Index := Scalar.indexCast v247
  let c0_132 : Index := 0#32
  let c0_133 : Index := 0#32
  ![0, v260.toNat, 0, 0]
def k0_off26 (k0_t1 : Fin k0_t1_loop.trips) (k0_t2 : Fin (k0_t2_loop k0_t1).trips) : Fin 4 → Nat :=
  let c0_135 : Index := 0#32
  let c2_i32_69 : BitVec 32 := 2#32
  let c0_i32_58 : BitVec 32 := 0#32
  let c1_i32_60 : BitVec 32 := 1#32
  let arg8 : BitVec 32 := Scf.iv c0_i32_58 c1_i32_60 k0_t2
  let v154 : BitVec 32 := Scalar.muli c2_i32_69 arg8
  let c0_i32_124 : BitVec 32 := 0#32
  let v245 : BitVec 1 := Scalar.cmpi .eq v154 c0_i32_124
  let c0_i32 : BitVec 32 := 0#32
  let c1_i32 : BitVec 32 := 1#32
  let arg7 : BitVec 32 := Scf.iv c0_i32 c1_i32 k0_t1
  let c1_i32_125 : BitVec 32 := 1#32
  let v246 : BitVec 32 := Scalar.subi v154 c1_i32_125
  let v247 : BitVec 32 := Scalar.select v245 arg7 v246
  let v265 : Index := Scalar.indexCast v247
  let c80 : Index := 80#32
  let c0_136 : Index := 0#32
  ![0, v265.toNat, 80, 0]
def k0_off27 (k0_t1 : Fin k0_t1_loop.trips) (k0_t2 : Fin (k0_t2_loop k0_t1).trips) : Fin 4 → Nat :=
  let c0_138 : Index := 0#32
  let c2_i32_69 : BitVec 32 := 2#32
  let c0_i32_58 : BitVec 32 := 0#32
  let c1_i32_60 : BitVec 32 := 1#32
  let arg8 : BitVec 32 := Scf.iv c0_i32_58 c1_i32_60 k0_t2
  let v154 : BitVec 32 := Scalar.muli c2_i32_69 arg8
  let c0_i32_124 : BitVec 32 := 0#32
  let v245 : BitVec 1 := Scalar.cmpi .eq v154 c0_i32_124
  let c0_i32 : BitVec 32 := 0#32
  let c1_i32 : BitVec 32 := 1#32
  let arg7 : BitVec 32 := Scf.iv c0_i32 c1_i32 k0_t1
  let c1_i32_125 : BitVec 32 := 1#32
  let v246 : BitVec 32 := Scalar.subi v154 c1_i32_125
  let v247 : BitVec 32 := Scalar.select v245 arg7 v246
  let v270 : Index := Scalar.indexCast v247
  let c160 : Index := 160#32
  let c0_139 : Index := 0#32
  ![0, v270.toNat, 160, 0]
def k0_off28 (k0_t1 : Fin k0_t1_loop.trips) (k0_t2 : Fin (k0_t2_loop k0_t1).trips) : Fin 4 → Nat :=
  let c0_141 : Index := 0#32
  let c2_i32_69 : BitVec 32 := 2#32
  let c0_i32_58 : BitVec 32 := 0#32
  let c1_i32_60 : BitVec 32 := 1#32
  let arg8 : BitVec 32 := Scf.iv c0_i32_58 c1_i32_60 k0_t2
  let v154 : BitVec 32 := Scalar.muli c2_i32_69 arg8
  let c0_i32_124 : BitVec 32 := 0#32
  let v245 : BitVec 1 := Scalar.cmpi .eq v154 c0_i32_124
  let c0_i32 : BitVec 32 := 0#32
  let c1_i32 : BitVec 32 := 1#32
  let arg7 : BitVec 32 := Scf.iv c0_i32 c1_i32 k0_t1
  let c1_i32_125 : BitVec 32 := 1#32
  let v246 : BitVec 32 := Scalar.subi v154 c1_i32_125
  let v247 : BitVec 32 := Scalar.select v245 arg7 v246
  let v275 : Index := Scalar.indexCast v247
  let c240 : Index := 240#32
  let c0_142 : Index := 0#32
  ![0, v275.toNat, 240, 0]
def k0_off29 (k0_t1 : Fin k0_t1_loop.trips) (k0_t2 : Fin (k0_t2_loop k0_t1).trips) : Fin 4 → Nat :=
  let c0_144 : Index := 0#32
  let c2_i32_69 : BitVec 32 := 2#32
  let c0_i32_58 : BitVec 32 := 0#32
  let c1_i32_60 : BitVec 32 := 1#32
  let arg8 : BitVec 32 := Scf.iv c0_i32_58 c1_i32_60 k0_t2
  let v154 : BitVec 32 := Scalar.muli c2_i32_69 arg8
  let c0_i32_124 : BitVec 32 := 0#32
  let v245 : BitVec 1 := Scalar.cmpi .eq v154 c0_i32_124
  let c0_i32 : BitVec 32 := 0#32
  let c1_i32 : BitVec 32 := 1#32
  let arg7 : BitVec 32 := Scf.iv c0_i32 c1_i32 k0_t1
  let c1_i32_125 : BitVec 32 := 1#32
  let v246 : BitVec 32 := Scalar.subi v154 c1_i32_125
  let v247 : BitVec 32 := Scalar.select v245 arg7 v246
  let v280 : Index := Scalar.indexCast v247
  let c320 : Index := 320#32
  let c0_145 : Index := 0#32
  ![0, v280.toNat, 320, 0]
def k0_off30 (k0_t1 : Fin k0_t1_loop.trips) (k0_t2 : Fin (k0_t2_loop k0_t1).trips) : Fin 4 → Nat :=
  let c0_147 : Index := 0#32
  let c2_i32_69 : BitVec 32 := 2#32
  let c0_i32_58 : BitVec 32 := 0#32
  let c1_i32_60 : BitVec 32 := 1#32
  let arg8 : BitVec 32 := Scf.iv c0_i32_58 c1_i32_60 k0_t2
  let v154 : BitVec 32 := Scalar.muli c2_i32_69 arg8
  let c0_i32_124 : BitVec 32 := 0#32
  let v245 : BitVec 1 := Scalar.cmpi .eq v154 c0_i32_124
  let c0_i32 : BitVec 32 := 0#32
  let c1_i32 : BitVec 32 := 1#32
  let arg7 : BitVec 32 := Scf.iv c0_i32 c1_i32 k0_t1
  let c1_i32_125 : BitVec 32 := 1#32
  let v246 : BitVec 32 := Scalar.subi v154 c1_i32_125
  let v247 : BitVec 32 := Scalar.select v245 arg7 v246
  let v285 : Index := Scalar.indexCast v247
  let c400 : Index := 400#32
  let c0_148 : Index := 0#32
  ![0, v285.toNat, 400, 0]
def k0_off31 (k0_t1 : Fin k0_t1_loop.trips) (k0_t2 : Fin (k0_t2_loop k0_t1).trips) : Fin 4 → Nat :=
  let c0_150 : Index := 0#32
  let c2_i32_69 : BitVec 32 := 2#32
  let c0_i32_58 : BitVec 32 := 0#32
  let c1_i32_60 : BitVec 32 := 1#32
  let arg8 : BitVec 32 := Scf.iv c0_i32_58 c1_i32_60 k0_t2
  let v154 : BitVec 32 := Scalar.muli c2_i32_69 arg8
  let c0_i32_124 : BitVec 32 := 0#32
  let v245 : BitVec 1 := Scalar.cmpi .eq v154 c0_i32_124
  let c0_i32 : BitVec 32 := 0#32
  let c1_i32 : BitVec 32 := 1#32
  let arg7 : BitVec 32 := Scf.iv c0_i32 c1_i32 k0_t1
  let c1_i32_125 : BitVec 32 := 1#32
  let v246 : BitVec 32 := Scalar.subi v154 c1_i32_125
  let v247 : BitVec 32 := Scalar.select v245 arg7 v246
  let v290 : Index := Scalar.indexCast v247
  let c480 : Index := 480#32
  let c0_151 : Index := 0#32
  ![0, v290.toNat, 480, 0]
def k0_off32 (k0_t1 : Fin k0_t1_loop.trips) (k0_t2 : Fin (k0_t2_loop k0_t1).trips) : Fin 4 → Nat :=
  let c0_153 : Index := 0#32
  let c2_i32_69 : BitVec 32 := 2#32
  let c0_i32_58 : BitVec 32 := 0#32
  let c1_i32_60 : BitVec 32 := 1#32
  let arg8 : BitVec 32 := Scf.iv c0_i32_58 c1_i32_60 k0_t2
  let v154 : BitVec 32 := Scalar.muli c2_i32_69 arg8
  let c0_i32_124 : BitVec 32 := 0#32
  let v245 : BitVec 1 := Scalar.cmpi .eq v154 c0_i32_124
  let c0_i32 : BitVec 32 := 0#32
  let c1_i32 : BitVec 32 := 1#32
  let arg7 : BitVec 32 := Scf.iv c0_i32 c1_i32 k0_t1
  let c1_i32_125 : BitVec 32 := 1#32
  let v246 : BitVec 32 := Scalar.subi v154 c1_i32_125
  let v247 : BitVec 32 := Scalar.select v245 arg7 v246
  let v295 : Index := Scalar.indexCast v247
  let c560 : Index := 560#32
  let c0_154 : Index := 0#32
  ![0, v295.toNat, 560, 0]
def k0_mult4 (k0_t1 : Fin k0_t1_loop.trips) (k0_t2 : Fin (k0_t2_loop k0_t1).trips) : BitVec 32 :=
  let c2_i32_69 : BitVec 32 := 2#32
  let c0_i32_58 : BitVec 32 := 0#32
  let c1_i32_60 : BitVec 32 := 1#32
  let arg8 : BitVec 32 := Scf.iv c0_i32_58 c1_i32_60 k0_t2
  let v154 : BitVec 32 := Scalar.muli c2_i32_69 arg8
  let c2_i32_158 : BitVec 32 := 2#32
  let v305 : BitVec 32 := Scalar.addi v154 c2_i32_158
  let c1_i32_159 : BitVec 32 := 1#32
  let v306 : BitVec 32 := Scalar.subi v305 c1_i32_159
  let c256_i32_160 : BitVec 32 := 256#32
  let v307 : BitVec 32 := Scalar.muli v306 c256_i32_160
  v307
def k0_off33 (k0_t1 : Fin k0_t1_loop.trips) (k0_t2 : Fin (k0_t2_loop k0_t1).trips) : Fin 4 → Nat :=
  let c0_221 : Index := 0#32
  let c2_i32_69 : BitVec 32 := 2#32
  let c0_i32_58 : BitVec 32 := 0#32
  let c1_i32_60 : BitVec 32 := 1#32
  let arg8 : BitVec 32 := Scf.iv c0_i32_58 c1_i32_60 k0_t2
  let v154 : BitVec 32 := Scalar.muli c2_i32_69 arg8
  let c1_i32_213 : BitVec 32 := 1#32
  let v395 : BitVec 32 := Scalar.addi v154 c1_i32_213
  let c0_i32_214 : BitVec 32 := 0#32
  let v396 : BitVec 1 := Scalar.cmpi .eq v395 c0_i32_214
  let c0_i32 : BitVec 32 := 0#32
  let c1_i32 : BitVec 32 := 1#32
  let arg7 : BitVec 32 := Scf.iv c0_i32 c1_i32 k0_t1
  let c1_i32_215 : BitVec 32 := 1#32
  let v397 : BitVec 32 := Scalar.subi v395 c1_i32_215
  let v398 : BitVec 32 := Scalar.select v396 arg7 v397
  let v411 : Index := Scalar.indexCast v398
  let c0_222 : Index := 0#32
  let c0_223 : Index := 0#32
  ![0, v411.toNat, 0, 0]
def k0_off34 (k0_t1 : Fin k0_t1_loop.trips) (k0_t2 : Fin (k0_t2_loop k0_t1).trips) : Fin 4 → Nat :=
  let c0_225 : Index := 0#32
  let c2_i32_69 : BitVec 32 := 2#32
  let c0_i32_58 : BitVec 32 := 0#32
  let c1_i32_60 : BitVec 32 := 1#32
  let arg8 : BitVec 32 := Scf.iv c0_i32_58 c1_i32_60 k0_t2
  let v154 : BitVec 32 := Scalar.muli c2_i32_69 arg8
  let c1_i32_213 : BitVec 32 := 1#32
  let v395 : BitVec 32 := Scalar.addi v154 c1_i32_213
  let c0_i32_214 : BitVec 32 := 0#32
  let v396 : BitVec 1 := Scalar.cmpi .eq v395 c0_i32_214
  let c0_i32 : BitVec 32 := 0#32
  let c1_i32 : BitVec 32 := 1#32
  let arg7 : BitVec 32 := Scf.iv c0_i32 c1_i32 k0_t1
  let c1_i32_215 : BitVec 32 := 1#32
  let v397 : BitVec 32 := Scalar.subi v395 c1_i32_215
  let v398 : BitVec 32 := Scalar.select v396 arg7 v397
  let v416 : Index := Scalar.indexCast v398
  let c80_226 : Index := 80#32
  let c0_227 : Index := 0#32
  ![0, v416.toNat, 80, 0]
def k0_off35 (k0_t1 : Fin k0_t1_loop.trips) (k0_t2 : Fin (k0_t2_loop k0_t1).trips) : Fin 4 → Nat :=
  let c0_229 : Index := 0#32
  let c2_i32_69 : BitVec 32 := 2#32
  let c0_i32_58 : BitVec 32 := 0#32
  let c1_i32_60 : BitVec 32 := 1#32
  let arg8 : BitVec 32 := Scf.iv c0_i32_58 c1_i32_60 k0_t2
  let v154 : BitVec 32 := Scalar.muli c2_i32_69 arg8
  let c1_i32_213 : BitVec 32 := 1#32
  let v395 : BitVec 32 := Scalar.addi v154 c1_i32_213
  let c0_i32_214 : BitVec 32 := 0#32
  let v396 : BitVec 1 := Scalar.cmpi .eq v395 c0_i32_214
  let c0_i32 : BitVec 32 := 0#32
  let c1_i32 : BitVec 32 := 1#32
  let arg7 : BitVec 32 := Scf.iv c0_i32 c1_i32 k0_t1
  let c1_i32_215 : BitVec 32 := 1#32
  let v397 : BitVec 32 := Scalar.subi v395 c1_i32_215
  let v398 : BitVec 32 := Scalar.select v396 arg7 v397
  let v421 : Index := Scalar.indexCast v398
  let c160_230 : Index := 160#32
  let c0_231 : Index := 0#32
  ![0, v421.toNat, 160, 0]
def k0_off36 (k0_t1 : Fin k0_t1_loop.trips) (k0_t2 : Fin (k0_t2_loop k0_t1).trips) : Fin 4 → Nat :=
  let c0_233 : Index := 0#32
  let c2_i32_69 : BitVec 32 := 2#32
  let c0_i32_58 : BitVec 32 := 0#32
  let c1_i32_60 : BitVec 32 := 1#32
  let arg8 : BitVec 32 := Scf.iv c0_i32_58 c1_i32_60 k0_t2
  let v154 : BitVec 32 := Scalar.muli c2_i32_69 arg8
  let c1_i32_213 : BitVec 32 := 1#32
  let v395 : BitVec 32 := Scalar.addi v154 c1_i32_213
  let c0_i32_214 : BitVec 32 := 0#32
  let v396 : BitVec 1 := Scalar.cmpi .eq v395 c0_i32_214
  let c0_i32 : BitVec 32 := 0#32
  let c1_i32 : BitVec 32 := 1#32
  let arg7 : BitVec 32 := Scf.iv c0_i32 c1_i32 k0_t1
  let c1_i32_215 : BitVec 32 := 1#32
  let v397 : BitVec 32 := Scalar.subi v395 c1_i32_215
  let v398 : BitVec 32 := Scalar.select v396 arg7 v397
  let v426 : Index := Scalar.indexCast v398
  let c240_234 : Index := 240#32
  let c0_235 : Index := 0#32
  ![0, v426.toNat, 240, 0]
def k0_off37 (k0_t1 : Fin k0_t1_loop.trips) (k0_t2 : Fin (k0_t2_loop k0_t1).trips) : Fin 4 → Nat :=
  let c0_237 : Index := 0#32
  let c2_i32_69 : BitVec 32 := 2#32
  let c0_i32_58 : BitVec 32 := 0#32
  let c1_i32_60 : BitVec 32 := 1#32
  let arg8 : BitVec 32 := Scf.iv c0_i32_58 c1_i32_60 k0_t2
  let v154 : BitVec 32 := Scalar.muli c2_i32_69 arg8
  let c1_i32_213 : BitVec 32 := 1#32
  let v395 : BitVec 32 := Scalar.addi v154 c1_i32_213
  let c0_i32_214 : BitVec 32 := 0#32
  let v396 : BitVec 1 := Scalar.cmpi .eq v395 c0_i32_214
  let c0_i32 : BitVec 32 := 0#32
  let c1_i32 : BitVec 32 := 1#32
  let arg7 : BitVec 32 := Scf.iv c0_i32 c1_i32 k0_t1
  let c1_i32_215 : BitVec 32 := 1#32
  let v397 : BitVec 32 := Scalar.subi v395 c1_i32_215
  let v398 : BitVec 32 := Scalar.select v396 arg7 v397
  let v431 : Index := Scalar.indexCast v398
  let c320_238 : Index := 320#32
  let c0_239 : Index := 0#32
  ![0, v431.toNat, 320, 0]
def k0_off38 (k0_t1 : Fin k0_t1_loop.trips) (k0_t2 : Fin (k0_t2_loop k0_t1).trips) : Fin 4 → Nat :=
  let c0_241 : Index := 0#32
  let c2_i32_69 : BitVec 32 := 2#32
  let c0_i32_58 : BitVec 32 := 0#32
  let c1_i32_60 : BitVec 32 := 1#32
  let arg8 : BitVec 32 := Scf.iv c0_i32_58 c1_i32_60 k0_t2
  let v154 : BitVec 32 := Scalar.muli c2_i32_69 arg8
  let c1_i32_213 : BitVec 32 := 1#32
  let v395 : BitVec 32 := Scalar.addi v154 c1_i32_213
  let c0_i32_214 : BitVec 32 := 0#32
  let v396 : BitVec 1 := Scalar.cmpi .eq v395 c0_i32_214
  let c0_i32 : BitVec 32 := 0#32
  let c1_i32 : BitVec 32 := 1#32
  let arg7 : BitVec 32 := Scf.iv c0_i32 c1_i32 k0_t1
  let c1_i32_215 : BitVec 32 := 1#32
  let v397 : BitVec 32 := Scalar.subi v395 c1_i32_215
  let v398 : BitVec 32 := Scalar.select v396 arg7 v397
  let v436 : Index := Scalar.indexCast v398
  let c400_242 : Index := 400#32
  let c0_243 : Index := 0#32
  ![0, v436.toNat, 400, 0]
def k0_off39 (k0_t1 : Fin k0_t1_loop.trips) (k0_t2 : Fin (k0_t2_loop k0_t1).trips) : Fin 4 → Nat :=
  let c0_245 : Index := 0#32
  let c2_i32_69 : BitVec 32 := 2#32
  let c0_i32_58 : BitVec 32 := 0#32
  let c1_i32_60 : BitVec 32 := 1#32
  let arg8 : BitVec 32 := Scf.iv c0_i32_58 c1_i32_60 k0_t2
  let v154 : BitVec 32 := Scalar.muli c2_i32_69 arg8
  let c1_i32_213 : BitVec 32 := 1#32
  let v395 : BitVec 32 := Scalar.addi v154 c1_i32_213
  let c0_i32_214 : BitVec 32 := 0#32
  let v396 : BitVec 1 := Scalar.cmpi .eq v395 c0_i32_214
  let c0_i32 : BitVec 32 := 0#32
  let c1_i32 : BitVec 32 := 1#32
  let arg7 : BitVec 32 := Scf.iv c0_i32 c1_i32 k0_t1
  let c1_i32_215 : BitVec 32 := 1#32
  let v397 : BitVec 32 := Scalar.subi v395 c1_i32_215
  let v398 : BitVec 32 := Scalar.select v396 arg7 v397
  let v441 : Index := Scalar.indexCast v398
  let c480_246 : Index := 480#32
  let c0_247 : Index := 0#32
  ![0, v441.toNat, 480, 0]
def k0_off40 (k0_t1 : Fin k0_t1_loop.trips) (k0_t2 : Fin (k0_t2_loop k0_t1).trips) : Fin 4 → Nat :=
  let c0_249 : Index := 0#32
  let c2_i32_69 : BitVec 32 := 2#32
  let c0_i32_58 : BitVec 32 := 0#32
  let c1_i32_60 : BitVec 32 := 1#32
  let arg8 : BitVec 32 := Scf.iv c0_i32_58 c1_i32_60 k0_t2
  let v154 : BitVec 32 := Scalar.muli c2_i32_69 arg8
  let c1_i32_213 : BitVec 32 := 1#32
  let v395 : BitVec 32 := Scalar.addi v154 c1_i32_213
  let c0_i32_214 : BitVec 32 := 0#32
  let v396 : BitVec 1 := Scalar.cmpi .eq v395 c0_i32_214
  let c0_i32 : BitVec 32 := 0#32
  let c1_i32 : BitVec 32 := 1#32
  let arg7 : BitVec 32 := Scf.iv c0_i32 c1_i32 k0_t1
  let c1_i32_215 : BitVec 32 := 1#32
  let v397 : BitVec 32 := Scalar.subi v395 c1_i32_215
  let v398 : BitVec 32 := Scalar.select v396 arg7 v397
  let v446 : Index := Scalar.indexCast v398
  let c560_250 : Index := 560#32
  let c0_251 : Index := 0#32
  ![0, v446.toNat, 560, 0]
@[reducible] def k0_t3_loop (k0_t1 : Fin k0_t1_loop.trips) : Scf.Loop 32 :=
  let c0_i32_58 : BitVec 32 := 0#32
  let c0_i32 : BitVec 32 := 0#32
  let c1_i32 : BitVec 32 := 1#32
  let arg7 : BitVec 32 := Scf.iv c0_i32 c1_i32 k0_t1
  let c1_i32_2 : BitVec 32 := 1#32
  let v11 : BitVec 32 := Scalar.addi arg7 c1_i32_2
  let c1_i32_4 : BitVec 32 := 1#32
  let v13 : BitVec 32 := Scalar.subi v11 c1_i32_4
  let c0_i32_5 : BitVec 32 := 0#32
  let v15 : BitVec 1 := Scalar.cmpi .sgt v13 c0_i32_5
  let v16 : BitVec 32 := Scalar.extui v15
  let c0_i32_6 : BitVec 32 := 0#32
  let v17 : BitVec 1 := Scalar.cmpi .slt v13 c0_i32_6
  let v18 : BitVec 32 := Scalar.extui v17
  let v19 : BitVec 32 := Scalar.subi v16 v18
  let c2_i32 : BitVec 32 := 2#32
  let c0_i32_7 : BitVec 32 := 0#32
  let v20 : BitVec 1 := Scalar.cmpi .sgt c2_i32 c0_i32_7
  let v21 : BitVec 32 := Scalar.extui v20
  let c0_i32_8 : BitVec 32 := 0#32
  let v22 : BitVec 1 := Scalar.cmpi .slt c2_i32 c0_i32_8
  let v23 : BitVec 32 := Scalar.extui v22
  let v24 : BitVec 32 := Scalar.subi v21 v23
  let v25 : BitVec 1 := Scalar.cmpi .ne v19 v24
  let v26 : BitVec 32 := Scalar.remsi v13 c2_i32
  let c0_i32_9 : BitVec 32 := 0#32
  let v27 : BitVec 1 := Scalar.cmpi .ne v26 c0_i32_9
  let v28 : BitVec 1 := Scalar.andi v25 v27
  let v14 : BitVec 32 := Scalar.divsi v13 c2_i32
  let c1_i32_10 : BitVec 32 := 1#32
  let v29 : BitVec 32 := Scalar.subi v14 c1_i32_10
  let v30 : BitVec 32 := Scalar.select v28 v29 v14
  let v122 : BitVec 32 := Scalar.subi v30 c0_i32_58
  let c1_i32_59 : BitVec 32 := 1#32
  let v124 : BitVec 32 := Scalar.divsi v122 c1_i32_59
  let v125 : BitVec 32 := Scalar.muli v124 c1_i32_59
  let v126 : BitVec 32 := Scalar.addi c0_i32_58 v125
  let v123 : BitVec 32 := Scalar.addi c0_i32_58 v122
  let c1_i32_61 : BitVec 32 := 1#32
  ⟨v126, v123, c1_i32_61⟩
def k0_mult5 (k0_t1 : Fin k0_t1_loop.trips) (k0_t3 : Fin (k0_t3_loop k0_t1).trips) : BitVec 32 :=
  let c2_i32_69 : BitVec 32 := 2#32
  let c0_i32_58 : BitVec 32 := 0#32
  let c0_i32 : BitVec 32 := 0#32
  let c1_i32 : BitVec 32 := 1#32
  let arg7 : BitVec 32 := Scf.iv c0_i32 c1_i32 k0_t1
  let c1_i32_2 : BitVec 32 := 1#32
  let v11 : BitVec 32 := Scalar.addi arg7 c1_i32_2
  let c1_i32_4 : BitVec 32 := 1#32
  let v13 : BitVec 32 := Scalar.subi v11 c1_i32_4
  let c0_i32_5 : BitVec 32 := 0#32
  let v15 : BitVec 1 := Scalar.cmpi .sgt v13 c0_i32_5
  let v16 : BitVec 32 := Scalar.extui v15
  let c0_i32_6 : BitVec 32 := 0#32
  let v17 : BitVec 1 := Scalar.cmpi .slt v13 c0_i32_6
  let v18 : BitVec 32 := Scalar.extui v17
  let v19 : BitVec 32 := Scalar.subi v16 v18
  let c2_i32 : BitVec 32 := 2#32
  let c0_i32_7 : BitVec 32 := 0#32
  let v20 : BitVec 1 := Scalar.cmpi .sgt c2_i32 c0_i32_7
  let v21 : BitVec 32 := Scalar.extui v20
  let c0_i32_8 : BitVec 32 := 0#32
  let v22 : BitVec 1 := Scalar.cmpi .slt c2_i32 c0_i32_8
  let v23 : BitVec 32 := Scalar.extui v22
  let v24 : BitVec 32 := Scalar.subi v21 v23
  let v25 : BitVec 1 := Scalar.cmpi .ne v19 v24
  let v26 : BitVec 32 := Scalar.remsi v13 c2_i32
  let c0_i32_9 : BitVec 32 := 0#32
  let v27 : BitVec 1 := Scalar.cmpi .ne v26 c0_i32_9
  let v28 : BitVec 1 := Scalar.andi v25 v27
  let v14 : BitVec 32 := Scalar.divsi v13 c2_i32
  let c1_i32_10 : BitVec 32 := 1#32
  let v29 : BitVec 32 := Scalar.subi v14 c1_i32_10
  let v30 : BitVec 32 := Scalar.select v28 v29 v14
  let v122 : BitVec 32 := Scalar.subi v30 c0_i32_58
  let c1_i32_59 : BitVec 32 := 1#32
  let v124 : BitVec 32 := Scalar.divsi v122 c1_i32_59
  let v125 : BitVec 32 := Scalar.muli v124 c1_i32_59
  let v126 : BitVec 32 := Scalar.addi c0_i32_58 v125
  let c1_i32_61 : BitVec 32 := 1#32
  let arg8 : BitVec 32 := Scf.iv v126 c1_i32_61 k0_t3
  let v154 : BitVec 32 := Scalar.muli c2_i32_69 arg8
  let c1_i32_70 : BitVec 32 := 1#32
  let v155 : BitVec 32 := Scalar.addi v154 c1_i32_70
  let c1_i32_71 : BitVec 32 := 1#32
  let v156 : BitVec 32 := Scalar.subi v155 c1_i32_71
  let c256_i32_72 : BitVec 32 := 256#32
  let v157 : BitVec 32 := Scalar.muli v156 c256_i32_72
  v157
def k0_off41 (k0_t1 : Fin k0_t1_loop.trips) (k0_t3 : Fin (k0_t3_loop k0_t1).trips) (c1_i32_70 : BitVec 32) : Fin 3 → Nat :=
  let c0_73 : Index := 0#32
  let c2_i32_69 : BitVec 32 := 2#32
  let c0_i32_58 : BitVec 32 := 0#32
  let c0_i32 : BitVec 32 := 0#32
  let c1_i32 : BitVec 32 := 1#32
  let arg7 : BitVec 32 := Scf.iv c0_i32 c1_i32 k0_t1
  let c1_i32_2 : BitVec 32 := 1#32
  let v11 : BitVec 32 := Scalar.addi arg7 c1_i32_2
  let c1_i32_4 : BitVec 32 := 1#32
  let v13 : BitVec 32 := Scalar.subi v11 c1_i32_4
  let c0_i32_5 : BitVec 32 := 0#32
  let v15 : BitVec 1 := Scalar.cmpi .sgt v13 c0_i32_5
  let v16 : BitVec 32 := Scalar.extui v15
  let c0_i32_6 : BitVec 32 := 0#32
  let v17 : BitVec 1 := Scalar.cmpi .slt v13 c0_i32_6
  let v18 : BitVec 32 := Scalar.extui v17
  let v19 : BitVec 32 := Scalar.subi v16 v18
  let c2_i32 : BitVec 32 := 2#32
  let c0_i32_7 : BitVec 32 := 0#32
  let v20 : BitVec 1 := Scalar.cmpi .sgt c2_i32 c0_i32_7
  let v21 : BitVec 32 := Scalar.extui v20
  let c0_i32_8 : BitVec 32 := 0#32
  let v22 : BitVec 1 := Scalar.cmpi .slt c2_i32 c0_i32_8
  let v23 : BitVec 32 := Scalar.extui v22
  let v24 : BitVec 32 := Scalar.subi v21 v23
  let v25 : BitVec 1 := Scalar.cmpi .ne v19 v24
  let v26 : BitVec 32 := Scalar.remsi v13 c2_i32
  let c0_i32_9 : BitVec 32 := 0#32
  let v27 : BitVec 1 := Scalar.cmpi .ne v26 c0_i32_9
  let v28 : BitVec 1 := Scalar.andi v25 v27
  let v14 : BitVec 32 := Scalar.divsi v13 c2_i32
  let c1_i32_10 : BitVec 32 := 1#32
  let v29 : BitVec 32 := Scalar.subi v14 c1_i32_10
  let v30 : BitVec 32 := Scalar.select v28 v29 v14
  let v122 : BitVec 32 := Scalar.subi v30 c0_i32_58
  let c1_i32_59 : BitVec 32 := 1#32
  let v124 : BitVec 32 := Scalar.divsi v122 c1_i32_59
  let v125 : BitVec 32 := Scalar.muli v124 c1_i32_59
  let v126 : BitVec 32 := Scalar.addi c0_i32_58 v125
  let c1_i32_61 : BitVec 32 := 1#32
  let arg8 : BitVec 32 := Scf.iv v126 c1_i32_61 k0_t3
  let v154 : BitVec 32 := Scalar.muli c2_i32_69 arg8
  let v155 : BitVec 32 := Scalar.addi v154 c1_i32_70
  let c1_i32_71 : BitVec 32 := 1#32
  let v156 : BitVec 32 := Scalar.subi v155 c1_i32_71
  let c256_i32_72 : BitVec 32 := 256#32
  let v157 : BitVec 32 := Scalar.muli v156 c256_i32_72
  let v158 : BitVec 32 := v157
  let v159 : Index := Scalar.indexCast v158
  let c0_74 : Index := 0#32
  ![0, v159.toNat, 0]
def k0_off42 (k0_t1 : Fin k0_t1_loop.trips) : Fin 3 → Nat :=
  let c0_75 : Index := 0#32
  let c0_i32 : BitVec 32 := 0#32
  let c1_i32 : BitVec 32 := 1#32
  let arg7 : BitVec 32 := Scf.iv c0_i32 c1_i32 k0_t1
  let c256_i32 : BitVec 32 := 256#32
  let v1 : BitVec 32 := Scalar.muli arg7 c256_i32
  let v2 : BitVec 32 := v1
  let v162 : Index := Scalar.indexCast v2
  let c0_76 : Index := 0#32
  ![0, v162.toNat, 0]
def k0_off43 (k0_t1 : Fin k0_t1_loop.trips) (k0_t3 : Fin (k0_t3_loop k0_t1).trips) (c1_i32_70 : BitVec 32) : Fin 3 → Nat :=
  let c0_79 : Index := 0#32
  let c2_i32_69 : BitVec 32 := 2#32
  let c0_i32_58 : BitVec 32 := 0#32
  let c0_i32 : BitVec 32 := 0#32
  let c1_i32 : BitVec 32 := 1#32
  let arg7 : BitVec 32 := Scf.iv c0_i32 c1_i32 k0_t1
  let c1_i32_2 : BitVec 32 := 1#32
  let v11 : BitVec 32 := Scalar.addi arg7 c1_i32_2
  let c1_i32_4 : BitVec 32 := 1#32
  let v13 : BitVec 32 := Scalar.subi v11 c1_i32_4
  let c0_i32_5 : BitVec 32 := 0#32
  let v15 : BitVec 1 := Scalar.cmpi .sgt v13 c0_i32_5
  let v16 : BitVec 32 := Scalar.extui v15
  let c0_i32_6 : BitVec 32 := 0#32
  let v17 : BitVec 1 := Scalar.cmpi .slt v13 c0_i32_6
  let v18 : BitVec 32 := Scalar.extui v17
  let v19 : BitVec 32 := Scalar.subi v16 v18
  let c2_i32 : BitVec 32 := 2#32
  let c0_i32_7 : BitVec 32 := 0#32
  let v20 : BitVec 1 := Scalar.cmpi .sgt c2_i32 c0_i32_7
  let v21 : BitVec 32 := Scalar.extui v20
  let c0_i32_8 : BitVec 32 := 0#32
  let v22 : BitVec 1 := Scalar.cmpi .slt c2_i32 c0_i32_8
  let v23 : BitVec 32 := Scalar.extui v22
  let v24 : BitVec 32 := Scalar.subi v21 v23
  let v25 : BitVec 1 := Scalar.cmpi .ne v19 v24
  let v26 : BitVec 32 := Scalar.remsi v13 c2_i32
  let c0_i32_9 : BitVec 32 := 0#32
  let v27 : BitVec 1 := Scalar.cmpi .ne v26 c0_i32_9
  let v28 : BitVec 1 := Scalar.andi v25 v27
  let v14 : BitVec 32 := Scalar.divsi v13 c2_i32
  let c1_i32_10 : BitVec 32 := 1#32
  let v29 : BitVec 32 := Scalar.subi v14 c1_i32_10
  let v30 : BitVec 32 := Scalar.select v28 v29 v14
  let v122 : BitVec 32 := Scalar.subi v30 c0_i32_58
  let c1_i32_59 : BitVec 32 := 1#32
  let v124 : BitVec 32 := Scalar.divsi v122 c1_i32_59
  let v125 : BitVec 32 := Scalar.muli v124 c1_i32_59
  let v126 : BitVec 32 := Scalar.addi c0_i32_58 v125
  let c1_i32_61 : BitVec 32 := 1#32
  let arg8 : BitVec 32 := Scf.iv v126 c1_i32_61 k0_t3
  let v154 : BitVec 32 := Scalar.muli c2_i32_69 arg8
  let v155 : BitVec 32 := Scalar.addi v154 c1_i32_70
  let c1_i32_71 : BitVec 32 := 1#32
  let v156 : BitVec 32 := Scalar.subi v155 c1_i32_71
  let c256_i32_72 : BitVec 32 := 256#32
  let v157 : BitVec 32 := Scalar.muli v156 c256_i32_72
  let v158 : BitVec 32 := v157
  let v169 : Index := Scalar.indexCast v158
  let c128_80 : Index := 128#32
  ![0, v169.toNat, 128]
def k0_off44 (k0_t1 : Fin k0_t1_loop.trips) : Fin 3 → Nat :=
  let c0_81 : Index := 0#32
  let c0_i32 : BitVec 32 := 0#32
  let c1_i32 : BitVec 32 := 1#32
  let arg7 : BitVec 32 := Scf.iv c0_i32 c1_i32 k0_t1
  let c256_i32 : BitVec 32 := 256#32
  let v1 : BitVec 32 := Scalar.muli arg7 c256_i32
  let v2 : BitVec 32 := v1
  let v172 : Index := Scalar.indexCast v2
  let c128_82 : Index := 128#32
  ![0, v172.toNat, 128]
def k0_off45 (k0_t1 : Fin k0_t1_loop.trips) (k0_t3 : Fin (k0_t3_loop k0_t1).trips) (c1_i32_70 : BitVec 32) : Fin 3 → Nat :=
  let c0_85 : Index := 0#32
  let c2_i32_69 : BitVec 32 := 2#32
  let c0_i32_58 : BitVec 32 := 0#32
  let c0_i32 : BitVec 32 := 0#32
  let c1_i32 : BitVec 32 := 1#32
  let arg7 : BitVec 32 := Scf.iv c0_i32 c1_i32 k0_t1
  let c1_i32_2 : BitVec 32 := 1#32
  let v11 : BitVec 32 := Scalar.addi arg7 c1_i32_2
  let c1_i32_4 : BitVec 32 := 1#32
  let v13 : BitVec 32 := Scalar.subi v11 c1_i32_4
  let c0_i32_5 : BitVec 32 := 0#32
  let v15 : BitVec 1 := Scalar.cmpi .sgt v13 c0_i32_5
  let v16 : BitVec 32 := Scalar.extui v15
  let c0_i32_6 : BitVec 32 := 0#32
  let v17 : BitVec 1 := Scalar.cmpi .slt v13 c0_i32_6
  let v18 : BitVec 32 := Scalar.extui v17
  let v19 : BitVec 32 := Scalar.subi v16 v18
  let c2_i32 : BitVec 32 := 2#32
  let c0_i32_7 : BitVec 32 := 0#32
  let v20 : BitVec 1 := Scalar.cmpi .sgt c2_i32 c0_i32_7
  let v21 : BitVec 32 := Scalar.extui v20
  let c0_i32_8 : BitVec 32 := 0#32
  let v22 : BitVec 1 := Scalar.cmpi .slt c2_i32 c0_i32_8
  let v23 : BitVec 32 := Scalar.extui v22
  let v24 : BitVec 32 := Scalar.subi v21 v23
  let v25 : BitVec 1 := Scalar.cmpi .ne v19 v24
  let v26 : BitVec 32 := Scalar.remsi v13 c2_i32
  let c0_i32_9 : BitVec 32 := 0#32
  let v27 : BitVec 1 := Scalar.cmpi .ne v26 c0_i32_9
  let v28 : BitVec 1 := Scalar.andi v25 v27
  let v14 : BitVec 32 := Scalar.divsi v13 c2_i32
  let c1_i32_10 : BitVec 32 := 1#32
  let v29 : BitVec 32 := Scalar.subi v14 c1_i32_10
  let v30 : BitVec 32 := Scalar.select v28 v29 v14
  let v122 : BitVec 32 := Scalar.subi v30 c0_i32_58
  let c1_i32_59 : BitVec 32 := 1#32
  let v124 : BitVec 32 := Scalar.divsi v122 c1_i32_59
  let v125 : BitVec 32 := Scalar.muli v124 c1_i32_59
  let v126 : BitVec 32 := Scalar.addi c0_i32_58 v125
  let c1_i32_61 : BitVec 32 := 1#32
  let arg8 : BitVec 32 := Scf.iv v126 c1_i32_61 k0_t3
  let v154 : BitVec 32 := Scalar.muli c2_i32_69 arg8
  let v155 : BitVec 32 := Scalar.addi v154 c1_i32_70
  let c1_i32_71 : BitVec 32 := 1#32
  let v156 : BitVec 32 := Scalar.subi v155 c1_i32_71
  let c256_i32_72 : BitVec 32 := 256#32
  let v157 : BitVec 32 := Scalar.muli v156 c256_i32_72
  let v158 : BitVec 32 := v157
  let v179 : Index := Scalar.indexCast v158
  let c256_86 : Index := 256#32
  ![0, v179.toNat, 256]
def k0_off46 (k0_t1 : Fin k0_t1_loop.trips) : Fin 3 → Nat :=
  let c0_87 : Index := 0#32
  let c0_i32 : BitVec 32 := 0#32
  let c1_i32 : BitVec 32 := 1#32
  let arg7 : BitVec 32 := Scf.iv c0_i32 c1_i32 k0_t1
  let c256_i32 : BitVec 32 := 256#32
  let v1 : BitVec 32 := Scalar.muli arg7 c256_i32
  let v2 : BitVec 32 := v1
  let v182 : Index := Scalar.indexCast v2
  let c256_88 : Index := 256#32
  ![0, v182.toNat, 256]
def k0_off47 (k0_t1 : Fin k0_t1_loop.trips) (k0_t3 : Fin (k0_t3_loop k0_t1).trips) (c1_i32_70 : BitVec 32) : Fin 3 → Nat :=
  let c0_91 : Index := 0#32
  let c2_i32_69 : BitVec 32 := 2#32
  let c0_i32_58 : BitVec 32 := 0#32
  let c0_i32 : BitVec 32 := 0#32
  let c1_i32 : BitVec 32 := 1#32
  let arg7 : BitVec 32 := Scf.iv c0_i32 c1_i32 k0_t1
  let c1_i32_2 : BitVec 32 := 1#32
  let v11 : BitVec 32 := Scalar.addi arg7 c1_i32_2
  let c1_i32_4 : BitVec 32 := 1#32
  let v13 : BitVec 32 := Scalar.subi v11 c1_i32_4
  let c0_i32_5 : BitVec 32 := 0#32
  let v15 : BitVec 1 := Scalar.cmpi .sgt v13 c0_i32_5
  let v16 : BitVec 32 := Scalar.extui v15
  let c0_i32_6 : BitVec 32 := 0#32
  let v17 : BitVec 1 := Scalar.cmpi .slt v13 c0_i32_6
  let v18 : BitVec 32 := Scalar.extui v17
  let v19 : BitVec 32 := Scalar.subi v16 v18
  let c2_i32 : BitVec 32 := 2#32
  let c0_i32_7 : BitVec 32 := 0#32
  let v20 : BitVec 1 := Scalar.cmpi .sgt c2_i32 c0_i32_7
  let v21 : BitVec 32 := Scalar.extui v20
  let c0_i32_8 : BitVec 32 := 0#32
  let v22 : BitVec 1 := Scalar.cmpi .slt c2_i32 c0_i32_8
  let v23 : BitVec 32 := Scalar.extui v22
  let v24 : BitVec 32 := Scalar.subi v21 v23
  let v25 : BitVec 1 := Scalar.cmpi .ne v19 v24
  let v26 : BitVec 32 := Scalar.remsi v13 c2_i32
  let c0_i32_9 : BitVec 32 := 0#32
  let v27 : BitVec 1 := Scalar.cmpi .ne v26 c0_i32_9
  let v28 : BitVec 1 := Scalar.andi v25 v27
  let v14 : BitVec 32 := Scalar.divsi v13 c2_i32
  let c1_i32_10 : BitVec 32 := 1#32
  let v29 : BitVec 32 := Scalar.subi v14 c1_i32_10
  let v30 : BitVec 32 := Scalar.select v28 v29 v14
  let v122 : BitVec 32 := Scalar.subi v30 c0_i32_58
  let c1_i32_59 : BitVec 32 := 1#32
  let v124 : BitVec 32 := Scalar.divsi v122 c1_i32_59
  let v125 : BitVec 32 := Scalar.muli v124 c1_i32_59
  let v126 : BitVec 32 := Scalar.addi c0_i32_58 v125
  let c1_i32_61 : BitVec 32 := 1#32
  let arg8 : BitVec 32 := Scf.iv v126 c1_i32_61 k0_t3
  let v154 : BitVec 32 := Scalar.muli c2_i32_69 arg8
  let v155 : BitVec 32 := Scalar.addi v154 c1_i32_70
  let c1_i32_71 : BitVec 32 := 1#32
  let v156 : BitVec 32 := Scalar.subi v155 c1_i32_71
  let c256_i32_72 : BitVec 32 := 256#32
  let v157 : BitVec 32 := Scalar.muli v156 c256_i32_72
  let v158 : BitVec 32 := v157
  let v189 : Index := Scalar.indexCast v158
  let c384_92 : Index := 384#32
  ![0, v189.toNat, 384]
def k0_off48 (k0_t1 : Fin k0_t1_loop.trips) : Fin 3 → Nat :=
  let c0_93 : Index := 0#32
  let c0_i32 : BitVec 32 := 0#32
  let c1_i32 : BitVec 32 := 1#32
  let arg7 : BitVec 32 := Scf.iv c0_i32 c1_i32 k0_t1
  let c256_i32 : BitVec 32 := 256#32
  let v1 : BitVec 32 := Scalar.muli arg7 c256_i32
  let v2 : BitVec 32 := v1
  let v192 : Index := Scalar.indexCast v2
  let c384_94 : Index := 384#32
  ![0, v192.toNat, 384]
def k0_off49 (k0_t1 : Fin k0_t1_loop.trips) (k0_t3 : Fin (k0_t3_loop k0_t1).trips) (c1_i32_70 : BitVec 32) : Fin 3 → Nat :=
  let c0_97 : Index := 0#32
  let c2_i32_69 : BitVec 32 := 2#32
  let c0_i32_58 : BitVec 32 := 0#32
  let c0_i32 : BitVec 32 := 0#32
  let c1_i32 : BitVec 32 := 1#32
  let arg7 : BitVec 32 := Scf.iv c0_i32 c1_i32 k0_t1
  let c1_i32_2 : BitVec 32 := 1#32
  let v11 : BitVec 32 := Scalar.addi arg7 c1_i32_2
  let c1_i32_4 : BitVec 32 := 1#32
  let v13 : BitVec 32 := Scalar.subi v11 c1_i32_4
  let c0_i32_5 : BitVec 32 := 0#32
  let v15 : BitVec 1 := Scalar.cmpi .sgt v13 c0_i32_5
  let v16 : BitVec 32 := Scalar.extui v15
  let c0_i32_6 : BitVec 32 := 0#32
  let v17 : BitVec 1 := Scalar.cmpi .slt v13 c0_i32_6
  let v18 : BitVec 32 := Scalar.extui v17
  let v19 : BitVec 32 := Scalar.subi v16 v18
  let c2_i32 : BitVec 32 := 2#32
  let c0_i32_7 : BitVec 32 := 0#32
  let v20 : BitVec 1 := Scalar.cmpi .sgt c2_i32 c0_i32_7
  let v21 : BitVec 32 := Scalar.extui v20
  let c0_i32_8 : BitVec 32 := 0#32
  let v22 : BitVec 1 := Scalar.cmpi .slt c2_i32 c0_i32_8
  let v23 : BitVec 32 := Scalar.extui v22
  let v24 : BitVec 32 := Scalar.subi v21 v23
  let v25 : BitVec 1 := Scalar.cmpi .ne v19 v24
  let v26 : BitVec 32 := Scalar.remsi v13 c2_i32
  let c0_i32_9 : BitVec 32 := 0#32
  let v27 : BitVec 1 := Scalar.cmpi .ne v26 c0_i32_9
  let v28 : BitVec 1 := Scalar.andi v25 v27
  let v14 : BitVec 32 := Scalar.divsi v13 c2_i32
  let c1_i32_10 : BitVec 32 := 1#32
  let v29 : BitVec 32 := Scalar.subi v14 c1_i32_10
  let v30 : BitVec 32 := Scalar.select v28 v29 v14
  let v122 : BitVec 32 := Scalar.subi v30 c0_i32_58
  let c1_i32_59 : BitVec 32 := 1#32
  let v124 : BitVec 32 := Scalar.divsi v122 c1_i32_59
  let v125 : BitVec 32 := Scalar.muli v124 c1_i32_59
  let v126 : BitVec 32 := Scalar.addi c0_i32_58 v125
  let c1_i32_61 : BitVec 32 := 1#32
  let arg8 : BitVec 32 := Scf.iv v126 c1_i32_61 k0_t3
  let v154 : BitVec 32 := Scalar.muli c2_i32_69 arg8
  let v155 : BitVec 32 := Scalar.addi v154 c1_i32_70
  let c1_i32_71 : BitVec 32 := 1#32
  let v156 : BitVec 32 := Scalar.subi v155 c1_i32_71
  let c256_i32_72 : BitVec 32 := 256#32
  let v157 : BitVec 32 := Scalar.muli v156 c256_i32_72
  let v158 : BitVec 32 := v157
  let v199 : Index := Scalar.indexCast v158
  let c512_98 : Index := 512#32
  ![0, v199.toNat, 512]
def k0_off50 (k0_t1 : Fin k0_t1_loop.trips) : Fin 3 → Nat :=
  let c0_99 : Index := 0#32
  let c0_i32 : BitVec 32 := 0#32
  let c1_i32 : BitVec 32 := 1#32
  let arg7 : BitVec 32 := Scf.iv c0_i32 c1_i32 k0_t1
  let c256_i32 : BitVec 32 := 256#32
  let v1 : BitVec 32 := Scalar.muli arg7 c256_i32
  let v2 : BitVec 32 := v1
  let v202 : Index := Scalar.indexCast v2
  let c512_100 : Index := 512#32
  ![0, v202.toNat, 512]
def k0_off51 (k0_t1 : Fin k0_t1_loop.trips) (k0_t3 : Fin (k0_t3_loop k0_t1).trips) (c1_i32_70 : BitVec 32) : Fin 3 → Nat :=
  let c0_103 : Index := 0#32
  let c2_i32_69 : BitVec 32 := 2#32
  let c0_i32_58 : BitVec 32 := 0#32
  let c0_i32 : BitVec 32 := 0#32
  let c1_i32 : BitVec 32 := 1#32
  let arg7 : BitVec 32 := Scf.iv c0_i32 c1_i32 k0_t1
  let c1_i32_2 : BitVec 32 := 1#32
  let v11 : BitVec 32 := Scalar.addi arg7 c1_i32_2
  let c1_i32_4 : BitVec 32 := 1#32
  let v13 : BitVec 32 := Scalar.subi v11 c1_i32_4
  let c0_i32_5 : BitVec 32 := 0#32
  let v15 : BitVec 1 := Scalar.cmpi .sgt v13 c0_i32_5
  let v16 : BitVec 32 := Scalar.extui v15
  let c0_i32_6 : BitVec 32 := 0#32
  let v17 : BitVec 1 := Scalar.cmpi .slt v13 c0_i32_6
  let v18 : BitVec 32 := Scalar.extui v17
  let v19 : BitVec 32 := Scalar.subi v16 v18
  let c2_i32 : BitVec 32 := 2#32
  let c0_i32_7 : BitVec 32 := 0#32
  let v20 : BitVec 1 := Scalar.cmpi .sgt c2_i32 c0_i32_7
  let v21 : BitVec 32 := Scalar.extui v20
  let c0_i32_8 : BitVec 32 := 0#32
  let v22 : BitVec 1 := Scalar.cmpi .slt c2_i32 c0_i32_8
  let v23 : BitVec 32 := Scalar.extui v22
  let v24 : BitVec 32 := Scalar.subi v21 v23
  let v25 : BitVec 1 := Scalar.cmpi .ne v19 v24
  let v26 : BitVec 32 := Scalar.remsi v13 c2_i32
  let c0_i32_9 : BitVec 32 := 0#32
  let v27 : BitVec 1 := Scalar.cmpi .ne v26 c0_i32_9
  let v28 : BitVec 1 := Scalar.andi v25 v27
  let v14 : BitVec 32 := Scalar.divsi v13 c2_i32
  let c1_i32_10 : BitVec 32 := 1#32
  let v29 : BitVec 32 := Scalar.subi v14 c1_i32_10
  let v30 : BitVec 32 := Scalar.select v28 v29 v14
  let v122 : BitVec 32 := Scalar.subi v30 c0_i32_58
  let c1_i32_59 : BitVec 32 := 1#32
  let v124 : BitVec 32 := Scalar.divsi v122 c1_i32_59
  let v125 : BitVec 32 := Scalar.muli v124 c1_i32_59
  let v126 : BitVec 32 := Scalar.addi c0_i32_58 v125
  let c1_i32_61 : BitVec 32 := 1#32
  let arg8 : BitVec 32 := Scf.iv v126 c1_i32_61 k0_t3
  let v154 : BitVec 32 := Scalar.muli c2_i32_69 arg8
  let v155 : BitVec 32 := Scalar.addi v154 c1_i32_70
  let c1_i32_71 : BitVec 32 := 1#32
  let v156 : BitVec 32 := Scalar.subi v155 c1_i32_71
  let c256_i32_72 : BitVec 32 := 256#32
  let v157 : BitVec 32 := Scalar.muli v156 c256_i32_72
  let v158 : BitVec 32 := v157
  let v209 : Index := Scalar.indexCast v158
  let c640_104 : Index := 640#32
  ![0, v209.toNat, 640]
def k0_off52 (k0_t1 : Fin k0_t1_loop.trips) : Fin 3 → Nat :=
  let c0_105 : Index := 0#32
  let c0_i32 : BitVec 32 := 0#32
  let c1_i32 : BitVec 32 := 1#32
  let arg7 : BitVec 32 := Scf.iv c0_i32 c1_i32 k0_t1
  let c256_i32 : BitVec 32 := 256#32
  let v1 : BitVec 32 := Scalar.muli arg7 c256_i32
  let v2 : BitVec 32 := v1
  let v212 : Index := Scalar.indexCast v2
  let c640_106 : Index := 640#32
  ![0, v212.toNat, 640]
def k0_off53 (k0_t1 : Fin k0_t1_loop.trips) (k0_t3 : Fin (k0_t3_loop k0_t1).trips) (c1_i32_70 : BitVec 32) : Fin 3 → Nat :=
  let c0_109 : Index := 0#32
  let c2_i32_69 : BitVec 32 := 2#32
  let c0_i32_58 : BitVec 32 := 0#32
  let c0_i32 : BitVec 32 := 0#32
  let c1_i32 : BitVec 32 := 1#32
  let arg7 : BitVec 32 := Scf.iv c0_i32 c1_i32 k0_t1
  let c1_i32_2 : BitVec 32 := 1#32
  let v11 : BitVec 32 := Scalar.addi arg7 c1_i32_2
  let c1_i32_4 : BitVec 32 := 1#32
  let v13 : BitVec 32 := Scalar.subi v11 c1_i32_4
  let c0_i32_5 : BitVec 32 := 0#32
  let v15 : BitVec 1 := Scalar.cmpi .sgt v13 c0_i32_5
  let v16 : BitVec 32 := Scalar.extui v15
  let c0_i32_6 : BitVec 32 := 0#32
  let v17 : BitVec 1 := Scalar.cmpi .slt v13 c0_i32_6
  let v18 : BitVec 32 := Scalar.extui v17
  let v19 : BitVec 32 := Scalar.subi v16 v18
  let c2_i32 : BitVec 32 := 2#32
  let c0_i32_7 : BitVec 32 := 0#32
  let v20 : BitVec 1 := Scalar.cmpi .sgt c2_i32 c0_i32_7
  let v21 : BitVec 32 := Scalar.extui v20
  let c0_i32_8 : BitVec 32 := 0#32
  let v22 : BitVec 1 := Scalar.cmpi .slt c2_i32 c0_i32_8
  let v23 : BitVec 32 := Scalar.extui v22
  let v24 : BitVec 32 := Scalar.subi v21 v23
  let v25 : BitVec 1 := Scalar.cmpi .ne v19 v24
  let v26 : BitVec 32 := Scalar.remsi v13 c2_i32
  let c0_i32_9 : BitVec 32 := 0#32
  let v27 : BitVec 1 := Scalar.cmpi .ne v26 c0_i32_9
  let v28 : BitVec 1 := Scalar.andi v25 v27
  let v14 : BitVec 32 := Scalar.divsi v13 c2_i32
  let c1_i32_10 : BitVec 32 := 1#32
  let v29 : BitVec 32 := Scalar.subi v14 c1_i32_10
  let v30 : BitVec 32 := Scalar.select v28 v29 v14
  let v122 : BitVec 32 := Scalar.subi v30 c0_i32_58
  let c1_i32_59 : BitVec 32 := 1#32
  let v124 : BitVec 32 := Scalar.divsi v122 c1_i32_59
  let v125 : BitVec 32 := Scalar.muli v124 c1_i32_59
  let v126 : BitVec 32 := Scalar.addi c0_i32_58 v125
  let c1_i32_61 : BitVec 32 := 1#32
  let arg8 : BitVec 32 := Scf.iv v126 c1_i32_61 k0_t3
  let v154 : BitVec 32 := Scalar.muli c2_i32_69 arg8
  let v155 : BitVec 32 := Scalar.addi v154 c1_i32_70
  let c1_i32_71 : BitVec 32 := 1#32
  let v156 : BitVec 32 := Scalar.subi v155 c1_i32_71
  let c256_i32_72 : BitVec 32 := 256#32
  let v157 : BitVec 32 := Scalar.muli v156 c256_i32_72
  let v158 : BitVec 32 := v157
  let v219 : Index := Scalar.indexCast v158
  let c768_110 : Index := 768#32
  ![0, v219.toNat, 768]
def k0_off54 (k0_t1 : Fin k0_t1_loop.trips) : Fin 3 → Nat :=
  let c0_111 : Index := 0#32
  let c0_i32 : BitVec 32 := 0#32
  let c1_i32 : BitVec 32 := 1#32
  let arg7 : BitVec 32 := Scf.iv c0_i32 c1_i32 k0_t1
  let c256_i32 : BitVec 32 := 256#32
  let v1 : BitVec 32 := Scalar.muli arg7 c256_i32
  let v2 : BitVec 32 := v1
  let v222 : Index := Scalar.indexCast v2
  let c768_112 : Index := 768#32
  ![0, v222.toNat, 768]
def k0_off55 (k0_t1 : Fin k0_t1_loop.trips) (k0_t3 : Fin (k0_t3_loop k0_t1).trips) (c1_i32_70 : BitVec 32) : Fin 3 → Nat :=
  let c0_115 : Index := 0#32
  let c2_i32_69 : BitVec 32 := 2#32
  let c0_i32_58 : BitVec 32 := 0#32
  let c0_i32 : BitVec 32 := 0#32
  let c1_i32 : BitVec 32 := 1#32
  let arg7 : BitVec 32 := Scf.iv c0_i32 c1_i32 k0_t1
  let c1_i32_2 : BitVec 32 := 1#32
  let v11 : BitVec 32 := Scalar.addi arg7 c1_i32_2
  let c1_i32_4 : BitVec 32 := 1#32
  let v13 : BitVec 32 := Scalar.subi v11 c1_i32_4
  let c0_i32_5 : BitVec 32 := 0#32
  let v15 : BitVec 1 := Scalar.cmpi .sgt v13 c0_i32_5
  let v16 : BitVec 32 := Scalar.extui v15
  let c0_i32_6 : BitVec 32 := 0#32
  let v17 : BitVec 1 := Scalar.cmpi .slt v13 c0_i32_6
  let v18 : BitVec 32 := Scalar.extui v17
  let v19 : BitVec 32 := Scalar.subi v16 v18
  let c2_i32 : BitVec 32 := 2#32
  let c0_i32_7 : BitVec 32 := 0#32
  let v20 : BitVec 1 := Scalar.cmpi .sgt c2_i32 c0_i32_7
  let v21 : BitVec 32 := Scalar.extui v20
  let c0_i32_8 : BitVec 32 := 0#32
  let v22 : BitVec 1 := Scalar.cmpi .slt c2_i32 c0_i32_8
  let v23 : BitVec 32 := Scalar.extui v22
  let v24 : BitVec 32 := Scalar.subi v21 v23
  let v25 : BitVec 1 := Scalar.cmpi .ne v19 v24
  let v26 : BitVec 32 := Scalar.remsi v13 c2_i32
  let c0_i32_9 : BitVec 32 := 0#32
  let v27 : BitVec 1 := Scalar.cmpi .ne v26 c0_i32_9
  let v28 : BitVec 1 := Scalar.andi v25 v27
  let v14 : BitVec 32 := Scalar.divsi v13 c2_i32
  let c1_i32_10 : BitVec 32 := 1#32
  let v29 : BitVec 32 := Scalar.subi v14 c1_i32_10
  let v30 : BitVec 32 := Scalar.select v28 v29 v14
  let v122 : BitVec 32 := Scalar.subi v30 c0_i32_58
  let c1_i32_59 : BitVec 32 := 1#32
  let v124 : BitVec 32 := Scalar.divsi v122 c1_i32_59
  let v125 : BitVec 32 := Scalar.muli v124 c1_i32_59
  let v126 : BitVec 32 := Scalar.addi c0_i32_58 v125
  let c1_i32_61 : BitVec 32 := 1#32
  let arg8 : BitVec 32 := Scf.iv v126 c1_i32_61 k0_t3
  let v154 : BitVec 32 := Scalar.muli c2_i32_69 arg8
  let v155 : BitVec 32 := Scalar.addi v154 c1_i32_70
  let c1_i32_71 : BitVec 32 := 1#32
  let v156 : BitVec 32 := Scalar.subi v155 c1_i32_71
  let c256_i32_72 : BitVec 32 := 256#32
  let v157 : BitVec 32 := Scalar.muli v156 c256_i32_72
  let v158 : BitVec 32 := v157
  let v229 : Index := Scalar.indexCast v158
  let c896_116 : Index := 896#32
  ![0, v229.toNat, 896]
def k0_off56 (k0_t1 : Fin k0_t1_loop.trips) : Fin 3 → Nat :=
  let c0_117 : Index := 0#32
  let c0_i32 : BitVec 32 := 0#32
  let c1_i32 : BitVec 32 := 1#32
  let arg7 : BitVec 32 := Scf.iv c0_i32 c1_i32 k0_t1
  let c256_i32 : BitVec 32 := 256#32
  let v1 : BitVec 32 := Scalar.muli arg7 c256_i32
  let v2 : BitVec 32 := v1
  let v232 : Index := Scalar.indexCast v2
  let c896_118 : Index := 896#32
  ![0, v232.toNat, 896]
def k0_off57 (k0_t1 : Fin k0_t1_loop.trips) (k0_t3 : Fin (k0_t3_loop k0_t1).trips) : Fin 4 → Nat :=
  let c0_131 : Index := 0#32
  let c2_i32_69 : BitVec 32 := 2#32
  let c0_i32_58 : BitVec 32 := 0#32
  let c0_i32 : BitVec 32 := 0#32
  let c1_i32 : BitVec 32 := 1#32
  let arg7 : BitVec 32 := Scf.iv c0_i32 c1_i32 k0_t1
  let c1_i32_2 : BitVec 32 := 1#32
  let v11 : BitVec 32 := Scalar.addi arg7 c1_i32_2
  let c1_i32_4 : BitVec 32 := 1#32
  let v13 : BitVec 32 := Scalar.subi v11 c1_i32_4
  let c0_i32_5 : BitVec 32 := 0#32
  let v15 : BitVec 1 := Scalar.cmpi .sgt v13 c0_i32_5
  let v16 : BitVec 32 := Scalar.extui v15
  let c0_i32_6 : BitVec 32 := 0#32
  let v17 : BitVec 1 := Scalar.cmpi .slt v13 c0_i32_6
  let v18 : BitVec 32 := Scalar.extui v17
  let v19 : BitVec 32 := Scalar.subi v16 v18
  let c2_i32 : BitVec 32 := 2#32
  let c0_i32_7 : BitVec 32 := 0#32
  let v20 : BitVec 1 := Scalar.cmpi .sgt c2_i32 c0_i32_7
  let v21 : BitVec 32 := Scalar.extui v20
  let c0_i32_8 : BitVec 32 := 0#32
  let v22 : BitVec 1 := Scalar.cmpi .slt c2_i32 c0_i32_8
  let v23 : BitVec 32 := Scalar.extui v22
  let v24 : BitVec 32 := Scalar.subi v21 v23
  let v25 : BitVec 1 := Scalar.cmpi .ne v19 v24
  let v26 : BitVec 32 := Scalar.remsi v13 c2_i32
  let c0_i32_9 : BitVec 32 := 0#32
  let v27 : BitVec 1 := Scalar.cmpi .ne v26 c0_i32_9
  let v28 : BitVec 1 := Scalar.andi v25 v27
  let v14 : BitVec 32 := Scalar.divsi v13 c2_i32
  let c1_i32_10 : BitVec 32 := 1#32
  let v29 : BitVec 32 := Scalar.subi v14 c1_i32_10
  let v30 : BitVec 32 := Scalar.select v28 v29 v14
  let v122 : BitVec 32 := Scalar.subi v30 c0_i32_58
  let c1_i32_59 : BitVec 32 := 1#32
  let v124 : BitVec 32 := Scalar.divsi v122 c1_i32_59
  let v125 : BitVec 32 := Scalar.muli v124 c1_i32_59
  let v126 : BitVec 32 := Scalar.addi c0_i32_58 v125
  let c1_i32_61 : BitVec 32 := 1#32
  let arg8 : BitVec 32 := Scf.iv v126 c1_i32_61 k0_t3
  let v154 : BitVec 32 := Scalar.muli c2_i32_69 arg8
  let c0_i32_124 : BitVec 32 := 0#32
  let v245 : BitVec 1 := Scalar.cmpi .eq v154 c0_i32_124
  let c1_i32_125 : BitVec 32 := 1#32
  let v246 : BitVec 32 := Scalar.subi v154 c1_i32_125
  let v247 : BitVec 32 := Scalar.select v245 arg7 v246
  let v260 : Index := Scalar.indexCast v247
  let c0_132 : Index := 0#32
  let c0_133 : Index := 0#32
  ![0, v260.toNat, 0, 0]
def k0_off58 (k0_t1 : Fin k0_t1_loop.trips) (k0_t3 : Fin (k0_t3_loop k0_t1).trips) : Fin 4 → Nat :=
  let c0_135 : Index := 0#32
  let c2_i32_69 : BitVec 32 := 2#32
  let c0_i32_58 : BitVec 32 := 0#32
  let c0_i32 : BitVec 32 := 0#32
  let c1_i32 : BitVec 32 := 1#32
  let arg7 : BitVec 32 := Scf.iv c0_i32 c1_i32 k0_t1
  let c1_i32_2 : BitVec 32 := 1#32
  let v11 : BitVec 32 := Scalar.addi arg7 c1_i32_2
  let c1_i32_4 : BitVec 32 := 1#32
  let v13 : BitVec 32 := Scalar.subi v11 c1_i32_4
  let c0_i32_5 : BitVec 32 := 0#32
  let v15 : BitVec 1 := Scalar.cmpi .sgt v13 c0_i32_5
  let v16 : BitVec 32 := Scalar.extui v15
  let c0_i32_6 : BitVec 32 := 0#32
  let v17 : BitVec 1 := Scalar.cmpi .slt v13 c0_i32_6
  let v18 : BitVec 32 := Scalar.extui v17
  let v19 : BitVec 32 := Scalar.subi v16 v18
  let c2_i32 : BitVec 32 := 2#32
  let c0_i32_7 : BitVec 32 := 0#32
  let v20 : BitVec 1 := Scalar.cmpi .sgt c2_i32 c0_i32_7
  let v21 : BitVec 32 := Scalar.extui v20
  let c0_i32_8 : BitVec 32 := 0#32
  let v22 : BitVec 1 := Scalar.cmpi .slt c2_i32 c0_i32_8
  let v23 : BitVec 32 := Scalar.extui v22
  let v24 : BitVec 32 := Scalar.subi v21 v23
  let v25 : BitVec 1 := Scalar.cmpi .ne v19 v24
  let v26 : BitVec 32 := Scalar.remsi v13 c2_i32
  let c0_i32_9 : BitVec 32 := 0#32
  let v27 : BitVec 1 := Scalar.cmpi .ne v26 c0_i32_9
  let v28 : BitVec 1 := Scalar.andi v25 v27
  let v14 : BitVec 32 := Scalar.divsi v13 c2_i32
  let c1_i32_10 : BitVec 32 := 1#32
  let v29 : BitVec 32 := Scalar.subi v14 c1_i32_10
  let v30 : BitVec 32 := Scalar.select v28 v29 v14
  let v122 : BitVec 32 := Scalar.subi v30 c0_i32_58
  let c1_i32_59 : BitVec 32 := 1#32
  let v124 : BitVec 32 := Scalar.divsi v122 c1_i32_59
  let v125 : BitVec 32 := Scalar.muli v124 c1_i32_59
  let v126 : BitVec 32 := Scalar.addi c0_i32_58 v125
  let c1_i32_61 : BitVec 32 := 1#32
  let arg8 : BitVec 32 := Scf.iv v126 c1_i32_61 k0_t3
  let v154 : BitVec 32 := Scalar.muli c2_i32_69 arg8
  let c0_i32_124 : BitVec 32 := 0#32
  let v245 : BitVec 1 := Scalar.cmpi .eq v154 c0_i32_124
  let c1_i32_125 : BitVec 32 := 1#32
  let v246 : BitVec 32 := Scalar.subi v154 c1_i32_125
  let v247 : BitVec 32 := Scalar.select v245 arg7 v246
  let v265 : Index := Scalar.indexCast v247
  let c80 : Index := 80#32
  let c0_136 : Index := 0#32
  ![0, v265.toNat, 80, 0]
def k0_off59 (k0_t1 : Fin k0_t1_loop.trips) (k0_t3 : Fin (k0_t3_loop k0_t1).trips) : Fin 4 → Nat :=
  let c0_138 : Index := 0#32
  let c2_i32_69 : BitVec 32 := 2#32
  let c0_i32_58 : BitVec 32 := 0#32
  let c0_i32 : BitVec 32 := 0#32
  let c1_i32 : BitVec 32 := 1#32
  let arg7 : BitVec 32 := Scf.iv c0_i32 c1_i32 k0_t1
  let c1_i32_2 : BitVec 32 := 1#32
  let v11 : BitVec 32 := Scalar.addi arg7 c1_i32_2
  let c1_i32_4 : BitVec 32 := 1#32
  let v13 : BitVec 32 := Scalar.subi v11 c1_i32_4
  let c0_i32_5 : BitVec 32 := 0#32
  let v15 : BitVec 1 := Scalar.cmpi .sgt v13 c0_i32_5
  let v16 : BitVec 32 := Scalar.extui v15
  let c0_i32_6 : BitVec 32 := 0#32
  let v17 : BitVec 1 := Scalar.cmpi .slt v13 c0_i32_6
  let v18 : BitVec 32 := Scalar.extui v17
  let v19 : BitVec 32 := Scalar.subi v16 v18
  let c2_i32 : BitVec 32 := 2#32
  let c0_i32_7 : BitVec 32 := 0#32
  let v20 : BitVec 1 := Scalar.cmpi .sgt c2_i32 c0_i32_7
  let v21 : BitVec 32 := Scalar.extui v20
  let c0_i32_8 : BitVec 32 := 0#32
  let v22 : BitVec 1 := Scalar.cmpi .slt c2_i32 c0_i32_8
  let v23 : BitVec 32 := Scalar.extui v22
  let v24 : BitVec 32 := Scalar.subi v21 v23
  let v25 : BitVec 1 := Scalar.cmpi .ne v19 v24
  let v26 : BitVec 32 := Scalar.remsi v13 c2_i32
  let c0_i32_9 : BitVec 32 := 0#32
  let v27 : BitVec 1 := Scalar.cmpi .ne v26 c0_i32_9
  let v28 : BitVec 1 := Scalar.andi v25 v27
  let v14 : BitVec 32 := Scalar.divsi v13 c2_i32
  let c1_i32_10 : BitVec 32 := 1#32
  let v29 : BitVec 32 := Scalar.subi v14 c1_i32_10
  let v30 : BitVec 32 := Scalar.select v28 v29 v14
  let v122 : BitVec 32 := Scalar.subi v30 c0_i32_58
  let c1_i32_59 : BitVec 32 := 1#32
  let v124 : BitVec 32 := Scalar.divsi v122 c1_i32_59
  let v125 : BitVec 32 := Scalar.muli v124 c1_i32_59
  let v126 : BitVec 32 := Scalar.addi c0_i32_58 v125
  let c1_i32_61 : BitVec 32 := 1#32
  let arg8 : BitVec 32 := Scf.iv v126 c1_i32_61 k0_t3
  let v154 : BitVec 32 := Scalar.muli c2_i32_69 arg8
  let c0_i32_124 : BitVec 32 := 0#32
  let v245 : BitVec 1 := Scalar.cmpi .eq v154 c0_i32_124
  let c1_i32_125 : BitVec 32 := 1#32
  let v246 : BitVec 32 := Scalar.subi v154 c1_i32_125
  let v247 : BitVec 32 := Scalar.select v245 arg7 v246
  let v270 : Index := Scalar.indexCast v247
  let c160 : Index := 160#32
  let c0_139 : Index := 0#32
  ![0, v270.toNat, 160, 0]
def k0_off60 (k0_t1 : Fin k0_t1_loop.trips) (k0_t3 : Fin (k0_t3_loop k0_t1).trips) : Fin 4 → Nat :=
  let c0_141 : Index := 0#32
  let c2_i32_69 : BitVec 32 := 2#32
  let c0_i32_58 : BitVec 32 := 0#32
  let c0_i32 : BitVec 32 := 0#32
  let c1_i32 : BitVec 32 := 1#32
  let arg7 : BitVec 32 := Scf.iv c0_i32 c1_i32 k0_t1
  let c1_i32_2 : BitVec 32 := 1#32
  let v11 : BitVec 32 := Scalar.addi arg7 c1_i32_2
  let c1_i32_4 : BitVec 32 := 1#32
  let v13 : BitVec 32 := Scalar.subi v11 c1_i32_4
  let c0_i32_5 : BitVec 32 := 0#32
  let v15 : BitVec 1 := Scalar.cmpi .sgt v13 c0_i32_5
  let v16 : BitVec 32 := Scalar.extui v15
  let c0_i32_6 : BitVec 32 := 0#32
  let v17 : BitVec 1 := Scalar.cmpi .slt v13 c0_i32_6
  let v18 : BitVec 32 := Scalar.extui v17
  let v19 : BitVec 32 := Scalar.subi v16 v18
  let c2_i32 : BitVec 32 := 2#32
  let c0_i32_7 : BitVec 32 := 0#32
  let v20 : BitVec 1 := Scalar.cmpi .sgt c2_i32 c0_i32_7
  let v21 : BitVec 32 := Scalar.extui v20
  let c0_i32_8 : BitVec 32 := 0#32
  let v22 : BitVec 1 := Scalar.cmpi .slt c2_i32 c0_i32_8
  let v23 : BitVec 32 := Scalar.extui v22
  let v24 : BitVec 32 := Scalar.subi v21 v23
  let v25 : BitVec 1 := Scalar.cmpi .ne v19 v24
  let v26 : BitVec 32 := Scalar.remsi v13 c2_i32
  let c0_i32_9 : BitVec 32 := 0#32
  let v27 : BitVec 1 := Scalar.cmpi .ne v26 c0_i32_9
  let v28 : BitVec 1 := Scalar.andi v25 v27
  let v14 : BitVec 32 := Scalar.divsi v13 c2_i32
  let c1_i32_10 : BitVec 32 := 1#32
  let v29 : BitVec 32 := Scalar.subi v14 c1_i32_10
  let v30 : BitVec 32 := Scalar.select v28 v29 v14
  let v122 : BitVec 32 := Scalar.subi v30 c0_i32_58
  let c1_i32_59 : BitVec 32 := 1#32
  let v124 : BitVec 32 := Scalar.divsi v122 c1_i32_59
  let v125 : BitVec 32 := Scalar.muli v124 c1_i32_59
  let v126 : BitVec 32 := Scalar.addi c0_i32_58 v125
  let c1_i32_61 : BitVec 32 := 1#32
  let arg8 : BitVec 32 := Scf.iv v126 c1_i32_61 k0_t3
  let v154 : BitVec 32 := Scalar.muli c2_i32_69 arg8
  let c0_i32_124 : BitVec 32 := 0#32
  let v245 : BitVec 1 := Scalar.cmpi .eq v154 c0_i32_124
  let c1_i32_125 : BitVec 32 := 1#32
  let v246 : BitVec 32 := Scalar.subi v154 c1_i32_125
  let v247 : BitVec 32 := Scalar.select v245 arg7 v246
  let v275 : Index := Scalar.indexCast v247
  let c240 : Index := 240#32
  let c0_142 : Index := 0#32
  ![0, v275.toNat, 240, 0]
def k0_off61 (k0_t1 : Fin k0_t1_loop.trips) (k0_t3 : Fin (k0_t3_loop k0_t1).trips) : Fin 4 → Nat :=
  let c0_144 : Index := 0#32
  let c2_i32_69 : BitVec 32 := 2#32
  let c0_i32_58 : BitVec 32 := 0#32
  let c0_i32 : BitVec 32 := 0#32
  let c1_i32 : BitVec 32 := 1#32
  let arg7 : BitVec 32 := Scf.iv c0_i32 c1_i32 k0_t1
  let c1_i32_2 : BitVec 32 := 1#32
  let v11 : BitVec 32 := Scalar.addi arg7 c1_i32_2
  let c1_i32_4 : BitVec 32 := 1#32
  let v13 : BitVec 32 := Scalar.subi v11 c1_i32_4
  let c0_i32_5 : BitVec 32 := 0#32
  let v15 : BitVec 1 := Scalar.cmpi .sgt v13 c0_i32_5
  let v16 : BitVec 32 := Scalar.extui v15
  let c0_i32_6 : BitVec 32 := 0#32
  let v17 : BitVec 1 := Scalar.cmpi .slt v13 c0_i32_6
  let v18 : BitVec 32 := Scalar.extui v17
  let v19 : BitVec 32 := Scalar.subi v16 v18
  let c2_i32 : BitVec 32 := 2#32
  let c0_i32_7 : BitVec 32 := 0#32
  let v20 : BitVec 1 := Scalar.cmpi .sgt c2_i32 c0_i32_7
  let v21 : BitVec 32 := Scalar.extui v20
  let c0_i32_8 : BitVec 32 := 0#32
  let v22 : BitVec 1 := Scalar.cmpi .slt c2_i32 c0_i32_8
  let v23 : BitVec 32 := Scalar.extui v22
  let v24 : BitVec 32 := Scalar.subi v21 v23
  let v25 : BitVec 1 := Scalar.cmpi .ne v19 v24
  let v26 : BitVec 32 := Scalar.remsi v13 c2_i32
  let c0_i32_9 : BitVec 32 := 0#32
  let v27 : BitVec 1 := Scalar.cmpi .ne v26 c0_i32_9
  let v28 : BitVec 1 := Scalar.andi v25 v27
  let v14 : BitVec 32 := Scalar.divsi v13 c2_i32
  let c1_i32_10 : BitVec 32 := 1#32
  let v29 : BitVec 32 := Scalar.subi v14 c1_i32_10
  let v30 : BitVec 32 := Scalar.select v28 v29 v14
  let v122 : BitVec 32 := Scalar.subi v30 c0_i32_58
  let c1_i32_59 : BitVec 32 := 1#32
  let v124 : BitVec 32 := Scalar.divsi v122 c1_i32_59
  let v125 : BitVec 32 := Scalar.muli v124 c1_i32_59
  let v126 : BitVec 32 := Scalar.addi c0_i32_58 v125
  let c1_i32_61 : BitVec 32 := 1#32
  let arg8 : BitVec 32 := Scf.iv v126 c1_i32_61 k0_t3
  let v154 : BitVec 32 := Scalar.muli c2_i32_69 arg8
  let c0_i32_124 : BitVec 32 := 0#32
  let v245 : BitVec 1 := Scalar.cmpi .eq v154 c0_i32_124
  let c1_i32_125 : BitVec 32 := 1#32
  let v246 : BitVec 32 := Scalar.subi v154 c1_i32_125
  let v247 : BitVec 32 := Scalar.select v245 arg7 v246
  let v280 : Index := Scalar.indexCast v247
  let c320 : Index := 320#32
  let c0_145 : Index := 0#32
  ![0, v280.toNat, 320, 0]
def k0_off62 (k0_t1 : Fin k0_t1_loop.trips) (k0_t3 : Fin (k0_t3_loop k0_t1).trips) : Fin 4 → Nat :=
  let c0_147 : Index := 0#32
  let c2_i32_69 : BitVec 32 := 2#32
  let c0_i32_58 : BitVec 32 := 0#32
  let c0_i32 : BitVec 32 := 0#32
  let c1_i32 : BitVec 32 := 1#32
  let arg7 : BitVec 32 := Scf.iv c0_i32 c1_i32 k0_t1
  let c1_i32_2 : BitVec 32 := 1#32
  let v11 : BitVec 32 := Scalar.addi arg7 c1_i32_2
  let c1_i32_4 : BitVec 32 := 1#32
  let v13 : BitVec 32 := Scalar.subi v11 c1_i32_4
  let c0_i32_5 : BitVec 32 := 0#32
  let v15 : BitVec 1 := Scalar.cmpi .sgt v13 c0_i32_5
  let v16 : BitVec 32 := Scalar.extui v15
  let c0_i32_6 : BitVec 32 := 0#32
  let v17 : BitVec 1 := Scalar.cmpi .slt v13 c0_i32_6
  let v18 : BitVec 32 := Scalar.extui v17
  let v19 : BitVec 32 := Scalar.subi v16 v18
  let c2_i32 : BitVec 32 := 2#32
  let c0_i32_7 : BitVec 32 := 0#32
  let v20 : BitVec 1 := Scalar.cmpi .sgt c2_i32 c0_i32_7
  let v21 : BitVec 32 := Scalar.extui v20
  let c0_i32_8 : BitVec 32 := 0#32
  let v22 : BitVec 1 := Scalar.cmpi .slt c2_i32 c0_i32_8
  let v23 : BitVec 32 := Scalar.extui v22
  let v24 : BitVec 32 := Scalar.subi v21 v23
  let v25 : BitVec 1 := Scalar.cmpi .ne v19 v24
  let v26 : BitVec 32 := Scalar.remsi v13 c2_i32
  let c0_i32_9 : BitVec 32 := 0#32
  let v27 : BitVec 1 := Scalar.cmpi .ne v26 c0_i32_9
  let v28 : BitVec 1 := Scalar.andi v25 v27
  let v14 : BitVec 32 := Scalar.divsi v13 c2_i32
  let c1_i32_10 : BitVec 32 := 1#32
  let v29 : BitVec 32 := Scalar.subi v14 c1_i32_10
  let v30 : BitVec 32 := Scalar.select v28 v29 v14
  let v122 : BitVec 32 := Scalar.subi v30 c0_i32_58
  let c1_i32_59 : BitVec 32 := 1#32
  let v124 : BitVec 32 := Scalar.divsi v122 c1_i32_59
  let v125 : BitVec 32 := Scalar.muli v124 c1_i32_59
  let v126 : BitVec 32 := Scalar.addi c0_i32_58 v125
  let c1_i32_61 : BitVec 32 := 1#32
  let arg8 : BitVec 32 := Scf.iv v126 c1_i32_61 k0_t3
  let v154 : BitVec 32 := Scalar.muli c2_i32_69 arg8
  let c0_i32_124 : BitVec 32 := 0#32
  let v245 : BitVec 1 := Scalar.cmpi .eq v154 c0_i32_124
  let c1_i32_125 : BitVec 32 := 1#32
  let v246 : BitVec 32 := Scalar.subi v154 c1_i32_125
  let v247 : BitVec 32 := Scalar.select v245 arg7 v246
  let v285 : Index := Scalar.indexCast v247
  let c400 : Index := 400#32
  let c0_148 : Index := 0#32
  ![0, v285.toNat, 400, 0]
def k0_off63 (k0_t1 : Fin k0_t1_loop.trips) (k0_t3 : Fin (k0_t3_loop k0_t1).trips) : Fin 4 → Nat :=
  let c0_150 : Index := 0#32
  let c2_i32_69 : BitVec 32 := 2#32
  let c0_i32_58 : BitVec 32 := 0#32
  let c0_i32 : BitVec 32 := 0#32
  let c1_i32 : BitVec 32 := 1#32
  let arg7 : BitVec 32 := Scf.iv c0_i32 c1_i32 k0_t1
  let c1_i32_2 : BitVec 32 := 1#32
  let v11 : BitVec 32 := Scalar.addi arg7 c1_i32_2
  let c1_i32_4 : BitVec 32 := 1#32
  let v13 : BitVec 32 := Scalar.subi v11 c1_i32_4
  let c0_i32_5 : BitVec 32 := 0#32
  let v15 : BitVec 1 := Scalar.cmpi .sgt v13 c0_i32_5
  let v16 : BitVec 32 := Scalar.extui v15
  let c0_i32_6 : BitVec 32 := 0#32
  let v17 : BitVec 1 := Scalar.cmpi .slt v13 c0_i32_6
  let v18 : BitVec 32 := Scalar.extui v17
  let v19 : BitVec 32 := Scalar.subi v16 v18
  let c2_i32 : BitVec 32 := 2#32
  let c0_i32_7 : BitVec 32 := 0#32
  let v20 : BitVec 1 := Scalar.cmpi .sgt c2_i32 c0_i32_7
  let v21 : BitVec 32 := Scalar.extui v20
  let c0_i32_8 : BitVec 32 := 0#32
  let v22 : BitVec 1 := Scalar.cmpi .slt c2_i32 c0_i32_8
  let v23 : BitVec 32 := Scalar.extui v22
  let v24 : BitVec 32 := Scalar.subi v21 v23
  let v25 : BitVec 1 := Scalar.cmpi .ne v19 v24
  let v26 : BitVec 32 := Scalar.remsi v13 c2_i32
  let c0_i32_9 : BitVec 32 := 0#32
  let v27 : BitVec 1 := Scalar.cmpi .ne v26 c0_i32_9
  let v28 : BitVec 1 := Scalar.andi v25 v27
  let v14 : BitVec 32 := Scalar.divsi v13 c2_i32
  let c1_i32_10 : BitVec 32 := 1#32
  let v29 : BitVec 32 := Scalar.subi v14 c1_i32_10
  let v30 : BitVec 32 := Scalar.select v28 v29 v14
  let v122 : BitVec 32 := Scalar.subi v30 c0_i32_58
  let c1_i32_59 : BitVec 32 := 1#32
  let v124 : BitVec 32 := Scalar.divsi v122 c1_i32_59
  let v125 : BitVec 32 := Scalar.muli v124 c1_i32_59
  let v126 : BitVec 32 := Scalar.addi c0_i32_58 v125
  let c1_i32_61 : BitVec 32 := 1#32
  let arg8 : BitVec 32 := Scf.iv v126 c1_i32_61 k0_t3
  let v154 : BitVec 32 := Scalar.muli c2_i32_69 arg8
  let c0_i32_124 : BitVec 32 := 0#32
  let v245 : BitVec 1 := Scalar.cmpi .eq v154 c0_i32_124
  let c1_i32_125 : BitVec 32 := 1#32
  let v246 : BitVec 32 := Scalar.subi v154 c1_i32_125
  let v247 : BitVec 32 := Scalar.select v245 arg7 v246
  let v290 : Index := Scalar.indexCast v247
  let c480 : Index := 480#32
  let c0_151 : Index := 0#32
  ![0, v290.toNat, 480, 0]
def k0_off64 (k0_t1 : Fin k0_t1_loop.trips) (k0_t3 : Fin (k0_t3_loop k0_t1).trips) : Fin 4 → Nat :=
  let c0_153 : Index := 0#32
  let c2_i32_69 : BitVec 32 := 2#32
  let c0_i32_58 : BitVec 32 := 0#32
  let c0_i32 : BitVec 32 := 0#32
  let c1_i32 : BitVec 32 := 1#32
  let arg7 : BitVec 32 := Scf.iv c0_i32 c1_i32 k0_t1
  let c1_i32_2 : BitVec 32 := 1#32
  let v11 : BitVec 32 := Scalar.addi arg7 c1_i32_2
  let c1_i32_4 : BitVec 32 := 1#32
  let v13 : BitVec 32 := Scalar.subi v11 c1_i32_4
  let c0_i32_5 : BitVec 32 := 0#32
  let v15 : BitVec 1 := Scalar.cmpi .sgt v13 c0_i32_5
  let v16 : BitVec 32 := Scalar.extui v15
  let c0_i32_6 : BitVec 32 := 0#32
  let v17 : BitVec 1 := Scalar.cmpi .slt v13 c0_i32_6
  let v18 : BitVec 32 := Scalar.extui v17
  let v19 : BitVec 32 := Scalar.subi v16 v18
  let c2_i32 : BitVec 32 := 2#32
  let c0_i32_7 : BitVec 32 := 0#32
  let v20 : BitVec 1 := Scalar.cmpi .sgt c2_i32 c0_i32_7
  let v21 : BitVec 32 := Scalar.extui v20
  let c0_i32_8 : BitVec 32 := 0#32
  let v22 : BitVec 1 := Scalar.cmpi .slt c2_i32 c0_i32_8
  let v23 : BitVec 32 := Scalar.extui v22
  let v24 : BitVec 32 := Scalar.subi v21 v23
  let v25 : BitVec 1 := Scalar.cmpi .ne v19 v24
  let v26 : BitVec 32 := Scalar.remsi v13 c2_i32
  let c0_i32_9 : BitVec 32 := 0#32
  let v27 : BitVec 1 := Scalar.cmpi .ne v26 c0_i32_9
  let v28 : BitVec 1 := Scalar.andi v25 v27
  let v14 : BitVec 32 := Scalar.divsi v13 c2_i32
  let c1_i32_10 : BitVec 32 := 1#32
  let v29 : BitVec 32 := Scalar.subi v14 c1_i32_10
  let v30 : BitVec 32 := Scalar.select v28 v29 v14
  let v122 : BitVec 32 := Scalar.subi v30 c0_i32_58
  let c1_i32_59 : BitVec 32 := 1#32
  let v124 : BitVec 32 := Scalar.divsi v122 c1_i32_59
  let v125 : BitVec 32 := Scalar.muli v124 c1_i32_59
  let v126 : BitVec 32 := Scalar.addi c0_i32_58 v125
  let c1_i32_61 : BitVec 32 := 1#32
  let arg8 : BitVec 32 := Scf.iv v126 c1_i32_61 k0_t3
  let v154 : BitVec 32 := Scalar.muli c2_i32_69 arg8
  let c0_i32_124 : BitVec 32 := 0#32
  let v245 : BitVec 1 := Scalar.cmpi .eq v154 c0_i32_124
  let c1_i32_125 : BitVec 32 := 1#32
  let v246 : BitVec 32 := Scalar.subi v154 c1_i32_125
  let v247 : BitVec 32 := Scalar.select v245 arg7 v246
  let v295 : Index := Scalar.indexCast v247
  let c560 : Index := 560#32
  let c0_154 : Index := 0#32
  ![0, v295.toNat, 560, 0]
def k0_mult6 (k0_t1 : Fin k0_t1_loop.trips) (k0_t3 : Fin (k0_t3_loop k0_t1).trips) : BitVec 32 :=
  let c2_i32_69 : BitVec 32 := 2#32
  let c0_i32_58 : BitVec 32 := 0#32
  let c0_i32 : BitVec 32 := 0#32
  let c1_i32 : BitVec 32 := 1#32
  let arg7 : BitVec 32 := Scf.iv c0_i32 c1_i32 k0_t1
  let c1_i32_2 : BitVec 32 := 1#32
  let v11 : BitVec 32 := Scalar.addi arg7 c1_i32_2
  let c1_i32_4 : BitVec 32 := 1#32
  let v13 : BitVec 32 := Scalar.subi v11 c1_i32_4
  let c0_i32_5 : BitVec 32 := 0#32
  let v15 : BitVec 1 := Scalar.cmpi .sgt v13 c0_i32_5
  let v16 : BitVec 32 := Scalar.extui v15
  let c0_i32_6 : BitVec 32 := 0#32
  let v17 : BitVec 1 := Scalar.cmpi .slt v13 c0_i32_6
  let v18 : BitVec 32 := Scalar.extui v17
  let v19 : BitVec 32 := Scalar.subi v16 v18
  let c2_i32 : BitVec 32 := 2#32
  let c0_i32_7 : BitVec 32 := 0#32
  let v20 : BitVec 1 := Scalar.cmpi .sgt c2_i32 c0_i32_7
  let v21 : BitVec 32 := Scalar.extui v20
  let c0_i32_8 : BitVec 32 := 0#32
  let v22 : BitVec 1 := Scalar.cmpi .slt c2_i32 c0_i32_8
  let v23 : BitVec 32 := Scalar.extui v22
  let v24 : BitVec 32 := Scalar.subi v21 v23
  let v25 : BitVec 1 := Scalar.cmpi .ne v19 v24
  let v26 : BitVec 32 := Scalar.remsi v13 c2_i32
  let c0_i32_9 : BitVec 32 := 0#32
  let v27 : BitVec 1 := Scalar.cmpi .ne v26 c0_i32_9
  let v28 : BitVec 1 := Scalar.andi v25 v27
  let v14 : BitVec 32 := Scalar.divsi v13 c2_i32
  let c1_i32_10 : BitVec 32 := 1#32
  let v29 : BitVec 32 := Scalar.subi v14 c1_i32_10
  let v30 : BitVec 32 := Scalar.select v28 v29 v14
  let v122 : BitVec 32 := Scalar.subi v30 c0_i32_58
  let c1_i32_59 : BitVec 32 := 1#32
  let v124 : BitVec 32 := Scalar.divsi v122 c1_i32_59
  let v125 : BitVec 32 := Scalar.muli v124 c1_i32_59
  let v126 : BitVec 32 := Scalar.addi c0_i32_58 v125
  let c1_i32_61 : BitVec 32 := 1#32
  let arg8 : BitVec 32 := Scf.iv v126 c1_i32_61 k0_t3
  let v154 : BitVec 32 := Scalar.muli c2_i32_69 arg8
  let c2_i32_158 : BitVec 32 := 2#32
  let v305 : BitVec 32 := Scalar.addi v154 c2_i32_158
  let c1_i32_159 : BitVec 32 := 1#32
  let v306 : BitVec 32 := Scalar.subi v305 c1_i32_159
  let c256_i32_160 : BitVec 32 := 256#32
  let v307 : BitVec 32 := Scalar.muli v306 c256_i32_160
  v307
def k0_off65 (k0_t1 : Fin k0_t1_loop.trips) (k0_t3 : Fin (k0_t3_loop k0_t1).trips) : Fin 4 → Nat :=
  let c0_221 : Index := 0#32
  let c2_i32_69 : BitVec 32 := 2#32
  let c0_i32_58 : BitVec 32 := 0#32
  let c0_i32 : BitVec 32 := 0#32
  let c1_i32 : BitVec 32 := 1#32
  let arg7 : BitVec 32 := Scf.iv c0_i32 c1_i32 k0_t1
  let c1_i32_2 : BitVec 32 := 1#32
  let v11 : BitVec 32 := Scalar.addi arg7 c1_i32_2
  let c1_i32_4 : BitVec 32 := 1#32
  let v13 : BitVec 32 := Scalar.subi v11 c1_i32_4
  let c0_i32_5 : BitVec 32 := 0#32
  let v15 : BitVec 1 := Scalar.cmpi .sgt v13 c0_i32_5
  let v16 : BitVec 32 := Scalar.extui v15
  let c0_i32_6 : BitVec 32 := 0#32
  let v17 : BitVec 1 := Scalar.cmpi .slt v13 c0_i32_6
  let v18 : BitVec 32 := Scalar.extui v17
  let v19 : BitVec 32 := Scalar.subi v16 v18
  let c2_i32 : BitVec 32 := 2#32
  let c0_i32_7 : BitVec 32 := 0#32
  let v20 : BitVec 1 := Scalar.cmpi .sgt c2_i32 c0_i32_7
  let v21 : BitVec 32 := Scalar.extui v20
  let c0_i32_8 : BitVec 32 := 0#32
  let v22 : BitVec 1 := Scalar.cmpi .slt c2_i32 c0_i32_8
  let v23 : BitVec 32 := Scalar.extui v22
  let v24 : BitVec 32 := Scalar.subi v21 v23
  let v25 : BitVec 1 := Scalar.cmpi .ne v19 v24
  let v26 : BitVec 32 := Scalar.remsi v13 c2_i32
  let c0_i32_9 : BitVec 32 := 0#32
  let v27 : BitVec 1 := Scalar.cmpi .ne v26 c0_i32_9
  let v28 : BitVec 1 := Scalar.andi v25 v27
  let v14 : BitVec 32 := Scalar.divsi v13 c2_i32
  let c1_i32_10 : BitVec 32 := 1#32
  let v29 : BitVec 32 := Scalar.subi v14 c1_i32_10
  let v30 : BitVec 32 := Scalar.select v28 v29 v14
  let v122 : BitVec 32 := Scalar.subi v30 c0_i32_58
  let c1_i32_59 : BitVec 32 := 1#32
  let v124 : BitVec 32 := Scalar.divsi v122 c1_i32_59
  let v125 : BitVec 32 := Scalar.muli v124 c1_i32_59
  let v126 : BitVec 32 := Scalar.addi c0_i32_58 v125
  let c1_i32_61 : BitVec 32 := 1#32
  let arg8 : BitVec 32 := Scf.iv v126 c1_i32_61 k0_t3
  let v154 : BitVec 32 := Scalar.muli c2_i32_69 arg8
  let c1_i32_213 : BitVec 32 := 1#32
  let v395 : BitVec 32 := Scalar.addi v154 c1_i32_213
  let c0_i32_214 : BitVec 32 := 0#32
  let v396 : BitVec 1 := Scalar.cmpi .eq v395 c0_i32_214
  let c1_i32_215 : BitVec 32 := 1#32
  let v397 : BitVec 32 := Scalar.subi v395 c1_i32_215
  let v398 : BitVec 32 := Scalar.select v396 arg7 v397
  let v411 : Index := Scalar.indexCast v398
  let c0_222 : Index := 0#32
  let c0_223 : Index := 0#32
  ![0, v411.toNat, 0, 0]
def k0_off66 (k0_t1 : Fin k0_t1_loop.trips) (k0_t3 : Fin (k0_t3_loop k0_t1).trips) : Fin 4 → Nat :=
  let c0_225 : Index := 0#32
  let c2_i32_69 : BitVec 32 := 2#32
  let c0_i32_58 : BitVec 32 := 0#32
  let c0_i32 : BitVec 32 := 0#32
  let c1_i32 : BitVec 32 := 1#32
  let arg7 : BitVec 32 := Scf.iv c0_i32 c1_i32 k0_t1
  let c1_i32_2 : BitVec 32 := 1#32
  let v11 : BitVec 32 := Scalar.addi arg7 c1_i32_2
  let c1_i32_4 : BitVec 32 := 1#32
  let v13 : BitVec 32 := Scalar.subi v11 c1_i32_4
  let c0_i32_5 : BitVec 32 := 0#32
  let v15 : BitVec 1 := Scalar.cmpi .sgt v13 c0_i32_5
  let v16 : BitVec 32 := Scalar.extui v15
  let c0_i32_6 : BitVec 32 := 0#32
  let v17 : BitVec 1 := Scalar.cmpi .slt v13 c0_i32_6
  let v18 : BitVec 32 := Scalar.extui v17
  let v19 : BitVec 32 := Scalar.subi v16 v18
  let c2_i32 : BitVec 32 := 2#32
  let c0_i32_7 : BitVec 32 := 0#32
  let v20 : BitVec 1 := Scalar.cmpi .sgt c2_i32 c0_i32_7
  let v21 : BitVec 32 := Scalar.extui v20
  let c0_i32_8 : BitVec 32 := 0#32
  let v22 : BitVec 1 := Scalar.cmpi .slt c2_i32 c0_i32_8
  let v23 : BitVec 32 := Scalar.extui v22
  let v24 : BitVec 32 := Scalar.subi v21 v23
  let v25 : BitVec 1 := Scalar.cmpi .ne v19 v24
  let v26 : BitVec 32 := Scalar.remsi v13 c2_i32
  let c0_i32_9 : BitVec 32 := 0#32
  let v27 : BitVec 1 := Scalar.cmpi .ne v26 c0_i32_9
  let v28 : BitVec 1 := Scalar.andi v25 v27
  let v14 : BitVec 32 := Scalar.divsi v13 c2_i32
  let c1_i32_10 : BitVec 32 := 1#32
  let v29 : BitVec 32 := Scalar.subi v14 c1_i32_10
  let v30 : BitVec 32 := Scalar.select v28 v29 v14
  let v122 : BitVec 32 := Scalar.subi v30 c0_i32_58
  let c1_i32_59 : BitVec 32 := 1#32
  let v124 : BitVec 32 := Scalar.divsi v122 c1_i32_59
  let v125 : BitVec 32 := Scalar.muli v124 c1_i32_59
  let v126 : BitVec 32 := Scalar.addi c0_i32_58 v125
  let c1_i32_61 : BitVec 32 := 1#32
  let arg8 : BitVec 32 := Scf.iv v126 c1_i32_61 k0_t3
  let v154 : BitVec 32 := Scalar.muli c2_i32_69 arg8
  let c1_i32_213 : BitVec 32 := 1#32
  let v395 : BitVec 32 := Scalar.addi v154 c1_i32_213
  let c0_i32_214 : BitVec 32 := 0#32
  let v396 : BitVec 1 := Scalar.cmpi .eq v395 c0_i32_214
  let c1_i32_215 : BitVec 32 := 1#32
  let v397 : BitVec 32 := Scalar.subi v395 c1_i32_215
  let v398 : BitVec 32 := Scalar.select v396 arg7 v397
  let v416 : Index := Scalar.indexCast v398
  let c80_226 : Index := 80#32
  let c0_227 : Index := 0#32
  ![0, v416.toNat, 80, 0]
def k0_off67 (k0_t1 : Fin k0_t1_loop.trips) (k0_t3 : Fin (k0_t3_loop k0_t1).trips) : Fin 4 → Nat :=
  let c0_229 : Index := 0#32
  let c2_i32_69 : BitVec 32 := 2#32
  let c0_i32_58 : BitVec 32 := 0#32
  let c0_i32 : BitVec 32 := 0#32
  let c1_i32 : BitVec 32 := 1#32
  let arg7 : BitVec 32 := Scf.iv c0_i32 c1_i32 k0_t1
  let c1_i32_2 : BitVec 32 := 1#32
  let v11 : BitVec 32 := Scalar.addi arg7 c1_i32_2
  let c1_i32_4 : BitVec 32 := 1#32
  let v13 : BitVec 32 := Scalar.subi v11 c1_i32_4
  let c0_i32_5 : BitVec 32 := 0#32
  let v15 : BitVec 1 := Scalar.cmpi .sgt v13 c0_i32_5
  let v16 : BitVec 32 := Scalar.extui v15
  let c0_i32_6 : BitVec 32 := 0#32
  let v17 : BitVec 1 := Scalar.cmpi .slt v13 c0_i32_6
  let v18 : BitVec 32 := Scalar.extui v17
  let v19 : BitVec 32 := Scalar.subi v16 v18
  let c2_i32 : BitVec 32 := 2#32
  let c0_i32_7 : BitVec 32 := 0#32
  let v20 : BitVec 1 := Scalar.cmpi .sgt c2_i32 c0_i32_7
  let v21 : BitVec 32 := Scalar.extui v20
  let c0_i32_8 : BitVec 32 := 0#32
  let v22 : BitVec 1 := Scalar.cmpi .slt c2_i32 c0_i32_8
  let v23 : BitVec 32 := Scalar.extui v22
  let v24 : BitVec 32 := Scalar.subi v21 v23
  let v25 : BitVec 1 := Scalar.cmpi .ne v19 v24
  let v26 : BitVec 32 := Scalar.remsi v13 c2_i32
  let c0_i32_9 : BitVec 32 := 0#32
  let v27 : BitVec 1 := Scalar.cmpi .ne v26 c0_i32_9
  let v28 : BitVec 1 := Scalar.andi v25 v27
  let v14 : BitVec 32 := Scalar.divsi v13 c2_i32
  let c1_i32_10 : BitVec 32 := 1#32
  let v29 : BitVec 32 := Scalar.subi v14 c1_i32_10
  let v30 : BitVec 32 := Scalar.select v28 v29 v14
  let v122 : BitVec 32 := Scalar.subi v30 c0_i32_58
  let c1_i32_59 : BitVec 32 := 1#32
  let v124 : BitVec 32 := Scalar.divsi v122 c1_i32_59
  let v125 : BitVec 32 := Scalar.muli v124 c1_i32_59
  let v126 : BitVec 32 := Scalar.addi c0_i32_58 v125
  let c1_i32_61 : BitVec 32 := 1#32
  let arg8 : BitVec 32 := Scf.iv v126 c1_i32_61 k0_t3
  let v154 : BitVec 32 := Scalar.muli c2_i32_69 arg8
  let c1_i32_213 : BitVec 32 := 1#32
  let v395 : BitVec 32 := Scalar.addi v154 c1_i32_213
  let c0_i32_214 : BitVec 32 := 0#32
  let v396 : BitVec 1 := Scalar.cmpi .eq v395 c0_i32_214
  let c1_i32_215 : BitVec 32 := 1#32
  let v397 : BitVec 32 := Scalar.subi v395 c1_i32_215
  let v398 : BitVec 32 := Scalar.select v396 arg7 v397
  let v421 : Index := Scalar.indexCast v398
  let c160_230 : Index := 160#32
  let c0_231 : Index := 0#32
  ![0, v421.toNat, 160, 0]
def k0_off68 (k0_t1 : Fin k0_t1_loop.trips) (k0_t3 : Fin (k0_t3_loop k0_t1).trips) : Fin 4 → Nat :=
  let c0_233 : Index := 0#32
  let c2_i32_69 : BitVec 32 := 2#32
  let c0_i32_58 : BitVec 32 := 0#32
  let c0_i32 : BitVec 32 := 0#32
  let c1_i32 : BitVec 32 := 1#32
  let arg7 : BitVec 32 := Scf.iv c0_i32 c1_i32 k0_t1
  let c1_i32_2 : BitVec 32 := 1#32
  let v11 : BitVec 32 := Scalar.addi arg7 c1_i32_2
  let c1_i32_4 : BitVec 32 := 1#32
  let v13 : BitVec 32 := Scalar.subi v11 c1_i32_4
  let c0_i32_5 : BitVec 32 := 0#32
  let v15 : BitVec 1 := Scalar.cmpi .sgt v13 c0_i32_5
  let v16 : BitVec 32 := Scalar.extui v15
  let c0_i32_6 : BitVec 32 := 0#32
  let v17 : BitVec 1 := Scalar.cmpi .slt v13 c0_i32_6
  let v18 : BitVec 32 := Scalar.extui v17
  let v19 : BitVec 32 := Scalar.subi v16 v18
  let c2_i32 : BitVec 32 := 2#32
  let c0_i32_7 : BitVec 32 := 0#32
  let v20 : BitVec 1 := Scalar.cmpi .sgt c2_i32 c0_i32_7
  let v21 : BitVec 32 := Scalar.extui v20
  let c0_i32_8 : BitVec 32 := 0#32
  let v22 : BitVec 1 := Scalar.cmpi .slt c2_i32 c0_i32_8
  let v23 : BitVec 32 := Scalar.extui v22
  let v24 : BitVec 32 := Scalar.subi v21 v23
  let v25 : BitVec 1 := Scalar.cmpi .ne v19 v24
  let v26 : BitVec 32 := Scalar.remsi v13 c2_i32
  let c0_i32_9 : BitVec 32 := 0#32
  let v27 : BitVec 1 := Scalar.cmpi .ne v26 c0_i32_9
  let v28 : BitVec 1 := Scalar.andi v25 v27
  let v14 : BitVec 32 := Scalar.divsi v13 c2_i32
  let c1_i32_10 : BitVec 32 := 1#32
  let v29 : BitVec 32 := Scalar.subi v14 c1_i32_10
  let v30 : BitVec 32 := Scalar.select v28 v29 v14
  let v122 : BitVec 32 := Scalar.subi v30 c0_i32_58
  let c1_i32_59 : BitVec 32 := 1#32
  let v124 : BitVec 32 := Scalar.divsi v122 c1_i32_59
  let v125 : BitVec 32 := Scalar.muli v124 c1_i32_59
  let v126 : BitVec 32 := Scalar.addi c0_i32_58 v125
  let c1_i32_61 : BitVec 32 := 1#32
  let arg8 : BitVec 32 := Scf.iv v126 c1_i32_61 k0_t3
  let v154 : BitVec 32 := Scalar.muli c2_i32_69 arg8
  let c1_i32_213 : BitVec 32 := 1#32
  let v395 : BitVec 32 := Scalar.addi v154 c1_i32_213
  let c0_i32_214 : BitVec 32 := 0#32
  let v396 : BitVec 1 := Scalar.cmpi .eq v395 c0_i32_214
  let c1_i32_215 : BitVec 32 := 1#32
  let v397 : BitVec 32 := Scalar.subi v395 c1_i32_215
  let v398 : BitVec 32 := Scalar.select v396 arg7 v397
  let v426 : Index := Scalar.indexCast v398
  let c240_234 : Index := 240#32
  let c0_235 : Index := 0#32
  ![0, v426.toNat, 240, 0]
def k0_off69 (k0_t1 : Fin k0_t1_loop.trips) (k0_t3 : Fin (k0_t3_loop k0_t1).trips) : Fin 4 → Nat :=
  let c0_237 : Index := 0#32
  let c2_i32_69 : BitVec 32 := 2#32
  let c0_i32_58 : BitVec 32 := 0#32
  let c0_i32 : BitVec 32 := 0#32
  let c1_i32 : BitVec 32 := 1#32
  let arg7 : BitVec 32 := Scf.iv c0_i32 c1_i32 k0_t1
  let c1_i32_2 : BitVec 32 := 1#32
  let v11 : BitVec 32 := Scalar.addi arg7 c1_i32_2
  let c1_i32_4 : BitVec 32 := 1#32
  let v13 : BitVec 32 := Scalar.subi v11 c1_i32_4
  let c0_i32_5 : BitVec 32 := 0#32
  let v15 : BitVec 1 := Scalar.cmpi .sgt v13 c0_i32_5
  let v16 : BitVec 32 := Scalar.extui v15
  let c0_i32_6 : BitVec 32 := 0#32
  let v17 : BitVec 1 := Scalar.cmpi .slt v13 c0_i32_6
  let v18 : BitVec 32 := Scalar.extui v17
  let v19 : BitVec 32 := Scalar.subi v16 v18
  let c2_i32 : BitVec 32 := 2#32
  let c0_i32_7 : BitVec 32 := 0#32
  let v20 : BitVec 1 := Scalar.cmpi .sgt c2_i32 c0_i32_7
  let v21 : BitVec 32 := Scalar.extui v20
  let c0_i32_8 : BitVec 32 := 0#32
  let v22 : BitVec 1 := Scalar.cmpi .slt c2_i32 c0_i32_8
  let v23 : BitVec 32 := Scalar.extui v22
  let v24 : BitVec 32 := Scalar.subi v21 v23
  let v25 : BitVec 1 := Scalar.cmpi .ne v19 v24
  let v26 : BitVec 32 := Scalar.remsi v13 c2_i32
  let c0_i32_9 : BitVec 32 := 0#32
  let v27 : BitVec 1 := Scalar.cmpi .ne v26 c0_i32_9
  let v28 : BitVec 1 := Scalar.andi v25 v27
  let v14 : BitVec 32 := Scalar.divsi v13 c2_i32
  let c1_i32_10 : BitVec 32 := 1#32
  let v29 : BitVec 32 := Scalar.subi v14 c1_i32_10
  let v30 : BitVec 32 := Scalar.select v28 v29 v14
  let v122 : BitVec 32 := Scalar.subi v30 c0_i32_58
  let c1_i32_59 : BitVec 32 := 1#32
  let v124 : BitVec 32 := Scalar.divsi v122 c1_i32_59
  let v125 : BitVec 32 := Scalar.muli v124 c1_i32_59
  let v126 : BitVec 32 := Scalar.addi c0_i32_58 v125
  let c1_i32_61 : BitVec 32 := 1#32
  let arg8 : BitVec 32 := Scf.iv v126 c1_i32_61 k0_t3
  let v154 : BitVec 32 := Scalar.muli c2_i32_69 arg8
  let c1_i32_213 : BitVec 32 := 1#32
  let v395 : BitVec 32 := Scalar.addi v154 c1_i32_213
  let c0_i32_214 : BitVec 32 := 0#32
  let v396 : BitVec 1 := Scalar.cmpi .eq v395 c0_i32_214
  let c1_i32_215 : BitVec 32 := 1#32
  let v397 : BitVec 32 := Scalar.subi v395 c1_i32_215
  let v398 : BitVec 32 := Scalar.select v396 arg7 v397
  let v431 : Index := Scalar.indexCast v398
  let c320_238 : Index := 320#32
  let c0_239 : Index := 0#32
  ![0, v431.toNat, 320, 0]
def k0_off70 (k0_t1 : Fin k0_t1_loop.trips) (k0_t3 : Fin (k0_t3_loop k0_t1).trips) : Fin 4 → Nat :=
  let c0_241 : Index := 0#32
  let c2_i32_69 : BitVec 32 := 2#32
  let c0_i32_58 : BitVec 32 := 0#32
  let c0_i32 : BitVec 32 := 0#32
  let c1_i32 : BitVec 32 := 1#32
  let arg7 : BitVec 32 := Scf.iv c0_i32 c1_i32 k0_t1
  let c1_i32_2 : BitVec 32 := 1#32
  let v11 : BitVec 32 := Scalar.addi arg7 c1_i32_2
  let c1_i32_4 : BitVec 32 := 1#32
  let v13 : BitVec 32 := Scalar.subi v11 c1_i32_4
  let c0_i32_5 : BitVec 32 := 0#32
  let v15 : BitVec 1 := Scalar.cmpi .sgt v13 c0_i32_5
  let v16 : BitVec 32 := Scalar.extui v15
  let c0_i32_6 : BitVec 32 := 0#32
  let v17 : BitVec 1 := Scalar.cmpi .slt v13 c0_i32_6
  let v18 : BitVec 32 := Scalar.extui v17
  let v19 : BitVec 32 := Scalar.subi v16 v18
  let c2_i32 : BitVec 32 := 2#32
  let c0_i32_7 : BitVec 32 := 0#32
  let v20 : BitVec 1 := Scalar.cmpi .sgt c2_i32 c0_i32_7
  let v21 : BitVec 32 := Scalar.extui v20
  let c0_i32_8 : BitVec 32 := 0#32
  let v22 : BitVec 1 := Scalar.cmpi .slt c2_i32 c0_i32_8
  let v23 : BitVec 32 := Scalar.extui v22
  let v24 : BitVec 32 := Scalar.subi v21 v23
  let v25 : BitVec 1 := Scalar.cmpi .ne v19 v24
  let v26 : BitVec 32 := Scalar.remsi v13 c2_i32
  let c0_i32_9 : BitVec 32 := 0#32
  let v27 : BitVec 1 := Scalar.cmpi .ne v26 c0_i32_9
  let v28 : BitVec 1 := Scalar.andi v25 v27
  let v14 : BitVec 32 := Scalar.divsi v13 c2_i32
  let c1_i32_10 : BitVec 32 := 1#32
  let v29 : BitVec 32 := Scalar.subi v14 c1_i32_10
  let v30 : BitVec 32 := Scalar.select v28 v29 v14
  let v122 : BitVec 32 := Scalar.subi v30 c0_i32_58
  let c1_i32_59 : BitVec 32 := 1#32
  let v124 : BitVec 32 := Scalar.divsi v122 c1_i32_59
  let v125 : BitVec 32 := Scalar.muli v124 c1_i32_59
  let v126 : BitVec 32 := Scalar.addi c0_i32_58 v125
  let c1_i32_61 : BitVec 32 := 1#32
  let arg8 : BitVec 32 := Scf.iv v126 c1_i32_61 k0_t3
  let v154 : BitVec 32 := Scalar.muli c2_i32_69 arg8
  let c1_i32_213 : BitVec 32 := 1#32
  let v395 : BitVec 32 := Scalar.addi v154 c1_i32_213
  let c0_i32_214 : BitVec 32 := 0#32
  let v396 : BitVec 1 := Scalar.cmpi .eq v395 c0_i32_214
  let c1_i32_215 : BitVec 32 := 1#32
  let v397 : BitVec 32 := Scalar.subi v395 c1_i32_215
  let v398 : BitVec 32 := Scalar.select v396 arg7 v397
  let v436 : Index := Scalar.indexCast v398
  let c400_242 : Index := 400#32
  let c0_243 : Index := 0#32
  ![0, v436.toNat, 400, 0]
def k0_off71 (k0_t1 : Fin k0_t1_loop.trips) (k0_t3 : Fin (k0_t3_loop k0_t1).trips) : Fin 4 → Nat :=
  let c0_245 : Index := 0#32
  let c2_i32_69 : BitVec 32 := 2#32
  let c0_i32_58 : BitVec 32 := 0#32
  let c0_i32 : BitVec 32 := 0#32
  let c1_i32 : BitVec 32 := 1#32
  let arg7 : BitVec 32 := Scf.iv c0_i32 c1_i32 k0_t1
  let c1_i32_2 : BitVec 32 := 1#32
  let v11 : BitVec 32 := Scalar.addi arg7 c1_i32_2
  let c1_i32_4 : BitVec 32 := 1#32
  let v13 : BitVec 32 := Scalar.subi v11 c1_i32_4
  let c0_i32_5 : BitVec 32 := 0#32
  let v15 : BitVec 1 := Scalar.cmpi .sgt v13 c0_i32_5
  let v16 : BitVec 32 := Scalar.extui v15
  let c0_i32_6 : BitVec 32 := 0#32
  let v17 : BitVec 1 := Scalar.cmpi .slt v13 c0_i32_6
  let v18 : BitVec 32 := Scalar.extui v17
  let v19 : BitVec 32 := Scalar.subi v16 v18
  let c2_i32 : BitVec 32 := 2#32
  let c0_i32_7 : BitVec 32 := 0#32
  let v20 : BitVec 1 := Scalar.cmpi .sgt c2_i32 c0_i32_7
  let v21 : BitVec 32 := Scalar.extui v20
  let c0_i32_8 : BitVec 32 := 0#32
  let v22 : BitVec 1 := Scalar.cmpi .slt c2_i32 c0_i32_8
  let v23 : BitVec 32 := Scalar.extui v22
  let v24 : BitVec 32 := Scalar.subi v21 v23
  let v25 : BitVec 1 := Scalar.cmpi .ne v19 v24
  let v26 : BitVec 32 := Scalar.remsi v13 c2_i32
  let c0_i32_9 : BitVec 32 := 0#32
  let v27 : BitVec 1 := Scalar.cmpi .ne v26 c0_i32_9
  let v28 : BitVec 1 := Scalar.andi v25 v27
  let v14 : BitVec 32 := Scalar.divsi v13 c2_i32
  let c1_i32_10 : BitVec 32 := 1#32
  let v29 : BitVec 32 := Scalar.subi v14 c1_i32_10
  let v30 : BitVec 32 := Scalar.select v28 v29 v14
  let v122 : BitVec 32 := Scalar.subi v30 c0_i32_58
  let c1_i32_59 : BitVec 32 := 1#32
  let v124 : BitVec 32 := Scalar.divsi v122 c1_i32_59
  let v125 : BitVec 32 := Scalar.muli v124 c1_i32_59
  let v126 : BitVec 32 := Scalar.addi c0_i32_58 v125
  let c1_i32_61 : BitVec 32 := 1#32
  let arg8 : BitVec 32 := Scf.iv v126 c1_i32_61 k0_t3
  let v154 : BitVec 32 := Scalar.muli c2_i32_69 arg8
  let c1_i32_213 : BitVec 32 := 1#32
  let v395 : BitVec 32 := Scalar.addi v154 c1_i32_213
  let c0_i32_214 : BitVec 32 := 0#32
  let v396 : BitVec 1 := Scalar.cmpi .eq v395 c0_i32_214
  let c1_i32_215 : BitVec 32 := 1#32
  let v397 : BitVec 32 := Scalar.subi v395 c1_i32_215
  let v398 : BitVec 32 := Scalar.select v396 arg7 v397
  let v441 : Index := Scalar.indexCast v398
  let c480_246 : Index := 480#32
  let c0_247 : Index := 0#32
  ![0, v441.toNat, 480, 0]
def k0_off72 (k0_t1 : Fin k0_t1_loop.trips) (k0_t3 : Fin (k0_t3_loop k0_t1).trips) : Fin 4 → Nat :=
  let c0_249 : Index := 0#32
  let c2_i32_69 : BitVec 32 := 2#32
  let c0_i32_58 : BitVec 32 := 0#32
  let c0_i32 : BitVec 32 := 0#32
  let c1_i32 : BitVec 32 := 1#32
  let arg7 : BitVec 32 := Scf.iv c0_i32 c1_i32 k0_t1
  let c1_i32_2 : BitVec 32 := 1#32
  let v11 : BitVec 32 := Scalar.addi arg7 c1_i32_2
  let c1_i32_4 : BitVec 32 := 1#32
  let v13 : BitVec 32 := Scalar.subi v11 c1_i32_4
  let c0_i32_5 : BitVec 32 := 0#32
  let v15 : BitVec 1 := Scalar.cmpi .sgt v13 c0_i32_5
  let v16 : BitVec 32 := Scalar.extui v15
  let c0_i32_6 : BitVec 32 := 0#32
  let v17 : BitVec 1 := Scalar.cmpi .slt v13 c0_i32_6
  let v18 : BitVec 32 := Scalar.extui v17
  let v19 : BitVec 32 := Scalar.subi v16 v18
  let c2_i32 : BitVec 32 := 2#32
  let c0_i32_7 : BitVec 32 := 0#32
  let v20 : BitVec 1 := Scalar.cmpi .sgt c2_i32 c0_i32_7
  let v21 : BitVec 32 := Scalar.extui v20
  let c0_i32_8 : BitVec 32 := 0#32
  let v22 : BitVec 1 := Scalar.cmpi .slt c2_i32 c0_i32_8
  let v23 : BitVec 32 := Scalar.extui v22
  let v24 : BitVec 32 := Scalar.subi v21 v23
  let v25 : BitVec 1 := Scalar.cmpi .ne v19 v24
  let v26 : BitVec 32 := Scalar.remsi v13 c2_i32
  let c0_i32_9 : BitVec 32 := 0#32
  let v27 : BitVec 1 := Scalar.cmpi .ne v26 c0_i32_9
  let v28 : BitVec 1 := Scalar.andi v25 v27
  let v14 : BitVec 32 := Scalar.divsi v13 c2_i32
  let c1_i32_10 : BitVec 32 := 1#32
  let v29 : BitVec 32 := Scalar.subi v14 c1_i32_10
  let v30 : BitVec 32 := Scalar.select v28 v29 v14
  let v122 : BitVec 32 := Scalar.subi v30 c0_i32_58
  let c1_i32_59 : BitVec 32 := 1#32
  let v124 : BitVec 32 := Scalar.divsi v122 c1_i32_59
  let v125 : BitVec 32 := Scalar.muli v124 c1_i32_59
  let v126 : BitVec 32 := Scalar.addi c0_i32_58 v125
  let c1_i32_61 : BitVec 32 := 1#32
  let arg8 : BitVec 32 := Scf.iv v126 c1_i32_61 k0_t3
  let v154 : BitVec 32 := Scalar.muli c2_i32_69 arg8
  let c1_i32_213 : BitVec 32 := 1#32
  let v395 : BitVec 32 := Scalar.addi v154 c1_i32_213
  let c0_i32_214 : BitVec 32 := 0#32
  let v396 : BitVec 1 := Scalar.cmpi .eq v395 c0_i32_214
  let c1_i32_215 : BitVec 32 := 1#32
  let v397 : BitVec 32 := Scalar.subi v395 c1_i32_215
  let v398 : BitVec 32 := Scalar.select v396 arg7 v397
  let v446 : Index := Scalar.indexCast v398
  let c560_250 : Index := 560#32
  let c0_251 : Index := 0#32
  ![0, v446.toNat, 560, 0]
def k0_cond1 (k0_t1 : Fin k0_t1_loop.trips) : BitVec 1 :=
  let c0_i32 : BitVec 32 := 0#32
  let c1_i32 : BitVec 32 := 1#32
  let arg7 : BitVec 32 := Scf.iv c0_i32 c1_i32 k0_t1
  let c1_i32_2 : BitVec 32 := 1#32
  let v11 : BitVec 32 := Scalar.addi arg7 c1_i32_2
  let c2_i32_62 : BitVec 32 := 2#32
  let c1_i32_4 : BitVec 32 := 1#32
  let v13 : BitVec 32 := Scalar.subi v11 c1_i32_4
  let c0_i32_5 : BitVec 32 := 0#32
  let v15 : BitVec 1 := Scalar.cmpi .sgt v13 c0_i32_5
  let v16 : BitVec 32 := Scalar.extui v15
  let c0_i32_6 : BitVec 32 := 0#32
  let v17 : BitVec 1 := Scalar.cmpi .slt v13 c0_i32_6
  let v18 : BitVec 32 := Scalar.extui v17
  let v19 : BitVec 32 := Scalar.subi v16 v18
  let c2_i32 : BitVec 32 := 2#32
  let c0_i32_7 : BitVec 32 := 0#32
  let v20 : BitVec 1 := Scalar.cmpi .sgt c2_i32 c0_i32_7
  let v21 : BitVec 32 := Scalar.extui v20
  let c0_i32_8 : BitVec 32 := 0#32
  let v22 : BitVec 1 := Scalar.cmpi .slt c2_i32 c0_i32_8
  let v23 : BitVec 32 := Scalar.extui v22
  let v24 : BitVec 32 := Scalar.subi v21 v23
  let v25 : BitVec 1 := Scalar.cmpi .ne v19 v24
  let v26 : BitVec 32 := Scalar.remsi v13 c2_i32
  let c0_i32_9 : BitVec 32 := 0#32
  let v27 : BitVec 1 := Scalar.cmpi .ne v26 c0_i32_9
  let v28 : BitVec 1 := Scalar.andi v25 v27
  let v14 : BitVec 32 := Scalar.divsi v13 c2_i32
  let c1_i32_10 : BitVec 32 := 1#32
  let v29 : BitVec 32 := Scalar.subi v14 c1_i32_10
  let v30 : BitVec 32 := Scalar.select v28 v29 v14
  let v129 : BitVec 32 := Scalar.muli c2_i32_62 v30
  let v130 : BitVec 32 := Scalar.subi v11 v129
  let c1_i32_63 : BitVec 32 := 1#32
  let v131 : BitVec 1 := Scalar.cmpi .eq v130 c1_i32_63
  let v132 : BitVec 32 := Scalar.extui v131
  let c0_i32_64 : BitVec 32 := 0#32
  let v133 : BitVec 1 := Scalar.cmpi .ne v132 c0_i32_64
  v133

def k0_off73 (k0_t1 : Fin k0_t1_loop.trips) : Fin 4 → Nat :=
  let c0_76 : Index := 0#32
  let c2_i32_62 : BitVec 32 := 2#32
  let c0_i32 : BitVec 32 := 0#32
  let c1_i32 : BitVec 32 := 1#32
  let arg7 : BitVec 32 := Scf.iv c0_i32 c1_i32 k0_t1
  let c1_i32_2 : BitVec 32 := 1#32
  let v11 : BitVec 32 := Scalar.addi arg7 c1_i32_2
  let c1_i32_4 : BitVec 32 := 1#32
  let v13 : BitVec 32 := Scalar.subi v11 c1_i32_4
  let c0_i32_5 : BitVec 32 := 0#32
  let v15 : BitVec 1 := Scalar.cmpi .sgt v13 c0_i32_5
  let v16 : BitVec 32 := Scalar.extui v15
  let c0_i32_6 : BitVec 32 := 0#32
  let v17 : BitVec 1 := Scalar.cmpi .slt v13 c0_i32_6
  let v18 : BitVec 32 := Scalar.extui v17
  let v19 : BitVec 32 := Scalar.subi v16 v18
  let c2_i32 : BitVec 32 := 2#32
  let c0_i32_7 : BitVec 32 := 0#32
  let v20 : BitVec 1 := Scalar.cmpi .sgt c2_i32 c0_i32_7
  let v21 : BitVec 32 := Scalar.extui v20
  let c0_i32_8 : BitVec 32 := 0#32
  let v22 : BitVec 1 := Scalar.cmpi .slt c2_i32 c0_i32_8
  let v23 : BitVec 32 := Scalar.extui v22
  let v24 : BitVec 32 := Scalar.subi v21 v23
  let v25 : BitVec 1 := Scalar.cmpi .ne v19 v24
  let v26 : BitVec 32 := Scalar.remsi v13 c2_i32
  let c0_i32_9 : BitVec 32 := 0#32
  let v27 : BitVec 1 := Scalar.cmpi .ne v26 c0_i32_9
  let v28 : BitVec 1 := Scalar.andi v25 v27
  let v14 : BitVec 32 := Scalar.divsi v13 c2_i32
  let c1_i32_10 : BitVec 32 := 1#32
  let v29 : BitVec 32 := Scalar.subi v14 c1_i32_10
  let v30 : BitVec 32 := Scalar.select v28 v29 v14
  let v129 : BitVec 32 := Scalar.muli c2_i32_62 v30
  let c0_i32_69 : BitVec 32 := 0#32
  let v154 : BitVec 1 := Scalar.cmpi .eq v129 c0_i32_69
  let c1_i32_70 : BitVec 32 := 1#32
  let v155 : BitVec 32 := Scalar.subi v129 c1_i32_70
  let v156 : BitVec 32 := Scalar.select v154 arg7 v155
  let v169 : Index := Scalar.indexCast v156
  let c0_77 : Index := 0#32
  let c0_78 : Index := 0#32
  ![0, v169.toNat, 0, 0]
def k0_off74 (k0_t1 : Fin k0_t1_loop.trips) : Fin 4 → Nat :=
  let c0_80 : Index := 0#32
  let c2_i32_62 : BitVec 32 := 2#32
  let c0_i32 : BitVec 32 := 0#32
  let c1_i32 : BitVec 32 := 1#32
  let arg7 : BitVec 32 := Scf.iv c0_i32 c1_i32 k0_t1
  let c1_i32_2 : BitVec 32 := 1#32
  let v11 : BitVec 32 := Scalar.addi arg7 c1_i32_2
  let c1_i32_4 : BitVec 32 := 1#32
  let v13 : BitVec 32 := Scalar.subi v11 c1_i32_4
  let c0_i32_5 : BitVec 32 := 0#32
  let v15 : BitVec 1 := Scalar.cmpi .sgt v13 c0_i32_5
  let v16 : BitVec 32 := Scalar.extui v15
  let c0_i32_6 : BitVec 32 := 0#32
  let v17 : BitVec 1 := Scalar.cmpi .slt v13 c0_i32_6
  let v18 : BitVec 32 := Scalar.extui v17
  let v19 : BitVec 32 := Scalar.subi v16 v18
  let c2_i32 : BitVec 32 := 2#32
  let c0_i32_7 : BitVec 32 := 0#32
  let v20 : BitVec 1 := Scalar.cmpi .sgt c2_i32 c0_i32_7
  let v21 : BitVec 32 := Scalar.extui v20
  let c0_i32_8 : BitVec 32 := 0#32
  let v22 : BitVec 1 := Scalar.cmpi .slt c2_i32 c0_i32_8
  let v23 : BitVec 32 := Scalar.extui v22
  let v24 : BitVec 32 := Scalar.subi v21 v23
  let v25 : BitVec 1 := Scalar.cmpi .ne v19 v24
  let v26 : BitVec 32 := Scalar.remsi v13 c2_i32
  let c0_i32_9 : BitVec 32 := 0#32
  let v27 : BitVec 1 := Scalar.cmpi .ne v26 c0_i32_9
  let v28 : BitVec 1 := Scalar.andi v25 v27
  let v14 : BitVec 32 := Scalar.divsi v13 c2_i32
  let c1_i32_10 : BitVec 32 := 1#32
  let v29 : BitVec 32 := Scalar.subi v14 c1_i32_10
  let v30 : BitVec 32 := Scalar.select v28 v29 v14
  let v129 : BitVec 32 := Scalar.muli c2_i32_62 v30
  let c0_i32_69 : BitVec 32 := 0#32
  let v154 : BitVec 1 := Scalar.cmpi .eq v129 c0_i32_69
  let c1_i32_70 : BitVec 32 := 1#32
  let v155 : BitVec 32 := Scalar.subi v129 c1_i32_70
  let v156 : BitVec 32 := Scalar.select v154 arg7 v155
  let v174 : Index := Scalar.indexCast v156
  let c80 : Index := 80#32
  let c0_81 : Index := 0#32
  ![0, v174.toNat, 80, 0]
def k0_off75 (k0_t1 : Fin k0_t1_loop.trips) : Fin 4 → Nat :=
  let c0_83 : Index := 0#32
  let c2_i32_62 : BitVec 32 := 2#32
  let c0_i32 : BitVec 32 := 0#32
  let c1_i32 : BitVec 32 := 1#32
  let arg7 : BitVec 32 := Scf.iv c0_i32 c1_i32 k0_t1
  let c1_i32_2 : BitVec 32 := 1#32
  let v11 : BitVec 32 := Scalar.addi arg7 c1_i32_2
  let c1_i32_4 : BitVec 32 := 1#32
  let v13 : BitVec 32 := Scalar.subi v11 c1_i32_4
  let c0_i32_5 : BitVec 32 := 0#32
  let v15 : BitVec 1 := Scalar.cmpi .sgt v13 c0_i32_5
  let v16 : BitVec 32 := Scalar.extui v15
  let c0_i32_6 : BitVec 32 := 0#32
  let v17 : BitVec 1 := Scalar.cmpi .slt v13 c0_i32_6
  let v18 : BitVec 32 := Scalar.extui v17
  let v19 : BitVec 32 := Scalar.subi v16 v18
  let c2_i32 : BitVec 32 := 2#32
  let c0_i32_7 : BitVec 32 := 0#32
  let v20 : BitVec 1 := Scalar.cmpi .sgt c2_i32 c0_i32_7
  let v21 : BitVec 32 := Scalar.extui v20
  let c0_i32_8 : BitVec 32 := 0#32
  let v22 : BitVec 1 := Scalar.cmpi .slt c2_i32 c0_i32_8
  let v23 : BitVec 32 := Scalar.extui v22
  let v24 : BitVec 32 := Scalar.subi v21 v23
  let v25 : BitVec 1 := Scalar.cmpi .ne v19 v24
  let v26 : BitVec 32 := Scalar.remsi v13 c2_i32
  let c0_i32_9 : BitVec 32 := 0#32
  let v27 : BitVec 1 := Scalar.cmpi .ne v26 c0_i32_9
  let v28 : BitVec 1 := Scalar.andi v25 v27
  let v14 : BitVec 32 := Scalar.divsi v13 c2_i32
  let c1_i32_10 : BitVec 32 := 1#32
  let v29 : BitVec 32 := Scalar.subi v14 c1_i32_10
  let v30 : BitVec 32 := Scalar.select v28 v29 v14
  let v129 : BitVec 32 := Scalar.muli c2_i32_62 v30
  let c0_i32_69 : BitVec 32 := 0#32
  let v154 : BitVec 1 := Scalar.cmpi .eq v129 c0_i32_69
  let c1_i32_70 : BitVec 32 := 1#32
  let v155 : BitVec 32 := Scalar.subi v129 c1_i32_70
  let v156 : BitVec 32 := Scalar.select v154 arg7 v155
  let v179 : Index := Scalar.indexCast v156
  let c160 : Index := 160#32
  let c0_84 : Index := 0#32
  ![0, v179.toNat, 160, 0]
def k0_off76 (k0_t1 : Fin k0_t1_loop.trips) : Fin 4 → Nat :=
  let c0_86 : Index := 0#32
  let c2_i32_62 : BitVec 32 := 2#32
  let c0_i32 : BitVec 32 := 0#32
  let c1_i32 : BitVec 32 := 1#32
  let arg7 : BitVec 32 := Scf.iv c0_i32 c1_i32 k0_t1
  let c1_i32_2 : BitVec 32 := 1#32
  let v11 : BitVec 32 := Scalar.addi arg7 c1_i32_2
  let c1_i32_4 : BitVec 32 := 1#32
  let v13 : BitVec 32 := Scalar.subi v11 c1_i32_4
  let c0_i32_5 : BitVec 32 := 0#32
  let v15 : BitVec 1 := Scalar.cmpi .sgt v13 c0_i32_5
  let v16 : BitVec 32 := Scalar.extui v15
  let c0_i32_6 : BitVec 32 := 0#32
  let v17 : BitVec 1 := Scalar.cmpi .slt v13 c0_i32_6
  let v18 : BitVec 32 := Scalar.extui v17
  let v19 : BitVec 32 := Scalar.subi v16 v18
  let c2_i32 : BitVec 32 := 2#32
  let c0_i32_7 : BitVec 32 := 0#32
  let v20 : BitVec 1 := Scalar.cmpi .sgt c2_i32 c0_i32_7
  let v21 : BitVec 32 := Scalar.extui v20
  let c0_i32_8 : BitVec 32 := 0#32
  let v22 : BitVec 1 := Scalar.cmpi .slt c2_i32 c0_i32_8
  let v23 : BitVec 32 := Scalar.extui v22
  let v24 : BitVec 32 := Scalar.subi v21 v23
  let v25 : BitVec 1 := Scalar.cmpi .ne v19 v24
  let v26 : BitVec 32 := Scalar.remsi v13 c2_i32
  let c0_i32_9 : BitVec 32 := 0#32
  let v27 : BitVec 1 := Scalar.cmpi .ne v26 c0_i32_9
  let v28 : BitVec 1 := Scalar.andi v25 v27
  let v14 : BitVec 32 := Scalar.divsi v13 c2_i32
  let c1_i32_10 : BitVec 32 := 1#32
  let v29 : BitVec 32 := Scalar.subi v14 c1_i32_10
  let v30 : BitVec 32 := Scalar.select v28 v29 v14
  let v129 : BitVec 32 := Scalar.muli c2_i32_62 v30
  let c0_i32_69 : BitVec 32 := 0#32
  let v154 : BitVec 1 := Scalar.cmpi .eq v129 c0_i32_69
  let c1_i32_70 : BitVec 32 := 1#32
  let v155 : BitVec 32 := Scalar.subi v129 c1_i32_70
  let v156 : BitVec 32 := Scalar.select v154 arg7 v155
  let v184 : Index := Scalar.indexCast v156
  let c240 : Index := 240#32
  let c0_87 : Index := 0#32
  ![0, v184.toNat, 240, 0]
def k0_off77 (k0_t1 : Fin k0_t1_loop.trips) : Fin 4 → Nat :=
  let c0_89 : Index := 0#32
  let c2_i32_62 : BitVec 32 := 2#32
  let c0_i32 : BitVec 32 := 0#32
  let c1_i32 : BitVec 32 := 1#32
  let arg7 : BitVec 32 := Scf.iv c0_i32 c1_i32 k0_t1
  let c1_i32_2 : BitVec 32 := 1#32
  let v11 : BitVec 32 := Scalar.addi arg7 c1_i32_2
  let c1_i32_4 : BitVec 32 := 1#32
  let v13 : BitVec 32 := Scalar.subi v11 c1_i32_4
  let c0_i32_5 : BitVec 32 := 0#32
  let v15 : BitVec 1 := Scalar.cmpi .sgt v13 c0_i32_5
  let v16 : BitVec 32 := Scalar.extui v15
  let c0_i32_6 : BitVec 32 := 0#32
  let v17 : BitVec 1 := Scalar.cmpi .slt v13 c0_i32_6
  let v18 : BitVec 32 := Scalar.extui v17
  let v19 : BitVec 32 := Scalar.subi v16 v18
  let c2_i32 : BitVec 32 := 2#32
  let c0_i32_7 : BitVec 32 := 0#32
  let v20 : BitVec 1 := Scalar.cmpi .sgt c2_i32 c0_i32_7
  let v21 : BitVec 32 := Scalar.extui v20
  let c0_i32_8 : BitVec 32 := 0#32
  let v22 : BitVec 1 := Scalar.cmpi .slt c2_i32 c0_i32_8
  let v23 : BitVec 32 := Scalar.extui v22
  let v24 : BitVec 32 := Scalar.subi v21 v23
  let v25 : BitVec 1 := Scalar.cmpi .ne v19 v24
  let v26 : BitVec 32 := Scalar.remsi v13 c2_i32
  let c0_i32_9 : BitVec 32 := 0#32
  let v27 : BitVec 1 := Scalar.cmpi .ne v26 c0_i32_9
  let v28 : BitVec 1 := Scalar.andi v25 v27
  let v14 : BitVec 32 := Scalar.divsi v13 c2_i32
  let c1_i32_10 : BitVec 32 := 1#32
  let v29 : BitVec 32 := Scalar.subi v14 c1_i32_10
  let v30 : BitVec 32 := Scalar.select v28 v29 v14
  let v129 : BitVec 32 := Scalar.muli c2_i32_62 v30
  let c0_i32_69 : BitVec 32 := 0#32
  let v154 : BitVec 1 := Scalar.cmpi .eq v129 c0_i32_69
  let c1_i32_70 : BitVec 32 := 1#32
  let v155 : BitVec 32 := Scalar.subi v129 c1_i32_70
  let v156 : BitVec 32 := Scalar.select v154 arg7 v155
  let v189 : Index := Scalar.indexCast v156
  let c320 : Index := 320#32
  let c0_90 : Index := 0#32
  ![0, v189.toNat, 320, 0]
def k0_off78 (k0_t1 : Fin k0_t1_loop.trips) : Fin 4 → Nat :=
  let c0_92 : Index := 0#32
  let c2_i32_62 : BitVec 32 := 2#32
  let c0_i32 : BitVec 32 := 0#32
  let c1_i32 : BitVec 32 := 1#32
  let arg7 : BitVec 32 := Scf.iv c0_i32 c1_i32 k0_t1
  let c1_i32_2 : BitVec 32 := 1#32
  let v11 : BitVec 32 := Scalar.addi arg7 c1_i32_2
  let c1_i32_4 : BitVec 32 := 1#32
  let v13 : BitVec 32 := Scalar.subi v11 c1_i32_4
  let c0_i32_5 : BitVec 32 := 0#32
  let v15 : BitVec 1 := Scalar.cmpi .sgt v13 c0_i32_5
  let v16 : BitVec 32 := Scalar.extui v15
  let c0_i32_6 : BitVec 32 := 0#32
  let v17 : BitVec 1 := Scalar.cmpi .slt v13 c0_i32_6
  let v18 : BitVec 32 := Scalar.extui v17
  let v19 : BitVec 32 := Scalar.subi v16 v18
  let c2_i32 : BitVec 32 := 2#32
  let c0_i32_7 : BitVec 32 := 0#32
  let v20 : BitVec 1 := Scalar.cmpi .sgt c2_i32 c0_i32_7
  let v21 : BitVec 32 := Scalar.extui v20
  let c0_i32_8 : BitVec 32 := 0#32
  let v22 : BitVec 1 := Scalar.cmpi .slt c2_i32 c0_i32_8
  let v23 : BitVec 32 := Scalar.extui v22
  let v24 : BitVec 32 := Scalar.subi v21 v23
  let v25 : BitVec 1 := Scalar.cmpi .ne v19 v24
  let v26 : BitVec 32 := Scalar.remsi v13 c2_i32
  let c0_i32_9 : BitVec 32 := 0#32
  let v27 : BitVec 1 := Scalar.cmpi .ne v26 c0_i32_9
  let v28 : BitVec 1 := Scalar.andi v25 v27
  let v14 : BitVec 32 := Scalar.divsi v13 c2_i32
  let c1_i32_10 : BitVec 32 := 1#32
  let v29 : BitVec 32 := Scalar.subi v14 c1_i32_10
  let v30 : BitVec 32 := Scalar.select v28 v29 v14
  let v129 : BitVec 32 := Scalar.muli c2_i32_62 v30
  let c0_i32_69 : BitVec 32 := 0#32
  let v154 : BitVec 1 := Scalar.cmpi .eq v129 c0_i32_69
  let c1_i32_70 : BitVec 32 := 1#32
  let v155 : BitVec 32 := Scalar.subi v129 c1_i32_70
  let v156 : BitVec 32 := Scalar.select v154 arg7 v155
  let v194 : Index := Scalar.indexCast v156
  let c400 : Index := 400#32
  let c0_93 : Index := 0#32
  ![0, v194.toNat, 400, 0]
def k0_off79 (k0_t1 : Fin k0_t1_loop.trips) : Fin 4 → Nat :=
  let c0_95 : Index := 0#32
  let c2_i32_62 : BitVec 32 := 2#32
  let c0_i32 : BitVec 32 := 0#32
  let c1_i32 : BitVec 32 := 1#32
  let arg7 : BitVec 32 := Scf.iv c0_i32 c1_i32 k0_t1
  let c1_i32_2 : BitVec 32 := 1#32
  let v11 : BitVec 32 := Scalar.addi arg7 c1_i32_2
  let c1_i32_4 : BitVec 32 := 1#32
  let v13 : BitVec 32 := Scalar.subi v11 c1_i32_4
  let c0_i32_5 : BitVec 32 := 0#32
  let v15 : BitVec 1 := Scalar.cmpi .sgt v13 c0_i32_5
  let v16 : BitVec 32 := Scalar.extui v15
  let c0_i32_6 : BitVec 32 := 0#32
  let v17 : BitVec 1 := Scalar.cmpi .slt v13 c0_i32_6
  let v18 : BitVec 32 := Scalar.extui v17
  let v19 : BitVec 32 := Scalar.subi v16 v18
  let c2_i32 : BitVec 32 := 2#32
  let c0_i32_7 : BitVec 32 := 0#32
  let v20 : BitVec 1 := Scalar.cmpi .sgt c2_i32 c0_i32_7
  let v21 : BitVec 32 := Scalar.extui v20
  let c0_i32_8 : BitVec 32 := 0#32
  let v22 : BitVec 1 := Scalar.cmpi .slt c2_i32 c0_i32_8
  let v23 : BitVec 32 := Scalar.extui v22
  let v24 : BitVec 32 := Scalar.subi v21 v23
  let v25 : BitVec 1 := Scalar.cmpi .ne v19 v24
  let v26 : BitVec 32 := Scalar.remsi v13 c2_i32
  let c0_i32_9 : BitVec 32 := 0#32
  let v27 : BitVec 1 := Scalar.cmpi .ne v26 c0_i32_9
  let v28 : BitVec 1 := Scalar.andi v25 v27
  let v14 : BitVec 32 := Scalar.divsi v13 c2_i32
  let c1_i32_10 : BitVec 32 := 1#32
  let v29 : BitVec 32 := Scalar.subi v14 c1_i32_10
  let v30 : BitVec 32 := Scalar.select v28 v29 v14
  let v129 : BitVec 32 := Scalar.muli c2_i32_62 v30
  let c0_i32_69 : BitVec 32 := 0#32
  let v154 : BitVec 1 := Scalar.cmpi .eq v129 c0_i32_69
  let c1_i32_70 : BitVec 32 := 1#32
  let v155 : BitVec 32 := Scalar.subi v129 c1_i32_70
  let v156 : BitVec 32 := Scalar.select v154 arg7 v155
  let v199 : Index := Scalar.indexCast v156
  let c480 : Index := 480#32
  let c0_96 : Index := 0#32
  ![0, v199.toNat, 480, 0]
def k0_off80 (k0_t1 : Fin k0_t1_loop.trips) : Fin 4 → Nat :=
  let c0_98 : Index := 0#32
  let c2_i32_62 : BitVec 32 := 2#32
  let c0_i32 : BitVec 32 := 0#32
  let c1_i32 : BitVec 32 := 1#32
  let arg7 : BitVec 32 := Scf.iv c0_i32 c1_i32 k0_t1
  let c1_i32_2 : BitVec 32 := 1#32
  let v11 : BitVec 32 := Scalar.addi arg7 c1_i32_2
  let c1_i32_4 : BitVec 32 := 1#32
  let v13 : BitVec 32 := Scalar.subi v11 c1_i32_4
  let c0_i32_5 : BitVec 32 := 0#32
  let v15 : BitVec 1 := Scalar.cmpi .sgt v13 c0_i32_5
  let v16 : BitVec 32 := Scalar.extui v15
  let c0_i32_6 : BitVec 32 := 0#32
  let v17 : BitVec 1 := Scalar.cmpi .slt v13 c0_i32_6
  let v18 : BitVec 32 := Scalar.extui v17
  let v19 : BitVec 32 := Scalar.subi v16 v18
  let c2_i32 : BitVec 32 := 2#32
  let c0_i32_7 : BitVec 32 := 0#32
  let v20 : BitVec 1 := Scalar.cmpi .sgt c2_i32 c0_i32_7
  let v21 : BitVec 32 := Scalar.extui v20
  let c0_i32_8 : BitVec 32 := 0#32
  let v22 : BitVec 1 := Scalar.cmpi .slt c2_i32 c0_i32_8
  let v23 : BitVec 32 := Scalar.extui v22
  let v24 : BitVec 32 := Scalar.subi v21 v23
  let v25 : BitVec 1 := Scalar.cmpi .ne v19 v24
  let v26 : BitVec 32 := Scalar.remsi v13 c2_i32
  let c0_i32_9 : BitVec 32 := 0#32
  let v27 : BitVec 1 := Scalar.cmpi .ne v26 c0_i32_9
  let v28 : BitVec 1 := Scalar.andi v25 v27
  let v14 : BitVec 32 := Scalar.divsi v13 c2_i32
  let c1_i32_10 : BitVec 32 := 1#32
  let v29 : BitVec 32 := Scalar.subi v14 c1_i32_10
  let v30 : BitVec 32 := Scalar.select v28 v29 v14
  let v129 : BitVec 32 := Scalar.muli c2_i32_62 v30
  let c0_i32_69 : BitVec 32 := 0#32
  let v154 : BitVec 1 := Scalar.cmpi .eq v129 c0_i32_69
  let c1_i32_70 : BitVec 32 := 1#32
  let v155 : BitVec 32 := Scalar.subi v129 c1_i32_70
  let v156 : BitVec 32 := Scalar.select v154 arg7 v155
  let v204 : Index := Scalar.indexCast v156
  let c560 : Index := 560#32
  let c0_99 : Index := 0#32
  ![0, v204.toNat, 560, 0]
def k0_mult7 (k0_t1 : Fin k0_t1_loop.trips) : BitVec 32 :=
  let c2_i32_62 : BitVec 32 := 2#32
  let c0_i32 : BitVec 32 := 0#32
  let c1_i32 : BitVec 32 := 1#32
  let arg7 : BitVec 32 := Scf.iv c0_i32 c1_i32 k0_t1
  let c1_i32_2 : BitVec 32 := 1#32
  let v11 : BitVec 32 := Scalar.addi arg7 c1_i32_2
  let c1_i32_4 : BitVec 32 := 1#32
  let v13 : BitVec 32 := Scalar.subi v11 c1_i32_4
  let c0_i32_5 : BitVec 32 := 0#32
  let v15 : BitVec 1 := Scalar.cmpi .sgt v13 c0_i32_5
  let v16 : BitVec 32 := Scalar.extui v15
  let c0_i32_6 : BitVec 32 := 0#32
  let v17 : BitVec 1 := Scalar.cmpi .slt v13 c0_i32_6
  let v18 : BitVec 32 := Scalar.extui v17
  let v19 : BitVec 32 := Scalar.subi v16 v18
  let c2_i32 : BitVec 32 := 2#32
  let c0_i32_7 : BitVec 32 := 0#32
  let v20 : BitVec 1 := Scalar.cmpi .sgt c2_i32 c0_i32_7
  let v21 : BitVec 32 := Scalar.extui v20
  let c0_i32_8 : BitVec 32 := 0#32
  let v22 : BitVec 1 := Scalar.cmpi .slt c2_i32 c0_i32_8
  let v23 : BitVec 32 := Scalar.extui v22
  let v24 : BitVec 32 := Scalar.subi v21 v23
  let v25 : BitVec 1 := Scalar.cmpi .ne v19 v24
  let v26 : BitVec 32 := Scalar.remsi v13 c2_i32
  let c0_i32_9 : BitVec 32 := 0#32
  let v27 : BitVec 1 := Scalar.cmpi .ne v26 c0_i32_9
  let v28 : BitVec 1 := Scalar.andi v25 v27
  let v14 : BitVec 32 := Scalar.divsi v13 c2_i32
  let c1_i32_10 : BitVec 32 := 1#32
  let v29 : BitVec 32 := Scalar.subi v14 c1_i32_10
  let v30 : BitVec 32 := Scalar.select v28 v29 v14
  let v129 : BitVec 32 := Scalar.muli c2_i32_62 v30
  let c1_i32_69 : BitVec 32 := 1#32
  let v154 : BitVec 32 := Scalar.addi v129 c1_i32_69
  let c1_i32_70 : BitVec 32 := 1#32
  let v155 : BitVec 32 := Scalar.subi v154 c1_i32_70
  let c256_i32_71 : BitVec 32 := 256#32
  let v156 : BitVec 32 := Scalar.muli v155 c256_i32_71
  v156
def k0_off81 (k0_t1 : Fin k0_t1_loop.trips) : Fin 3 → Nat :=
  let c0_72 : Index := 0#32
  let c2_i32_62 : BitVec 32 := 2#32
  let c0_i32 : BitVec 32 := 0#32
  let c1_i32 : BitVec 32 := 1#32
  let arg7 : BitVec 32 := Scf.iv c0_i32 c1_i32 k0_t1
  let c1_i32_2 : BitVec 32 := 1#32
  let v11 : BitVec 32 := Scalar.addi arg7 c1_i32_2
  let c1_i32_4 : BitVec 32 := 1#32
  let v13 : BitVec 32 := Scalar.subi v11 c1_i32_4
  let c0_i32_5 : BitVec 32 := 0#32
  let v15 : BitVec 1 := Scalar.cmpi .sgt v13 c0_i32_5
  let v16 : BitVec 32 := Scalar.extui v15
  let c0_i32_6 : BitVec 32 := 0#32
  let v17 : BitVec 1 := Scalar.cmpi .slt v13 c0_i32_6
  let v18 : BitVec 32 := Scalar.extui v17
  let v19 : BitVec 32 := Scalar.subi v16 v18
  let c2_i32 : BitVec 32 := 2#32
  let c0_i32_7 : BitVec 32 := 0#32
  let v20 : BitVec 1 := Scalar.cmpi .sgt c2_i32 c0_i32_7
  let v21 : BitVec 32 := Scalar.extui v20
  let c0_i32_8 : BitVec 32 := 0#32
  let v22 : BitVec 1 := Scalar.cmpi .slt c2_i32 c0_i32_8
  let v23 : BitVec 32 := Scalar.extui v22
  let v24 : BitVec 32 := Scalar.subi v21 v23
  let v25 : BitVec 1 := Scalar.cmpi .ne v19 v24
  let v26 : BitVec 32 := Scalar.remsi v13 c2_i32
  let c0_i32_9 : BitVec 32 := 0#32
  let v27 : BitVec 1 := Scalar.cmpi .ne v26 c0_i32_9
  let v28 : BitVec 1 := Scalar.andi v25 v27
  let v14 : BitVec 32 := Scalar.divsi v13 c2_i32
  let c1_i32_10 : BitVec 32 := 1#32
  let v29 : BitVec 32 := Scalar.subi v14 c1_i32_10
  let v30 : BitVec 32 := Scalar.select v28 v29 v14
  let v129 : BitVec 32 := Scalar.muli c2_i32_62 v30
  let c1_i32_69 : BitVec 32 := 1#32
  let v154 : BitVec 32 := Scalar.addi v129 c1_i32_69
  let c1_i32_70 : BitVec 32 := 1#32
  let v155 : BitVec 32 := Scalar.subi v154 c1_i32_70
  let c256_i32_71 : BitVec 32 := 256#32
  let v156 : BitVec 32 := Scalar.muli v155 c256_i32_71
  let v157 : BitVec 32 := v156
  let v158 : Index := Scalar.indexCast v157
  let c0_73 : Index := 0#32
  ![0, v158.toNat, 0]
def k0_off82 (k0_t1 : Fin k0_t1_loop.trips) : Fin 3 → Nat :=
  let c0_74 : Index := 0#32
  let c0_i32 : BitVec 32 := 0#32
  let c1_i32 : BitVec 32 := 1#32
  let arg7 : BitVec 32 := Scf.iv c0_i32 c1_i32 k0_t1
  let c256_i32 : BitVec 32 := 256#32
  let v1 : BitVec 32 := Scalar.muli arg7 c256_i32
  let v2 : BitVec 32 := v1
  let v161 : Index := Scalar.indexCast v2
  let c0_75 : Index := 0#32
  ![0, v161.toNat, 0]
def k0_off83 (k0_t1 : Fin k0_t1_loop.trips) : Fin 3 → Nat :=
  let c0_78 : Index := 0#32
  let c2_i32_62 : BitVec 32 := 2#32
  let c0_i32 : BitVec 32 := 0#32
  let c1_i32 : BitVec 32 := 1#32
  let arg7 : BitVec 32 := Scf.iv c0_i32 c1_i32 k0_t1
  let c1_i32_2 : BitVec 32 := 1#32
  let v11 : BitVec 32 := Scalar.addi arg7 c1_i32_2
  let c1_i32_4 : BitVec 32 := 1#32
  let v13 : BitVec 32 := Scalar.subi v11 c1_i32_4
  let c0_i32_5 : BitVec 32 := 0#32
  let v15 : BitVec 1 := Scalar.cmpi .sgt v13 c0_i32_5
  let v16 : BitVec 32 := Scalar.extui v15
  let c0_i32_6 : BitVec 32 := 0#32
  let v17 : BitVec 1 := Scalar.cmpi .slt v13 c0_i32_6
  let v18 : BitVec 32 := Scalar.extui v17
  let v19 : BitVec 32 := Scalar.subi v16 v18
  let c2_i32 : BitVec 32 := 2#32
  let c0_i32_7 : BitVec 32 := 0#32
  let v20 : BitVec 1 := Scalar.cmpi .sgt c2_i32 c0_i32_7
  let v21 : BitVec 32 := Scalar.extui v20
  let c0_i32_8 : BitVec 32 := 0#32
  let v22 : BitVec 1 := Scalar.cmpi .slt c2_i32 c0_i32_8
  let v23 : BitVec 32 := Scalar.extui v22
  let v24 : BitVec 32 := Scalar.subi v21 v23
  let v25 : BitVec 1 := Scalar.cmpi .ne v19 v24
  let v26 : BitVec 32 := Scalar.remsi v13 c2_i32
  let c0_i32_9 : BitVec 32 := 0#32
  let v27 : BitVec 1 := Scalar.cmpi .ne v26 c0_i32_9
  let v28 : BitVec 1 := Scalar.andi v25 v27
  let v14 : BitVec 32 := Scalar.divsi v13 c2_i32
  let c1_i32_10 : BitVec 32 := 1#32
  let v29 : BitVec 32 := Scalar.subi v14 c1_i32_10
  let v30 : BitVec 32 := Scalar.select v28 v29 v14
  let v129 : BitVec 32 := Scalar.muli c2_i32_62 v30
  let c1_i32_69 : BitVec 32 := 1#32
  let v154 : BitVec 32 := Scalar.addi v129 c1_i32_69
  let c1_i32_70 : BitVec 32 := 1#32
  let v155 : BitVec 32 := Scalar.subi v154 c1_i32_70
  let c256_i32_71 : BitVec 32 := 256#32
  let v156 : BitVec 32 := Scalar.muli v155 c256_i32_71
  let v157 : BitVec 32 := v156
  let v168 : Index := Scalar.indexCast v157
  let c128_79 : Index := 128#32
  ![0, v168.toNat, 128]
def k0_off84 (k0_t1 : Fin k0_t1_loop.trips) : Fin 3 → Nat :=
  let c0_80 : Index := 0#32
  let c0_i32 : BitVec 32 := 0#32
  let c1_i32 : BitVec 32 := 1#32
  let arg7 : BitVec 32 := Scf.iv c0_i32 c1_i32 k0_t1
  let c256_i32 : BitVec 32 := 256#32
  let v1 : BitVec 32 := Scalar.muli arg7 c256_i32
  let v2 : BitVec 32 := v1
  let v171 : Index := Scalar.indexCast v2
  let c128_81 : Index := 128#32
  ![0, v171.toNat, 128]
def k0_off85 (k0_t1 : Fin k0_t1_loop.trips) : Fin 3 → Nat :=
  let c0_84 : Index := 0#32
  let c2_i32_62 : BitVec 32 := 2#32
  let c0_i32 : BitVec 32 := 0#32
  let c1_i32 : BitVec 32 := 1#32
  let arg7 : BitVec 32 := Scf.iv c0_i32 c1_i32 k0_t1
  let c1_i32_2 : BitVec 32 := 1#32
  let v11 : BitVec 32 := Scalar.addi arg7 c1_i32_2
  let c1_i32_4 : BitVec 32 := 1#32
  let v13 : BitVec 32 := Scalar.subi v11 c1_i32_4
  let c0_i32_5 : BitVec 32 := 0#32
  let v15 : BitVec 1 := Scalar.cmpi .sgt v13 c0_i32_5
  let v16 : BitVec 32 := Scalar.extui v15
  let c0_i32_6 : BitVec 32 := 0#32
  let v17 : BitVec 1 := Scalar.cmpi .slt v13 c0_i32_6
  let v18 : BitVec 32 := Scalar.extui v17
  let v19 : BitVec 32 := Scalar.subi v16 v18
  let c2_i32 : BitVec 32 := 2#32
  let c0_i32_7 : BitVec 32 := 0#32
  let v20 : BitVec 1 := Scalar.cmpi .sgt c2_i32 c0_i32_7
  let v21 : BitVec 32 := Scalar.extui v20
  let c0_i32_8 : BitVec 32 := 0#32
  let v22 : BitVec 1 := Scalar.cmpi .slt c2_i32 c0_i32_8
  let v23 : BitVec 32 := Scalar.extui v22
  let v24 : BitVec 32 := Scalar.subi v21 v23
  let v25 : BitVec 1 := Scalar.cmpi .ne v19 v24
  let v26 : BitVec 32 := Scalar.remsi v13 c2_i32
  let c0_i32_9 : BitVec 32 := 0#32
  let v27 : BitVec 1 := Scalar.cmpi .ne v26 c0_i32_9
  let v28 : BitVec 1 := Scalar.andi v25 v27
  let v14 : BitVec 32 := Scalar.divsi v13 c2_i32
  let c1_i32_10 : BitVec 32 := 1#32
  let v29 : BitVec 32 := Scalar.subi v14 c1_i32_10
  let v30 : BitVec 32 := Scalar.select v28 v29 v14
  let v129 : BitVec 32 := Scalar.muli c2_i32_62 v30
  let c1_i32_69 : BitVec 32 := 1#32
  let v154 : BitVec 32 := Scalar.addi v129 c1_i32_69
  let c1_i32_70 : BitVec 32 := 1#32
  let v155 : BitVec 32 := Scalar.subi v154 c1_i32_70
  let c256_i32_71 : BitVec 32 := 256#32
  let v156 : BitVec 32 := Scalar.muli v155 c256_i32_71
  let v157 : BitVec 32 := v156
  let v178 : Index := Scalar.indexCast v157
  let c256_85 : Index := 256#32
  ![0, v178.toNat, 256]
def k0_off86 (k0_t1 : Fin k0_t1_loop.trips) : Fin 3 → Nat :=
  let c0_86 : Index := 0#32
  let c0_i32 : BitVec 32 := 0#32
  let c1_i32 : BitVec 32 := 1#32
  let arg7 : BitVec 32 := Scf.iv c0_i32 c1_i32 k0_t1
  let c256_i32 : BitVec 32 := 256#32
  let v1 : BitVec 32 := Scalar.muli arg7 c256_i32
  let v2 : BitVec 32 := v1
  let v181 : Index := Scalar.indexCast v2
  let c256_87 : Index := 256#32
  ![0, v181.toNat, 256]
def k0_off87 (k0_t1 : Fin k0_t1_loop.trips) : Fin 3 → Nat :=
  let c0_90 : Index := 0#32
  let c2_i32_62 : BitVec 32 := 2#32
  let c0_i32 : BitVec 32 := 0#32
  let c1_i32 : BitVec 32 := 1#32
  let arg7 : BitVec 32 := Scf.iv c0_i32 c1_i32 k0_t1
  let c1_i32_2 : BitVec 32 := 1#32
  let v11 : BitVec 32 := Scalar.addi arg7 c1_i32_2
  let c1_i32_4 : BitVec 32 := 1#32
  let v13 : BitVec 32 := Scalar.subi v11 c1_i32_4
  let c0_i32_5 : BitVec 32 := 0#32
  let v15 : BitVec 1 := Scalar.cmpi .sgt v13 c0_i32_5
  let v16 : BitVec 32 := Scalar.extui v15
  let c0_i32_6 : BitVec 32 := 0#32
  let v17 : BitVec 1 := Scalar.cmpi .slt v13 c0_i32_6
  let v18 : BitVec 32 := Scalar.extui v17
  let v19 : BitVec 32 := Scalar.subi v16 v18
  let c2_i32 : BitVec 32 := 2#32
  let c0_i32_7 : BitVec 32 := 0#32
  let v20 : BitVec 1 := Scalar.cmpi .sgt c2_i32 c0_i32_7
  let v21 : BitVec 32 := Scalar.extui v20
  let c0_i32_8 : BitVec 32 := 0#32
  let v22 : BitVec 1 := Scalar.cmpi .slt c2_i32 c0_i32_8
  let v23 : BitVec 32 := Scalar.extui v22
  let v24 : BitVec 32 := Scalar.subi v21 v23
  let v25 : BitVec 1 := Scalar.cmpi .ne v19 v24
  let v26 : BitVec 32 := Scalar.remsi v13 c2_i32
  let c0_i32_9 : BitVec 32 := 0#32
  let v27 : BitVec 1 := Scalar.cmpi .ne v26 c0_i32_9
  let v28 : BitVec 1 := Scalar.andi v25 v27
  let v14 : BitVec 32 := Scalar.divsi v13 c2_i32
  let c1_i32_10 : BitVec 32 := 1#32
  let v29 : BitVec 32 := Scalar.subi v14 c1_i32_10
  let v30 : BitVec 32 := Scalar.select v28 v29 v14
  let v129 : BitVec 32 := Scalar.muli c2_i32_62 v30
  let c1_i32_69 : BitVec 32 := 1#32
  let v154 : BitVec 32 := Scalar.addi v129 c1_i32_69
  let c1_i32_70 : BitVec 32 := 1#32
  let v155 : BitVec 32 := Scalar.subi v154 c1_i32_70
  let c256_i32_71 : BitVec 32 := 256#32
  let v156 : BitVec 32 := Scalar.muli v155 c256_i32_71
  let v157 : BitVec 32 := v156
  let v188 : Index := Scalar.indexCast v157
  let c384_91 : Index := 384#32
  ![0, v188.toNat, 384]
def k0_off88 (k0_t1 : Fin k0_t1_loop.trips) : Fin 3 → Nat :=
  let c0_92 : Index := 0#32
  let c0_i32 : BitVec 32 := 0#32
  let c1_i32 : BitVec 32 := 1#32
  let arg7 : BitVec 32 := Scf.iv c0_i32 c1_i32 k0_t1
  let c256_i32 : BitVec 32 := 256#32
  let v1 : BitVec 32 := Scalar.muli arg7 c256_i32
  let v2 : BitVec 32 := v1
  let v191 : Index := Scalar.indexCast v2
  let c384_93 : Index := 384#32
  ![0, v191.toNat, 384]
def k0_off89 (k0_t1 : Fin k0_t1_loop.trips) : Fin 3 → Nat :=
  let c0_96 : Index := 0#32
  let c2_i32_62 : BitVec 32 := 2#32
  let c0_i32 : BitVec 32 := 0#32
  let c1_i32 : BitVec 32 := 1#32
  let arg7 : BitVec 32 := Scf.iv c0_i32 c1_i32 k0_t1
  let c1_i32_2 : BitVec 32 := 1#32
  let v11 : BitVec 32 := Scalar.addi arg7 c1_i32_2
  let c1_i32_4 : BitVec 32 := 1#32
  let v13 : BitVec 32 := Scalar.subi v11 c1_i32_4
  let c0_i32_5 : BitVec 32 := 0#32
  let v15 : BitVec 1 := Scalar.cmpi .sgt v13 c0_i32_5
  let v16 : BitVec 32 := Scalar.extui v15
  let c0_i32_6 : BitVec 32 := 0#32
  let v17 : BitVec 1 := Scalar.cmpi .slt v13 c0_i32_6
  let v18 : BitVec 32 := Scalar.extui v17
  let v19 : BitVec 32 := Scalar.subi v16 v18
  let c2_i32 : BitVec 32 := 2#32
  let c0_i32_7 : BitVec 32 := 0#32
  let v20 : BitVec 1 := Scalar.cmpi .sgt c2_i32 c0_i32_7
  let v21 : BitVec 32 := Scalar.extui v20
  let c0_i32_8 : BitVec 32 := 0#32
  let v22 : BitVec 1 := Scalar.cmpi .slt c2_i32 c0_i32_8
  let v23 : BitVec 32 := Scalar.extui v22
  let v24 : BitVec 32 := Scalar.subi v21 v23
  let v25 : BitVec 1 := Scalar.cmpi .ne v19 v24
  let v26 : BitVec 32 := Scalar.remsi v13 c2_i32
  let c0_i32_9 : BitVec 32 := 0#32
  let v27 : BitVec 1 := Scalar.cmpi .ne v26 c0_i32_9
  let v28 : BitVec 1 := Scalar.andi v25 v27
  let v14 : BitVec 32 := Scalar.divsi v13 c2_i32
  let c1_i32_10 : BitVec 32 := 1#32
  let v29 : BitVec 32 := Scalar.subi v14 c1_i32_10
  let v30 : BitVec 32 := Scalar.select v28 v29 v14
  let v129 : BitVec 32 := Scalar.muli c2_i32_62 v30
  let c1_i32_69 : BitVec 32 := 1#32
  let v154 : BitVec 32 := Scalar.addi v129 c1_i32_69
  let c1_i32_70 : BitVec 32 := 1#32
  let v155 : BitVec 32 := Scalar.subi v154 c1_i32_70
  let c256_i32_71 : BitVec 32 := 256#32
  let v156 : BitVec 32 := Scalar.muli v155 c256_i32_71
  let v157 : BitVec 32 := v156
  let v198 : Index := Scalar.indexCast v157
  let c512_97 : Index := 512#32
  ![0, v198.toNat, 512]
def k0_off90 (k0_t1 : Fin k0_t1_loop.trips) : Fin 3 → Nat :=
  let c0_98 : Index := 0#32
  let c0_i32 : BitVec 32 := 0#32
  let c1_i32 : BitVec 32 := 1#32
  let arg7 : BitVec 32 := Scf.iv c0_i32 c1_i32 k0_t1
  let c256_i32 : BitVec 32 := 256#32
  let v1 : BitVec 32 := Scalar.muli arg7 c256_i32
  let v2 : BitVec 32 := v1
  let v201 : Index := Scalar.indexCast v2
  let c512_99 : Index := 512#32
  ![0, v201.toNat, 512]
def k0_off91 (k0_t1 : Fin k0_t1_loop.trips) : Fin 3 → Nat :=
  let c0_102 : Index := 0#32
  let c2_i32_62 : BitVec 32 := 2#32
  let c0_i32 : BitVec 32 := 0#32
  let c1_i32 : BitVec 32 := 1#32
  let arg7 : BitVec 32 := Scf.iv c0_i32 c1_i32 k0_t1
  let c1_i32_2 : BitVec 32 := 1#32
  let v11 : BitVec 32 := Scalar.addi arg7 c1_i32_2
  let c1_i32_4 : BitVec 32 := 1#32
  let v13 : BitVec 32 := Scalar.subi v11 c1_i32_4
  let c0_i32_5 : BitVec 32 := 0#32
  let v15 : BitVec 1 := Scalar.cmpi .sgt v13 c0_i32_5
  let v16 : BitVec 32 := Scalar.extui v15
  let c0_i32_6 : BitVec 32 := 0#32
  let v17 : BitVec 1 := Scalar.cmpi .slt v13 c0_i32_6
  let v18 : BitVec 32 := Scalar.extui v17
  let v19 : BitVec 32 := Scalar.subi v16 v18
  let c2_i32 : BitVec 32 := 2#32
  let c0_i32_7 : BitVec 32 := 0#32
  let v20 : BitVec 1 := Scalar.cmpi .sgt c2_i32 c0_i32_7
  let v21 : BitVec 32 := Scalar.extui v20
  let c0_i32_8 : BitVec 32 := 0#32
  let v22 : BitVec 1 := Scalar.cmpi .slt c2_i32 c0_i32_8
  let v23 : BitVec 32 := Scalar.extui v22
  let v24 : BitVec 32 := Scalar.subi v21 v23
  let v25 : BitVec 1 := Scalar.cmpi .ne v19 v24
  let v26 : BitVec 32 := Scalar.remsi v13 c2_i32
  let c0_i32_9 : BitVec 32 := 0#32
  let v27 : BitVec 1 := Scalar.cmpi .ne v26 c0_i32_9
  let v28 : BitVec 1 := Scalar.andi v25 v27
  let v14 : BitVec 32 := Scalar.divsi v13 c2_i32
  let c1_i32_10 : BitVec 32 := 1#32
  let v29 : BitVec 32 := Scalar.subi v14 c1_i32_10
  let v30 : BitVec 32 := Scalar.select v28 v29 v14
  let v129 : BitVec 32 := Scalar.muli c2_i32_62 v30
  let c1_i32_69 : BitVec 32 := 1#32
  let v154 : BitVec 32 := Scalar.addi v129 c1_i32_69
  let c1_i32_70 : BitVec 32 := 1#32
  let v155 : BitVec 32 := Scalar.subi v154 c1_i32_70
  let c256_i32_71 : BitVec 32 := 256#32
  let v156 : BitVec 32 := Scalar.muli v155 c256_i32_71
  let v157 : BitVec 32 := v156
  let v208 : Index := Scalar.indexCast v157
  let c640_103 : Index := 640#32
  ![0, v208.toNat, 640]
def k0_off92 (k0_t1 : Fin k0_t1_loop.trips) : Fin 3 → Nat :=
  let c0_104 : Index := 0#32
  let c0_i32 : BitVec 32 := 0#32
  let c1_i32 : BitVec 32 := 1#32
  let arg7 : BitVec 32 := Scf.iv c0_i32 c1_i32 k0_t1
  let c256_i32 : BitVec 32 := 256#32
  let v1 : BitVec 32 := Scalar.muli arg7 c256_i32
  let v2 : BitVec 32 := v1
  let v211 : Index := Scalar.indexCast v2
  let c640_105 : Index := 640#32
  ![0, v211.toNat, 640]
def k0_off93 (k0_t1 : Fin k0_t1_loop.trips) : Fin 3 → Nat :=
  let c0_108 : Index := 0#32
  let c2_i32_62 : BitVec 32 := 2#32
  let c0_i32 : BitVec 32 := 0#32
  let c1_i32 : BitVec 32 := 1#32
  let arg7 : BitVec 32 := Scf.iv c0_i32 c1_i32 k0_t1
  let c1_i32_2 : BitVec 32 := 1#32
  let v11 : BitVec 32 := Scalar.addi arg7 c1_i32_2
  let c1_i32_4 : BitVec 32 := 1#32
  let v13 : BitVec 32 := Scalar.subi v11 c1_i32_4
  let c0_i32_5 : BitVec 32 := 0#32
  let v15 : BitVec 1 := Scalar.cmpi .sgt v13 c0_i32_5
  let v16 : BitVec 32 := Scalar.extui v15
  let c0_i32_6 : BitVec 32 := 0#32
  let v17 : BitVec 1 := Scalar.cmpi .slt v13 c0_i32_6
  let v18 : BitVec 32 := Scalar.extui v17
  let v19 : BitVec 32 := Scalar.subi v16 v18
  let c2_i32 : BitVec 32 := 2#32
  let c0_i32_7 : BitVec 32 := 0#32
  let v20 : BitVec 1 := Scalar.cmpi .sgt c2_i32 c0_i32_7
  let v21 : BitVec 32 := Scalar.extui v20
  let c0_i32_8 : BitVec 32 := 0#32
  let v22 : BitVec 1 := Scalar.cmpi .slt c2_i32 c0_i32_8
  let v23 : BitVec 32 := Scalar.extui v22
  let v24 : BitVec 32 := Scalar.subi v21 v23
  let v25 : BitVec 1 := Scalar.cmpi .ne v19 v24
  let v26 : BitVec 32 := Scalar.remsi v13 c2_i32
  let c0_i32_9 : BitVec 32 := 0#32
  let v27 : BitVec 1 := Scalar.cmpi .ne v26 c0_i32_9
  let v28 : BitVec 1 := Scalar.andi v25 v27
  let v14 : BitVec 32 := Scalar.divsi v13 c2_i32
  let c1_i32_10 : BitVec 32 := 1#32
  let v29 : BitVec 32 := Scalar.subi v14 c1_i32_10
  let v30 : BitVec 32 := Scalar.select v28 v29 v14
  let v129 : BitVec 32 := Scalar.muli c2_i32_62 v30
  let c1_i32_69 : BitVec 32 := 1#32
  let v154 : BitVec 32 := Scalar.addi v129 c1_i32_69
  let c1_i32_70 : BitVec 32 := 1#32
  let v155 : BitVec 32 := Scalar.subi v154 c1_i32_70
  let c256_i32_71 : BitVec 32 := 256#32
  let v156 : BitVec 32 := Scalar.muli v155 c256_i32_71
  let v157 : BitVec 32 := v156
  let v218 : Index := Scalar.indexCast v157
  let c768_109 : Index := 768#32
  ![0, v218.toNat, 768]
def k0_off94 (k0_t1 : Fin k0_t1_loop.trips) : Fin 3 → Nat :=
  let c0_110 : Index := 0#32
  let c0_i32 : BitVec 32 := 0#32
  let c1_i32 : BitVec 32 := 1#32
  let arg7 : BitVec 32 := Scf.iv c0_i32 c1_i32 k0_t1
  let c256_i32 : BitVec 32 := 256#32
  let v1 : BitVec 32 := Scalar.muli arg7 c256_i32
  let v2 : BitVec 32 := v1
  let v221 : Index := Scalar.indexCast v2
  let c768_111 : Index := 768#32
  ![0, v221.toNat, 768]
def k0_off95 (k0_t1 : Fin k0_t1_loop.trips) : Fin 3 → Nat :=
  let c0_114 : Index := 0#32
  let c2_i32_62 : BitVec 32 := 2#32
  let c0_i32 : BitVec 32 := 0#32
  let c1_i32 : BitVec 32 := 1#32
  let arg7 : BitVec 32 := Scf.iv c0_i32 c1_i32 k0_t1
  let c1_i32_2 : BitVec 32 := 1#32
  let v11 : BitVec 32 := Scalar.addi arg7 c1_i32_2
  let c1_i32_4 : BitVec 32 := 1#32
  let v13 : BitVec 32 := Scalar.subi v11 c1_i32_4
  let c0_i32_5 : BitVec 32 := 0#32
  let v15 : BitVec 1 := Scalar.cmpi .sgt v13 c0_i32_5
  let v16 : BitVec 32 := Scalar.extui v15
  let c0_i32_6 : BitVec 32 := 0#32
  let v17 : BitVec 1 := Scalar.cmpi .slt v13 c0_i32_6
  let v18 : BitVec 32 := Scalar.extui v17
  let v19 : BitVec 32 := Scalar.subi v16 v18
  let c2_i32 : BitVec 32 := 2#32
  let c0_i32_7 : BitVec 32 := 0#32
  let v20 : BitVec 1 := Scalar.cmpi .sgt c2_i32 c0_i32_7
  let v21 : BitVec 32 := Scalar.extui v20
  let c0_i32_8 : BitVec 32 := 0#32
  let v22 : BitVec 1 := Scalar.cmpi .slt c2_i32 c0_i32_8
  let v23 : BitVec 32 := Scalar.extui v22
  let v24 : BitVec 32 := Scalar.subi v21 v23
  let v25 : BitVec 1 := Scalar.cmpi .ne v19 v24
  let v26 : BitVec 32 := Scalar.remsi v13 c2_i32
  let c0_i32_9 : BitVec 32 := 0#32
  let v27 : BitVec 1 := Scalar.cmpi .ne v26 c0_i32_9
  let v28 : BitVec 1 := Scalar.andi v25 v27
  let v14 : BitVec 32 := Scalar.divsi v13 c2_i32
  let c1_i32_10 : BitVec 32 := 1#32
  let v29 : BitVec 32 := Scalar.subi v14 c1_i32_10
  let v30 : BitVec 32 := Scalar.select v28 v29 v14
  let v129 : BitVec 32 := Scalar.muli c2_i32_62 v30
  let c1_i32_69 : BitVec 32 := 1#32
  let v154 : BitVec 32 := Scalar.addi v129 c1_i32_69
  let c1_i32_70 : BitVec 32 := 1#32
  let v155 : BitVec 32 := Scalar.subi v154 c1_i32_70
  let c256_i32_71 : BitVec 32 := 256#32
  let v156 : BitVec 32 := Scalar.muli v155 c256_i32_71
  let v157 : BitVec 32 := v156
  let v228 : Index := Scalar.indexCast v157
  let c896_115 : Index := 896#32
  ![0, v228.toNat, 896]
def k0_off96 (k0_t1 : Fin k0_t1_loop.trips) : Fin 3 → Nat :=
  let c0_116 : Index := 0#32
  let c0_i32 : BitVec 32 := 0#32
  let c1_i32 : BitVec 32 := 1#32
  let arg7 : BitVec 32 := Scf.iv c0_i32 c1_i32 k0_t1
  let c256_i32 : BitVec 32 := 256#32
  let v1 : BitVec 32 := Scalar.muli arg7 c256_i32
  let v2 : BitVec 32 := v1
  let v231 : Index := Scalar.indexCast v2
  let c896_117 : Index := 896#32
  ![0, v231.toNat, 896]
def k0_off97 (k0_t1 : Fin k0_t1_loop.trips) : Fin 4 → Nat :=
  let c0_131 : Index := 0#32
  let c2_i32_62 : BitVec 32 := 2#32
  let c0_i32 : BitVec 32 := 0#32
  let c1_i32 : BitVec 32 := 1#32
  let arg7 : BitVec 32 := Scf.iv c0_i32 c1_i32 k0_t1
  let c1_i32_2 : BitVec 32 := 1#32
  let v11 : BitVec 32 := Scalar.addi arg7 c1_i32_2
  let c1_i32_4 : BitVec 32 := 1#32
  let v13 : BitVec 32 := Scalar.subi v11 c1_i32_4
  let c0_i32_5 : BitVec 32 := 0#32
  let v15 : BitVec 1 := Scalar.cmpi .sgt v13 c0_i32_5
  let v16 : BitVec 32 := Scalar.extui v15
  let c0_i32_6 : BitVec 32 := 0#32
  let v17 : BitVec 1 := Scalar.cmpi .slt v13 c0_i32_6
  let v18 : BitVec 32 := Scalar.extui v17
  let v19 : BitVec 32 := Scalar.subi v16 v18
  let c2_i32 : BitVec 32 := 2#32
  let c0_i32_7 : BitVec 32 := 0#32
  let v20 : BitVec 1 := Scalar.cmpi .sgt c2_i32 c0_i32_7
  let v21 : BitVec 32 := Scalar.extui v20
  let c0_i32_8 : BitVec 32 := 0#32
  let v22 : BitVec 1 := Scalar.cmpi .slt c2_i32 c0_i32_8
  let v23 : BitVec 32 := Scalar.extui v22
  let v24 : BitVec 32 := Scalar.subi v21 v23
  let v25 : BitVec 1 := Scalar.cmpi .ne v19 v24
  let v26 : BitVec 32 := Scalar.remsi v13 c2_i32
  let c0_i32_9 : BitVec 32 := 0#32
  let v27 : BitVec 1 := Scalar.cmpi .ne v26 c0_i32_9
  let v28 : BitVec 1 := Scalar.andi v25 v27
  let v14 : BitVec 32 := Scalar.divsi v13 c2_i32
  let c1_i32_10 : BitVec 32 := 1#32
  let v29 : BitVec 32 := Scalar.subi v14 c1_i32_10
  let v30 : BitVec 32 := Scalar.select v28 v29 v14
  let v129 : BitVec 32 := Scalar.muli c2_i32_62 v30
  let c0_i32_124 : BitVec 32 := 0#32
  let v245 : BitVec 1 := Scalar.cmpi .eq v129 c0_i32_124
  let c1_i32_125 : BitVec 32 := 1#32
  let v246 : BitVec 32 := Scalar.subi v129 c1_i32_125
  let v247 : BitVec 32 := Scalar.select v245 arg7 v246
  let v260 : Index := Scalar.indexCast v247
  let c0_132 : Index := 0#32
  let c0_133 : Index := 0#32
  ![0, v260.toNat, 0, 0]
def k0_off98 (k0_t1 : Fin k0_t1_loop.trips) : Fin 4 → Nat :=
  let c0_135 : Index := 0#32
  let c2_i32_62 : BitVec 32 := 2#32
  let c0_i32 : BitVec 32 := 0#32
  let c1_i32 : BitVec 32 := 1#32
  let arg7 : BitVec 32 := Scf.iv c0_i32 c1_i32 k0_t1
  let c1_i32_2 : BitVec 32 := 1#32
  let v11 : BitVec 32 := Scalar.addi arg7 c1_i32_2
  let c1_i32_4 : BitVec 32 := 1#32
  let v13 : BitVec 32 := Scalar.subi v11 c1_i32_4
  let c0_i32_5 : BitVec 32 := 0#32
  let v15 : BitVec 1 := Scalar.cmpi .sgt v13 c0_i32_5
  let v16 : BitVec 32 := Scalar.extui v15
  let c0_i32_6 : BitVec 32 := 0#32
  let v17 : BitVec 1 := Scalar.cmpi .slt v13 c0_i32_6
  let v18 : BitVec 32 := Scalar.extui v17
  let v19 : BitVec 32 := Scalar.subi v16 v18
  let c2_i32 : BitVec 32 := 2#32
  let c0_i32_7 : BitVec 32 := 0#32
  let v20 : BitVec 1 := Scalar.cmpi .sgt c2_i32 c0_i32_7
  let v21 : BitVec 32 := Scalar.extui v20
  let c0_i32_8 : BitVec 32 := 0#32
  let v22 : BitVec 1 := Scalar.cmpi .slt c2_i32 c0_i32_8
  let v23 : BitVec 32 := Scalar.extui v22
  let v24 : BitVec 32 := Scalar.subi v21 v23
  let v25 : BitVec 1 := Scalar.cmpi .ne v19 v24
  let v26 : BitVec 32 := Scalar.remsi v13 c2_i32
  let c0_i32_9 : BitVec 32 := 0#32
  let v27 : BitVec 1 := Scalar.cmpi .ne v26 c0_i32_9
  let v28 : BitVec 1 := Scalar.andi v25 v27
  let v14 : BitVec 32 := Scalar.divsi v13 c2_i32
  let c1_i32_10 : BitVec 32 := 1#32
  let v29 : BitVec 32 := Scalar.subi v14 c1_i32_10
  let v30 : BitVec 32 := Scalar.select v28 v29 v14
  let v129 : BitVec 32 := Scalar.muli c2_i32_62 v30
  let c0_i32_124 : BitVec 32 := 0#32
  let v245 : BitVec 1 := Scalar.cmpi .eq v129 c0_i32_124
  let c1_i32_125 : BitVec 32 := 1#32
  let v246 : BitVec 32 := Scalar.subi v129 c1_i32_125
  let v247 : BitVec 32 := Scalar.select v245 arg7 v246
  let v265 : Index := Scalar.indexCast v247
  let c80 : Index := 80#32
  let c0_136 : Index := 0#32
  ![0, v265.toNat, 80, 0]
def k0_off99 (k0_t1 : Fin k0_t1_loop.trips) : Fin 4 → Nat :=
  let c0_138 : Index := 0#32
  let c2_i32_62 : BitVec 32 := 2#32
  let c0_i32 : BitVec 32 := 0#32
  let c1_i32 : BitVec 32 := 1#32
  let arg7 : BitVec 32 := Scf.iv c0_i32 c1_i32 k0_t1
  let c1_i32_2 : BitVec 32 := 1#32
  let v11 : BitVec 32 := Scalar.addi arg7 c1_i32_2
  let c1_i32_4 : BitVec 32 := 1#32
  let v13 : BitVec 32 := Scalar.subi v11 c1_i32_4
  let c0_i32_5 : BitVec 32 := 0#32
  let v15 : BitVec 1 := Scalar.cmpi .sgt v13 c0_i32_5
  let v16 : BitVec 32 := Scalar.extui v15
  let c0_i32_6 : BitVec 32 := 0#32
  let v17 : BitVec 1 := Scalar.cmpi .slt v13 c0_i32_6
  let v18 : BitVec 32 := Scalar.extui v17
  let v19 : BitVec 32 := Scalar.subi v16 v18
  let c2_i32 : BitVec 32 := 2#32
  let c0_i32_7 : BitVec 32 := 0#32
  let v20 : BitVec 1 := Scalar.cmpi .sgt c2_i32 c0_i32_7
  let v21 : BitVec 32 := Scalar.extui v20
  let c0_i32_8 : BitVec 32 := 0#32
  let v22 : BitVec 1 := Scalar.cmpi .slt c2_i32 c0_i32_8
  let v23 : BitVec 32 := Scalar.extui v22
  let v24 : BitVec 32 := Scalar.subi v21 v23
  let v25 : BitVec 1 := Scalar.cmpi .ne v19 v24
  let v26 : BitVec 32 := Scalar.remsi v13 c2_i32
  let c0_i32_9 : BitVec 32 := 0#32
  let v27 : BitVec 1 := Scalar.cmpi .ne v26 c0_i32_9
  let v28 : BitVec 1 := Scalar.andi v25 v27
  let v14 : BitVec 32 := Scalar.divsi v13 c2_i32
  let c1_i32_10 : BitVec 32 := 1#32
  let v29 : BitVec 32 := Scalar.subi v14 c1_i32_10
  let v30 : BitVec 32 := Scalar.select v28 v29 v14
  let v129 : BitVec 32 := Scalar.muli c2_i32_62 v30
  let c0_i32_124 : BitVec 32 := 0#32
  let v245 : BitVec 1 := Scalar.cmpi .eq v129 c0_i32_124
  let c1_i32_125 : BitVec 32 := 1#32
  let v246 : BitVec 32 := Scalar.subi v129 c1_i32_125
  let v247 : BitVec 32 := Scalar.select v245 arg7 v246
  let v270 : Index := Scalar.indexCast v247
  let c160 : Index := 160#32
  let c0_139 : Index := 0#32
  ![0, v270.toNat, 160, 0]
def k0_off100 (k0_t1 : Fin k0_t1_loop.trips) : Fin 4 → Nat :=
  let c0_141 : Index := 0#32
  let c2_i32_62 : BitVec 32 := 2#32
  let c0_i32 : BitVec 32 := 0#32
  let c1_i32 : BitVec 32 := 1#32
  let arg7 : BitVec 32 := Scf.iv c0_i32 c1_i32 k0_t1
  let c1_i32_2 : BitVec 32 := 1#32
  let v11 : BitVec 32 := Scalar.addi arg7 c1_i32_2
  let c1_i32_4 : BitVec 32 := 1#32
  let v13 : BitVec 32 := Scalar.subi v11 c1_i32_4
  let c0_i32_5 : BitVec 32 := 0#32
  let v15 : BitVec 1 := Scalar.cmpi .sgt v13 c0_i32_5
  let v16 : BitVec 32 := Scalar.extui v15
  let c0_i32_6 : BitVec 32 := 0#32
  let v17 : BitVec 1 := Scalar.cmpi .slt v13 c0_i32_6
  let v18 : BitVec 32 := Scalar.extui v17
  let v19 : BitVec 32 := Scalar.subi v16 v18
  let c2_i32 : BitVec 32 := 2#32
  let c0_i32_7 : BitVec 32 := 0#32
  let v20 : BitVec 1 := Scalar.cmpi .sgt c2_i32 c0_i32_7
  let v21 : BitVec 32 := Scalar.extui v20
  let c0_i32_8 : BitVec 32 := 0#32
  let v22 : BitVec 1 := Scalar.cmpi .slt c2_i32 c0_i32_8
  let v23 : BitVec 32 := Scalar.extui v22
  let v24 : BitVec 32 := Scalar.subi v21 v23
  let v25 : BitVec 1 := Scalar.cmpi .ne v19 v24
  let v26 : BitVec 32 := Scalar.remsi v13 c2_i32
  let c0_i32_9 : BitVec 32 := 0#32
  let v27 : BitVec 1 := Scalar.cmpi .ne v26 c0_i32_9
  let v28 : BitVec 1 := Scalar.andi v25 v27
  let v14 : BitVec 32 := Scalar.divsi v13 c2_i32
  let c1_i32_10 : BitVec 32 := 1#32
  let v29 : BitVec 32 := Scalar.subi v14 c1_i32_10
  let v30 : BitVec 32 := Scalar.select v28 v29 v14
  let v129 : BitVec 32 := Scalar.muli c2_i32_62 v30
  let c0_i32_124 : BitVec 32 := 0#32
  let v245 : BitVec 1 := Scalar.cmpi .eq v129 c0_i32_124
  let c1_i32_125 : BitVec 32 := 1#32
  let v246 : BitVec 32 := Scalar.subi v129 c1_i32_125
  let v247 : BitVec 32 := Scalar.select v245 arg7 v246
  let v275 : Index := Scalar.indexCast v247
  let c240 : Index := 240#32
  let c0_142 : Index := 0#32
  ![0, v275.toNat, 240, 0]
def k0_off101 (k0_t1 : Fin k0_t1_loop.trips) : Fin 4 → Nat :=
  let c0_144 : Index := 0#32
  let c2_i32_62 : BitVec 32 := 2#32
  let c0_i32 : BitVec 32 := 0#32
  let c1_i32 : BitVec 32 := 1#32
  let arg7 : BitVec 32 := Scf.iv c0_i32 c1_i32 k0_t1
  let c1_i32_2 : BitVec 32 := 1#32
  let v11 : BitVec 32 := Scalar.addi arg7 c1_i32_2
  let c1_i32_4 : BitVec 32 := 1#32
  let v13 : BitVec 32 := Scalar.subi v11 c1_i32_4
  let c0_i32_5 : BitVec 32 := 0#32
  let v15 : BitVec 1 := Scalar.cmpi .sgt v13 c0_i32_5
  let v16 : BitVec 32 := Scalar.extui v15
  let c0_i32_6 : BitVec 32 := 0#32
  let v17 : BitVec 1 := Scalar.cmpi .slt v13 c0_i32_6
  let v18 : BitVec 32 := Scalar.extui v17
  let v19 : BitVec 32 := Scalar.subi v16 v18
  let c2_i32 : BitVec 32 := 2#32
  let c0_i32_7 : BitVec 32 := 0#32
  let v20 : BitVec 1 := Scalar.cmpi .sgt c2_i32 c0_i32_7
  let v21 : BitVec 32 := Scalar.extui v20
  let c0_i32_8 : BitVec 32 := 0#32
  let v22 : BitVec 1 := Scalar.cmpi .slt c2_i32 c0_i32_8
  let v23 : BitVec 32 := Scalar.extui v22
  let v24 : BitVec 32 := Scalar.subi v21 v23
  let v25 : BitVec 1 := Scalar.cmpi .ne v19 v24
  let v26 : BitVec 32 := Scalar.remsi v13 c2_i32
  let c0_i32_9 : BitVec 32 := 0#32
  let v27 : BitVec 1 := Scalar.cmpi .ne v26 c0_i32_9
  let v28 : BitVec 1 := Scalar.andi v25 v27
  let v14 : BitVec 32 := Scalar.divsi v13 c2_i32
  let c1_i32_10 : BitVec 32 := 1#32
  let v29 : BitVec 32 := Scalar.subi v14 c1_i32_10
  let v30 : BitVec 32 := Scalar.select v28 v29 v14
  let v129 : BitVec 32 := Scalar.muli c2_i32_62 v30
  let c0_i32_124 : BitVec 32 := 0#32
  let v245 : BitVec 1 := Scalar.cmpi .eq v129 c0_i32_124
  let c1_i32_125 : BitVec 32 := 1#32
  let v246 : BitVec 32 := Scalar.subi v129 c1_i32_125
  let v247 : BitVec 32 := Scalar.select v245 arg7 v246
  let v280 : Index := Scalar.indexCast v247
  let c320 : Index := 320#32
  let c0_145 : Index := 0#32
  ![0, v280.toNat, 320, 0]
def k0_off102 (k0_t1 : Fin k0_t1_loop.trips) : Fin 4 → Nat :=
  let c0_147 : Index := 0#32
  let c2_i32_62 : BitVec 32 := 2#32
  let c0_i32 : BitVec 32 := 0#32
  let c1_i32 : BitVec 32 := 1#32
  let arg7 : BitVec 32 := Scf.iv c0_i32 c1_i32 k0_t1
  let c1_i32_2 : BitVec 32 := 1#32
  let v11 : BitVec 32 := Scalar.addi arg7 c1_i32_2
  let c1_i32_4 : BitVec 32 := 1#32
  let v13 : BitVec 32 := Scalar.subi v11 c1_i32_4
  let c0_i32_5 : BitVec 32 := 0#32
  let v15 : BitVec 1 := Scalar.cmpi .sgt v13 c0_i32_5
  let v16 : BitVec 32 := Scalar.extui v15
  let c0_i32_6 : BitVec 32 := 0#32
  let v17 : BitVec 1 := Scalar.cmpi .slt v13 c0_i32_6
  let v18 : BitVec 32 := Scalar.extui v17
  let v19 : BitVec 32 := Scalar.subi v16 v18
  let c2_i32 : BitVec 32 := 2#32
  let c0_i32_7 : BitVec 32 := 0#32
  let v20 : BitVec 1 := Scalar.cmpi .sgt c2_i32 c0_i32_7
  let v21 : BitVec 32 := Scalar.extui v20
  let c0_i32_8 : BitVec 32 := 0#32
  let v22 : BitVec 1 := Scalar.cmpi .slt c2_i32 c0_i32_8
  let v23 : BitVec 32 := Scalar.extui v22
  let v24 : BitVec 32 := Scalar.subi v21 v23
  let v25 : BitVec 1 := Scalar.cmpi .ne v19 v24
  let v26 : BitVec 32 := Scalar.remsi v13 c2_i32
  let c0_i32_9 : BitVec 32 := 0#32
  let v27 : BitVec 1 := Scalar.cmpi .ne v26 c0_i32_9
  let v28 : BitVec 1 := Scalar.andi v25 v27
  let v14 : BitVec 32 := Scalar.divsi v13 c2_i32
  let c1_i32_10 : BitVec 32 := 1#32
  let v29 : BitVec 32 := Scalar.subi v14 c1_i32_10
  let v30 : BitVec 32 := Scalar.select v28 v29 v14
  let v129 : BitVec 32 := Scalar.muli c2_i32_62 v30
  let c0_i32_124 : BitVec 32 := 0#32
  let v245 : BitVec 1 := Scalar.cmpi .eq v129 c0_i32_124
  let c1_i32_125 : BitVec 32 := 1#32
  let v246 : BitVec 32 := Scalar.subi v129 c1_i32_125
  let v247 : BitVec 32 := Scalar.select v245 arg7 v246
  let v285 : Index := Scalar.indexCast v247
  let c400 : Index := 400#32
  let c0_148 : Index := 0#32
  ![0, v285.toNat, 400, 0]
def k0_off103 (k0_t1 : Fin k0_t1_loop.trips) : Fin 4 → Nat :=
  let c0_150 : Index := 0#32
  let c2_i32_62 : BitVec 32 := 2#32
  let c0_i32 : BitVec 32 := 0#32
  let c1_i32 : BitVec 32 := 1#32
  let arg7 : BitVec 32 := Scf.iv c0_i32 c1_i32 k0_t1
  let c1_i32_2 : BitVec 32 := 1#32
  let v11 : BitVec 32 := Scalar.addi arg7 c1_i32_2
  let c1_i32_4 : BitVec 32 := 1#32
  let v13 : BitVec 32 := Scalar.subi v11 c1_i32_4
  let c0_i32_5 : BitVec 32 := 0#32
  let v15 : BitVec 1 := Scalar.cmpi .sgt v13 c0_i32_5
  let v16 : BitVec 32 := Scalar.extui v15
  let c0_i32_6 : BitVec 32 := 0#32
  let v17 : BitVec 1 := Scalar.cmpi .slt v13 c0_i32_6
  let v18 : BitVec 32 := Scalar.extui v17
  let v19 : BitVec 32 := Scalar.subi v16 v18
  let c2_i32 : BitVec 32 := 2#32
  let c0_i32_7 : BitVec 32 := 0#32
  let v20 : BitVec 1 := Scalar.cmpi .sgt c2_i32 c0_i32_7
  let v21 : BitVec 32 := Scalar.extui v20
  let c0_i32_8 : BitVec 32 := 0#32
  let v22 : BitVec 1 := Scalar.cmpi .slt c2_i32 c0_i32_8
  let v23 : BitVec 32 := Scalar.extui v22
  let v24 : BitVec 32 := Scalar.subi v21 v23
  let v25 : BitVec 1 := Scalar.cmpi .ne v19 v24
  let v26 : BitVec 32 := Scalar.remsi v13 c2_i32
  let c0_i32_9 : BitVec 32 := 0#32
  let v27 : BitVec 1 := Scalar.cmpi .ne v26 c0_i32_9
  let v28 : BitVec 1 := Scalar.andi v25 v27
  let v14 : BitVec 32 := Scalar.divsi v13 c2_i32
  let c1_i32_10 : BitVec 32 := 1#32
  let v29 : BitVec 32 := Scalar.subi v14 c1_i32_10
  let v30 : BitVec 32 := Scalar.select v28 v29 v14
  let v129 : BitVec 32 := Scalar.muli c2_i32_62 v30
  let c0_i32_124 : BitVec 32 := 0#32
  let v245 : BitVec 1 := Scalar.cmpi .eq v129 c0_i32_124
  let c1_i32_125 : BitVec 32 := 1#32
  let v246 : BitVec 32 := Scalar.subi v129 c1_i32_125
  let v247 : BitVec 32 := Scalar.select v245 arg7 v246
  let v290 : Index := Scalar.indexCast v247
  let c480 : Index := 480#32
  let c0_151 : Index := 0#32
  ![0, v290.toNat, 480, 0]
def k0_off104 (k0_t1 : Fin k0_t1_loop.trips) : Fin 4 → Nat :=
  let c0_153 : Index := 0#32
  let c2_i32_62 : BitVec 32 := 2#32
  let c0_i32 : BitVec 32 := 0#32
  let c1_i32 : BitVec 32 := 1#32
  let arg7 : BitVec 32 := Scf.iv c0_i32 c1_i32 k0_t1
  let c1_i32_2 : BitVec 32 := 1#32
  let v11 : BitVec 32 := Scalar.addi arg7 c1_i32_2
  let c1_i32_4 : BitVec 32 := 1#32
  let v13 : BitVec 32 := Scalar.subi v11 c1_i32_4
  let c0_i32_5 : BitVec 32 := 0#32
  let v15 : BitVec 1 := Scalar.cmpi .sgt v13 c0_i32_5
  let v16 : BitVec 32 := Scalar.extui v15
  let c0_i32_6 : BitVec 32 := 0#32
  let v17 : BitVec 1 := Scalar.cmpi .slt v13 c0_i32_6
  let v18 : BitVec 32 := Scalar.extui v17
  let v19 : BitVec 32 := Scalar.subi v16 v18
  let c2_i32 : BitVec 32 := 2#32
  let c0_i32_7 : BitVec 32 := 0#32
  let v20 : BitVec 1 := Scalar.cmpi .sgt c2_i32 c0_i32_7
  let v21 : BitVec 32 := Scalar.extui v20
  let c0_i32_8 : BitVec 32 := 0#32
  let v22 : BitVec 1 := Scalar.cmpi .slt c2_i32 c0_i32_8
  let v23 : BitVec 32 := Scalar.extui v22
  let v24 : BitVec 32 := Scalar.subi v21 v23
  let v25 : BitVec 1 := Scalar.cmpi .ne v19 v24
  let v26 : BitVec 32 := Scalar.remsi v13 c2_i32
  let c0_i32_9 : BitVec 32 := 0#32
  let v27 : BitVec 1 := Scalar.cmpi .ne v26 c0_i32_9
  let v28 : BitVec 1 := Scalar.andi v25 v27
  let v14 : BitVec 32 := Scalar.divsi v13 c2_i32
  let c1_i32_10 : BitVec 32 := 1#32
  let v29 : BitVec 32 := Scalar.subi v14 c1_i32_10
  let v30 : BitVec 32 := Scalar.select v28 v29 v14
  let v129 : BitVec 32 := Scalar.muli c2_i32_62 v30
  let c0_i32_124 : BitVec 32 := 0#32
  let v245 : BitVec 1 := Scalar.cmpi .eq v129 c0_i32_124
  let c1_i32_125 : BitVec 32 := 1#32
  let v246 : BitVec 32 := Scalar.subi v129 c1_i32_125
  let v247 : BitVec 32 := Scalar.select v245 arg7 v246
  let v295 : Index := Scalar.indexCast v247
  let c560 : Index := 560#32
  let c0_154 : Index := 0#32
  ![0, v295.toNat, 560, 0]
def k0_off105 (k0_t1 : Fin k0_t1_loop.trips) : Fin 4 → Nat :=
  let c0_165 : Index := 0#32
  let c2_i32_62 : BitVec 32 := 2#32
  let c0_i32 : BitVec 32 := 0#32
  let c1_i32 : BitVec 32 := 1#32
  let arg7 : BitVec 32 := Scf.iv c0_i32 c1_i32 k0_t1
  let c1_i32_2 : BitVec 32 := 1#32
  let v11 : BitVec 32 := Scalar.addi arg7 c1_i32_2
  let c1_i32_4 : BitVec 32 := 1#32
  let v13 : BitVec 32 := Scalar.subi v11 c1_i32_4
  let c0_i32_5 : BitVec 32 := 0#32
  let v15 : BitVec 1 := Scalar.cmpi .sgt v13 c0_i32_5
  let v16 : BitVec 32 := Scalar.extui v15
  let c0_i32_6 : BitVec 32 := 0#32
  let v17 : BitVec 1 := Scalar.cmpi .slt v13 c0_i32_6
  let v18 : BitVec 32 := Scalar.extui v17
  let v19 : BitVec 32 := Scalar.subi v16 v18
  let c2_i32 : BitVec 32 := 2#32
  let c0_i32_7 : BitVec 32 := 0#32
  let v20 : BitVec 1 := Scalar.cmpi .sgt c2_i32 c0_i32_7
  let v21 : BitVec 32 := Scalar.extui v20
  let c0_i32_8 : BitVec 32 := 0#32
  let v22 : BitVec 1 := Scalar.cmpi .slt c2_i32 c0_i32_8
  let v23 : BitVec 32 := Scalar.extui v22
  let v24 : BitVec 32 := Scalar.subi v21 v23
  let v25 : BitVec 1 := Scalar.cmpi .ne v19 v24
  let v26 : BitVec 32 := Scalar.remsi v13 c2_i32
  let c0_i32_9 : BitVec 32 := 0#32
  let v27 : BitVec 1 := Scalar.cmpi .ne v26 c0_i32_9
  let v28 : BitVec 1 := Scalar.andi v25 v27
  let v14 : BitVec 32 := Scalar.divsi v13 c2_i32
  let c1_i32_10 : BitVec 32 := 1#32
  let v29 : BitVec 32 := Scalar.subi v14 c1_i32_10
  let v30 : BitVec 32 := Scalar.select v28 v29 v14
  let v129 : BitVec 32 := Scalar.muli c2_i32_62 v30
  let c1_i32_123 : BitVec 32 := 1#32
  let v244 : BitVec 32 := Scalar.addi v129 c1_i32_123
  let c0_i32_158 : BitVec 32 := 0#32
  let v305 : BitVec 1 := Scalar.cmpi .eq v244 c0_i32_158
  let c1_i32_159 : BitVec 32 := 1#32
  let v306 : BitVec 32 := Scalar.subi v244 c1_i32_159
  let v307 : BitVec 32 := Scalar.select v305 arg7 v306
  let v320 : Index := Scalar.indexCast v307
  let c0_166 : Index := 0#32
  let c0_167 : Index := 0#32
  ![0, v320.toNat, 0, 0]
def k0_off106 (k0_t1 : Fin k0_t1_loop.trips) : Fin 4 → Nat :=
  let c0_169 : Index := 0#32
  let c2_i32_62 : BitVec 32 := 2#32
  let c0_i32 : BitVec 32 := 0#32
  let c1_i32 : BitVec 32 := 1#32
  let arg7 : BitVec 32 := Scf.iv c0_i32 c1_i32 k0_t1
  let c1_i32_2 : BitVec 32 := 1#32
  let v11 : BitVec 32 := Scalar.addi arg7 c1_i32_2
  let c1_i32_4 : BitVec 32 := 1#32
  let v13 : BitVec 32 := Scalar.subi v11 c1_i32_4
  let c0_i32_5 : BitVec 32 := 0#32
  let v15 : BitVec 1 := Scalar.cmpi .sgt v13 c0_i32_5
  let v16 : BitVec 32 := Scalar.extui v15
  let c0_i32_6 : BitVec 32 := 0#32
  let v17 : BitVec 1 := Scalar.cmpi .slt v13 c0_i32_6
  let v18 : BitVec 32 := Scalar.extui v17
  let v19 : BitVec 32 := Scalar.subi v16 v18
  let c2_i32 : BitVec 32 := 2#32
  let c0_i32_7 : BitVec 32 := 0#32
  let v20 : BitVec 1 := Scalar.cmpi .sgt c2_i32 c0_i32_7
  let v21 : BitVec 32 := Scalar.extui v20
  let c0_i32_8 : BitVec 32 := 0#32
  let v22 : BitVec 1 := Scalar.cmpi .slt c2_i32 c0_i32_8
  let v23 : BitVec 32 := Scalar.extui v22
  let v24 : BitVec 32 := Scalar.subi v21 v23
  let v25 : BitVec 1 := Scalar.cmpi .ne v19 v24
  let v26 : BitVec 32 := Scalar.remsi v13 c2_i32
  let c0_i32_9 : BitVec 32 := 0#32
  let v27 : BitVec 1 := Scalar.cmpi .ne v26 c0_i32_9
  let v28 : BitVec 1 := Scalar.andi v25 v27
  let v14 : BitVec 32 := Scalar.divsi v13 c2_i32
  let c1_i32_10 : BitVec 32 := 1#32
  let v29 : BitVec 32 := Scalar.subi v14 c1_i32_10
  let v30 : BitVec 32 := Scalar.select v28 v29 v14
  let v129 : BitVec 32 := Scalar.muli c2_i32_62 v30
  let c1_i32_123 : BitVec 32 := 1#32
  let v244 : BitVec 32 := Scalar.addi v129 c1_i32_123
  let c0_i32_158 : BitVec 32 := 0#32
  let v305 : BitVec 1 := Scalar.cmpi .eq v244 c0_i32_158
  let c1_i32_159 : BitVec 32 := 1#32
  let v306 : BitVec 32 := Scalar.subi v244 c1_i32_159
  let v307 : BitVec 32 := Scalar.select v305 arg7 v306
  let v325 : Index := Scalar.indexCast v307
  let c80_170 : Index := 80#32
  let c0_171 : Index := 0#32
  ![0, v325.toNat, 80, 0]
def k0_off107 (k0_t1 : Fin k0_t1_loop.trips) : Fin 4 → Nat :=
  let c0_173 : Index := 0#32
  let c2_i32_62 : BitVec 32 := 2#32
  let c0_i32 : BitVec 32 := 0#32
  let c1_i32 : BitVec 32 := 1#32
  let arg7 : BitVec 32 := Scf.iv c0_i32 c1_i32 k0_t1
  let c1_i32_2 : BitVec 32 := 1#32
  let v11 : BitVec 32 := Scalar.addi arg7 c1_i32_2
  let c1_i32_4 : BitVec 32 := 1#32
  let v13 : BitVec 32 := Scalar.subi v11 c1_i32_4
  let c0_i32_5 : BitVec 32 := 0#32
  let v15 : BitVec 1 := Scalar.cmpi .sgt v13 c0_i32_5
  let v16 : BitVec 32 := Scalar.extui v15
  let c0_i32_6 : BitVec 32 := 0#32
  let v17 : BitVec 1 := Scalar.cmpi .slt v13 c0_i32_6
  let v18 : BitVec 32 := Scalar.extui v17
  let v19 : BitVec 32 := Scalar.subi v16 v18
  let c2_i32 : BitVec 32 := 2#32
  let c0_i32_7 : BitVec 32 := 0#32
  let v20 : BitVec 1 := Scalar.cmpi .sgt c2_i32 c0_i32_7
  let v21 : BitVec 32 := Scalar.extui v20
  let c0_i32_8 : BitVec 32 := 0#32
  let v22 : BitVec 1 := Scalar.cmpi .slt c2_i32 c0_i32_8
  let v23 : BitVec 32 := Scalar.extui v22
  let v24 : BitVec 32 := Scalar.subi v21 v23
  let v25 : BitVec 1 := Scalar.cmpi .ne v19 v24
  let v26 : BitVec 32 := Scalar.remsi v13 c2_i32
  let c0_i32_9 : BitVec 32 := 0#32
  let v27 : BitVec 1 := Scalar.cmpi .ne v26 c0_i32_9
  let v28 : BitVec 1 := Scalar.andi v25 v27
  let v14 : BitVec 32 := Scalar.divsi v13 c2_i32
  let c1_i32_10 : BitVec 32 := 1#32
  let v29 : BitVec 32 := Scalar.subi v14 c1_i32_10
  let v30 : BitVec 32 := Scalar.select v28 v29 v14
  let v129 : BitVec 32 := Scalar.muli c2_i32_62 v30
  let c1_i32_123 : BitVec 32 := 1#32
  let v244 : BitVec 32 := Scalar.addi v129 c1_i32_123
  let c0_i32_158 : BitVec 32 := 0#32
  let v305 : BitVec 1 := Scalar.cmpi .eq v244 c0_i32_158
  let c1_i32_159 : BitVec 32 := 1#32
  let v306 : BitVec 32 := Scalar.subi v244 c1_i32_159
  let v307 : BitVec 32 := Scalar.select v305 arg7 v306
  let v330 : Index := Scalar.indexCast v307
  let c160_174 : Index := 160#32
  let c0_175 : Index := 0#32
  ![0, v330.toNat, 160, 0]
def k0_off108 (k0_t1 : Fin k0_t1_loop.trips) : Fin 4 → Nat :=
  let c0_177 : Index := 0#32
  let c2_i32_62 : BitVec 32 := 2#32
  let c0_i32 : BitVec 32 := 0#32
  let c1_i32 : BitVec 32 := 1#32
  let arg7 : BitVec 32 := Scf.iv c0_i32 c1_i32 k0_t1
  let c1_i32_2 : BitVec 32 := 1#32
  let v11 : BitVec 32 := Scalar.addi arg7 c1_i32_2
  let c1_i32_4 : BitVec 32 := 1#32
  let v13 : BitVec 32 := Scalar.subi v11 c1_i32_4
  let c0_i32_5 : BitVec 32 := 0#32
  let v15 : BitVec 1 := Scalar.cmpi .sgt v13 c0_i32_5
  let v16 : BitVec 32 := Scalar.extui v15
  let c0_i32_6 : BitVec 32 := 0#32
  let v17 : BitVec 1 := Scalar.cmpi .slt v13 c0_i32_6
  let v18 : BitVec 32 := Scalar.extui v17
  let v19 : BitVec 32 := Scalar.subi v16 v18
  let c2_i32 : BitVec 32 := 2#32
  let c0_i32_7 : BitVec 32 := 0#32
  let v20 : BitVec 1 := Scalar.cmpi .sgt c2_i32 c0_i32_7
  let v21 : BitVec 32 := Scalar.extui v20
  let c0_i32_8 : BitVec 32 := 0#32
  let v22 : BitVec 1 := Scalar.cmpi .slt c2_i32 c0_i32_8
  let v23 : BitVec 32 := Scalar.extui v22
  let v24 : BitVec 32 := Scalar.subi v21 v23
  let v25 : BitVec 1 := Scalar.cmpi .ne v19 v24
  let v26 : BitVec 32 := Scalar.remsi v13 c2_i32
  let c0_i32_9 : BitVec 32 := 0#32
  let v27 : BitVec 1 := Scalar.cmpi .ne v26 c0_i32_9
  let v28 : BitVec 1 := Scalar.andi v25 v27
  let v14 : BitVec 32 := Scalar.divsi v13 c2_i32
  let c1_i32_10 : BitVec 32 := 1#32
  let v29 : BitVec 32 := Scalar.subi v14 c1_i32_10
  let v30 : BitVec 32 := Scalar.select v28 v29 v14
  let v129 : BitVec 32 := Scalar.muli c2_i32_62 v30
  let c1_i32_123 : BitVec 32 := 1#32
  let v244 : BitVec 32 := Scalar.addi v129 c1_i32_123
  let c0_i32_158 : BitVec 32 := 0#32
  let v305 : BitVec 1 := Scalar.cmpi .eq v244 c0_i32_158
  let c1_i32_159 : BitVec 32 := 1#32
  let v306 : BitVec 32 := Scalar.subi v244 c1_i32_159
  let v307 : BitVec 32 := Scalar.select v305 arg7 v306
  let v335 : Index := Scalar.indexCast v307
  let c240_178 : Index := 240#32
  let c0_179 : Index := 0#32
  ![0, v335.toNat, 240, 0]
def k0_off109 (k0_t1 : Fin k0_t1_loop.trips) : Fin 4 → Nat :=
  let c0_181 : Index := 0#32
  let c2_i32_62 : BitVec 32 := 2#32
  let c0_i32 : BitVec 32 := 0#32
  let c1_i32 : BitVec 32 := 1#32
  let arg7 : BitVec 32 := Scf.iv c0_i32 c1_i32 k0_t1
  let c1_i32_2 : BitVec 32 := 1#32
  let v11 : BitVec 32 := Scalar.addi arg7 c1_i32_2
  let c1_i32_4 : BitVec 32 := 1#32
  let v13 : BitVec 32 := Scalar.subi v11 c1_i32_4
  let c0_i32_5 : BitVec 32 := 0#32
  let v15 : BitVec 1 := Scalar.cmpi .sgt v13 c0_i32_5
  let v16 : BitVec 32 := Scalar.extui v15
  let c0_i32_6 : BitVec 32 := 0#32
  let v17 : BitVec 1 := Scalar.cmpi .slt v13 c0_i32_6
  let v18 : BitVec 32 := Scalar.extui v17
  let v19 : BitVec 32 := Scalar.subi v16 v18
  let c2_i32 : BitVec 32 := 2#32
  let c0_i32_7 : BitVec 32 := 0#32
  let v20 : BitVec 1 := Scalar.cmpi .sgt c2_i32 c0_i32_7
  let v21 : BitVec 32 := Scalar.extui v20
  let c0_i32_8 : BitVec 32 := 0#32
  let v22 : BitVec 1 := Scalar.cmpi .slt c2_i32 c0_i32_8
  let v23 : BitVec 32 := Scalar.extui v22
  let v24 : BitVec 32 := Scalar.subi v21 v23
  let v25 : BitVec 1 := Scalar.cmpi .ne v19 v24
  let v26 : BitVec 32 := Scalar.remsi v13 c2_i32
  let c0_i32_9 : BitVec 32 := 0#32
  let v27 : BitVec 1 := Scalar.cmpi .ne v26 c0_i32_9
  let v28 : BitVec 1 := Scalar.andi v25 v27
  let v14 : BitVec 32 := Scalar.divsi v13 c2_i32
  let c1_i32_10 : BitVec 32 := 1#32
  let v29 : BitVec 32 := Scalar.subi v14 c1_i32_10
  let v30 : BitVec 32 := Scalar.select v28 v29 v14
  let v129 : BitVec 32 := Scalar.muli c2_i32_62 v30
  let c1_i32_123 : BitVec 32 := 1#32
  let v244 : BitVec 32 := Scalar.addi v129 c1_i32_123
  let c0_i32_158 : BitVec 32 := 0#32
  let v305 : BitVec 1 := Scalar.cmpi .eq v244 c0_i32_158
  let c1_i32_159 : BitVec 32 := 1#32
  let v306 : BitVec 32 := Scalar.subi v244 c1_i32_159
  let v307 : BitVec 32 := Scalar.select v305 arg7 v306
  let v340 : Index := Scalar.indexCast v307
  let c320_182 : Index := 320#32
  let c0_183 : Index := 0#32
  ![0, v340.toNat, 320, 0]
def k0_off110 (k0_t1 : Fin k0_t1_loop.trips) : Fin 4 → Nat :=
  let c0_185 : Index := 0#32
  let c2_i32_62 : BitVec 32 := 2#32
  let c0_i32 : BitVec 32 := 0#32
  let c1_i32 : BitVec 32 := 1#32
  let arg7 : BitVec 32 := Scf.iv c0_i32 c1_i32 k0_t1
  let c1_i32_2 : BitVec 32 := 1#32
  let v11 : BitVec 32 := Scalar.addi arg7 c1_i32_2
  let c1_i32_4 : BitVec 32 := 1#32
  let v13 : BitVec 32 := Scalar.subi v11 c1_i32_4
  let c0_i32_5 : BitVec 32 := 0#32
  let v15 : BitVec 1 := Scalar.cmpi .sgt v13 c0_i32_5
  let v16 : BitVec 32 := Scalar.extui v15
  let c0_i32_6 : BitVec 32 := 0#32
  let v17 : BitVec 1 := Scalar.cmpi .slt v13 c0_i32_6
  let v18 : BitVec 32 := Scalar.extui v17
  let v19 : BitVec 32 := Scalar.subi v16 v18
  let c2_i32 : BitVec 32 := 2#32
  let c0_i32_7 : BitVec 32 := 0#32
  let v20 : BitVec 1 := Scalar.cmpi .sgt c2_i32 c0_i32_7
  let v21 : BitVec 32 := Scalar.extui v20
  let c0_i32_8 : BitVec 32 := 0#32
  let v22 : BitVec 1 := Scalar.cmpi .slt c2_i32 c0_i32_8
  let v23 : BitVec 32 := Scalar.extui v22
  let v24 : BitVec 32 := Scalar.subi v21 v23
  let v25 : BitVec 1 := Scalar.cmpi .ne v19 v24
  let v26 : BitVec 32 := Scalar.remsi v13 c2_i32
  let c0_i32_9 : BitVec 32 := 0#32
  let v27 : BitVec 1 := Scalar.cmpi .ne v26 c0_i32_9
  let v28 : BitVec 1 := Scalar.andi v25 v27
  let v14 : BitVec 32 := Scalar.divsi v13 c2_i32
  let c1_i32_10 : BitVec 32 := 1#32
  let v29 : BitVec 32 := Scalar.subi v14 c1_i32_10
  let v30 : BitVec 32 := Scalar.select v28 v29 v14
  let v129 : BitVec 32 := Scalar.muli c2_i32_62 v30
  let c1_i32_123 : BitVec 32 := 1#32
  let v244 : BitVec 32 := Scalar.addi v129 c1_i32_123
  let c0_i32_158 : BitVec 32 := 0#32
  let v305 : BitVec 1 := Scalar.cmpi .eq v244 c0_i32_158
  let c1_i32_159 : BitVec 32 := 1#32
  let v306 : BitVec 32 := Scalar.subi v244 c1_i32_159
  let v307 : BitVec 32 := Scalar.select v305 arg7 v306
  let v345 : Index := Scalar.indexCast v307
  let c400_186 : Index := 400#32
  let c0_187 : Index := 0#32
  ![0, v345.toNat, 400, 0]
def k0_off111 (k0_t1 : Fin k0_t1_loop.trips) : Fin 4 → Nat :=
  let c0_189 : Index := 0#32
  let c2_i32_62 : BitVec 32 := 2#32
  let c0_i32 : BitVec 32 := 0#32
  let c1_i32 : BitVec 32 := 1#32
  let arg7 : BitVec 32 := Scf.iv c0_i32 c1_i32 k0_t1
  let c1_i32_2 : BitVec 32 := 1#32
  let v11 : BitVec 32 := Scalar.addi arg7 c1_i32_2
  let c1_i32_4 : BitVec 32 := 1#32
  let v13 : BitVec 32 := Scalar.subi v11 c1_i32_4
  let c0_i32_5 : BitVec 32 := 0#32
  let v15 : BitVec 1 := Scalar.cmpi .sgt v13 c0_i32_5
  let v16 : BitVec 32 := Scalar.extui v15
  let c0_i32_6 : BitVec 32 := 0#32
  let v17 : BitVec 1 := Scalar.cmpi .slt v13 c0_i32_6
  let v18 : BitVec 32 := Scalar.extui v17
  let v19 : BitVec 32 := Scalar.subi v16 v18
  let c2_i32 : BitVec 32 := 2#32
  let c0_i32_7 : BitVec 32 := 0#32
  let v20 : BitVec 1 := Scalar.cmpi .sgt c2_i32 c0_i32_7
  let v21 : BitVec 32 := Scalar.extui v20
  let c0_i32_8 : BitVec 32 := 0#32
  let v22 : BitVec 1 := Scalar.cmpi .slt c2_i32 c0_i32_8
  let v23 : BitVec 32 := Scalar.extui v22
  let v24 : BitVec 32 := Scalar.subi v21 v23
  let v25 : BitVec 1 := Scalar.cmpi .ne v19 v24
  let v26 : BitVec 32 := Scalar.remsi v13 c2_i32
  let c0_i32_9 : BitVec 32 := 0#32
  let v27 : BitVec 1 := Scalar.cmpi .ne v26 c0_i32_9
  let v28 : BitVec 1 := Scalar.andi v25 v27
  let v14 : BitVec 32 := Scalar.divsi v13 c2_i32
  let c1_i32_10 : BitVec 32 := 1#32
  let v29 : BitVec 32 := Scalar.subi v14 c1_i32_10
  let v30 : BitVec 32 := Scalar.select v28 v29 v14
  let v129 : BitVec 32 := Scalar.muli c2_i32_62 v30
  let c1_i32_123 : BitVec 32 := 1#32
  let v244 : BitVec 32 := Scalar.addi v129 c1_i32_123
  let c0_i32_158 : BitVec 32 := 0#32
  let v305 : BitVec 1 := Scalar.cmpi .eq v244 c0_i32_158
  let c1_i32_159 : BitVec 32 := 1#32
  let v306 : BitVec 32 := Scalar.subi v244 c1_i32_159
  let v307 : BitVec 32 := Scalar.select v305 arg7 v306
  let v350 : Index := Scalar.indexCast v307
  let c480_190 : Index := 480#32
  let c0_191 : Index := 0#32
  ![0, v350.toNat, 480, 0]
def k0_off112 (k0_t1 : Fin k0_t1_loop.trips) : Fin 4 → Nat :=
  let c0_193 : Index := 0#32
  let c2_i32_62 : BitVec 32 := 2#32
  let c0_i32 : BitVec 32 := 0#32
  let c1_i32 : BitVec 32 := 1#32
  let arg7 : BitVec 32 := Scf.iv c0_i32 c1_i32 k0_t1
  let c1_i32_2 : BitVec 32 := 1#32
  let v11 : BitVec 32 := Scalar.addi arg7 c1_i32_2
  let c1_i32_4 : BitVec 32 := 1#32
  let v13 : BitVec 32 := Scalar.subi v11 c1_i32_4
  let c0_i32_5 : BitVec 32 := 0#32
  let v15 : BitVec 1 := Scalar.cmpi .sgt v13 c0_i32_5
  let v16 : BitVec 32 := Scalar.extui v15
  let c0_i32_6 : BitVec 32 := 0#32
  let v17 : BitVec 1 := Scalar.cmpi .slt v13 c0_i32_6
  let v18 : BitVec 32 := Scalar.extui v17
  let v19 : BitVec 32 := Scalar.subi v16 v18
  let c2_i32 : BitVec 32 := 2#32
  let c0_i32_7 : BitVec 32 := 0#32
  let v20 : BitVec 1 := Scalar.cmpi .sgt c2_i32 c0_i32_7
  let v21 : BitVec 32 := Scalar.extui v20
  let c0_i32_8 : BitVec 32 := 0#32
  let v22 : BitVec 1 := Scalar.cmpi .slt c2_i32 c0_i32_8
  let v23 : BitVec 32 := Scalar.extui v22
  let v24 : BitVec 32 := Scalar.subi v21 v23
  let v25 : BitVec 1 := Scalar.cmpi .ne v19 v24
  let v26 : BitVec 32 := Scalar.remsi v13 c2_i32
  let c0_i32_9 : BitVec 32 := 0#32
  let v27 : BitVec 1 := Scalar.cmpi .ne v26 c0_i32_9
  let v28 : BitVec 1 := Scalar.andi v25 v27
  let v14 : BitVec 32 := Scalar.divsi v13 c2_i32
  let c1_i32_10 : BitVec 32 := 1#32
  let v29 : BitVec 32 := Scalar.subi v14 c1_i32_10
  let v30 : BitVec 32 := Scalar.select v28 v29 v14
  let v129 : BitVec 32 := Scalar.muli c2_i32_62 v30
  let c1_i32_123 : BitVec 32 := 1#32
  let v244 : BitVec 32 := Scalar.addi v129 c1_i32_123
  let c0_i32_158 : BitVec 32 := 0#32
  let v305 : BitVec 1 := Scalar.cmpi .eq v244 c0_i32_158
  let c1_i32_159 : BitVec 32 := 1#32
  let v306 : BitVec 32 := Scalar.subi v244 c1_i32_159
  let v307 : BitVec 32 := Scalar.select v305 arg7 v306
  let v355 : Index := Scalar.indexCast v307
  let c560_194 : Index := 560#32
  let c0_195 : Index := 0#32
  ![0, v355.toNat, 560, 0]
def k0_off113 (k0_t1 : Fin k0_t1_loop.trips) : Fin 3 → Nat :=
  let c0_67 : Index := 0#32
  let c0_i32 : BitVec 32 := 0#32
  let c1_i32 : BitVec 32 := 1#32
  let arg7 : BitVec 32 := Scf.iv c0_i32 c1_i32 k0_t1
  let c256_i32 : BitVec 32 := 256#32
  let v1 : BitVec 32 := Scalar.muli arg7 c256_i32
  let v2 : BitVec 32 := v1
  let v150 : Index := Scalar.indexCast v2
  let c0_68 : Index := 0#32
  ![0, v150.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x640x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Kernel4Ideal.lean ====
variable {F : FTy → Type} [FloatOps F] [Named F]
def κ : String → Option EReal := fun
  | "mask" => some ⊥
  | "scale" => some (((Real.log 2)⁻¹ * (Real.sqrt 96)⁻¹ : ℝ) : EReal)
  | _ => none
-- ==== Reference4Ideal.lean ====
abbrev S8x2048x8x96 : Shape := ⟨4, ![8, 2048, 8, 96]⟩
abbrev S8x2048x8x64 : Shape := ⟨4, ![8, 2048, 8, 64]⟩
abbrev S2048 : Shape := ⟨1, ![2048]⟩
abbrev S8x8x2048x2048 : Shape := ⟨4, ![8, 8, 2048, 2048]⟩
abbrev S_ : Shape := ⟨0, ![]⟩
abbrev S1x2048 : Shape := ⟨2, ![1, 2048]⟩
abbrev S2048x1 : Shape := ⟨2, ![2048, 1]⟩
abbrev S2048x2048 : Shape := ⟨2, ![2048, 2048]⟩
abbrev S8x8x2048 : Shape := ⟨3, ![8, 8, 2048]⟩
abbrev S8x8x2048x1 : Shape := ⟨4, ![8, 8, 2048, 1]⟩
abbrev S8x8x64x2048 : Shape := ⟨4, ![8, 8, 64, 2048]⟩
abbrev S8x2048x512 : Shape := ⟨3, ![8, 2048, 512]⟩

abbrev nBuf : Space → Nat
  | .hbm => 37
  | .vmem => 0
  | .smem => 0
  | _ => 0

abbrev bufTy : (tb : Table) → Fin (tcTables nBuf tb) → BufTy
  | .hbm, ⟨0, _⟩ => ⟨S8x2048x8x96, .f32⟩
  | .hbm, ⟨1, _⟩ => ⟨S8x2048x8x96, .f32⟩
  | .hbm, ⟨2, _⟩ => ⟨S8x2048x8x64, .f32⟩
  | .hbm, ⟨3, _⟩ => ⟨S2048, .i32⟩
  | .hbm, ⟨4, _⟩ => ⟨S8x8x2048x2048, .f32⟩
  | .hbm, ⟨5, _⟩ => ⟨S_, .f32⟩
  | .hbm, ⟨6, _⟩ => ⟨S_, .f32⟩
  | .hbm, ⟨7, _⟩ => ⟨S8x8x2048x2048, .f32⟩
  | .hbm, ⟨8, _⟩ => ⟨S8x8x2048x2048, .f32⟩
  | .hbm, ⟨9, _⟩ => ⟨S1x2048, .i32⟩
  | .hbm, ⟨10, _⟩ => ⟨S2048x1, .i32⟩
  | .hbm, ⟨11, _⟩ => ⟨S2048x2048, .i32⟩
  | .hbm, ⟨12, _⟩ => ⟨S2048x2048, .i32⟩
  | .hbm, ⟨13, _⟩ => ⟨S2048x2048, .i1⟩
  | .hbm, ⟨14, _⟩ => ⟨S_, .f32⟩
  | .hbm, ⟨15, _⟩ => ⟨S_, .f32⟩
  | .hbm, ⟨16, _⟩ => ⟨S8x8x2048x2048, .i1⟩
  | .hbm, ⟨17, _⟩ => ⟨S8x8x2048x2048, .f32⟩
  | .hbm, ⟨18, _⟩ => ⟨S8x8x2048x2048, .f32⟩
  | .hbm, ⟨19, _⟩ => ⟨S_, .f32⟩
  | .hbm, ⟨20, _⟩ => ⟨S8x8x2048, .f32⟩
  | .hbm, ⟨21, _⟩ => ⟨S_, .f32⟩
  | .hbm, ⟨22, _⟩ => ⟨S8x8x2048, .f32⟩
  | .hbm, ⟨23, _⟩ => ⟨S8x8x2048, .f32⟩
  | .hbm, ⟨24, _⟩ => ⟨S8x8x2048x1, .f32⟩
  | .hbm, ⟨25, _⟩ => ⟨S8x8x2048x2048, .f32⟩
  | .hbm, ⟨26, _⟩ => ⟨S8x8x2048x2048, .f32⟩
  | .hbm, ⟨27, _⟩ => ⟨S8x8x2048x2048, .f32⟩
  | .hbm, ⟨28, _⟩ => ⟨S_, .f32⟩
  | .hbm, ⟨29, _⟩ => ⟨S8x8x2048, .f32⟩
  | .hbm, ⟨30, _⟩ => ⟨S8x8x2048x1, .f32⟩
  | .hbm, ⟨31, _⟩ => ⟨S8x8x2048x2048, .f32⟩
  | .hbm, ⟨32, _⟩ => ⟨S8x8x2048x2048, .f32⟩
  | .hbm, ⟨33, _⟩ => ⟨S8x8x64x2048, .f32⟩
  | .hbm, ⟨34, _⟩ => ⟨S8x2048x8x64, .f32⟩
  | .hbm, ⟨35, _⟩ => ⟨S8x2048x512, .f32⟩
  | .hbm, ⟨36, _⟩ => ⟨S8x2048x512, .bf16⟩
  | _, _ => ⟨S8x2048x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩

abbrev nD : Nat := 1
abbrev τ : Topo := Topo.v7x

variable {F : FTy → Type} [FloatOps F]
-- ==== Proof.SoftmaxSpec.lean ====
/-
  The softmax-weighted sum over the extended reals, in the two ways that the attention programs spell it: by powers of two
  of scores that a constant has scaled, the quotient taken once of the weighted sum, and by exponentials, the quotient
  taken of each weight.
-/
module

public import Idealize.ShloMosaic.Lib.Pointwise

@[expose] public section

noncomputable section

namespace Cert.Proof.Softmax

open Idealize.ShloMosaic

/-- The reciprocal of the natural logarithm of two. -/
abbrev L : EReal := (((Real.log 2)⁻¹ : ℝ) : EReal)

theorem L_pos : (0 : ℝ) < (Real.log 2)⁻¹ := inv_pos.mpr (Real.log_pos one_lt_two)

theorem L_nonneg : (0 : EReal) ≤ L := EReal.coe_nonneg.mpr L_pos.le

theorem L_ne_top : L ≠ ⊤ := EReal.coe_ne_top _

/-- A power of two of a scaled exponent is the exponential. -/
theorem exp2_mul (y : EReal) : Ideal.exp2 (L * y) = Ideal.exp y := by
  induction y using EReal.rec with
  | bot => rw [EReal.coe_mul_bot_of_pos L_pos]; rfl
  | top => rw [EReal.coe_mul_top_of_pos L_pos]; rfl
  | coe r =>
    rw [← EReal.coe_mul]
    show ((Real.rpow 2 _ : ℝ) : EReal) = ((Real.exp r : ℝ) : EReal)
    congr 1
    rw [show Real.rpow 2 ((Real.log 2)⁻¹ * r) = (2 : ℝ) ^ ((Real.log 2)⁻¹ * r) from rfl, Real.rpow_def_of_pos two_pos, ← mul_assoc, mul_inv_cancel₀ (Real.log_pos one_lt_two).ne', one_mul]

/-- The scaling constant distributes over a sum. -/
theorem L_add (x y : EReal) : L * (x + y) = L * x + L * y :=
  EReal.left_distrib_of_nonneg_of_ne_top L_nonneg L_ne_top x y

theorem L_sub (x y : EReal) : L * (x - y) = L * x - L * y := by
  rw [sub_eq_add_neg, L_add, sub_eq_add_neg, mul_comm L (-y), EReal.neg_mul, mul_comm y]

/-- So a power of two of a difference of scaled scores is the exponential of the difference. -/
theorem exp2_sub (x y : EReal) : Ideal.exp2 (L * x - L * y) = Ideal.exp (x - y) := by
  rw [← L_sub, exp2_mul]

theorem L_bot : L * (⊥ : EReal) = ⊥ := EReal.coe_mul_bot_of_pos L_pos

theorem L_mono : Monotone (fun x : EReal => L * x) := fun _ _ h => mul_le_mul_of_nonneg_left h L_nonneg

theorem L_max (x y : EReal) : L * max x y = max (L * x) (L * y) := L_mono.map_max

theorem L_sup {ι : Type} (s : Finset ι) (f : ι → EReal) : s.sup (fun i => L * f i) = L * s.sup f :=
  (Finset.comp_sup_eq_sup_comp_of_is_total (fun x : EReal => L * x) L_mono L_bot).symm

/-- A real constant above zero comes out of a sum. -/
theorem sum_mul_coe {ι : Type} (s : Finset ι) (f : ι → EReal) (c : ℝ) (hc : 0 ≤ c) :
    ∑ i ∈ s, f i * (c : EReal) = (∑ i ∈ s, f i) * c := by
  classical
  induction s using Finset.induction_on with
  | empty => simp
  | insert a s ha ih =>
    rw [Finset.sum_insert ha, Finset.sum_insert ha, ih,
      EReal.right_distrib_of_nonneg_of_ne_top (EReal.coe_nonneg.mpr hc) (EReal.coe_ne_top _)]

/-- The same constant on the left. -/
theorem sum_coe_mul {ι : Type} (s : Finset ι) (f : ι → EReal) (c : ℝ) (hc : 0 ≤ c) :
    ∑ i ∈ s, (c : EReal) * f i = c * ∑ i ∈ s, f i := by
  simp only [mul_comm (c : EReal)]; exact sum_mul_coe s f c hc

/-- The exponential of a masked score is zero. -/
theorem exp_bot_sub (m : EReal) : Ideal.exp (⊥ - m) = 0 := by
  rw [sub_eq_add_neg, EReal.bot_add]; rfl

/-- The exponential of an extended real other than +∞ is a real. -/
theorem exp_real (x : EReal) (h : x ≠ ⊤) : ∃ r : ℝ, 0 ≤ r ∧ Ideal.exp x = r := by
  induction x using EReal.rec with
  | bot => exact ⟨0, le_refl _, rfl⟩
  | top => exact absurd rfl h
  | coe r => exact ⟨Real.exp r, (Real.exp_pos r).le, rfl⟩

theorem sub_real_ne_top {x : EReal} (h : x ≠ ⊤) (m : ℝ) : x - (m : EReal) ≠ ⊤ := by
  induction x using EReal.rec with
  | bot => rw [sub_eq_add_neg, EReal.bot_add]; exact bot_ne_top
  | top => exact absurd rfl h
  | coe r => rw [← EReal.coe_sub]; exact EReal.coe_ne_top _

/-- A sum of exponentials of scores below +∞, over a real, is a real not below zero. -/
theorem sum_exp_real {ι : Type} (s : Finset ι) (f : ι → EReal) (h : ∀ i, f i ≠ ⊤) (m : ℝ) :
    ∃ r : ℝ, 0 ≤ r ∧ ∑ i ∈ s, Ideal.exp (f i - m) = r := by
  classical
  choose g hg0 hg using fun i => exp_real (f i - m) (sub_real_ne_top (h i) m)
  refine ⟨∑ i ∈ s, g i, Finset.sum_nonneg fun i _ => hg0 i, ?_⟩
  simp only [hg]
  induction s using Finset.induction_on with
  | empty => simp
  | insert a s ha ih => rw [Finset.sum_insert ha, Finset.sum_insert ha, ih, EReal.coe_add]

/-- A supremum of finitely many scores below +∞ is below +∞. -/
theorem sup_ne_top {ι : Type} (s : Finset ι) (f : ι → EReal) (h : ∀ i, f i ≠ ⊤) : s.sup f ≠ ⊤ :=
  (lt_top_iff_ne_top.mp ((Finset.sup_lt_iff bot_lt_top).mpr fun i _ => lt_top_iff_ne_top.mpr (h i)))

/-- The quotient taken once is the sum of the quotients. -/
theorem div_sum {ι : Type} (s : Finset ι) (p v : ι → EReal) (D : ℝ) (hD : 0 < D) :
    Ideal.div (∑ i ∈ s, v i * p i) D = ∑ i ∈ s, v i * Ideal.div (p i) D := by
  have h0 : (D : EReal) ≠ 0 := by simpa using hD.ne'
  unfold Ideal.div
  simp only [if_neg h0, ← mul_assoc]
  rw [← EReal.coe_inv, sum_mul_coe s _ _ (inv_nonneg.mpr hD.le)]

/-- A function of 2048 keys that is zero off the tile `t` of 128 and the tile before it sums to its sums over the two. -/
theorem tile_sum (t : ℕ) (ht : t < 16) (g : Fin 2048 → EReal) (h : ∀ j : Fin 2048, j.val / 128 ≠ t → j.val / 128 + 1 ≠ t → g j = 0) :
    ∑ j, g j = ∑ x : Fin 128, g ⟨128 * t + x, by omega⟩
      + ∑ x : Fin 128, if h0 : t = 0 then 0 else g ⟨128 * (t - 1) + x, by omega⟩ := by
  have e : ∀ f : Fin 2048 → EReal, ∑ j, f j = ∑ u : Fin 16, ∑ x : Fin 128, f ⟨128 * u + x, by omega⟩ := by
    intro f
    rw [← Fintype.sum_prod_type']
    refine (Fintype.sum_equiv (finProdFinEquiv (m := 16) (n := 128)) _ _ fun p => ?_).symm
    refine congrArg f (Fin.ext ?_)
    show 128 * p.1.val + p.2.val = p.2.val + 128 * p.1.val
    omega
  rw [e]
  by_cases h0 : t = 0
  · subst h0
    rw [Finset.sum_eq_single (⟨0, by omega⟩ : Fin 16)]
    · simp
    · intro u _ hu
      refine Finset.sum_eq_zero fun x _ => h _ ?_ ?_
      · show (128 * u.val + x.val) / 128 ≠ 0
        have : u.val ≠ 0 := fun h => hu (Fin.ext h)
        omega
      · show _ + 1 ≠ 0
        omega
    · intro h; exact absurd (Finset.mem_univ _) h
  · simp only [dif_neg h0]
    have hne : (⟨t, ht⟩ : Fin 16) ≠ ⟨t - 1, by omega⟩ := fun h => by have := congrArg Fin.val h; simp only at this; omega
    rw [Finset.sum_eq_add (⟨t, ht⟩ : Fin 16) ⟨t - 1, by omega⟩ hne]
    · intro u _ hu
      refine Finset.sum_eq_zero fun x _ => h _ ?_ ?_
      · show (128 * u.val + x.val) / 128 ≠ t
        have : u.val ≠ t := fun h => hu.1 (Fin.ext h)
        omega
      · show (128 * u.val + x.val) / 128 + 1 ≠ t
        have : u.val ≠ t - 1 := fun h => hu.2 (Fin.ext h)
        omega
    · intro h; exact absurd (Finset.mem_univ _) h
    · intro h; exact absurd (Finset.mem_univ _) h

/-- The largest of 2048 masked scores is the larger of the two tiles' largest. -/
theorem tile_sup (t : ℕ) (ht : t < 16) (s : Fin 2048 → EReal) (h : ∀ j : Fin 2048, j.val / 128 ≠ t → j.val / 128 + 1 ≠ t → s j = ⊥) :
    (Finset.univ.sup s : EReal) = max (Finset.univ.sup fun x : Fin 128 => s ⟨128 * t + x, by omega⟩)
      (Finset.univ.sup fun x : Fin 128 => if h0 : t = 0 then ⊥ else s ⟨128 * (t - 1) + x, by omega⟩) := by
  apply le_antisymm
  · refine Finset.sup_le fun j _ => ?_
    by_cases h1 : j.val / 128 = t
    · refine le_max_of_le_left ?_
      have := Finset.le_sup (f := fun x : Fin 128 => s ⟨128 * t + x, by omega⟩) (Finset.mem_univ ⟨j.val % 128, by omega⟩)
      have e : (⟨128 * t + j.val % 128, by omega⟩ : Fin 2048) = j := Fin.ext (by show 128 * t + j.val % 128 = j.val; omega)
      simpa only [e] using this
    · by_cases h2 : j.val / 128 + 1 = t
      · refine le_max_of_le_right ?_
        have h0 : t ≠ 0 := by omega
        have := Finset.le_sup (f := fun x : Fin 128 => if h0 : t = 0 then ⊥ else s ⟨128 * (t - 1) + x, by omega⟩)
          (Finset.mem_univ ⟨j.val % 128, by omega⟩)
        have e : (⟨128 * (t - 1) + j.val % 128, by omega⟩ : Fin 2048) = j :=
          Fin.ext (by show 128 * (t - 1) + j.val % 128 = j.val; omega)
        simpa only [e, dif_neg h0] using this
      · rw [h j h1 h2]; exact bot_le
  · refine max_le (Finset.sup_le fun x _ => Finset.le_sup (Finset.mem_univ _)) (Finset.sup_le fun x _ => ?_)
    by_cases h0 : t = 0
    · rw [dif_pos h0]; exact bot_le
    · rw [dif_neg h0]; exact Finset.le_sup (Finset.mem_univ _)

/-- The attention with a sink over a window of two tiles, as the kernel takes it: `a`, `b` the scaled masked scores of the
    query's own tile and of the tile before, `w` the scaled sink, `u`, `u'` the two tiles' values. -/
def windowed (a b u u' : Fin 128 → EReal) (w : EReal) : EReal :=
  let M := max (max (Finset.univ.sup a) (Finset.univ.sup b)) w
  Ideal.div (∑ x, u x * Ideal.exp2 (a x - M) + ∑ x, u' x * Ideal.exp2 (b x - M))
    ((∑ x, 1 * Ideal.exp2 (a x - M) + ∑ x, 1 * Ideal.exp2 (b x - M)) + Ideal.exp2 (w - M))

/-- The attention with a sink over all 2048 keys, as the reference takes it: `s` the masked scores, `σ` the sink, `v` the
    values. -/
def sinked (s v : Fin 2048 → EReal) (σ : EReal) : EReal :=
  let m := max (Finset.univ.sup s) σ
  ∑ j, v j * Ideal.div (Ideal.exp (s j - m)) (∑ j, Ideal.exp (s j - m) + Ideal.exp (σ - m))

/-- The two agree when the sink is a real and no score is +∞. -/
theorem windowed_eq (s v : Fin 2048 → EReal) (σ : ℝ) (t : ℕ) (ht : t < 16) (hs : ∀ j, s j ≠ ⊤)
    (hout : ∀ j : Fin 2048, j.val / 128 ≠ t → j.val / 128 + 1 ≠ t → s j = ⊥) (a b u u' : Fin 128 → EReal)
    (ha : ∀ x : Fin 128, a x = L * s ⟨128 * t + x, by omega⟩)
    (hb : ∀ x : Fin 128, b x = if h0 : t = 0 then ⊥ else L * s ⟨128 * (t - 1) + x, by omega⟩)
    (hu : ∀ x : Fin 128, u x = v ⟨128 * t + x, by omega⟩)
    (hu' : ∀ (x : Fin 128) (h0 : t ≠ 0), u' x = v ⟨128 * (t - 1) + x, by omega⟩) :
    windowed a b u u' (L * σ) = sinked s v σ := by
  unfold windowed sinked
  have hM : max (max (Finset.univ.sup a) (Finset.univ.sup b)) (L * σ) = L * max (Finset.univ.sup s) σ := by
    rw [L_max, tile_sup t ht s hout, L_max, ← L_sup, ← L_sup]
    refine congrArg₂ max (congrArg₂ max (congrArg _ (funext ha)) (congrArg _ (funext fun x => ?_))) rfl
    rw [hb]
    by_cases h0 : t = 0
    · rw [dif_pos h0, dif_pos h0, L_bot]
    · rw [dif_neg h0, dif_neg h0]
  simp only [hM]
  have hmr : ∃ m : ℝ, max (Finset.univ.sup s) (σ : EReal) = m := by
    refine ⟨(max (Finset.univ.sup s) (σ : EReal)).toReal, (EReal.coe_toReal ?_ ?_).symm⟩
    · exact (max_lt (lt_top_iff_ne_top.mpr (sup_ne_top _ _ hs)) (EReal.coe_lt_top σ)).ne
    · exact (lt_of_lt_of_le (EReal.bot_lt_coe σ) (le_max_right _ _)).ne'
  obtain ⟨m, hm⟩ := hmr
  rw [hm]
  have ea : ∀ x : Fin 128, Ideal.exp2 (a x - L * m) = Ideal.exp (s ⟨128 * t + x, by omega⟩ - m) := fun x => by rw [ha, exp2_sub]
  have eb : ∀ x : Fin 128, Ideal.exp2 (b x - L * m) = if h0 : t = 0 then 0 else Ideal.exp (s ⟨128 * (t - 1) + x, by omega⟩ - m) := fun x => by
    rw [hb]
    by_cases h0 : t = 0
    · rw [dif_pos h0, dif_pos h0, sub_eq_add_neg, EReal.bot_add]; rfl
    · rw [dif_neg h0, dif_neg h0, exp2_sub]
  have key : ∀ (z : Fin 2048 → EReal) (w w' : Fin 128 → EReal) (hw : ∀ x : Fin 128, w x = z ⟨128 * t + x, by omega⟩)
      (hw' : ∀ (x : Fin 128) (h0 : t ≠ 0), w' x = z ⟨128 * (t - 1) + x, by omega⟩),
      ∑ x, w x * Ideal.exp2 (a x - L * m) + ∑ x, w' x * Ideal.exp2 (b x - L * m) = ∑ j, z j * Ideal.exp (s j - m) := by
    intro z w w' hw hw'
    rw [tile_sum t ht (fun j => z j * Ideal.exp (s j - m)) (fun j h1 h2 => by rw [hout j h1 h2, exp_bot_sub, mul_zero])]
    refine congrArg₂ (· + ·) (Finset.sum_congr rfl fun x _ => ?_) (Finset.sum_congr rfl fun x _ => ?_)
    · rw [hw, ea]
    · rw [eb]
      by_cases h0 : t = 0
      · rw [dif_pos h0, dif_pos h0, mul_zero]
      · rw [dif_neg h0, dif_neg h0, hw' x h0]
  rw [key v u u' hu hu', key (fun _ => 1) (fun _ => 1) (fun _ => 1) (fun _ => rfl) (fun _ _ => rfl), exp2_sub]
  simp only [one_mul]
  obtain ⟨D, hD0, hD⟩ := sum_exp_real Finset.univ s hs m
  rw [hD]
  have hσ : Ideal.exp ((σ : EReal) - m) = ((Real.exp (σ - m) : ℝ) : EReal) := by rw [← EReal.coe_sub]; rfl
  rw [hσ, ← EReal.coe_add]
  exact div_sum _ _ _ _ (by have := Real.exp_pos (σ - m); linarith)

end Cert.Proof.Softmax

end
-- ==== Proof.SwaTile.lean ====
/-
  What one trip of the sliding-window attention's loop computes, entry by entry: `Softmax.windowed` on the masked scores of
  a query with the keys of its own tile of 128 and of the tile before. A trip takes four tiles side by side (two key-value
  heads times two tiles of queries), 512 columns each (four query heads times 128 queries).
-/
module

public import proofs.«01_k».proof.Proof.Gen.KernelIdeal.Value
public import proofs.«01_k».proof.Proof.SoftmaxSpec
public import Idealize.ShloMosaic.Lib.Pointwise

@[expose] public section

set_option maxRecDepth 16384

noncomputable section

namespace Cert.Proof.Swa

open Cert.KernelIdeal Cert.KernelIdeal.Gen
open Idealize.ShloMosaic Idealize.ShloMosaic.TcCoe Idealize.ShloMosaic.Tactic
open Cert.Proof.Softmax (L windowed)

/-- Column `c` of tile `i` among the four side by side. -/
abbrev col (i : Fin 4) (c : Fin 512) : Fin 2048 := ⟨512 * i + c, by omega⟩

/-- Column `j` of query head `g` among the four side by side. -/
abbrev hcol (g : Fin 4) (j : Fin 128) : Fin 512 := ⟨128 * g + j, by omega⟩

theorem cat_scores (x : Fin 4 → FVec Ideal S128x512 .f32) (h) (i : Fin 4) (r : Fin 128) (c : Fin 512) :
    concatenate S128x2048 1 [⟨S128x512, x 0⟩, ⟨S128x512, x 1⟩, ⟨S128x512, x 2⟩, ⟨S128x512, x 3⟩] h (ix2 r (col i c)) = x i (ix2 r c) := by
  fin_cases i <;> pointwise
  · rw [dif_neg (by omega), dif_neg (by omega), dif_pos (by omega)]; exact congrArg (x 2) (congrArg (ix2 r) (Fin.ext (by simp only []; omega)))
  · rw [dif_neg (by omega), dif_neg (by omega), dif_neg (by omega)]; exact congrArg (x 3) (congrArg (ix2 r) (Fin.ext (by simp only []; omega)))

theorem cat_sums (x : Fin 4 → FVec Ideal S80x512 .f32) (h) (i : Fin 4) (r : Fin 80) (c : Fin 512) :
    concatenate S80x2048 1 [⟨S80x512, x 0⟩, ⟨S80x512, x 1⟩, ⟨S80x512, x 2⟩, ⟨S80x512, x 3⟩] h (ix2 r (col i c)) = x i (ix2 r c) := by
  fin_cases i <;> pointwise
  · rw [dif_neg (by omega), dif_neg (by omega), dif_pos (by omega)]; exact congrArg (x 2) (congrArg (ix2 r) (Fin.ext (by simp only []; omega)))
  · rw [dif_neg (by omega), dif_neg (by omega), dif_neg (by omega)]; exact congrArg (x 3) (congrArg (ix2 r) (Fin.ext (by simp only []; omega)))

theorem cat_words (x : Fin 4 → IVec S1x512 32) (h) (i : Fin 4) (c : Fin 512) :
    concatenate S1x2048 1 [⟨S1x512, x 0⟩, ⟨S1x512, x 1⟩, ⟨S1x512, x 2⟩, ⟨S1x512, x 3⟩] h (ix2 0 (col i c)) = x i (ix2 0 c) := by
  fin_cases i <;> pointwise
  · rw [dif_neg (by omega), dif_neg (by omega), dif_pos (by omega)]; exact congrArg (x 2) (congrArg (ix2 0) (Fin.ext (by simp only []; omega)))
  · rw [dif_neg (by omega), dif_neg (by omega), dif_neg (by omega)]; exact congrArg (x 3) (congrArg (ix2 0) (Fin.ext (by simp only []; omega)))

theorem cat_biases (x : Fin 4 → FVec Ideal S128x128 .f32) (h) (g : Fin 4) (r j : Fin 128) :
    concatenate S128x512 1 [⟨S128x128, x 0⟩, ⟨S128x128, x 1⟩, ⟨S128x128, x 2⟩, ⟨S128x128, x 3⟩] h (ix2 r (hcol g j)) = x g (ix2 r j) := by
  fin_cases g <;> pointwise
  · rw [dif_neg (by omega), dif_neg (by omega), dif_pos (by omega)]; exact congrArg (x 2) (congrArg (ix2 r) (Fin.ext (by simp only []; omega)))
  · rw [dif_neg (by omega), dif_neg (by omega), dif_neg (by omega)]; exact congrArg (x 3) (congrArg (ix2 r) (Fin.ext (by simp only []; omega)))

theorem cat_queries (x : Fin 4 → FVec Ideal S128x64 .f32) (h) (g : Fin 4) (j : Fin 128) (k : Fin 64) :
    concatenate S512x64 0 [⟨S128x64, x 0⟩, ⟨S128x64, x 1⟩, ⟨S128x64, x 2⟩, ⟨S128x64, x 3⟩] h (ix2 (hcol g j) k) = x g (ix2 j k) := by
  fin_cases g <;> pointwise
  · rw [dif_neg (by omega), dif_neg (by omega), dif_pos (by omega)]; exact congrArg (x 2) (congrArg ((ix2 · k)) (Fin.ext (by simp only []; omega)))
  · rw [dif_neg (by omega), dif_neg (by omega), dif_neg (by omega)]; exact congrArg (x 3) (congrArg ((ix2 · k)) (Fin.ext (by simp only []; omega)))

/-- The queries' scale: the reciprocal of the root of the head size and of the natural logarithm of two. -/
abbrev S : EReal := (((Real.log 2)⁻¹ * (1 / 8) : ℝ) : EReal)

/-- The scaled scores of a tile's keys `k` with the four heads' queries `q` side by side, the scaled biases `b` added. -/
def score (q : Fin 4 → Vec Ideal S1x128x64 .f32) (b : Fin 4 → Vec Ideal S1x1x128x128 .f32) (k : Vec Ideal S1x128x64 .bf16) : FVec Ideal S128x512 .f32 :=
  k0_pay7 (k0_pay3 (q 0) (q 1) (q 2) (q 3)) (k0_pay4 (b 0)) (k0_pay5 (b 1)) (k0_pay6 (b 2)) (b 3) k

theorem scaled_apply (a0 a1 a2 a3 : Vec Ideal S1x128x64 .f32) (b0 b1 b2 : FVec Ideal S128x128 .f32) (b3 : Vec Ideal S1x1x128x128 .f32)
    (k : Vec Ideal S1x128x64 .bf16) (r : Fin 128) (c : Fin 512) :
    k0_pay7 (k0_pay3 a0 a1 a2 a3) b0 b1 b2 b3 k (ix2 r c)
      = ∑ e : Fin 64, k (ix3 0 r e) * (concatenate S512x64 0 [⟨S128x64, shapeCast S128x64 a0 shapeCasts_S1x128x64_S128x64⟩, ⟨S128x64, shapeCast S128x64 a1 shapeCasts_S1x128x64_S128x64⟩, ⟨S128x64, shapeCast S128x64 a2 shapeCasts_S1x128x64_S128x64⟩, ⟨S128x64, shapeCast S128x64 a3 shapeCasts_S1x128x64_S128x64⟩] concatenates_S128x64_S128x64_S128x64_S128x64_S512x64_d0 (ix2 c e) * S)
        + L * concatenate S128x512 1 [⟨S128x128, b0⟩, ⟨S128x128, b1⟩, ⟨S128x128, b2⟩, ⟨S128x128, shapeCast S128x128 b3 shapeCasts_S1x1x128x128_S128x128⟩] concatenates_S128x128_S128x128_S128x128_S128x128_S128x512_d1 (ix2 r c) := by
  unfold k0_pay7 k0_pay3
  dsimp only
  generalize concatenate S512x64 0 _ _ = A
  generalize concatenate S128x512 1 _ _ = B
  pointwise
  rfl

theorem score_apply (q : Fin 4 → Vec Ideal S1x128x64 .f32) (b : Fin 4 → Vec Ideal S1x1x128x128 .f32) (k : Vec Ideal S1x128x64 .bf16)
    (r : Fin 128) (g : Fin 4) (j : Fin 128) :
    score q b k (ix2 r (hcol g j)) = ∑ e : Fin 64, k (ix3 0 r e) * (q g (ix3 0 j e) * S) + L * b g (ix4 0 0 r j) := by
  unfold score
  rw [scaled_apply]
  refine congrArg₂ (· + ·) (Finset.sum_congr rfl fun e _ => congrArg (fun z => k (ix3 0 r e) * (z * S)) ?_) (congrArg (fun z => L * z) ?_)
  · refine (cat_queries (fun g => shapeCast S128x64 (q g) shapeCasts_S1x128x64_S128x64) _ g j e).trans ?_
    pointwise
  · refine (cat_biases (fun g => shapeCast S128x128 (b g) shapeCasts_S1x1x128x128_S128x128) _ g r j).trans ?_
    pointwise

/-- The low seven bits of a number. -/
theorem low_bits (n : ℕ) (h : n < 2 ^ 32) : IntOp.andi (BitVec.ofNat 32 n) 127#32 = BitVec.ofNat 32 (n % 128) := by
  apply BitVec.eq_of_toNat_eq
  show (BitVec.ofNat 32 n &&& 127#32).toNat = _
  rw [BitVec.toNat_and, BitVec.toNat_ofNat, BitVec.toNat_ofNat, BitVec.toNat_ofNat, Nat.mod_eq_of_lt h,
    Nat.mod_eq_of_lt (show n % 128 < 2 ^ 32 by omega)]
  exact Nat.and_two_pow_sub_one_eq_mod n 7

theorem select_le (a b : ℕ) (ha : a < 2 ^ 31) (hb : b < 2 ^ 31) (u v : EReal) :
    Scalar.select (IntOp.cmpi .sle (BitVec.ofNat 32 a) (BitVec.ofNat 32 b)) u v = if a ≤ b then u else v := by
  rw [WordCmp.cmpi_sle_ofNat ha hb]
  by_cases h : a ≤ b
  · rw [if_pos h, decide_eq_true h]; rfl
  · rw [if_neg h, decide_eq_false h]; rfl

theorem select_gt (a b : ℕ) (ha : a < 2 ^ 31) (hb : b < 2 ^ 31) (u v : EReal) :
    Scalar.select (IntOp.cmpi .sgt (BitVec.ofNat 32 a) (BitVec.ofNat 32 b)) u v = if b < a then u else v := by
  rw [WordCmp.cmpi_sgt_ofNat ha hb]
  by_cases h : b < a
  · rw [if_pos h, decide_eq_true h]; rfl
  · rw [if_neg h, decide_eq_false h]; rfl

/-- What is added to a query's number when there is no tile before its own. -/
abbrev gap (b : Bool) : ℕ := if b then 0 else 128

variable (x y : Fin 4 → FVec Ideal S128x512 .f32) (z : Fin 4 → IVec S1x512 32) (w : Fin 4 → Bool) (v225 : BitVec 32) (r : Fin 128) (i : Fin 4) (c : Fin 512)

/-- The own tile's scores, a key that comes after the query masked. -/
theorem own_apply :
    k0_pay42 (F := Ideal) (iota .tc S128x2048 32 [0] iota_S128x2048_d0_w32) k0_pay2 (x 0) (x 1) (x 2) (x 3) (ix2 r (col i c))
      = if r.val ≤ c.val % 128 then x i (ix2 r c) else ⊥ := by
  rw [← cat_scores x concatenates_S128x512_S128x512_S128x512_S128x512_S128x2048_d1 i r c]
  unfold k0_pay42
  dsimp only
  generalize concatenate S128x2048 1 _ _ = A
  pointwise [k0_pay2]
  rw [low_bits _ (by omega), select_le _ _ (by omega) (by omega), show (512 * i.val + c.val) % 128 = c.val % 128 by omega]
  rfl

/-- The scores of the tile before, a key out of the window masked, and every key where there is no such tile. -/
theorem before_apply (hz : ∀ i c, z i (ix2 0 c) = BitVec.ofNat 32 (gap (w i))) (h3 : z 3 = broadcast S1x512 (Scalar.select (Scalar.cmpi .sge v225 1#32) 0#32 128#32)) :
    k0_pay43 (F := Ideal) (iota .tc S128x2048 32 [0] iota_S128x2048_d0_w32) k0_pay2 (y 0) (z 0) (y 1) (z 1) (y 2) (z 2) v225 (y 3) (ix2 r (col i c))
      = if c.val % 128 + gap (w i) < r.val then y i (ix2 r c) else ⊥ := by
  rw [← cat_scores y concatenates_S128x512_S128x512_S128x512_S128x512_S128x2048_d1 i r c]
  have hw := (cat_words z concatenates_S1x512_S1x512_S1x512_S1x512_S1x2048_d1 i c).trans (hz i c)
  unfold k0_pay43
  dsimp only
  rw [← h3]
  generalize concatenate S128x2048 1 _ _ = A
  generalize hB : concatenate S1x2048 1 _ _ = B at hw ⊢
  pointwise [k0_pay2]
  have hg : gap (w i) ≤ 128 := by unfold gap; split <;> omega
  rw [hw, low_bits _ (by omega), show IntOp.addi (BitVec.ofNat 32 ((512 * i.val + c.val) % 128)) (BitVec.ofNat 32 (gap (w i))) = BitVec.ofNat 32 ((512 * i.val + c.val) % 128 + gap (w i)) from (BitVec.ofNat_add ..).symm,
    select_gt _ _ (by omega) (by omega), show (512 * i.val + c.val) % 128 = c.val % 128 by omega]
  rfl

theorem cat_sinks (x : Fin 16 → FVec Ideal S1x128 .f32) (h) (p : Fin 16) (j : Fin 128) :
    concatenate S1x2048 1 [⟨S1x128, x 0⟩, ⟨S1x128, x 1⟩, ⟨S1x128, x 2⟩, ⟨S1x128, x 3⟩, ⟨S1x128, x 4⟩, ⟨S1x128, x 5⟩, ⟨S1x128, x 6⟩, ⟨S1x128, x 7⟩, ⟨S1x128, x 8⟩, ⟨S1x128, x 9⟩, ⟨S1x128, x 10⟩, ⟨S1x128, x 11⟩, ⟨S1x128, x 12⟩, ⟨S1x128, x 13⟩, ⟨S1x128, x 14⟩, ⟨S1x128, x 15⟩] h (ix2 0 ⟨128 * p + j, by omega⟩)
      = x p (ix2 0 j) := by
  refine concatenate_ofFn_apply (N := 16) (t := S1x2048) (s₁ := S1x128) 1 x h rfl 128 rfl _ p ?_ (ix2 0 j) ?_ ?_
  · show (128 * p.val + j.val) / 128 = p.val
    omega
  · show j.val = (128 * p.val + j.val) % 128
    omega
  · intro b hb
    match b with
    | ⟨0, _⟩ => rfl
    | ⟨1, _⟩ => exact absurd rfl hb

/-- The scaled sinks, one per query head, along the columns. -/
def sinks (s : Fin 8 → Ideal .f32) : FVec Ideal S1x2048 .f32 :=
  k0_pay44 (k0_pay9 (s 0)) (k0_pay10 (s 1)) (k0_pay11 (s 2)) (k0_pay12 (s 3)) (k0_pay21 (s 0)) (k0_pay22 (s 1)) (k0_pay23 (s 2)) (k0_pay24 (s 3))
    (k0_pay31 (s 4)) (k0_pay32 (s 5)) (k0_pay33 (s 6)) (k0_pay34 (s 7)) (s 4) (s 5) (s 6) (s 7)

theorem sinks_apply (s : Fin 8 → Ideal .f32) (i g : Fin 4) (j : Fin 128) :
    sinks s (ix2 0 (col i (hcol g j))) = L * s ⟨4 * (i.val / 2) + g, by omega⟩ := by
  have h := cat_sinks (fun p => broadcast S1x128 (Scalar.mulf (Named.named (F := Ideal) κ "log2e" 0x3FB8AA3B#32) (s ⟨4 * (p.val / 8) + p.val % 4, by omega⟩)))
    concatenates_S1x128_S1x128_S1x128_S1x128_S1x128_S1x128_S1x128_S1x128_S1x128_S1x128_S1x128_S1x128_S1x128_S1x128_S1x128_S1x128_S1x2048_d1 ⟨4 * i + g, by omega⟩ j
  have hc : (col i (hcol g j)) = ⟨128 * (4 * i.val + g.val) + j.val, by omega⟩ := Fin.ext (by show 512 * i.val + (128 * g.val + j.val) = 128 * (4 * i.val + g.val) + j.val; omega)
  rw [hc]
  refine (show _ = _ from rfl).trans (h.trans ?_)
  pointwise
  refine congrArg (fun n => L * s n) (Fin.ext ?_)
  show 4 * ((4 * i.val + g.val) / 8) + (4 * i.val + g.val) % 4 = 4 * (i.val / 2) + g.val
  omega

/-- The largest score of each query. -/
theorem top_apply (P P' : FVec Ideal S128x2048 .f32) (Q : FVec Ideal S1x2048 .f32) (n : Fin 2048) :
    maximumf (maximumf (shapeCast S1x2048 (multiReduction .maximumf [0] S2048 P 0xFF800000#32 reduces_S128x2048_S2048 (.inl rfl) rfl) shapeCasts_S2048_S1x2048)
        (shapeCast S1x2048 (multiReduction .maximumf [0] S2048 P' 0xFF800000#32 reduces_S128x2048_S2048 (.inl rfl) rfl) shapeCasts_S2048_S1x2048)) Q (ix2 0 n)
      = max (max (Finset.univ.sup fun r : Fin 128 => P (ix2 r n)) (Finset.univ.sup fun r : Fin 128 => P' (ix2 r n))) (Q (ix2 0 n)) := by
  pointwise
  rfl

/-- The weights before the quotient. -/
theorem weight_apply (P : FVec Ideal S128x2048 .f32) (Q : FVec Ideal S1x2048 .f32) (r : Fin 128) (n : Fin 2048) :
    (truncf .bf16 (exp2 (subf P (broadcastTo S128x2048 Q broadcasts_S1x2048_S128x2048))) bitsLt_bf16_f32 : FVec Ideal S128x2048 .bf16) (ix2 r n)
      = Ideal.exp2 (P (ix2 r n) - Q (ix2 0 n)) := by
  pointwise
  rfl

end Cert.Proof.Swa

end
-- ==== Proof.SwaTile2.lean ====
/-
  What one trip of the sliding-window attention's loop stores, from its weights: the quotients of the weighted sums, each
  head's in its own columns.
-/
module

public import proofs.«01_k».proof.Proof.SwaTile
public import Idealize.ShloMosaic.Lib.Pointwise

@[expose] public section

set_option maxRecDepth 16384

noncomputable section

namespace Cert.Proof.Swa

open Cert.KernelIdeal Cert.KernelIdeal.Gen
open Idealize.ShloMosaic Idealize.ShloMosaic.TcCoe Idealize.ShloMosaic.Tactic
open Cert.Proof.Softmax (L windowed)

/-- The weighted sums over the tiles' sums of weights. -/
def quotients (s m : FVec Ideal S1x2048 .f32) (p p' : FVec Ideal S128x2048 .bf16) (u u' : Fin 4 → Vec Ideal S1x1x80x128 .bf16) : FVec Ideal S64x2048 .f32 :=
  k0_pay51 s m p p' (k0_pay48 p p' (u 0) (u' 0)) (k0_pay49 p p' (u 1) (u' 1)) (k0_pay50 (u 2)) (u' 2) (u 3) (u' 3)

/-- One tile's weighted sums. -/
def sums (p p' : FVec Ideal S128x512 .bf16) (u u' : Vec Ideal S1x1x80x128 .bf16) : FVec Ideal S80x512 .f32 :=
  addf (matmul (φ₁ := .bf16) dot_S80x128_S128x512_S80x512_1_0_0_1_n_n none (shapeCast S80x128 u shapeCasts_S1x1x80x128_S80x128) p (constant S80x512 .f32 0x00000000#32))
    (matmul (φ₁ := .bf16) dot_S80x128_S128x512_S80x512_1_0_0_1_n_n none (shapeCast S80x128 u' shapeCasts_S1x1x80x128_S80x128) p' (constant S80x512 .f32 0x00000000#32))

theorem sums_apply (p p' : FVec Ideal S128x512 .bf16) (u u' : Vec Ideal S1x1x80x128 .bf16) (d : Fin 80) (c : Fin 512) :
    sums p p' u u' (ix2 d c) = ∑ r : Fin 128, u (ix4 0 0 d r) * p (ix2 r c) + ∑ r : Fin 128, u' (ix4 0 0 d r) * p' (ix2 r c) := by
  unfold sums
  pointwise

theorem slice0 (p : FVec Ideal S128x2048 .bf16) (r : Fin 128) (c : Fin 512) : extractStridedSlice S128x512 ![0, 0] p slices_S128x2048_o0_0_S128x512 (ix2 r c) = p (ix2 r (col 0 c)) := by
  pointwise
  exact congrArg (fun n => p (ix2 r n)) (Fin.ext (by simp only [col]; omega))
theorem slice1 (p : FVec Ideal S128x2048 .bf16) (r : Fin 128) (c : Fin 512) : extractStridedSlice S128x512 ![0, 512] p slices_S128x2048_o0_512_S128x512 (ix2 r c) = p (ix2 r (col 1 c)) := by
  pointwise
  exact congrArg (fun n => p (ix2 r n)) (Fin.ext (by simp only [col]; omega))
theorem slice2 (p : FVec Ideal S128x2048 .bf16) (r : Fin 128) (c : Fin 512) : extractStridedSlice S128x512 ![0, 1024] p slices_S128x2048_o0_1024_S128x512 (ix2 r c) = p (ix2 r (col 2 c)) := by
  pointwise
  exact congrArg (fun n => p (ix2 r n)) (Fin.ext (by simp only [col]; omega))
theorem slice3 (p : FVec Ideal S128x2048 .bf16) (r : Fin 128) (c : Fin 512) : extractStridedSlice S128x512 ![0, 1536] p slices_S128x2048_o0_1536_S128x512 (ix2 r c) = p (ix2 r (col 3 c)) := by
  pointwise
  exact congrArg (fun n => p (ix2 r n)) (Fin.ext (by simp only [col]; omega))

/-- A quotient: the weighted sum of the values over the sum of the weights, the sink's own weight added. -/
theorem quotients_apply (s m : FVec Ideal S1x2048 .f32) (p p' : FVec Ideal S128x2048 .bf16) (u u' : Fin 4 → Vec Ideal S1x1x80x128 .bf16) (d : Fin 64) (i : Fin 4) (c : Fin 512) :
    quotients s m p p' u u' (ix2 d (col i c))
      = Ideal.div (∑ r : Fin 128, u i (ix4 0 0 ⟨d, by omega⟩ r) * p (ix2 r (col i c)) + ∑ r : Fin 128, u' i (ix4 0 0 ⟨d, by omega⟩ r) * p' (ix2 r (col i c)))
        ((∑ r : Fin 128, u i (ix4 0 0 64 r) * p (ix2 r (col i c)) + ∑ r : Fin 128, u' i (ix4 0 0 64 r) * p' (ix2 r (col i c)))
          + Ideal.exp2 (s (ix2 0 (col i c)) - m (ix2 0 (col i c)))) := by
  let X : Fin 4 → FVec Ideal S80x512 .f32 := ![
    sums (extractStridedSlice S128x512 ![0, 0] p slices_S128x2048_o0_0_S128x512) (extractStridedSlice S128x512 ![0, 0] p' slices_S128x2048_o0_0_S128x512) (u 0) (u' 0),
    sums (extractStridedSlice S128x512 ![0, 512] p slices_S128x2048_o0_512_S128x512) (extractStridedSlice S128x512 ![0, 512] p' slices_S128x2048_o0_512_S128x512) (u 1) (u' 1),
    sums (extractStridedSlice S128x512 ![0, 1024] p slices_S128x2048_o0_1024_S128x512) (extractStridedSlice S128x512 ![0, 1024] p' slices_S128x2048_o0_1024_S128x512) (u 2) (u' 2),
    sums (extractStridedSlice S128x512 ![0, 1536] p slices_S128x2048_o0_1536_S128x512) (extractStridedSlice S128x512 ![0, 1536] p' slices_S128x2048_o0_1536_S128x512) (u 3) (u' 3)]
  have hX : ∀ d : Fin 80, X i (ix2 d c) = ∑ r : Fin 128, u i (ix4 0 0 d r) * p (ix2 r (col i c)) + ∑ r : Fin 128, u' i (ix4 0 0 d r) * p' (ix2 r (col i c)) := by
    intro d
    fin_cases i
    · refine (sums_apply _ _ _ _ d c).trans ?_
      simp only [slice0]; rfl
    · refine (sums_apply _ _ _ _ d c).trans ?_
      simp only [slice1]; rfl
    · refine (sums_apply _ _ _ _ d c).trans ?_
      simp only [slice2]; rfl
    · refine (sums_apply _ _ _ _ d c).trans ?_
      simp only [slice3]; rfl
  have hc := fun d => (cat_sums X concatenates_S80x512_S80x512_S80x512_S80x512_S80x2048_d1 i d c).trans (hX d)
  have e : quotients s m p p' u u' = divf (extractStridedSlice S64x2048 ![0, 0] (concatenate S80x2048 1 [⟨S80x512, X 0⟩, ⟨S80x512, X 1⟩, ⟨S80x512, X 2⟩, ⟨S80x512, X 3⟩] concatenates_S80x512_S80x512_S80x512_S80x512_S80x2048_d1) slices_S80x2048_o0_0_S64x2048)
      (broadcastTo S64x2048 (addf (extractStridedSlice S1x2048 ![64, 0] (concatenate S80x2048 1 [⟨S80x512, X 0⟩, ⟨S80x512, X 1⟩, ⟨S80x512, X 2⟩, ⟨S80x512, X 3⟩] concatenates_S80x512_S80x512_S80x512_S80x512_S80x2048_d1) slices_S80x2048_o64_0_S1x2048) (exp2 (subf s m))) broadcasts_S1x2048_S64x2048) := rfl
  rw [e, ← hc, ← hc]
  generalize concatenate S80x2048 1 _ _ = A
  pointwise
  rfl

/-- The block a trip stores: head `h` of query `128 * a + r` in the columns from `64 * h` on. -/
def block (Y : FVec Ideal S64x2048 .f32) : FVec Ideal S1x256x512 .bf16 :=
  k0_pay1 Y (concatenate S64x256 1 [⟨S64x128, extractStridedSlice S64x128 ![0, 0] Y slices_S64x2048_o0_0_S64x128⟩, ⟨S64x128, extractStridedSlice S64x128 ![0, 512] Y slices_S64x2048_o0_512_S64x128⟩] concatenates_S64x128_S64x128_S64x256_d1)
    (concatenate S64x256 1 [⟨S64x128, extractStridedSlice S64x128 ![0, 128] Y slices_S64x2048_o0_128_S64x128⟩, ⟨S64x128, extractStridedSlice S64x128 ![0, 640] Y slices_S64x2048_o0_640_S64x128⟩] concatenates_S64x128_S64x128_S64x256_d1)
    (extractStridedSlice S64x128 ![0, 256] Y slices_S64x2048_o0_256_S64x128) (extractStridedSlice S64x128 ![0, 768] Y slices_S64x2048_o0_768_S64x128)

/-- Two tiles of queries of one head, one after the other. -/
theorem pair_apply (Y : FVec Ideal S64x2048 .f32) (p q : ℕ) (hp : p + 128 ≤ 2048) (hq : q + 128 ≤ 2048) (i1 i2 h) (d : Fin 64) (a : Fin 2) (r : Fin 128) :
    concatenate S64x256 1 [⟨S64x128, extractStridedSlice S64x128 ![0, p] Y i1⟩, ⟨S64x128, extractStridedSlice S64x128 ![0, q] Y i2⟩] h (ix2 d ⟨128 * a + r, by omega⟩)
      = Y (ix2 d ⟨(if a = 0 then p else q) + r, by split <;> omega⟩) := by
  fin_cases a <;> pointwise

theorem cat_heads (x : Fin 8 → FVec Ideal S64x256 .f32) (h) (g : Fin 8) (d : Fin 64) (n : Fin 256) :
    concatenate S512x256 0 [⟨S64x256, x 0⟩, ⟨S64x256, x 1⟩, ⟨S64x256, x 2⟩, ⟨S64x256, x 3⟩, ⟨S64x256, x 4⟩, ⟨S64x256, x 5⟩, ⟨S64x256, x 6⟩, ⟨S64x256, x 7⟩] h (ix2 ⟨64 * g + d, by omega⟩ n)
      = x g (ix2 d n) := by
  refine concatenate_ofFn_apply (N := 8) (t := S512x256) (s₁ := S64x256) 0 x h rfl 64 rfl _ g ?_ (ix2 d n) ?_ ?_
  · show (64 * g.val + d.val) / 64 = g.val
    omega
  · show d.val = (64 * g.val + d.val) % 64
    omega
  · intro b hb
    match b with
    | ⟨0, _⟩ => exact absurd rfl hb
    | ⟨1, _⟩ => rfl

theorem block_apply (Y : FVec Ideal S64x2048 .f32) (a : Fin 2) (r : Fin 128) (h : Fin 8) (d : Fin 64) :
    block Y (ix3 0 ⟨128 * a + r, by omega⟩ ⟨64 * h + d, by omega⟩)
      = Y (ix2 d (col ⟨2 * (h.val / 4) + a, by omega⟩ (hcol ⟨h.val % 4, by omega⟩ r))) := by
  let X : Fin 8 → FVec Ideal S64x256 .f32 := ![
    concatenate S64x256 1 [⟨S64x128, extractStridedSlice S64x128 ![0, 0] Y slices_S64x2048_o0_0_S64x128⟩, ⟨S64x128, extractStridedSlice S64x128 ![0, 512] Y slices_S64x2048_o0_512_S64x128⟩] concatenates_S64x128_S64x128_S64x256_d1,
    concatenate S64x256 1 [⟨S64x128, extractStridedSlice S64x128 ![0, 128] Y slices_S64x2048_o0_128_S64x128⟩, ⟨S64x128, extractStridedSlice S64x128 ![0, 640] Y slices_S64x2048_o0_640_S64x128⟩] concatenates_S64x128_S64x128_S64x256_d1,
    concatenate S64x256 1 [⟨S64x128, extractStridedSlice S64x128 ![0, 256] Y slices_S64x2048_o0_256_S64x128⟩, ⟨S64x128, extractStridedSlice S64x128 ![0, 768] Y slices_S64x2048_o0_768_S64x128⟩] concatenates_S64x128_S64x128_S64x256_d1,
    concatenate S64x256 1 [⟨S64x128, extractStridedSlice S64x128 ![0, 384] Y slices_S64x2048_o0_384_S64x128⟩, ⟨S64x128, extractStridedSlice S64x128 ![0, 896] Y slices_S64x2048_o0_896_S64x128⟩] concatenates_S64x128_S64x128_S64x256_d1,
    concatenate S64x256 1 [⟨S64x128, extractStridedSlice S64x128 ![0, 1024] Y slices_S64x2048_o0_1024_S64x128⟩, ⟨S64x128, extractStridedSlice S64x128 ![0, 1536] Y slices_S64x2048_o0_1536_S64x128⟩] concatenates_S64x128_S64x128_S64x256_d1,
    concatenate S64x256 1 [⟨S64x128, extractStridedSlice S64x128 ![0, 1152] Y slices_S64x2048_o0_1152_S64x128⟩, ⟨S64x128, extractStridedSlice S64x128 ![0, 1664] Y slices_S64x2048_o0_1664_S64x128⟩] concatenates_S64x128_S64x128_S64x256_d1,
    concatenate S64x256 1 [⟨S64x128, extractStridedSlice S64x128 ![0, 1280] Y slices_S64x2048_o0_1280_S64x128⟩, ⟨S64x128, extractStridedSlice S64x128 ![0, 1792] Y slices_S64x2048_o0_1792_S64x128⟩] concatenates_S64x128_S64x128_S64x256_d1,
    concatenate S64x256 1 [⟨S64x128, extractStridedSlice S64x128 ![0, 1408] Y slices_S64x2048_o0_1408_S64x128⟩, ⟨S64x128, extractStridedSlice S64x128 ![0, 1920] Y slices_S64x2048_o0_1920_S64x128⟩] concatenates_S64x128_S64x128_S64x256_d1]
  have hX : ∀ h : Fin 8, X h (ix2 d ⟨128 * a + r, by omega⟩) = Y (ix2 d (col ⟨2 * (h.val / 4) + a, by omega⟩ (hcol ⟨h.val % 4, by omega⟩ r))) := by
    intro h
    fin_cases h <;> refine (pair_apply Y _ _ (by omega) (by omega) _ _ concatenates_S64x128_S64x128_S64x256_d1 d a r).trans (congrArg (fun n => Y (ix2 d n)) (Fin.ext ?_)) <;>
      fin_cases a <;> (try simp [col, hcol]) <;> omega
  refine ((show block Y _ = concatenate S512x256 0 [⟨S64x256, X 0⟩, ⟨S64x256, X 1⟩, ⟨S64x256, X 2⟩, ⟨S64x256, X 3⟩, ⟨S64x256, X 4⟩, ⟨S64x256, X 5⟩, ⟨S64x256, X 6⟩, ⟨S64x256, X 7⟩] concatenates_S64x256_S64x256_S64x256_S64x256_S64x256_S64x256_S64x256_S64x256_S512x256_d0 (ix2 ⟨64 * h + d, by omega⟩ ⟨128 * a + r, by omega⟩) from ?_).trans (cat_heads X _ h d _)).trans (hX h)
  unfold block k0_pay1
  dsimp only
  generalize hA : concatenate S512x256 0 _ _ = A
  rw [show concatenate S512x256 0 [⟨S64x256, X 0⟩, ⟨S64x256, X 1⟩, ⟨S64x256, X 2⟩, ⟨S64x256, X 3⟩, ⟨S64x256, X 4⟩, ⟨S64x256, X 5⟩, ⟨S64x256, X 6⟩, ⟨S64x256, X 7⟩] concatenates_S64x256_S64x256_S64x256_S64x256_S64x256_S64x256_S64x256_S64x256_S512x256_d0 = A from hA]
  pointwise

section Trip

variable (q : Fin 4 → Fin 4 → Vec Ideal S1x128x64 .f32) (b b' : Fin 4 → Fin 4 → Vec Ideal S1x1x128x128 .f32) (k k' : Fin 4 → Vec Ideal S1x128x64 .bf16)
  (s : Fin 8 → Ideal .f32) (u u' : Fin 4 → Vec Ideal S1x1x80x128 .bf16) (z : Fin 4 → IVec S1x512 32) (w : Fin 4 → Bool) (v225 : BitVec 32)

/-- The masked scores of the four tiles' own keys. -/
def own : FVec Ideal S128x2048 .f32 :=
  k0_pay42 (iota .tc S128x2048 32 [0] iota_S128x2048_d0_w32) k0_pay2 (score (q 0) (b 0) (k 0)) (score (q 1) (b 1) (k 1)) (score (q 2) (b 2) (k 2)) (score (q 3) (b 3) (k 3))

/-- The masked scores of the keys of the tiles before. -/
def before : FVec Ideal S128x2048 .f32 :=
  k0_pay43 (iota .tc S128x2048 32 [0] iota_S128x2048_d0_w32) k0_pay2 (score (q 0) (b' 0) (k' 0)) (z 0) (score (q 1) (b' 1) (k' 1)) (z 1) (score (q 2) (b' 2) (k' 2)) (z 2) v225 (score (q 3) (b' 3) (k' 3))

/-- The largest of a query's scores and its sink. -/
def top (P P' : FVec Ideal S128x2048 .f32) (Q : FVec Ideal S1x2048 .f32) : FVec Ideal S1x2048 .f32 :=
  maximumf (maximumf (shapeCast S1x2048 (multiReduction .maximumf [0] S2048 P 0xFF800000#32 reduces_S128x2048_S2048 (.inl rfl) rfl) shapeCasts_S2048_S1x2048)
        (shapeCast S1x2048 (multiReduction .maximumf [0] S2048 P' 0xFF800000#32 reduces_S128x2048_S2048 (.inl rfl) rfl) shapeCasts_S2048_S1x2048)) Q

/-- The weights of the scores, a row's largest taken off. -/
def weights (P : FVec Ideal S128x2048 .f32) (Q : FVec Ideal S1x2048 .f32) : FVec Ideal S128x2048 .bf16 :=
  truncf .bf16 (exp2 (subf P (broadcastTo S128x2048 Q broadcasts_S1x2048_S128x2048))) bitsLt_bf16_f32

/-- What one trip stores, from what it loads. -/
def trip : FVec Ideal S1x256x512 .bf16 :=
  block (quotients (sinks s) (top (own q b k) (before q b' k' z v225) (sinks s))
    (weights (own q b k) (top (own q b k) (before q b' k' z v225) (sinks s)))
    (weights (before q b' k' z v225) (top (own q b k) (before q b' k' z v225) (sinks s))) u u')

theorem trip_apply (hz : ∀ i c, z i (ix2 0 c) = BitVec.ofNat 32 (gap (w i)))
    (h3 : z 3 = broadcast S1x512 (Scalar.select (Scalar.cmpi .sge v225 1#32) 0#32 128#32))
    (a : Fin 2) (r : Fin 128) (h : Fin 8) (d : Fin 64) (i g : Fin 4) (hi : i.val = 2 * (h.val / 4) + a) (hg : g.val = h.val % 4)
    (h1 : ∀ x, u i (ix4 0 0 64 x) = 1) (h1' : ∀ x, u' i (ix4 0 0 64 x) = 1) :
    trip q b b' k k' s u u' z v225 (ix3 0 ⟨128 * a + r, by omega⟩ ⟨64 * h + d, by omega⟩)
      = windowed (fun x => if x.val ≤ r.val then ∑ e : Fin 64, k i (ix3 0 x e) * (q i g (ix3 0 r e) * S) + L * b i g (ix4 0 0 x r) else ⊥)
          (fun x => if r.val + gap (w i) < x.val then ∑ e : Fin 64, k' i (ix3 0 x e) * (q i g (ix3 0 r e) * S) + L * b' i g (ix4 0 0 x r) else ⊥)
          (fun x => u i (ix4 0 0 ⟨d, by omega⟩ x)) (fun x => u' i (ix4 0 0 ⟨d, by omega⟩ x)) (L * s h) := by
  have hgg : (⟨h.val % 4, by omega⟩ : Fin 4) = g := Fin.ext hg.symm
  have hii : (⟨2 * (h.val / 4) + a, by omega⟩ : Fin 4) = i := Fin.ext hi.symm
  have hm : (hcol g r).val % 128 = r.val := by show (128 * g.val + r.val) % 128 = r.val; omega
  have hs : s ⟨4 * (i.val / 2) + g.val, by omega⟩ = s h := congrArg s (Fin.ext (by show 4 * (i.val / 2) + g.val = h.val; omega))
  have hown : ∀ x, own q b k (ix2 x (col i (hcol g r))) = if x.val ≤ r.val then ∑ e : Fin 64, k i (ix3 0 x e) * (q i g (ix3 0 r e) * S) + L * b i g (ix4 0 0 x r) else ⊥ := by
    intro x
    rw [← score_apply (q i) (b i) (k i)]
    have h := own_apply (fun i => score (q i) (b i) (k i)) x i (hcol g r)
    rw [hm] at h
    exact h
  have hbef : ∀ x, before q b' k' z v225 (ix2 x (col i (hcol g r))) = if r.val + gap (w i) < x.val then ∑ e : Fin 64, k' i (ix3 0 x e) * (q i g (ix3 0 r e) * S) + L * b' i g (ix4 0 0 x r) else ⊥ := by
    intro x
    rw [← score_apply (q i) (b' i) (k' i)]
    have h := before_apply (fun i => score (q i) (b' i) (k' i)) z w v225 x i (hcol g r) hz h3
    rw [hm] at h
    exact h
  have hsk : sinks s (ix2 0 (col i (hcol g r))) = L * s h := (sinks_apply s i g r).trans (congrArg (fun z => L * z) hs)
  unfold trip
  rw [block_apply, hgg, hii, quotients_apply]
  generalize own q b k = P at hown ⊢
  generalize before q b' k' z v225 = P' at hbef ⊢
  generalize sinks s = Q at hsk ⊢
  have ht : top P P' Q (ix2 0 (col i (hcol g r))) = _ := top_apply P P' Q (col i (hcol g r))
  have hw : ∀ x, weights P (top P P' Q) (ix2 x (col i (hcol g r))) = _ := fun x => weight_apply P (top P P' Q) x (col i (hcol g r))
  have hw' : ∀ x, weights P' (top P P' Q) (ix2 x (col i (hcol g r))) = _ := fun x => weight_apply P' (top P P' Q) x (col i (hcol g r))
  simp only [hw, hw', ht, hown, hbef, hsk, h1, h1']
  rfl

end Trip

end Cert.Proof.Swa

end
-- ==== Proof.SwaLoop.lean ====
/-
  What the sliding-window attention's body leaves in its output block, entry by entry: every entry is in one trip's block,
  and that trip's loads are its windows of the operands' blocks.
-/
module

public import proofs.«01_k».proof.Proof.SwaTile2
import all proofs.«01_k».proof.Proof.Gen.KernelIdeal.Loops
import all proofs.«01_k».proof.Proof.Gen.KernelIdeal.Frame.RunA

@[expose] public section

set_option maxRecDepth 16384

noncomputable section

namespace Cert.Proof.Swa

open Cert.KernelIdeal Cert.KernelIdeal.Gen
open Idealize.ShloMosaic Idealize.ShloMosaic.TcCoe Idealize.ShloMosaic.Tactic
open Cert.Proof.Softmax (L windowed)

theorem off_store : ∀ k : Fin k0_t1_loop.trips, k0_off17 k = ![0, 256 * k.val, 0] := by decide +kernel

theorem off_queries : ∀ k : Fin k0_t1_loop.trips, ∀ r : Fin 2,
    k0_off1 k (BitVec.ofNat 32 r.val) = ![0, 128 * (2 * k.val + r.val), 0] ∧ k0_off2 k (BitVec.ofNat 32 r.val) = ![0, 128 * (2 * k.val + r.val), 64]
      ∧ k0_off3 k (BitVec.ofNat 32 r.val) = ![0, 128 * (2 * k.val + r.val), 128] ∧ k0_off4 k (BitVec.ofNat 32 r.val) = ![0, 128 * (2 * k.val + r.val), 192]
      ∧ k0_off7 k (BitVec.ofNat 32 r.val) = ![0, 128 * (2 * k.val + r.val), 256] ∧ k0_off8 k (BitVec.ofNat 32 r.val) = ![0, 128 * (2 * k.val + r.val), 320]
      ∧ k0_off9 k (BitVec.ofNat 32 r.val) = ![0, 128 * (2 * k.val + r.val), 384] ∧ k0_off10 k (BitVec.ofNat 32 r.val) = ![0, 128 * (2 * k.val + r.val), 448] := by
  decide +kernel

theorem off_keys : ∀ k : Fin k0_t1_loop.trips, ∀ r : Fin 2,
    k0_off5 k (BitVec.ofNat 32 r.val) = ![0, 128 * (2 * k.val + r.val), 0] ∧ k0_off11 k (BitVec.ofNat 32 r.val) = ![0, 128 * (2 * k.val + r.val), 64]
      ∧ k0_off6 k (BitVec.ofNat 32 r.val) = ![0, 128 * (2 * k.val + r.val - 1), 0] ∧ k0_off12 k (BitVec.ofNat 32 r.val) = ![0, 128 * (2 * k.val + r.val - 1), 64] := by
  decide +kernel

theorem off_values : ∀ k : Fin k0_t1_loop.trips, ∀ r : Fin 2,
    k0_off13 k (BitVec.ofNat 32 r.val) = ![0, 2 * k.val + r.val, 0, 0] ∧ k0_off15 k (BitVec.ofNat 32 r.val) = ![0, 2 * k.val + r.val, 80, 0]
      ∧ k0_off14 k (BitVec.ofNat 32 r.val) = ![0, 2 * k.val + r.val - 1, 0, 0] ∧ k0_off16 k (BitVec.ofNat 32 r.val) = ![0, 2 * k.val + r.val - 1, 80, 0] := by
  decide +kernel

/-- A trip's number of its first and of its second tile of queries. -/
abbrev word (k : Fin k0_t1_loop.trips) (b : BitVec 32) : BitVec 32 := Scalar.addi (Scalar.muli (Scf.iv 0#32 1#32 k) 2#32) b

theorem gap_first : ∀ k : Fin k0_t1_loop.trips, Scalar.select (Scalar.cmpi .sge (word k 0#32) 1#32) 0#32 128#32 = BitVec.ofNat 32 (gap (decide (2 * k.val ≠ 0))) := by decide +kernel

theorem gap_second : ∀ k : Fin k0_t1_loop.trips, Scalar.select (Scalar.cmpi .sge (word k 1#32) 1#32) 0#32 128#32 = BitVec.ofNat 32 (gap (decide (2 * k.val + 1 ≠ 0))) := by decide +kernel

section Loads

variable (x0 : Vec Ideal S8 .f32) (x1 : Vec Ideal S1x2048x512 .f32) (x2 : Vec Ideal S1x2048x128 .bf16) (x3 : Vec Ideal S1x16x160x128 .bf16) (x4 : Vec Ideal S8x2x128x128 .f32) (k : Fin k0_t1_loop.trips)

/-- The queries a trip loads, per item and query head. -/
def Q : Fin 4 → Fin 4 → Vec Ideal S1x128x64 .f32 := ![![View.ld x1 (Rect.unit (k0_off1 k 0#32) S1x128x64.size (k0_off1_inb k 0)), View.ld x1 (Rect.unit (k0_off2 k 0#32) S1x128x64.size (k0_off2_inb k 0)), View.ld x1 (Rect.unit (k0_off3 k 0#32) S1x128x64.size (k0_off3_inb k 0)), View.ld x1 (Rect.unit (k0_off4 k 0#32) S1x128x64.size (k0_off4_inb k 0))],
    ![View.ld x1 (Rect.unit (k0_off1 k 1#32) S1x128x64.size (k0_off1_inb k 1)), View.ld x1 (Rect.unit (k0_off2 k 1#32) S1x128x64.size (k0_off2_inb k 1)), View.ld x1 (Rect.unit (k0_off3 k 1#32) S1x128x64.size (k0_off3_inb k 1)), View.ld x1 (Rect.unit (k0_off4 k 1#32) S1x128x64.size (k0_off4_inb k 1))],
    ![View.ld x1 (Rect.unit (k0_off7 k 0#32) S1x128x64.size (k0_off7_inb k 0)), View.ld x1 (Rect.unit (k0_off8 k 0#32) S1x128x64.size (k0_off8_inb k 0)), View.ld x1 (Rect.unit (k0_off9 k 0#32) S1x128x64.size (k0_off9_inb k 0)), View.ld x1 (Rect.unit (k0_off10 k 0#32) S1x128x64.size (k0_off10_inb k 0))],
    ![View.ld x1 (Rect.unit (k0_off7 k 1#32) S1x128x64.size (k0_off7_inb k 1)), View.ld x1 (Rect.unit (k0_off8 k 1#32) S1x128x64.size (k0_off8_inb k 1)), View.ld x1 (Rect.unit (k0_off9 k 1#32) S1x128x64.size (k0_off9_inb k 1)), View.ld x1 (Rect.unit (k0_off10 k 1#32) S1x128x64.size (k0_off10_inb k 1))]]

/-- The biases against a tile's own keys. -/
def B : Fin 4 → Fin 4 → Vec Ideal S1x1x128x128 .f32 := ![![View.ld x4 (Rect.unit ![0, 0, 0, 0] S1x1x128x128.size inb_S8x2x128x128_S1x1x128x128_0_0_0_0), View.ld x4 (Rect.unit ![1, 0, 0, 0] S1x1x128x128.size inb_S8x2x128x128_S1x1x128x128_1_0_0_0), View.ld x4 (Rect.unit ![2, 0, 0, 0] S1x1x128x128.size inb_S8x2x128x128_S1x1x128x128_2_0_0_0), View.ld x4 (Rect.unit ![3, 0, 0, 0] S1x1x128x128.size inb_S8x2x128x128_S1x1x128x128_3_0_0_0)],
    ![View.ld x4 (Rect.unit ![0, 0, 0, 0] S1x1x128x128.size inb_S8x2x128x128_S1x1x128x128_0_0_0_0), View.ld x4 (Rect.unit ![1, 0, 0, 0] S1x1x128x128.size inb_S8x2x128x128_S1x1x128x128_1_0_0_0), View.ld x4 (Rect.unit ![2, 0, 0, 0] S1x1x128x128.size inb_S8x2x128x128_S1x1x128x128_2_0_0_0), View.ld x4 (Rect.unit ![3, 0, 0, 0] S1x1x128x128.size inb_S8x2x128x128_S1x1x128x128_3_0_0_0)],
    ![View.ld x4 (Rect.unit ![4, 0, 0, 0] S1x1x128x128.size inb_S8x2x128x128_S1x1x128x128_4_0_0_0), View.ld x4 (Rect.unit ![5, 0, 0, 0] S1x1x128x128.size inb_S8x2x128x128_S1x1x128x128_5_0_0_0), View.ld x4 (Rect.unit ![6, 0, 0, 0] S1x1x128x128.size inb_S8x2x128x128_S1x1x128x128_6_0_0_0), View.ld x4 (Rect.unit ![7, 0, 0, 0] S1x1x128x128.size inb_S8x2x128x128_S1x1x128x128_7_0_0_0)],
    ![View.ld x4 (Rect.unit ![4, 0, 0, 0] S1x1x128x128.size inb_S8x2x128x128_S1x1x128x128_4_0_0_0), View.ld x4 (Rect.unit ![5, 0, 0, 0] S1x1x128x128.size inb_S8x2x128x128_S1x1x128x128_5_0_0_0), View.ld x4 (Rect.unit ![6, 0, 0, 0] S1x1x128x128.size inb_S8x2x128x128_S1x1x128x128_6_0_0_0), View.ld x4 (Rect.unit ![7, 0, 0, 0] S1x1x128x128.size inb_S8x2x128x128_S1x1x128x128_7_0_0_0)]]

/-- The biases against the keys of the tile before. -/
def B' : Fin 4 → Fin 4 → Vec Ideal S1x1x128x128 .f32 := ![![View.ld x4 (Rect.unit ![0, 1, 0, 0] S1x1x128x128.size inb_S8x2x128x128_S1x1x128x128_0_1_0_0), View.ld x4 (Rect.unit ![1, 1, 0, 0] S1x1x128x128.size inb_S8x2x128x128_S1x1x128x128_1_1_0_0), View.ld x4 (Rect.unit ![2, 1, 0, 0] S1x1x128x128.size inb_S8x2x128x128_S1x1x128x128_2_1_0_0), View.ld x4 (Rect.unit ![3, 1, 0, 0] S1x1x128x128.size inb_S8x2x128x128_S1x1x128x128_3_1_0_0)],
    ![View.ld x4 (Rect.unit ![0, 1, 0, 0] S1x1x128x128.size inb_S8x2x128x128_S1x1x128x128_0_1_0_0), View.ld x4 (Rect.unit ![1, 1, 0, 0] S1x1x128x128.size inb_S8x2x128x128_S1x1x128x128_1_1_0_0), View.ld x4 (Rect.unit ![2, 1, 0, 0] S1x1x128x128.size inb_S8x2x128x128_S1x1x128x128_2_1_0_0), View.ld x4 (Rect.unit ![3, 1, 0, 0] S1x1x128x128.size inb_S8x2x128x128_S1x1x128x128_3_1_0_0)],
    ![View.ld x4 (Rect.unit ![4, 1, 0, 0] S1x1x128x128.size inb_S8x2x128x128_S1x1x128x128_4_1_0_0), View.ld x4 (Rect.unit ![5, 1, 0, 0] S1x1x128x128.size inb_S8x2x128x128_S1x1x128x128_5_1_0_0), View.ld x4 (Rect.unit ![6, 1, 0, 0] S1x1x128x128.size inb_S8x2x128x128_S1x1x128x128_6_1_0_0), View.ld x4 (Rect.unit ![7, 1, 0, 0] S1x1x128x128.size inb_S8x2x128x128_S1x1x128x128_7_1_0_0)],
    ![View.ld x4 (Rect.unit ![4, 1, 0, 0] S1x1x128x128.size inb_S8x2x128x128_S1x1x128x128_4_1_0_0), View.ld x4 (Rect.unit ![5, 1, 0, 0] S1x1x128x128.size inb_S8x2x128x128_S1x1x128x128_5_1_0_0), View.ld x4 (Rect.unit ![6, 1, 0, 0] S1x1x128x128.size inb_S8x2x128x128_S1x1x128x128_6_1_0_0), View.ld x4 (Rect.unit ![7, 1, 0, 0] S1x1x128x128.size inb_S8x2x128x128_S1x1x128x128_7_1_0_0)]]

/-- The keys of a tile. -/
def K : Fin 4 → Vec Ideal S1x128x64 .bf16 := ![View.ld x2 (Rect.unit (k0_off5 k 0#32) S1x128x64.size (k0_off5_inb k 0)),
    View.ld x2 (Rect.unit (k0_off5 k 1#32) S1x128x64.size (k0_off5_inb k 1)),
    View.ld x2 (Rect.unit (k0_off11 k 0#32) S1x128x64.size (k0_off11_inb k 0)),
    View.ld x2 (Rect.unit (k0_off11 k 1#32) S1x128x64.size (k0_off11_inb k 1))]

/-- The keys of the tile before. -/
def K' : Fin 4 → Vec Ideal S1x128x64 .bf16 := ![View.ld x2 (Rect.unit (k0_off6 k 0#32) S1x128x64.size (k0_off6_inb k 0)),
    View.ld x2 (Rect.unit (k0_off6 k 1#32) S1x128x64.size (k0_off6_inb k 1)),
    View.ld x2 (Rect.unit (k0_off12 k 0#32) S1x128x64.size (k0_off12_inb k 0)),
    View.ld x2 (Rect.unit (k0_off12 k 1#32) S1x128x64.size (k0_off12_inb k 1))]

/-- The values of a tile, with their rows of ones. -/
def U : Fin 4 → Vec Ideal S1x1x80x128 .bf16 := ![View.ld x3 (Rect.unit (k0_off13 k 0#32) S1x1x80x128.size (k0_off13_inb k 0)),
    View.ld x3 (Rect.unit (k0_off13 k 1#32) S1x1x80x128.size (k0_off13_inb k 1)),
    View.ld x3 (Rect.unit (k0_off15 k 0#32) S1x1x80x128.size (k0_off15_inb k 0)),
    View.ld x3 (Rect.unit (k0_off15 k 1#32) S1x1x80x128.size (k0_off15_inb k 1))]

/-- The values of the tile before. -/
def U' : Fin 4 → Vec Ideal S1x1x80x128 .bf16 := ![View.ld x3 (Rect.unit (k0_off14 k 0#32) S1x1x80x128.size (k0_off14_inb k 0)),
    View.ld x3 (Rect.unit (k0_off14 k 1#32) S1x1x80x128.size (k0_off14_inb k 1)),
    View.ld x3 (Rect.unit (k0_off16 k 0#32) S1x1x80x128.size (k0_off16_inb k 0)),
    View.ld x3 (Rect.unit (k0_off16 k 1#32) S1x1x80x128.size (k0_off16_inb k 1))]

/-- The sinks. -/
def W : Fin 8 → Ideal .f32 := ![(View.ld x0 (Rect.unit ![0] S1.size inb_S8_S1_0) : Vec Ideal S1 .f32) (Shape.Idx.first (by decide)),
    (View.ld x0 (Rect.unit ![1] S1.size inb_S8_S1_1) : Vec Ideal S1 .f32) (Shape.Idx.first (by decide)),
    (View.ld x0 (Rect.unit ![2] S1.size inb_S8_S1_2) : Vec Ideal S1 .f32) (Shape.Idx.first (by decide)),
    (View.ld x0 (Rect.unit ![3] S1.size inb_S8_S1_3) : Vec Ideal S1 .f32) (Shape.Idx.first (by decide)),
    (View.ld x0 (Rect.unit ![4] S1.size inb_S8_S1_4) : Vec Ideal S1 .f32) (Shape.Idx.first (by decide)),
    (View.ld x0 (Rect.unit ![5] S1.size inb_S8_S1_5) : Vec Ideal S1 .f32) (Shape.Idx.first (by decide)),
    (View.ld x0 (Rect.unit ![6] S1.size inb_S8_S1_6) : Vec Ideal S1 .f32) (Shape.Idx.first (by decide)),
    (View.ld x0 (Rect.unit ![7] S1.size inb_S8_S1_7) : Vec Ideal S1 .f32) (Shape.Idx.first (by decide))]

/-- What each item adds to a query's number in the window's comparison. -/
def Z : Fin 4 → IVec S1x512 32 := ![broadcast S1x512 (Scalar.select (Scalar.cmpi .sge (word k 0#32) 1#32) 0#32 128#32), fun _ => 0#32,
    broadcast S1x512 (Scalar.select (Scalar.cmpi .sge (word k 0#32) 1#32) 0#32 128#32), broadcast S1x512 (Scalar.select (Scalar.cmpi .sge (word k 1#32) 1#32) 0#32 128#32)]

end Loads

section Words

variable (q : Fin 4 → Vec Ideal S1x128x64 .f32) (b : Fin 4 → Vec Ideal S1x1x128x128 .f32) (k : Vec Ideal S1x128x64 .bf16)

theorem score_y0 : k0_pay8 (k0_pay3 (q 0) (q 1) (q 2) (q 3)) (b 0) (b 1) (b 2) (b 3) k = score q b k := rfl

theorem score_x1 : k0_pay19 (k0_pay16 (k0_pay14 (q 0) (q 1) (q 2) (q 3)) k0_pay15) (k0_pay17 (b 0) (b 1) (b 2) (b 3)) k = score q b k := rfl

theorem score_y1 : k0_pay20 (k0_pay16 (k0_pay14 (q 0) (q 1) (q 2) (q 3)) k0_pay15) (k0_pay18 (b 0) (b 1) (b 2) (b 3)) k = score q b k := rfl

theorem score_x2 : k0_pay29 (k0_pay26 (q 0) (q 1) (q 2) (q 3)) (k0_pay27 (b 0) (b 1) (b 2) (b 3)) k = score q b k := rfl

theorem score_y2 : k0_pay30 (k0_pay26 (q 0) (q 1) (q 2) (q 3)) (k0_pay28 (b 0)) (b 1) (b 2) (b 3) k = score q b k := rfl

theorem score_x3 : k0_pay40 (k0_pay36 (q 0) (q 1) (q 2) (q 3)) (k0_pay37 (b 0)) (k0_pay38 (b 1)) (k0_pay39 (b 2)) (b 3) k = score q b k := rfl

theorem score_y3 : k0_pay41 (k0_pay36 (q 0) (q 1) (q 2) (q 3)) (b 0) (b 1) (b 2) (b 3) k = score q b k := rfl

end Words

section Tops

variable (x y : Fin 4 → FVec Ideal S128x512 .f32) (s : Fin 8 → Ideal .f32) (w6 w79 : BitVec 32)

/-- The masked scores of the own keys, from the scores. -/
abbrev P1 : FVec Ideal S128x2048 .f32 := k0_pay42 (iota .tc S128x2048 32 [0] iota_S128x2048_d0_w32) k0_pay2 (x 0) (x 1) (x 2) (x 3)

/-- The masked scores of the keys before, from the scores. -/
abbrev P2 : FVec Ideal S128x2048 .f32 := k0_pay43 (iota .tc S128x2048 32 [0] iota_S128x2048_d0_w32) k0_pay2 (y 0) (k0_pay13 w6) (y 1) (fun _ => 0#32) (y 2) (k0_pay35 w6) w79 (y 3)

theorem top_word : k0_pay45 (iota .tc S128x2048 32 [0] iota_S128x2048_d0_w32) k0_pay2 (x 0) (y 0) (k0_pay9 (s 0)) (k0_pay10 (s 1)) (k0_pay11 (s 2)) (k0_pay12 (s 3)) (k0_pay13 w6) (x 1) (y 1) (k0_pay21 (s 0)) (k0_pay22 (s 1)) (k0_pay23 (s 2)) (k0_pay24 (s 3)) (fun _ => 0#32)
    (x 2) (y 2) (k0_pay31 (s 4)) (k0_pay32 (s 5)) (k0_pay33 (s 6)) (k0_pay34 (s 7)) (k0_pay35 w6) w79 (x 3) (y 3) (s 4) (s 5) (s 6) (s 7) = top (P1 x) (P2 y w6 w79) (sinks s) := rfl

theorem own_word : k0_pay46 (iota .tc S128x2048 32 [0] iota_S128x2048_d0_w32) k0_pay2 (x 0) (y 0) (k0_pay9 (s 0)) (k0_pay10 (s 1)) (k0_pay11 (s 2)) (k0_pay12 (s 3)) (k0_pay13 w6) (x 1) (y 1) (k0_pay21 (s 0)) (k0_pay22 (s 1)) (k0_pay23 (s 2)) (k0_pay24 (s 3)) (fun _ => 0#32)
    (x 2) (y 2) (k0_pay31 (s 4)) (k0_pay32 (s 5)) (k0_pay33 (s 6)) (k0_pay34 (s 7)) (k0_pay35 w6) w79 (x 3) (y 3) (s 4) (s 5) (s 6) (s 7) = weights (P1 x) (top (P1 x) (P2 y w6 w79) (sinks s)) := rfl

theorem before_word : k0_pay47 (iota .tc S128x2048 32 [0] iota_S128x2048_d0_w32) k0_pay2 (x 0) (y 0) (k0_pay9 (s 0)) (k0_pay10 (s 1)) (k0_pay11 (s 2)) (k0_pay12 (s 3)) (k0_pay13 w6) (x 1) (y 1) (k0_pay21 (s 0)) (k0_pay22 (s 1)) (k0_pay23 (s 2)) (k0_pay24 (s 3)) (fun _ => 0#32)
    (x 2) (y 2) (k0_pay31 (s 4)) (k0_pay32 (s 5)) (k0_pay33 (s 6)) (k0_pay34 (s 7)) (k0_pay35 w6) w79 (x 3) (y 3) (s 4) (s 5) (s 6) (s 7) = weights (P2 y w6 w79) (top (P1 x) (P2 y w6 w79) (sinks s)) := rfl

end Tops

section Words

variable (q : Fin 4 → Fin 4 → Vec Ideal S1x128x64 .f32) (b b' : Fin 4 → Fin 4 → Vec Ideal S1x1x128x128 .f32) (k k' : Fin 4 → Vec Ideal S1x128x64 .bf16)
  (s : Fin 8 → Ideal .f32) (u u' : Fin 4 → Vec Ideal S1x1x80x128 .bf16) (w6 w79 : BitVec 32)

/-- The trip as the body's words state it. -/
def tripWord : FVec Ideal S1x256x512 .bf16 :=
  block (quotients (sinks s)
    (k0_pay45 (iota .tc S128x2048 32 [0] iota_S128x2048_d0_w32) k0_pay2 (k0_pay7 (k0_pay3 (q 0 0) (q 0 1) (q 0 2) (q 0 3)) (k0_pay4 (b 0 0)) (k0_pay5 (b 0 1)) (k0_pay6 (b 0 2)) (b 0 3) (k 0)) (k0_pay8 (k0_pay3 (q 0 0) (q 0 1) (q 0 2) (q 0 3)) (b' 0 0) (b' 0 1) (b' 0 2) (b' 0 3) (k' 0)) (k0_pay9 (s 0)) (k0_pay10 (s 1)) (k0_pay11 (s 2)) (k0_pay12 (s 3)) (k0_pay13 w6)
      (k0_pay19 (k0_pay16 (k0_pay14 (q 1 0) (q 1 1) (q 1 2) (q 1 3)) k0_pay15) (k0_pay17 (b 1 0) (b 1 1) (b 1 2) (b 1 3)) (k 1)) (k0_pay20 (k0_pay16 (k0_pay14 (q 1 0) (q 1 1) (q 1 2) (q 1 3)) k0_pay15) (k0_pay18 (b' 1 0) (b' 1 1) (b' 1 2) (b' 1 3)) (k' 1)) (k0_pay21 (s 0)) (k0_pay22 (s 1)) (k0_pay23 (s 2)) (k0_pay24 (s 3)) (fun _ => 0#32)
      (k0_pay29 (k0_pay26 (q 2 0) (q 2 1) (q 2 2) (q 2 3)) (k0_pay27 (b 2 0) (b 2 1) (b 2 2) (b 2 3)) (k 2)) (k0_pay30 (k0_pay26 (q 2 0) (q 2 1) (q 2 2) (q 2 3)) (k0_pay28 (b' 2 0)) (b' 2 1) (b' 2 2) (b' 2 3) (k' 2)) (k0_pay31 (s 4)) (k0_pay32 (s 5)) (k0_pay33 (s 6)) (k0_pay34 (s 7)) (k0_pay35 w6) w79
      (k0_pay40 (k0_pay36 (q 3 0) (q 3 1) (q 3 2) (q 3 3)) (k0_pay37 (b 3 0)) (k0_pay38 (b 3 1)) (k0_pay39 (b 3 2)) (b 3 3) (k 3)) (k0_pay41 (k0_pay36 (q 3 0) (q 3 1) (q 3 2) (q 3 3)) (b' 3 0) (b' 3 1) (b' 3 2) (b' 3 3) (k' 3)) (s 4) (s 5) (s 6) (s 7))
    (k0_pay46 (iota .tc S128x2048 32 [0] iota_S128x2048_d0_w32) k0_pay2 (k0_pay7 (k0_pay3 (q 0 0) (q 0 1) (q 0 2) (q 0 3)) (k0_pay4 (b 0 0)) (k0_pay5 (b 0 1)) (k0_pay6 (b 0 2)) (b 0 3) (k 0)) (k0_pay8 (k0_pay3 (q 0 0) (q 0 1) (q 0 2) (q 0 3)) (b' 0 0) (b' 0 1) (b' 0 2) (b' 0 3) (k' 0)) (k0_pay9 (s 0)) (k0_pay10 (s 1)) (k0_pay11 (s 2)) (k0_pay12 (s 3)) (k0_pay13 w6)
      (k0_pay19 (k0_pay16 (k0_pay14 (q 1 0) (q 1 1) (q 1 2) (q 1 3)) k0_pay15) (k0_pay17 (b 1 0) (b 1 1) (b 1 2) (b 1 3)) (k 1)) (k0_pay20 (k0_pay16 (k0_pay14 (q 1 0) (q 1 1) (q 1 2) (q 1 3)) k0_pay15) (k0_pay18 (b' 1 0) (b' 1 1) (b' 1 2) (b' 1 3)) (k' 1)) (k0_pay21 (s 0)) (k0_pay22 (s 1)) (k0_pay23 (s 2)) (k0_pay24 (s 3)) (fun _ => 0#32)
      (k0_pay29 (k0_pay26 (q 2 0) (q 2 1) (q 2 2) (q 2 3)) (k0_pay27 (b 2 0) (b 2 1) (b 2 2) (b 2 3)) (k 2)) (k0_pay30 (k0_pay26 (q 2 0) (q 2 1) (q 2 2) (q 2 3)) (k0_pay28 (b' 2 0)) (b' 2 1) (b' 2 2) (b' 2 3) (k' 2)) (k0_pay31 (s 4)) (k0_pay32 (s 5)) (k0_pay33 (s 6)) (k0_pay34 (s 7)) (k0_pay35 w6) w79
      (k0_pay40 (k0_pay36 (q 3 0) (q 3 1) (q 3 2) (q 3 3)) (k0_pay37 (b 3 0)) (k0_pay38 (b 3 1)) (k0_pay39 (b 3 2)) (b 3 3) (k 3)) (k0_pay41 (k0_pay36 (q 3 0) (q 3 1) (q 3 2) (q 3 3)) (b' 3 0) (b' 3 1) (b' 3 2) (b' 3 3) (k' 3)) (s 4) (s 5) (s 6) (s 7))
    (k0_pay47 (iota .tc S128x2048 32 [0] iota_S128x2048_d0_w32) k0_pay2 (k0_pay7 (k0_pay3 (q 0 0) (q 0 1) (q 0 2) (q 0 3)) (k0_pay4 (b 0 0)) (k0_pay5 (b 0 1)) (k0_pay6 (b 0 2)) (b 0 3) (k 0)) (k0_pay8 (k0_pay3 (q 0 0) (q 0 1) (q 0 2) (q 0 3)) (b' 0 0) (b' 0 1) (b' 0 2) (b' 0 3) (k' 0)) (k0_pay9 (s 0)) (k0_pay10 (s 1)) (k0_pay11 (s 2)) (k0_pay12 (s 3)) (k0_pay13 w6)
      (k0_pay19 (k0_pay16 (k0_pay14 (q 1 0) (q 1 1) (q 1 2) (q 1 3)) k0_pay15) (k0_pay17 (b 1 0) (b 1 1) (b 1 2) (b 1 3)) (k 1)) (k0_pay20 (k0_pay16 (k0_pay14 (q 1 0) (q 1 1) (q 1 2) (q 1 3)) k0_pay15) (k0_pay18 (b' 1 0) (b' 1 1) (b' 1 2) (b' 1 3)) (k' 1)) (k0_pay21 (s 0)) (k0_pay22 (s 1)) (k0_pay23 (s 2)) (k0_pay24 (s 3)) (fun _ => 0#32)
      (k0_pay29 (k0_pay26 (q 2 0) (q 2 1) (q 2 2) (q 2 3)) (k0_pay27 (b 2 0) (b 2 1) (b 2 2) (b 2 3)) (k 2)) (k0_pay30 (k0_pay26 (q 2 0) (q 2 1) (q 2 2) (q 2 3)) (k0_pay28 (b' 2 0)) (b' 2 1) (b' 2 2) (b' 2 3) (k' 2)) (k0_pay31 (s 4)) (k0_pay32 (s 5)) (k0_pay33 (s 6)) (k0_pay34 (s 7)) (k0_pay35 w6) w79
      (k0_pay40 (k0_pay36 (q 3 0) (q 3 1) (q 3 2) (q 3 3)) (k0_pay37 (b 3 0)) (k0_pay38 (b 3 1)) (k0_pay39 (b 3 2)) (b 3 3) (k 3)) (k0_pay41 (k0_pay36 (q 3 0) (q 3 1) (q 3 2) (q 3 3)) (b' 3 0) (b' 3 1) (b' 3 2) (b' 3 3) (k' 3)) (s 4) (s 5) (s 6) (s 7)) u u')

theorem tripWord_eq : tripWord q b b' k k' s u u' w6 w79
    = trip q b b' k k' s u u' ![broadcast S1x512 (Scalar.select (Scalar.cmpi .sge w6 1#32) 0#32 128#32), fun _ => 0#32,
    broadcast S1x512 (Scalar.select (Scalar.cmpi .sge w6 1#32) 0#32 128#32), broadcast S1x512 (Scalar.select (Scalar.cmpi .sge w79 1#32) 0#32 128#32)] w79 := by
  unfold tripWord
  rw [score_y0, score_x1, score_y1, score_x2, score_y2, score_x3, score_y3]
  rw [show k0_pay7 (k0_pay3 (q 0 0) (q 0 1) (q 0 2) (q 0 3)) (k0_pay4 (b 0 0)) (k0_pay5 (b 0 1)) (k0_pay6 (b 0 2)) (b 0 3) (k 0) = score (q 0) (b 0) (k 0) from rfl]
  rw [top_word (fun i => score (q i) (b i) (k i)) (fun i => score (q i) (b' i) (k' i)), own_word (fun i => score (q i) (b i) (k i)) (fun i => score (q i) (b' i) (k' i)),
    before_word (fun i => score (q i) (b i) (k i)) (fun i => score (q i) (b' i) (k' i))]
  rfl

end Words

end Cert.Proof.Swa

end
-- ==== Proof.SwaTrip.lean ====
/-
  One trip of the sliding-window attention's loop, as the function of its loads that `SwaTile2` reads.
-/
module

public import proofs.«01_k».proof.Proof.SwaLoop
import all proofs.«01_k».proof.Proof.Gen.KernelIdeal.Loops
import all proofs.«01_k».proof.Proof.Gen.KernelIdeal.Frame.RunA

@[expose] public section

set_option maxRecDepth 16384

noncomputable section

namespace Cert.Proof.Swa

open Cert.KernelIdeal Cert.KernelIdeal.Gen
open Idealize.ShloMosaic Idealize.ShloMosaic.TcCoe Idealize.ShloMosaic.Tactic
open Cert.Proof.Softmax (L windowed)

set_option maxHeartbeats 1000000 in
theorem trip_list_word (𝒱 : Variants) (c : Dev nD) (bd : Option 𝒱.V) (i : grid0.Coords) (arg1 : Memref sig .tc .smem S8 .f32) (harg1 : arg1.IsWhole) (arg2 : Memref sig .tc .vmem S1x2048x512 .f32) (harg2 : arg2.IsWhole) (arg3 : Memref sig .tc .vmem S1x2048x128 .bf16) (harg3 : arg3.IsWhole) (arg4 : Memref sig .tc .vmem S1x16x160x128 .bf16) (harg4 : arg4.IsWhole) (arg5 : Memref sig .tc .vmem S8x2x128x128 .f32) (harg5 : arg5.IsWhole) (arg6 : Memref sig .tc .vmem S1x2048x512 .bf16) (harg6 : arg6.IsWhole)
    (X1 : BufTy.Contents (Elt Ideal) arg1.view.ty) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (k : Fin k0_t1_loop.trips) :
    tripL_k0_t1 (F := Ideal) 𝒱 c bd i arg1 harg1 arg2 harg2 arg3 harg3 arg4 harg4 arg5 harg5 arg6 harg6 X1 X2 X3 X4 X5 k
      = [⟨Rect.unit (k0_off17 k) S1x256x512.size (k0_off17_inb k), tripWord (Q (arg2.view.read (Elt Ideal) X2) k) (B (arg5.view.read (Elt Ideal) X5)) (B' (arg5.view.read (Elt Ideal) X5)) (K (arg3.view.read (Elt Ideal) X3) k) (K' (arg3.view.read (Elt Ideal) X3) k)
          (W (arg1.view.read (Elt Ideal) X1)) (U (arg4.view.read (Elt Ideal) X4) k) (U' (arg4.view.read (Elt Ideal) X4) k) (word k 0#32) (word k 1#32)⟩] := by
  delta tripL_k0_t1 trip_k0_t1
  dsimp only
  unfold tripWord Q B B' K K' W U U'
  simp only [Matrix.cons_val]
  rfl

theorem trip_list (𝒱 : Variants) (c : Dev nD) (bd : Option 𝒱.V) (i : grid0.Coords) (arg1 : Memref sig .tc .smem S8 .f32) (harg1 : arg1.IsWhole) (arg2 : Memref sig .tc .vmem S1x2048x512 .f32) (harg2 : arg2.IsWhole) (arg3 : Memref sig .tc .vmem S1x2048x128 .bf16) (harg3 : arg3.IsWhole) (arg4 : Memref sig .tc .vmem S1x16x160x128 .bf16) (harg4 : arg4.IsWhole) (arg5 : Memref sig .tc .vmem S8x2x128x128 .f32) (harg5 : arg5.IsWhole) (arg6 : Memref sig .tc .vmem S1x2048x512 .bf16) (harg6 : arg6.IsWhole)
    (X1 : BufTy.Contents (Elt Ideal) arg1.view.ty) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (k : Fin k0_t1_loop.trips) :
    tripL_k0_t1 (F := Ideal) 𝒱 c bd i arg1 harg1 arg2 harg2 arg3 harg3 arg4 harg4 arg5 harg5 arg6 harg6 X1 X2 X3 X4 X5 k
      = [⟨Rect.unit (k0_off17 k) S1x256x512.size (k0_off17_inb k), trip (Q (arg2.view.read (Elt Ideal) X2) k) (B (arg5.view.read (Elt Ideal) X5)) (B' (arg5.view.read (Elt Ideal) X5)) (K (arg3.view.read (Elt Ideal) X3) k) (K' (arg3.view.read (Elt Ideal) X3) k)
          (W (arg1.view.read (Elt Ideal) X1)) (U (arg4.view.read (Elt Ideal) X4) k) (U' (arg4.view.read (Elt Ideal) X4) k) (Z k) (word k 1#32)⟩] := by
  rw [trip_list_word, tripWord_eq]
  rfl

section Reads

theorem ld_queries (x : Vec Ideal S1x2048x512 .f32) (off) (inb) (o p : ℕ) (h : off = ![0, o, p]) (j : Fin 128) (e : Fin 64) (n : Fin 2048) (c : Fin 512) (hn : n.val = o + j) (hc : c.val = p + e) :
    View.ld x (Rect.unit off S1x128x64.size inb) (ix3 0 j e) = x (ix3 0 n c) := by
  subst h
  refine congrArg x (funext fun a => ?_)
  match a with
  | ⟨0, _⟩ => rfl
  | ⟨1, _⟩ => exact Fin.ext (by show o + 1 * j.val = n.val; omega)
  | ⟨2, _⟩ => exact Fin.ext (by show p + 1 * e.val = c.val; omega)

theorem ld_keys (x : Vec Ideal S1x2048x128 .bf16) (off) (inb) (o p : ℕ) (h : off = ![0, o, p]) (j : Fin 128) (e : Fin 64) (n : Fin 2048) (c : Fin 128) (hn : n.val = o + j) (hc : c.val = p + e) :
    View.ld x (Rect.unit off S1x128x64.size inb) (ix3 0 j e) = x (ix3 0 n c) := by
  subst h
  refine congrArg x (funext fun a => ?_)
  match a with
  | ⟨0, _⟩ => rfl
  | ⟨1, _⟩ => exact Fin.ext (by show o + 1 * j.val = n.val; omega)
  | ⟨2, _⟩ => exact Fin.ext (by show p + 1 * e.val = c.val; omega)

theorem ld_values (x : Vec Ideal S1x16x160x128 .bf16) (off) (inb) (o p : ℕ) (h : off = ![0, o, p, 0]) (j : Fin 80) (e : Fin 128) (n : Fin 16) (c : Fin 160) (hn : n.val = o) (hc : c.val = p + j) :
    View.ld x (Rect.unit off S1x1x80x128.size inb) (ix4 0 0 j e) = x (ix4 0 n c e) := by
  subst h
  refine congrArg x (funext fun a => ?_)
  match a with
  | ⟨0, _⟩ => rfl
  | ⟨1, _⟩ => exact Fin.ext (by show o + 1 * 0 = n.val; omega)
  | ⟨2, _⟩ => exact Fin.ext (by show p + 1 * j.val = c.val; omega)
  | ⟨3, _⟩ => exact Fin.ext (by show 0 + 1 * e.val = e.val; omega)

theorem ld_biases (x : Vec Ideal S8x2x128x128 .f32) (h w : ℕ) (inb) (r j : Fin 128) (h' : Fin 8) (w' : Fin 2) (hh : h'.val = h) (hw : w'.val = w) :
    View.ld x (Rect.unit ![h, w, 0, 0] S1x1x128x128.size inb) (ix4 0 0 r j) = x (ix4 h' w' r j) := by
  refine congrArg x (funext fun a => ?_)
  match a with
  | ⟨0, _⟩ => exact Fin.ext (by show h + 1 * 0 = h'.val; omega)
  | ⟨1, _⟩ => exact Fin.ext (by show w + 1 * 0 = w'.val; omega)
  | ⟨2, _⟩ => exact Fin.ext (by show 0 + 1 * r.val = r.val; omega)
  | ⟨3, _⟩ => exact Fin.ext (by show 0 + 1 * j.val = j.val; omega)

variable (k : Fin k0_t1_loop.trips)

theorem trips_lt : k.val < 8 := Nat.lt_of_lt_of_le k.isLt k0_t1_abs.2.1

theorem Q_apply (x : Vec Ideal S1x2048x512 .f32) (i g : Fin 4) (j : Fin 128) (e : Fin 64) (n : Fin 2048) (c : Fin 512)
    (hn : n.val = 128 * (2 * k.val + i.val % 2) + j) (hc : c.val = 256 * (i.val / 2) + 64 * g + e) : Q x k i g (ix3 0 j e) = x (ix3 0 n c) := by
  fin_cases i <;> fin_cases g
  · exact ld_queries x _ _ _ _ (off_queries k 0).1 j e _ _ hn hc
  · exact ld_queries x _ _ _ _ (off_queries k 0).2.1 j e _ _ hn hc
  · exact ld_queries x _ _ _ _ (off_queries k 0).2.2.1 j e _ _ hn hc
  · exact ld_queries x _ _ _ _ (off_queries k 0).2.2.2.1 j e _ _ hn hc
  · exact ld_queries x _ _ _ _ (off_queries k 1).1 j e _ _ hn hc
  · exact ld_queries x _ _ _ _ (off_queries k 1).2.1 j e _ _ hn hc
  · exact ld_queries x _ _ _ _ (off_queries k 1).2.2.1 j e _ _ hn hc
  · exact ld_queries x _ _ _ _ (off_queries k 1).2.2.2.1 j e _ _ hn hc
  · exact ld_queries x _ _ _ _ (off_queries k 0).2.2.2.2.1 j e _ _ hn hc
  · exact ld_queries x _ _ _ _ (off_queries k 0).2.2.2.2.2.1 j e _ _ hn hc
  · exact ld_queries x _ _ _ _ (off_queries k 0).2.2.2.2.2.2.1 j e _ _ hn hc
  · exact ld_queries x _ _ _ _ (off_queries k 0).2.2.2.2.2.2.2 j e _ _ hn hc
  · exact ld_queries x _ _ _ _ (off_queries k 1).2.2.2.2.1 j e _ _ hn hc
  · exact ld_queries x _ _ _ _ (off_queries k 1).2.2.2.2.2.1 j e _ _ hn hc
  · exact ld_queries x _ _ _ _ (off_queries k 1).2.2.2.2.2.2.1 j e _ _ hn hc
  · exact ld_queries x _ _ _ _ (off_queries k 1).2.2.2.2.2.2.2 j e _ _ hn hc

theorem K_apply (x : Vec Ideal S1x2048x128 .bf16) (i : Fin 4) (j : Fin 128) (e : Fin 64) (n : Fin 2048) (c : Fin 128)
    (hn : n.val = 128 * (2 * k.val + i.val % 2) + j) (hc : c.val = 64 * (i.val / 2) + e) : K x k i (ix3 0 j e) = x (ix3 0 n c) := by
  fin_cases i
  · exact ld_keys x _ _ _ _ (off_keys k 0).1 j e _ _ hn hc
  · exact ld_keys x _ _ _ _ (off_keys k 1).1 j e _ _ hn hc
  · exact ld_keys x _ _ _ _ (off_keys k 0).2.1 j e _ _ hn hc
  · exact ld_keys x _ _ _ _ (off_keys k 1).2.1 j e _ _ hn hc

theorem K'_apply (x : Vec Ideal S1x2048x128 .bf16) (i : Fin 4) (j : Fin 128) (e : Fin 64) (n : Fin 2048) (c : Fin 128)
    (hn : n.val = 128 * (2 * k.val + i.val % 2 - 1) + j) (hc : c.val = 64 * (i.val / 2) + e) : K' x k i (ix3 0 j e) = x (ix3 0 n c) := by
  fin_cases i
  · exact ld_keys x _ _ _ _ (off_keys k 0).2.2.1 j e _ _ hn hc
  · exact ld_keys x _ _ _ _ (off_keys k 1).2.2.1 j e _ _ hn hc
  · exact ld_keys x _ _ _ _ (off_keys k 0).2.2.2 j e _ _ hn hc
  · exact ld_keys x _ _ _ _ (off_keys k 1).2.2.2 j e _ _ hn hc

theorem U_apply (x : Vec Ideal S1x16x160x128 .bf16) (i : Fin 4) (j : Fin 80) (e : Fin 128) (n : Fin 16) (c : Fin 160)
    (hn : n.val = 2 * k.val + i.val % 2) (hc : c.val = 80 * (i.val / 2) + j) : U x k i (ix4 0 0 j e) = x (ix4 0 n c e) := by
  fin_cases i
  · exact ld_values x _ _ _ _ (off_values k 0).1 j e _ _ hn hc
  · exact ld_values x _ _ _ _ (off_values k 1).1 j e _ _ hn hc
  · exact ld_values x _ _ _ _ (off_values k 0).2.1 j e _ _ hn hc
  · exact ld_values x _ _ _ _ (off_values k 1).2.1 j e _ _ hn hc

theorem U'_apply (x : Vec Ideal S1x16x160x128 .bf16) (i : Fin 4) (j : Fin 80) (e : Fin 128) (n : Fin 16) (c : Fin 160)
    (hn : n.val = 2 * k.val + i.val % 2 - 1) (hc : c.val = 80 * (i.val / 2) + j) : U' x k i (ix4 0 0 j e) = x (ix4 0 n c e) := by
  fin_cases i
  · exact ld_values x _ _ _ _ (off_values k 0).2.2.1 j e _ _ hn hc
  · exact ld_values x _ _ _ _ (off_values k 1).2.2.1 j e _ _ hn hc
  · exact ld_values x _ _ _ _ (off_values k 0).2.2.2 j e _ _ hn hc
  · exact ld_values x _ _ _ _ (off_values k 1).2.2.2 j e _ _ hn hc

theorem B_apply (x : Vec Ideal S8x2x128x128 .f32) (i g : Fin 4) (r j : Fin 128) (h : Fin 8) (hh : h.val = 4 * (i.val / 2) + g) : B x i g (ix4 0 0 r j) = x (ix4 h 0 r j) := by
  fin_cases i <;> fin_cases g <;> exact ld_biases x _ _ _ r j _ _ hh rfl

theorem B'_apply (x : Vec Ideal S8x2x128x128 .f32) (i g : Fin 4) (r j : Fin 128) (h : Fin 8) (hh : h.val = 4 * (i.val / 2) + g) : B' x i g (ix4 0 0 r j) = x (ix4 h 1 r j) := by
  fin_cases i <;> fin_cases g <;> exact ld_biases x _ _ _ r j _ _ hh rfl

theorem W_apply (x : Vec Ideal S8 .f32) (h : Fin 8) : W x h = x (ix1 h) := by
  fin_cases h <;> exact congrArg x (funext fun a => match a with | ⟨0, _⟩ => rfl)

theorem Z_apply (i : Fin 4) (c : Fin 512) : Z k i (ix2 0 c) = BitVec.ofNat 32 (gap (decide (2 * k.val + i.val % 2 ≠ 0))) := by
  fin_cases i
  · exact gap_first k
  · exact congrArg (fun b => BitVec.ofNat 32 (gap b)) (show true = decide (2 * k.val + 1 ≠ 0) from (decide_eq_true (by omega)).symm)
  · exact gap_first k
  · exact gap_second k

end Reads

end Cert.Proof.Swa

end
-- ==== Proof.SwaOut.lean ====
/-
  What the sliding-window attention's body leaves in its output block, entry by entry.
-/
module

public import proofs.«01_k».proof.Proof.SwaTrip
public import Idealize.ShloMosaic.Lib.Pipeline.ValueKit.Tiles
import all proofs.«01_k».proof.Proof.Gen.KernelIdeal.Loops
import all proofs.«01_k».proof.Proof.Gen.KernelIdeal.Frame.RunA

@[expose] public section

set_option maxRecDepth 16384

noncomputable section

namespace Cert.Proof.Swa

open Cert.KernelIdeal Cert.KernelIdeal.Gen
open Idealize.ShloMosaic Idealize.ShloMosaic.TcCoe Idealize.ShloMosaic.Tactic
open Cert.Proof.Softmax (L windowed)

/-- The attention of query `128 * t + r` with head `h`, at place `d` of its values: over the keys of its tile and of the
    tile before. -/
def cell (x0 : Vec Ideal S8 .f32) (x1 : Vec Ideal S1x2048x512 .f32) (x2 : Vec Ideal S1x2048x128 .bf16) (x3 : Vec Ideal S1x16x160x128 .bf16) (x4 : Vec Ideal S8x2x128x128 .f32)
    (t : Fin 16) (r : Fin 128) (h : Fin 8) (d : Fin 64) : EReal :=
  windowed
    (fun x => if x.val ≤ r.val then ∑ e : Fin 64, x2 (ix3 0 ⟨128 * t + x, by omega⟩ ⟨64 * (h.val / 4) + e, by omega⟩) * (x1 (ix3 0 ⟨128 * t + r, by omega⟩ ⟨64 * h + e, by omega⟩) * S) + L * x4 (ix4 h 0 x r) else ⊥)
    (fun x => if r.val + gap (decide (t.val ≠ 0)) < x.val then ∑ e : Fin 64, x2 (ix3 0 ⟨128 * (t.val - 1) + x, by omega⟩ ⟨64 * (h.val / 4) + e, by omega⟩) * (x1 (ix3 0 ⟨128 * t + r, by omega⟩ ⟨64 * h + e, by omega⟩) * S) + L * x4 (ix4 h 1 x r) else ⊥)
    (fun x => x3 (ix4 0 t ⟨80 * (h.val / 4) + d, by omega⟩ x))
    (fun x => x3 (ix4 0 ⟨t.val - 1, by omega⟩ ⟨80 * (h.val / 4) + d, by omega⟩ x))
    (L * x0 (ix1 h))

section

variable (x0 : Vec Ideal S8 .f32) (x1 : Vec Ideal S1x2048x512 .f32) (x2 : Vec Ideal S1x2048x128 .bf16) (x3 : Vec Ideal S1x16x160x128 .bf16) (x4 : Vec Ideal S8x2x128x128 .f32)

theorem trip_cell (hone : ∀ (t : Fin 16) (kv : Fin 2) (x : Fin 128), x3 (ix4 0 t ⟨80 * kv + 64, by omega⟩ x) = 1)
    (k : Fin k0_t1_loop.trips) (a : Fin 2) (r : Fin 128) (h : Fin 8) (d : Fin 64) (t : Fin 16) (ht : t.val = 2 * k.val + a) :
    trip (Q x1 k) (B x4) (B' x4) (K x2 k) (K' x2 k) (W x0) (U x3 k) (U' x3 k) (Z k) (word k 1#32) (ix3 0 ⟨128 * a + r, by omega⟩ ⟨64 * h + d, by omega⟩)
      = cell x0 x1 x2 x3 x4 t r h d := by
  let i : Fin 4 := ⟨2 * (h.val / 4) + a, by omega⟩
  let g : Fin 4 := ⟨h.val % 4, by omega⟩
  have hi1 : i.val / 2 = h.val / 4 := by show (2 * (h.val / 4) + a.val) / 2 = _; omega
  have hi2 : i.val % 2 = a.val := by show (2 * (h.val / 4) + a.val) % 2 = _; omega
  have hg : g.val = h.val % 4 := rfl
  have hk := trips_lt k
  have h1 : ∀ x, U x3 k i (ix4 0 0 64 x) = 1 := fun x =>
    (U_apply k x3 i 64 x t ⟨80 * (h.val / 4) + 64, by omega⟩ (by omega) (by show 80 * (h.val / 4) + 64 = 80 * (i.val / 2) + 64; omega)).trans (hone t ⟨h.val / 4, by omega⟩ x)
  have h1' : ∀ x, U' x3 k i (ix4 0 0 64 x) = 1 := fun x =>
    (U'_apply k x3 i 64 x ⟨t.val - 1, by omega⟩ ⟨80 * (h.val / 4) + 64, by omega⟩ (by show t.val - 1 = _; omega) (by show 80 * (h.val / 4) + 64 = 80 * (i.val / 2) + 64; omega)).trans (hone _ ⟨h.val / 4, by omega⟩ x)
  refine (trip_apply (Q x1 k) (B x4) (B' x4) (K x2 k) (K' x2 k) (W x0) (U x3 k) (U' x3 k) (Z k) (fun i => decide (2 * k.val + i.val % 2 ≠ 0)) (word k 1#32)
    (Z_apply k) rfl a r h d i g rfl rfl h1 h1').trans ?_
  have hq : ∀ e, Q x1 k i g (ix3 0 r e) = x1 (ix3 0 ⟨128 * t + r, by omega⟩ ⟨64 * h + e, by omega⟩) := fun e =>
    Q_apply k x1 i g r e _ _ (by show 128 * t.val + r.val = _; rw [hi2, ht]) (by show 64 * h.val + e.val = 256 * (i.val / 2) + 64 * g.val + e.val; omega)
  have hkk : ∀ x e, K x2 k i (ix3 0 x e) = x2 (ix3 0 ⟨128 * t + x, by omega⟩ ⟨64 * (h.val / 4) + e, by omega⟩) := fun x e =>
    K_apply k x2 i x e _ _ (by show 128 * t.val + x.val = _; rw [hi2, ht]) (by show 64 * (h.val / 4) + e.val = _; rw [hi1])
  have hkk' : ∀ x e, K' x2 k i (ix3 0 x e) = x2 (ix3 0 ⟨128 * (t.val - 1) + x, by omega⟩ ⟨64 * (h.val / 4) + e, by omega⟩) := fun x e =>
    K'_apply k x2 i x e _ _ (by show 128 * (t.val - 1) + x.val = _; rw [hi2, ht]) (by show 64 * (h.val / 4) + e.val = _; rw [hi1])
  have hu : ∀ x, U x3 k i (ix4 0 0 ⟨d, by omega⟩ x) = x3 (ix4 0 t ⟨80 * (h.val / 4) + d, by omega⟩ x) := fun x =>
    U_apply k x3 i _ x _ _ (by rw [hi2, ht]) (by show 80 * (h.val / 4) + d.val = 80 * (i.val / 2) + d.val; rw [hi1])
  have hu' : ∀ x, U' x3 k i (ix4 0 0 ⟨d, by omega⟩ x) = x3 (ix4 0 ⟨t.val - 1, by omega⟩ ⟨80 * (h.val / 4) + d, by omega⟩ x) := fun x =>
    U'_apply k x3 i _ x _ _ (by show t.val - 1 = _; rw [hi2, ht]) (by show 80 * (h.val / 4) + d.val = 80 * (i.val / 2) + d.val; rw [hi1])
  have hb : ∀ x, B x4 i g (ix4 0 0 x r) = x4 (ix4 h 0 x r) := fun x => B_apply x4 i g x r h (by omega)
  have hb' : ∀ x, B' x4 i g (ix4 0 0 x r) = x4 (ix4 h 1 x r) := fun x => B'_apply x4 i g x r h (by omega)
  simp only [hq, hkk, hkk', hu, hu', hb, hb', W_apply, hi2, ← ht]
  rfl

/-- The block's entry at query `n` and column `c`. -/
def cellAt (n : Fin 2048) (c : Fin 512) : EReal := cell x0 x1 x2 x3 x4 ⟨n.val / 128, by omega⟩ ⟨n.val % 128, by omega⟩ ⟨c.val / 64, by omega⟩ ⟨c.val % 64, by omega⟩

theorem piece_at (hone : ∀ (t : Fin 16) (kv : Fin 2) (x : Fin 128), x3 (ix4 0 t ⟨80 * kv + 64, by omega⟩ x) = 1)
    (k : Fin k0_t1_loop.trips) (n : Fin 2048) (c : Fin 512) (x : (Rect.unit (s := S1x2048x512) (k0_off17 k) S1x256x512.size (k0_off17_inb k)).shape.Idx)
    (hx : (Rect.unit (s := S1x2048x512) (k0_off17 k) S1x256x512.size (k0_off17_inb k)).emb x = ix3 0 n c) :
    trip (Q x1 k) (B x4) (B' x4) (K x2 k) (K' x2 k) (W x0) (U x3 k) (U' x3 k) (Z k) (word k 1#32) x = cellAt x0 x1 x2 x3 x4 n c := by
  obtain ⟨b, c', rfl⟩ : ∃ (b : Fin 256) (c' : Fin 512), x = ix3 0 b c' := ⟨x 1, x 2, (eq_ix3 (n0 := 1) (n1 := 256) (n2 := 512) x).trans (congrArg (fun z => ix3 z (x 1) (x 2)) (Subsingleton.elim (α := Fin 1) _ _))⟩
  have e1 : k0_off17 k 1 + 1 * b.val = n.val := congrArg Fin.val (congrFun hx 1)
  have e2 : k0_off17 k 2 + 1 * c'.val = c.val := congrArg Fin.val (congrFun hx 2)
  rw [off_store k] at e1 e2
  have e1 : 256 * k.val + 1 * b.val = n.val := e1
  have e2 : 0 + 1 * c'.val = c.val := e2
  have h := trip_cell x0 x1 x2 x3 x4 hone k ⟨b.val / 128, by omega⟩ ⟨b.val % 128, by omega⟩ ⟨c.val / 64, by omega⟩ ⟨c.val % 64, by omega⟩ ⟨n.val / 128, by omega⟩ (by show n.val / 128 = 2 * k.val + b.val / 128; omega)
  rw [show (⟨128 * (b.val / 128) + b.val % 128, by omega⟩ : Fin 256) = b from Fin.ext (by show 128 * (b.val / 128) + b.val % 128 = b.val; omega),
    show (⟨64 * (c.val / 64) + c.val % 64, by omega⟩ : Fin 512) = c' from Fin.ext (by show 64 * (c.val / 64) + c.val % 64 = c'.val; omega)] at h
  refine h.trans ?_
  unfold cellAt
  exact congrArg (fun z => cell x0 x1 x2 x3 x4 _ z _ _) (Fin.ext (by show b.val % 128 = n.val % 128; omega))

end

theorem pieces_at (𝒱 : Variants) (c : Dev nD) (bd : Option 𝒱.V) (i : grid0.Coords) (arg1 : Memref sig .tc .smem S8 .f32) (harg1 : arg1.IsWhole) (arg2 : Memref sig .tc .vmem S1x2048x512 .f32) (harg2 : arg2.IsWhole) (arg3 : Memref sig .tc .vmem S1x2048x128 .bf16) (harg3 : arg3.IsWhole) (arg4 : Memref sig .tc .vmem S1x16x160x128 .bf16) (harg4 : arg4.IsWhole) (arg5 : Memref sig .tc .vmem S8x2x128x128 .f32) (harg5 : arg5.IsWhole) (arg6 : Memref sig .tc .vmem S1x2048x512 .bf16) (harg6 : arg6.IsWhole)
    (X1 : BufTy.Contents (Elt Ideal) arg1.view.ty) (X2 : BufTy.Contents (Elt Ideal) arg2.view.ty) (X3 : BufTy.Contents (Elt Ideal) arg3.view.ty) (X4 : BufTy.Contents (Elt Ideal) arg4.view.ty) (X5 : BufTy.Contents (Elt Ideal) arg5.view.ty)
    (hone : ∀ (t : Fin 16) (kv : Fin 2) (x : Fin 128), arg4.view.read (Elt Ideal) X4 (ix4 0 t ⟨80 * kv + 64, by omega⟩ x) = 1) (n : Fin 2048) (e : Fin 512) :
    ∀ N, N ≤ k0_t1_loop.trips → View.AllAt (pb_k0_t1 (F := Ideal) 𝒱 c bd i arg1 harg1 arg2 harg2 arg3 harg3 arg4 harg4 arg5 harg5 arg6 harg6 X1 X2 X3 X4 X5 N) (ix3 0 n e)
      (cellAt (arg1.view.read (Elt Ideal) X1) (arg2.view.read (Elt Ideal) X2) (arg3.view.read (Elt Ideal) X3) (arg4.view.read (Elt Ideal) X4) (arg5.view.read (Elt Ideal) X5) n e)
  | 0, _ => fun p hp => absurd hp (by rw [pb_k0_t1.eq_1]; exact List.not_mem_nil)
  | N + 1, hN => by
    intro p hp x hx
    have ih := pieces_at 𝒱 c bd i arg1 harg1 arg2 harg2 arg3 harg3 arg4 harg4 arg5 harg5 arg6 harg6 X1 X2 X3 X4 X5 hone n e N (by omega)
    rw [show pb_k0_t1 (F := Ideal) 𝒱 c bd i arg1 harg1 arg2 harg2 arg3 harg3 arg4 harg4 arg5 harg5 arg6 harg6 X1 X2 X3 X4 X5 (N + 1) = _ from pb_k0_t1_succ 𝒱 c bd i arg1 harg1 arg2 harg2 arg3 harg3 arg4 harg4 arg5 harg5 arg6 harg6 X1 X2 X3 X4 X5 ⟨N, by omega⟩, trip_list] at hp
    rcases List.mem_append.mp hp with h | h
    · obtain rfl := List.mem_singleton.mp h
      exact piece_at _ _ _ _ _ hone ⟨N, by omega⟩ n e x hx
    · exact ih p h x hx

theorem out_apply (c : Dev nD) (i : grid0.Coords) (arg1 : Memref sig .tc .smem S8 .f32) (harg1 : arg1.IsWhole) (arg2 : Memref sig .tc .vmem S1x2048x512 .f32) (harg2 : arg2.IsWhole) (arg3 : Memref sig .tc .vmem S1x2048x128 .bf16) (harg3 : arg3.IsWhole) (arg4 : Memref sig .tc .vmem S1x16x160x128 .bf16) (harg4 : arg4.IsWhole) (arg5 : Memref sig .tc .vmem S8x2x128x128 .f32) (harg5 : arg5.IsWhole) (arg6 : Memref sig .tc .vmem S1x2048x512 .bf16) (harg6 : arg6.IsWhole)
    (x0 : Vec Ideal S8 .f32) (x1 : Vec Ideal S1x2048x512 .f32) (x2 : Vec Ideal S1x2048x128 .bf16) (x3 : Vec Ideal S1x16x160x128 .bf16) (x4 : Vec Ideal S8x2x128x128 .f32)
    (hone : ∀ (t : Fin 16) (kv : Fin 2) (x : Fin 128), x3 (ix4 0 t ⟨80 * kv + 64, by omega⟩ x) = 1) (n : Fin 2048) (e : Fin 512) :
    out0_A_5 c i arg1 harg1 arg2 harg2 arg3 harg3 arg4 harg4 arg5 harg5 arg6 harg6 x0 x1 x2 x3 x4 (ix3 0 n e) = cellAt x0 x1 x2 x3 x4 n e := by
  have hc := cover0_A_5 c i arg1 harg1 arg2 harg2 arg3 harg3 arg4 harg4 arg5 harg5 arg6 harg6 x0 x1 x2 x3 x4
  unfold out0_A_5
  rw [View.read_writes_eq_canon _ _ _ hc]
  refine View.canon_eq_of_allAt _ _ _ (hc _) ?_
  unfold kernelRun0_A
  dsimp only
  have h := fun 𝒱 bd => pieces_at 𝒱 c bd i arg1 harg1 arg2 harg2 arg3 harg3 arg4 harg4 arg5 harg5 arg6 harg6 (harg1.unread x0) (harg2.unread x1) (harg3.unread x2) (harg4.unread x3) (harg5.unread x4)
    (by rw [harg4.read_unread]; exact hone) n e k0_t1_loop.trips le_rfl
  simp only [harg1.read_unread, harg2.read_unread, harg3.read_unread, harg4.read_unread, harg5.read_unread] at h
  exact h _ _

end Cert.Proof.Swa

end
-- ==== Proof.SwaArray.lean ====
/-
  The result array of the sliding-window attention: entry `(b, n, e)` is `cellAt` of the arrays the region finds, taken
  at batch `b`.
-/
module

public import proofs.«01_k».proof.Proof.SwaOut
public import proofs.«01_k».proof.Proof.Gen.KernelIdeal.Value

@[expose] public section

set_option maxRecDepth 16384

noncomputable section

namespace Cert.Proof.Swa

open Cert.KernelIdeal Cert.KernelIdeal.Gen
open Idealize.ShloMosaic Idealize.ShloMosaic.TcCoe Idealize.ShloMosaic.Tactic
open Idealize.ShloMosaic.Pipeline (Dat)

variable (m : (ℓ : Loc nD τ sig) → Buf (Elt Ideal) ℓ)

/-- The queries of batch `b`. -/
def qAt (d : Dev nD) (b : Fin 8) : Vec Ideal S1x2048x512 .f32 := fun i => V m d main_v43 (ix3 b (i 1) (i 2))

/-- The keys of batch `b`. -/
def kAt (d : Dev nD) (b : Fin 8) : Vec Ideal S1x2048x128 .bf16 := fun i => V m d main_v45 (ix3 b (i 1) (i 2))

/-- The values of batch `b`. -/
def vAt (d : Dev nD) (b : Fin 8) : Vec Ideal S1x16x160x128 .bf16 := fun i => V m d main_v51 (ix4 b (i 1) (i 2) (i 3))

/-- The result as a function of the arrays the region finds. -/
def res (d : Dev nD) : Vec Ideal S8x2048x512 .bf16 := fun i =>
  cellAt (V m d main_arg1) (qAt m d (i 0)) (kAt m d (i 0)) (vAt m d (i 0)) (V m d main_v42) (i 1) (i 2)

/-- `res`, one entry. -/
theorem res_apply (d : Dev nD) (b : Fin 8) (n : Fin 2048) (e : Fin 512) :
    res m d (ix3 b n e) = cellAt (V m d main_arg1) (qAt m d b) (kAt m d b) (vAt m d b) (V m d main_v42) n e := rfl

/-- Equal arrays give equal cells. -/
theorem cellAt_congr {x0 y0 : Vec Ideal S8 .f32} {x1 y1 : Vec Ideal S1x2048x512 .f32} {x2 y2 : Vec Ideal S1x2048x128 .bf16} {x3 y3 : Vec Ideal S1x16x160x128 .bf16} {x4 y4 : Vec Ideal S8x2x128x128 .f32}
    (h0 : x0 = y0) (h1 : x1 = y1) (h2 : x2 = y2) (h3 : x3 = y3) (h4 : x4 = y4) (n : Fin 2048) (e : Fin 512) :
    cellAt x0 x1 x2 x3 x4 n e = cellAt y0 y1 y2 y3 y4 n e := by
  subst h0 h1 h2 h3 h4; rfl

/-- Where each window's block lies at each point. -/
theorem idx_facts : ∀ t : Fin cfg0.N,
    win0_0.index t (0 : Fin 1) = 0
    ∧ win0_1.index t (0 : Fin 3) = t.val
    ∧ win0_1.index t (1 : Fin 3) = 0
    ∧ win0_1.index t (2 : Fin 3) = 0
    ∧ win0_2.index t (0 : Fin 3) = t.val
    ∧ win0_2.index t (1 : Fin 3) = 0
    ∧ win0_2.index t (2 : Fin 3) = 0
    ∧ win0_3.index t (0 : Fin 4) = t.val
    ∧ win0_3.index t (1 : Fin 4) = 0
    ∧ win0_3.index t (2 : Fin 4) = 0
    ∧ win0_3.index t (3 : Fin 4) = 0
    ∧ win0_4.index t (0 : Fin 4) = 0
    ∧ win0_4.index t (1 : Fin 4) = 0
    ∧ win0_4.index t (2 : Fin 4) = 0
    ∧ win0_4.index t (3 : Fin 4) = 0
    ∧ win0_5.index t (0 : Fin 3) = t.val
    ∧ win0_5.index t (1 : Fin 3) = 0
    ∧ win0_5.index t (2 : Fin 3) = 0
    ∧ (cfg0.win 5).flush t = true :=
  (by decide +kernel : ∀ t : Fin grid0.N, _)

/-- Window 0's block at point `t`. -/
theorem iblk0_eq (d : Dev nD) (t : Fin cfg0.N) : iblk m d 0 t = V m d main_arg1 := by
  obtain ⟨f00, f10, f11, f12, f20, f21, f22, f30, f31, f32, f33, f40, f41, f42, f43, f50, f51, f52, hf⟩ := idx_facts t
  funext i
  show V m d main_arg1 (((cfg0.win 0).blk t).view.emb i) = _
  refine congrArg (V m d main_arg1) (funext fun a => Fin.ext ?_)
  match a with
  | ⟨0, _⟩ => show win0_0.index t (0 : Fin 1) * 8 + 1 * (i 0).val = (i 0).val; omega

/-- Window 1's block at point `t`. -/
theorem iblk1_eq (d : Dev nD) (t : Fin cfg0.N) : iblk m d 1 t = qAt m d ⟨t.val, t.isLt⟩ := by
  obtain ⟨f00, f10, f11, f12, f20, f21, f22, f30, f31, f32, f33, f40, f41, f42, f43, f50, f51, f52, hf⟩ := idx_facts t
  funext i
  show V m d main_v43 (((cfg0.win 1).blk t).view.emb i) = _
  refine congrArg (V m d main_v43) (funext fun a => Fin.ext ?_)
  match a with
  | ⟨0, _⟩ => show win0_1.index t (0 : Fin 3) * 1 + 1 * (i 0).val = t.val; have h : (i 0).val < 1 := (i 0).isLt; omega
  | ⟨1, _⟩ => show win0_1.index t (1 : Fin 3) * 2048 + 1 * (i 1).val = (i 1).val; omega
  | ⟨2, _⟩ => show win0_1.index t (2 : Fin 3) * 512 + 1 * (i 2).val = (i 2).val; omega

/-- Window 2's block at point `t`. -/
theorem iblk2_eq (d : Dev nD) (t : Fin cfg0.N) : iblk m d 2 t = kAt m d ⟨t.val, t.isLt⟩ := by
  obtain ⟨f00, f10, f11, f12, f20, f21, f22, f30, f31, f32, f33, f40, f41, f42, f43, f50, f51, f52, hf⟩ := idx_facts t
  funext i
  show V m d main_v45 (((cfg0.win 2).blk t).view.emb i) = _
  refine congrArg (V m d main_v45) (funext fun a => Fin.ext ?_)
  match a with
  | ⟨0, _⟩ => show win0_2.index t (0 : Fin 3) * 1 + 1 * (i 0).val = t.val; have h : (i 0).val < 1 := (i 0).isLt; omega
  | ⟨1, _⟩ => show win0_2.index t (1 : Fin 3) * 2048 + 1 * (i 1).val = (i 1).val; omega
  | ⟨2, _⟩ => show win0_2.index t (2 : Fin 3) * 128 + 1 * (i 2).val = (i 2).val; omega

/-- Window 3's block at point `t`. -/
theorem iblk3_eq (d : Dev nD) (t : Fin cfg0.N) : iblk m d 3 t = vAt m d ⟨t.val, t.isLt⟩ := by
  obtain ⟨f00, f10, f11, f12, f20, f21, f22, f30, f31, f32, f33, f40, f41, f42, f43, f50, f51, f52, hf⟩ := idx_facts t
  funext i
  show V m d main_v51 (((cfg0.win 3).blk t).view.emb i) = _
  refine congrArg (V m d main_v51) (funext fun a => Fin.ext ?_)
  match a with
  | ⟨0, _⟩ => show win0_3.index t (0 : Fin 4) * 1 + 1 * (i 0).val = t.val; have h : (i 0).val < 1 := (i 0).isLt; omega
  | ⟨1, _⟩ => show win0_3.index t (1 : Fin 4) * 16 + 1 * (i 1).val = (i 1).val; omega
  | ⟨2, _⟩ => show win0_3.index t (2 : Fin 4) * 160 + 1 * (i 2).val = (i 2).val; omega
  | ⟨3, _⟩ => show win0_3.index t (3 : Fin 4) * 128 + 1 * (i 3).val = (i 3).val; omega

/-- Window 4's block at point `t`. -/
theorem iblk4_eq (d : Dev nD) (t : Fin cfg0.N) : iblk m d 4 t = V m d main_v42 := by
  obtain ⟨f00, f10, f11, f12, f20, f21, f22, f30, f31, f32, f33, f40, f41, f42, f43, f50, f51, f52, hf⟩ := idx_facts t
  funext i
  show V m d main_v42 (((cfg0.win 4).blk t).view.emb i) = _
  refine congrArg (V m d main_v42) (funext fun a => Fin.ext ?_)
  match a with
  | ⟨0, _⟩ => show win0_4.index t (0 : Fin 4) * 8 + 1 * (i 0).val = (i 0).val; omega
  | ⟨1, _⟩ => show win0_4.index t (1 : Fin 4) * 2 + 1 * (i 1).val = (i 1).val; omega
  | ⟨2, _⟩ => show win0_4.index t (2 : Fin 4) * 128 + 1 * (i 2).val = (i 2).val; omega
  | ⟨3, _⟩ => show win0_4.index t (3 : Fin 4) * 128 + 1 * (i 3).val = (i 3).val; omega

/-- The result window's block at point `t` reads batch `t` of an array. -/
theorem block_read (W : Vec Ideal S8x2048x512 .bf16) (t : Fin cfg0.N) (n : Fin 2048) (e : Fin 512) :
    ((cfg0.win 5).blk t).view.read (Elt Ideal) W (ix3 0 n e) = W (ix3 ⟨t.val, t.isLt⟩ n e) := by
  obtain ⟨f00, f10, f11, f12, f20, f21, f22, f30, f31, f32, f33, f40, f41, f42, f43, f50, f51, f52, hf⟩ := idx_facts t
  refine congrArg W (funext fun a => Fin.ext ?_)
  match a with
  | ⟨0, _⟩ => show win0_5.index t (0 : Fin 3) * 1 + 1 * 0 = t.val; omega
  | ⟨1, _⟩ => show win0_5.index t (1 : Fin 3) * 2048 + 1 * n.val = n.val; omega
  | ⟨2, _⟩ => show win0_5.index t (2 : Fin 3) * 512 + 1 * e.val = e.val; omega

/-- What point `t` writes back is its block of `res`. -/
theorem flushed_eq (d : Dev nD) (hone : ∀ (b : Fin 8) (t : Fin 16) (kv : Fin 2) (x : Fin 128), V m d main_v51 (ix4 b t ⟨80 * kv.val + 64, by omega⟩ x) = (1 : EReal))
    (t : Fin cfg0.N) : (dats m 0 d).flushed 5 t = ((cfg0.win 5).blk t).view.read (Elt Ideal) (res m d) := by
  rw [Value.flushed5_A]
  funext j
  obtain ⟨f00, f10, f11, f12, f20, f21, f22, f30, f31, f32, f33, f40, f41, f42, f43, f50, f51, f52, hf⟩ := idx_facts t
  obtain ⟨z, n, e, rfl⟩ : ∃ (z : Fin 1) (n : Fin 2048) (e : Fin 512), j = ix3 z n e := ⟨j 0, j 1, j 2, eq_ix3 j⟩
  obtain rfl : z = 0 := Subsingleton.elim _ _
  refine (out_apply d _ _ _ _ _ _ _ _ _ _ _ _ _ _ _ _ _ _ ?_ n e).trans ?_
  · rw [iblk3_eq]
    exact fun t' kv x => hone ⟨t.val, t.isLt⟩ t' kv x
  rw [block_read]
  refine Eq.trans ?_ (res_apply m d ⟨t.val, t.isLt⟩ n e).symm
  exact cellAt_congr (iblk0_eq m d t) (iblk1_eq m d t) (iblk2_eq m d t) (iblk3_eq m d t) (iblk4_eq m d t) n e

/-- So the whole result array is `res`. -/
theorem final (d : Dev nD) (hone : ∀ (b : Fin 8) (t : Fin 16) (kv : Fin 2) (x : Fin 128), V m d main_v51 (ix4 b t ⟨80 * kv.val + 64, by omega⟩ x) = (1 : EReal)) :
    (dats m 0 d).arrAt 5 cfg0.N = res m d :=
  (dats m 0 d).arrAt_eq_of_cover 5 (res m d) (fun t _ => flushed_eq m d hone t) fun i => by
    have h0 : (i 0 : Nat) < 8 := (i 0).isLt
    have h1 : (i 1 : Nat) < 2048 := (i 1).isLt
    have h2 : (i 2 : Nat) < 512 := (i 2).isLt
    obtain ⟨t, ht⟩ : ∃ t : Fin cfg0.N, t.val = (i 0 : Nat) := ⟨⟨(i 0 : Nat), by show _ < 8; omega⟩, rfl⟩
    obtain ⟨f00, f10, f11, f12, f20, f21, f22, f30, f31, f32, f33, f40, f41, f42, f43, f50, f51, f52, hf⟩ := idx_facts t
    refine ⟨t, hf, ?_⟩
    show i ∈ ((View.whole main_v52).slice (win0_5.rect t)).set
    rw [View.set_slice_whole, Rect.mem_set_unit]
    intro a
    match a with
    | ⟨0, _⟩ =>
      show win0_5.index t (0 : Fin 3) * 1 ≤ (i 0 : Nat) ∧ (i 0 : Nat) < win0_5.index t (0 : Fin 3) * 1 + 1
      omega
    | ⟨1, _⟩ =>
      show win0_5.index t (1 : Fin 3) * 2048 ≤ (i 1 : Nat) ∧ (i 1 : Nat) < win0_5.index t (1 : Fin 3) * 2048 + 2048
      omega
    | ⟨2, _⟩ =>
      show win0_5.index t (2 : Fin 3) * 512 ≤ (i 2 : Nat) ∧ (i 2 : Nat) < win0_5.index t (2 : Fin 3) * 512 + 512
      omega

end Cert.Proof.Swa

end
-- ==== Proof.SwaBias.lean ====
/-
  The bias of the sliding-window attention as a function of the distance of a query from a key, a 32-bit word: the
  bucket the distance falls in, and the table row that names.
-/
module

public import Idealize.ShloMosaic.Lib.Pointwise

@[expose] public section

noncomputable section

namespace Cert.Proof.Swa

open Idealize.ShloMosaic

/-- The table row a word names: read signed, clamped to the table. -/
def row (w : BitVec 32) : Fin 32 := ⟨min w.toInt.toNat 31, by omega⟩

/-- The bucket of a distance: the distance itself below 16, from there logarithmic and capped at 31. -/
def capped (δ : BitVec 32) : BitVec 32 :=
  Scalar.select (IntOp.cmpi .slt (IntOp.maxsi δ 0#32) 16#32) (IntOp.maxsi δ 0#32)
    (IntOp.minsi (IntOp.addi (16#32) (FloatOps.fptosi (F := Ideal) (φ := .f32) 32
      (Ideal.div (Ideal.log (Ideal.div (FloatOps.sitofp (F := Ideal) FTy.f32 (IntOp.maxsi (IntOp.maxsi δ 0#32) 1#32)) (Ideal.ofBits FTy.f32 1098907648#32)))
        (Ideal.ofBits FTy.f32 1082463634#32) * Ideal.ofBits FTy.f32 1098907648#32))) 31#32)

/-- The bucket as a table index: a negative one would count from the end. -/
def bucket (δ : BitVec 32) : BitVec 32 :=
  Scalar.select (IntOp.cmpi .slt (capped δ) 0#32) (IntOp.addi (capped δ) 32#32) (capped δ)

end Cert.Proof.Swa

end
-- ==== Proof.SwaHost.lean ====
/-
  The arrays the sliding-window attention's region finds, entry by entry: the queries and keys with their heads side by
  side, the transposed values with rows of ones, and the relative-position bias of the two tiles a query sees.
-/
module

public import proofs.«01_k».proof.Proof.SwaBias
public import proofs.«01_k».proof.Proof.Gen.KernelIdeal.Value
public import proofs.«01_k».proof.Proof.Gen.KernelIdeal.Frame
public import Idealize.ShloMosaic.Lib.Pointwise
public import Idealize.ShloMosaic.Lib.StableHlo.Run

@[expose] public section

set_option maxRecDepth 16384

noncomputable section

namespace Cert.Proof.Swa

open Cert.KernelIdeal Cert.KernelIdeal.Gen
open Idealize.ShloMosaic Idealize.ShloMosaic.TcCoe Idealize.ShloMosaic.Tactic

variable (m : (ℓ : Loc nD τ sig) → Buf (Elt Ideal) ℓ)

/-- A gather of table rows, one entry. -/
theorem gather_apply (x : Vec Ideal S32x8 .f32) (idx : IVec S2x128x128x1 32) (p : Fin 2) (r j : Fin 128) (h : Fin 8) :
    Host.gather gather_S32x8_S2x128x128x1_S2x128x128x8_3_0_n_n_0_3_18 x idx (ix4 p r j h) = x (ix2 (row (idx (ix4 p r j 0))) h) := by
  unfold Host.gather
  refine congrArg x (funext fun a => Fin.ext ?_)
  match a with
  | ⟨0, _⟩ =>
    show GatherDims.start gather_S32x8_S2x128x128x1_S2x128x128x8_3_0_n_n_0_3_18 (ix4 p r j h) idx 0
      + GatherDims.batchCoord gather_S32x8_S2x128x128x1_S2x128x128x8_3_0_n_n_0_3_18 (ix4 p r j h) 0
      + GatherDims.offCoord gather_S32x8_S2x128x128x1_S2x128x128x8_3_0_n_n_0_3_18 (ix4 p r j h) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ GatherDims.startIndexMap gather_S32x8_S2x128x128x1_S2x128x128x8_3_0_n_n_0_3_18 from List.mem_singleton.mpr rfl)]
    have hsi : GatherDims.siIdx gather_S32x8_S2x128x128x1_S2x128x128x8_3_0_n_n_0_3_18 (ix4 p r j h)
        ⟨List.idxOf (0 : Fin 2) (GatherDims.startIndexMap gather_S32x8_S2x128x128x1_S2x128x128x8_3_0_n_n_0_3_18), List.idxOf_lt_length_iff.2 (List.mem_singleton.mpr rfl)⟩ = ix4 p r j 0 := by
      funext b
      refine Fin.ext ?_
      match b with
      | ⟨0, _⟩ => rfl
      | ⟨1, _⟩ => rfl
      | ⟨2, _⟩ => rfl
      | ⟨3, _⟩ => rfl
    rw [hsi]
    rfl
  | ⟨1, _⟩ =>
    show GatherDims.start gather_S32x8_S2x128x128x1_S2x128x128x8_3_0_n_n_0_3_18 (ix4 p r j h) idx 1
      + GatherDims.batchCoord gather_S32x8_S2x128x128x1_S2x128x128x8_3_0_n_n_0_3_18 (ix4 p r j h) 1
      + GatherDims.offCoord gather_S32x8_S2x128x128x1_S2x128x128x8_3_0_n_n_0_3_18 (ix4 p r j h) 1 = h.val
    rw [GatherDims.batchCoord_eq_zero _ _ _ List.not_mem_nil, Nat.add_zero]
    unfold GatherDims.start
    rw [dif_neg (by decide)]
    exact (Nat.zero_add _).trans rfl

/-- The distance of a query from a key, of each tile pair. -/
def dist : IVec S2x128x128 32 :=
  subi (broadcastInDim S2x128x128 ![0, 1, 2] bcast_S2x1x128_S2x128x128_0_1_2
      (addi (broadcastInDim S2x1x128 ![0, 1, 2] bcast_S2x1x1_S2x1x128_0_1_2
          (muli (broadcastInDim S2x1x1 ![0] bcast_S2_S2x1x1_0 (iotaInDim S2 32 0)) (broadcastInDim S2x1x1 ![] bcast_S_S2x1x1 (constantI S_ 32 128#32))))
        (broadcastInDim S2x1x128 ![0, 1, 2] bcast_S1x1x128_S2x1x128_0_1_2 (broadcastInDim S1x1x128 ![2] bcast_S128_S1x1x128_2 (iotaInDim S128 32 0)))))
    (broadcastInDim S2x128x128 ![0, 1, 2] bcast_S1x128x1_S2x128x128_0_1_2 (broadcastInDim S1x128x1 ![1] bcast_S128_S1x128x1_1 (iotaInDim S128 32 0)))

/-- An integer constant, everywhere. -/
abbrev kI (w : BitVec 32) : IVec S2x128x128 32 := broadcastInDim S2x128x128 ![] bcast_S_S2x128x128 (constantI S_ 32 w)

/-- A float constant, everywhere. -/
abbrev kF (w : BitVec 32) : Vec Ideal S2x128x128 .f32 := broadcastInDim S2x128x128 ![] bcast_S_S2x128x128 (constant (F := Ideal) S_ .f32 w)

/-- The bucket of a distance past the exact ones, before the cap. -/
def far (x : IVec S2x128x128 32) : IVec S2x128x128 32 :=
  addi (kI 16#32) (fptosi (F := Ideal) 32 (mulf (Host.divf (Host.log (Host.divf (sitofp (F := Ideal) .f32 (maxsi x (kI 1#32))) (kF 0x41800000#32))) (kF 0x40851592#32)) (kF 0x41800000#32)))

/-- The bucket of a distance. -/
def near (x : IVec S2x128x128 32) : IVec S2x128x128 32 :=
  select (cmpi .slt x (kI 16#32)) x (minsi (far x) (kI 31#32))

/-- A table index with the negative ones counted from the end. -/
def wrap (x : IVec S2x128x128 32) : IVec S2x128x128 32 := select (cmpi .slt x (kI 0#32)) (addi x (kI 32#32)) x

/-- The bias array the region finds. -/
def biasArr (T : Vec Ideal S32x24 .f32) : Vec Ideal S8x2x128x128 .f32 :=
  transpose S8x2x128x128 [3, 0, 1, 2]
    (Host.gather gather_S32x8_S2x128x128x1_S2x128x128x8_3_0_n_n_0_3_18 (extractStridedSlice S32x8 ![0, 0] T slices_S32x24_S32x8_0_0)
      (broadcastInDim S2x128x128x1 ![0, 1, 2] bcast_S2x128x128_S2x128x128x1_0_1_2 (wrap (near (maxsi dist (kI 0#32))))))
    transposes_S2x128x128x8_S8x2x128x128_3_0_1_2

theorem V_v42_eq (d : Dev nD) : V m d main_v42 = biasArr (m ((d : Thread nD τ).loc main_arg0)) := by
  unfold V
  simp only [hostOps0, hostOps0_1, hostOps0_2, List.flatten_cons, List.flatten_nil, List.append_nil, List.cons_append, List.nil_append]
  after_results
  rfl

/-- The queries the region finds. -/
theorem V_v43_eq (d : Dev nD) : V m d main_v43 = shapeCast S8x2048x512 (m ((d : Thread nD τ).loc main_arg2)) shapeCasts_S8x2048x2x4x64_S8x2048x512 := by
  unfold V
  simp only [hostOps0, hostOps0_1, hostOps0_2, List.flatten_cons, List.flatten_nil, List.append_nil, List.cons_append, List.nil_append]
  after_results
  rfl

/-- The keys the region finds. -/
theorem V_v45_eq (d : Dev nD) : V m d main_v45
    = shapeCast S8x2048x128 ((m ((d : Thread nD τ).loc main_arg3) : Vec Ideal S8x2048x2x64 .f32) : S8x2048x2x64.Idx → EReal) shapeCasts_S8x2048x2x64_S8x2048x128 := by
  unfold V
  simp only [hostOps0, hostOps0_1, hostOps0_2, List.flatten_cons, List.flatten_nil, List.append_nil, List.cons_append, List.nil_append]
  after_results
  rfl

/-- The values with rows of ones below each head's, before the heads are merged. -/
def valArr (v : Vec Ideal S8x2048x2x64 .f32) : Vec Ideal S8x16x2x80x128 .f32 :=
  concatenate S8x16x2x80x128 3 [⟨S8x16x2x64x128, transpose S8x16x2x64x128 [0, 1, 3, 4, 2] (shapeCast S8x16x128x2x64 v shapeCasts_S8x2048x2x64_S8x16x128x2x64) transposes_S8x16x128x2x64_S8x16x2x64x128_0_1_3_4_2⟩,
    ⟨S8x16x2x16x128, broadcastInDim S8x16x2x16x128 ![] bcast_S_S8x16x2x16x128 (constant (F := Ideal) S_ .f32 0x3F800000#32)⟩] concatenates_S8x16x2x64x128_S8x16x2x16x128_S8x16x2x80x128_d3

/-- The values the region finds. -/
theorem V_v51_eq (d : Dev nD) : V m d main_v51
    = shapeCast S8x16x160x128 ((valArr (m ((d : Thread nD τ).loc main_arg4)) : Vec Ideal S8x16x2x80x128 .f32) : S8x16x2x80x128.Idx → EReal) shapeCasts_S8x16x2x80x128_S8x16x160x128 := by
  unfold V
  simp only [hostOps0, hostOps0_1, hostOps0_2, List.flatten_cons, List.flatten_nil, List.append_nil, List.cons_append, List.nil_append]
  after_results
  rfl

theorem q_apply (x : Vec Ideal S8x2048x2x4x64 .f32) (b : Fin 8) (n : Fin 2048) (c : Fin 512) :
    shapeCast S8x2048x512 x shapeCasts_S8x2048x2x4x64_S8x2048x512 (ix3 b n c) = x (ix5 b n ⟨c.val / 256, by omega⟩ ⟨c.val / 64 % 4, by omega⟩ ⟨c.val % 64, by omega⟩) := by
  pointwise

theorem k_apply (x : Vec Ideal S8x2048x2x64 .f32) (b : Fin 8) (n : Fin 2048) (c : Fin 128) :
    shapeCast S8x2048x128 x shapeCasts_S8x2048x2x64_S8x2048x128 (ix3 b n c) = x (ix4 b n ⟨c.val / 64, by omega⟩ ⟨c.val % 64, by omega⟩) := by
  pointwise

theorem merge_apply (x : Vec Ideal S8x16x2x80x128 .f32) (b : Fin 8) (t : Fin 16) (c : Fin 160) (k : Fin 128) :
    shapeCast S8x16x160x128 x shapeCasts_S8x16x2x80x128_S8x16x160x128 (ix4 b t c k) = x (ix5 b t ⟨c.val / 80, by omega⟩ ⟨c.val % 80, by omega⟩ k) := by
  pointwise

theorem val_apply (v : Vec Ideal S8x2048x2x64 .f32) (b : Fin 8) (t : Fin 16) (kv : Fin 2) (e : Fin 80) (k : Fin 128) :
    valArr v (ix5 b t kv e k) = if h : e.val < 64 then v (ix4 b ⟨t.val * 128 + k.val, by omega⟩ kv ⟨e.val, h⟩) else 1 := by
  pointwise [valArr]

theorem dist_apply (p : Fin 2) (r j : Fin 128) : dist (ix3 p r j) = BitVec.ofNat 32 (128 * p.val + j.val) - BitVec.ofNat 32 r.val := by
  pointwise [dist]
  show BitVec.ofNat 32 p.val * 128#32 + BitVec.ofNat 32 j.val - BitVec.ofNat 32 r.val = _
  rw [show 128 * p.val + j.val = p.val * 128 + j.val by omega, BitVec.ofNat_add, BitVec.ofNat_mul]

theorem bucket_apply (x : IVec S2x128x128 32) (p : Fin 2) (r j : Fin 128) :
    wrap (near (maxsi x (kI 0#32))) (ix3 p r j) = bucket (x (ix3 p r j)) := by
  pointwise [wrap, near, far]
  rfl

theorem biasArr_apply (T : Vec Ideal S32x24 .f32) (h : Fin 8) (p : Fin 2) (r j : Fin 128) :
    biasArr T (ix4 h p r j) = T (ix2 (row (wrap (near (maxsi dist (kI 0#32))) (ix3 p r j))) ⟨h.val, by omega⟩) := by
  unfold biasArr
  generalize wrap (near (maxsi dist (kI 0#32))) = w
  have hg := gather_apply (extractStridedSlice S32x8 ![0, 0] T slices_S32x24_S32x8_0_0) (broadcastInDim S2x128x128x1 ![0, 1, 2] bcast_S2x128x128_S2x128x128x1_0_1_2 w) p r j h
  generalize Host.gather gather_S32x8_S2x128x128x1_S2x128x128x8_3_0_n_n_0_3_18 (extractStridedSlice S32x8 ![0, 0] T slices_S32x24_S32x8_0_0)
    (broadcastInDim S2x128x128x1 ![0, 1, 2] bcast_S2x128x128_S2x128x128x1_0_1_2 w) = A at hg ⊢
  have e : transpose S8x2x128x128 [3, 0, 1, 2] A transposes_S2x128x128x8_S8x2x128x128_3_0_1_2 (ix4 h p r j) = A (ix4 p r j h) := by pointwise
  have e' : broadcastInDim S2x128x128x1 ![0, 1, 2] bcast_S2x128x128_S2x128x128x1_0_1_2 w (ix4 p r j 0) = w (ix3 p r j) := by pointwise
  rw [e, hg, e']
  generalize row (w (ix3 p r j)) = R
  pointwise

end Cert.Proof.Swa

end
-- ==== Proof.SwaRef.lean ====
/-
  The reference of the sliding-window attention, entry by entry: a softmax over the keys with one more score, the sink.
-/
module

public import proofs.«01_k».proof.Proof.SoftmaxSpec
public import proofs.«01_k».proof.Proof.SwaBias
public import proofs.«01_k».proof.Proof.Gen.ReferenceIdeal.Read
public import Idealize.ShloMosaic.Lib.Pointwise

@[expose] public section

set_option maxRecDepth 16384

noncomputable section

namespace Cert.Proof.SwaRef

open Cert.ReferenceIdeal Cert.ReferenceIdeal.Gen Cert.ReferenceIdeal.Read
open Idealize.ShloMosaic Idealize.ShloMosaic.TcCoe Idealize.ShloMosaic.Tactic
open Cert.Proof.Swa Cert.Proof.Softmax

/-- A gather of table rows, one entry. -/
theorem gather_apply (x : Vec Ideal S32x8 .f32) (idx : IVec S2048x2048x1 32) (r j : Fin 2048) (h : Fin 8) :
    Host.gather gather_S32x8_S2048x2048x1_S2048x2048x8_2_0_n_n_0_2_18 x idx (ix3 r j h) = x (ix2 (row (idx (ix3 r j 0))) h) := by
  unfold Host.gather
  refine congrArg x (funext fun a => Fin.ext ?_)
  match a with
  | ⟨0, _⟩ =>
    show GatherDims.start gather_S32x8_S2048x2048x1_S2048x2048x8_2_0_n_n_0_2_18 (ix3 r j h) idx 0
      + GatherDims.batchCoord gather_S32x8_S2048x2048x1_S2048x2048x8_2_0_n_n_0_2_18 (ix3 r j h) 0
      + GatherDims.offCoord gather_S32x8_S2048x2048x1_S2048x2048x8_2_0_n_n_0_2_18 (ix3 r j h) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ GatherDims.startIndexMap gather_S32x8_S2048x2048x1_S2048x2048x8_2_0_n_n_0_2_18 from List.mem_singleton.mpr rfl)]
    have hsi : GatherDims.siIdx gather_S32x8_S2048x2048x1_S2048x2048x8_2_0_n_n_0_2_18 (ix3 r j h)
        ⟨List.idxOf (0 : Fin 2) (GatherDims.startIndexMap gather_S32x8_S2048x2048x1_S2048x2048x8_2_0_n_n_0_2_18), List.idxOf_lt_length_iff.2 (List.mem_singleton.mpr rfl)⟩ = ix3 r j 0 := by
      funext b
      refine Fin.ext ?_
      match b with
      | ⟨0, _⟩ => rfl
      | ⟨1, _⟩ => rfl
      | ⟨2, _⟩ => rfl
    rw [hsi]
    rfl
  | ⟨1, _⟩ =>
    show GatherDims.start gather_S32x8_S2048x2048x1_S2048x2048x8_2_0_n_n_0_2_18 (ix3 r j h) idx 1
      + GatherDims.batchCoord gather_S32x8_S2048x2048x1_S2048x2048x8_2_0_n_n_0_2_18 (ix3 r j h) 1
      + GatherDims.offCoord gather_S32x8_S2048x2048x1_S2048x2048x8_2_0_n_n_0_2_18 (ix3 r j h) 1 = h.val
    rw [GatherDims.batchCoord_eq_zero _ _ _ List.not_mem_nil, Nat.add_zero]
    unfold GatherDims.start
    rw [dif_neg (by decide)]
    exact (Nat.zero_add _).trans rfl

/-- The distance of query `n` from key `j`. -/
def δ (n j : Fin 2048) : BitVec 32 := BitVec.ofNat 32 n.val - BitVec.ofNat 32 j.val

theorem dist_apply (n j : Fin 2048) : val_main_v7 (F := Ideal) (ix2 n j) = δ n j := by
  pointwise [val_main_v7, val_main_v6, val_main_v5, val_main_v4, val_main_v3, val_main_v2, val_main_v1]
  rfl

/-- Whether the query sees the key. -/
theorem sees_apply (n j : Fin 2048) : val_main_v12 (F := Ideal) (ix2 n j) = IntOp.andi (IntOp.cmpi .sge (δ n j) 0#32) (IntOp.cmpi .slt (δ n j) 128#32) := by
  pointwise [val_main_v12, val_main_v11, val_main_v10, val_main_v9, val_main_v8, val_main_c, val_main_c_0]
  simp only [dist_apply]

theorem bucket_apply (n j : Fin 2048) : val_main_v37 (F := Ideal) (ix2 n j) = bucket (δ n j) := by
  pointwise [val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13,
    val_main_c_1, val_main_c_2, val_main_cst, val_main_cst_3, val_main_cst_4, val_main_c_5, val_main_c_6, val_main_c_7, val_main_c_8, val_main_c_9]
  simp only [dist_apply]
  rfl

variable (T : Vec Ideal S32x24 .f32) (σ : Vec Ideal S8 .f32) (q : Vec Ideal S8x2048x2x4x64 .f32) (k v : Vec Ideal S8x2048x2x64 .f32)

theorem bias_apply (h : Fin 2) (g : Fin 4) (n j : Fin 2048) :
    val_main_v41 (F := Ideal) T (ix4 h g n j) = T (ix2 (row (bucket (δ n j))) ⟨h.val * 4 + g.val, by omega⟩) := by
  have hg : ∀ y : Fin 8, val_main_v39 (F := Ideal) T (ix3 n j y) = T (ix2 (row (bucket (δ n j))) ⟨y.val, by omega⟩) := fun y => by
    refine (gather_apply _ _ n j y).trans ?_
    have e : val_main_v38 (F := Ideal) (ix3 n j 0) = val_main_v37 (F := Ideal) (ix2 n j) := by pointwise [val_main_v38]
    rw [e, bucket_apply]
    pointwise [val_main_v0]
  pointwise [val_main_v41, val_main_v40]
  simp only [hg]

/-- Query `n` of head `4h + g`'s score of key `j`. -/
def score (b : Fin 8) (h : Fin 2) (g : Fin 4) (n j : Fin 2048) : EReal :=
  Scalar.select (IntOp.andi (IntOp.cmpi .sge (δ n j) 0#32) (IntOp.cmpi .slt (δ n j) 128#32))
    ((∑ e : Fin 64, k (ix4 b j h e) * q (ix5 b n h g e)) * Ideal.ofBits .f32 0x3E000000#32 + T (ix2 (row (bucket (δ n j))) ⟨h.val * 4 + g.val, by omega⟩)) ⊥

theorem score_apply (b : Fin 8) (h : Fin 2) (g : Fin 4) (n j : Fin 2048) :
    val_main_v49 (F := Ideal) T q k (ix5 b h g n j) = score T q k b h g n j := by
  pointwise [val_main_v49, val_main_call1_v2, val_main_call1_v1, val_main_call1_v0, val_main_cst_11, val_main_v48, val_main_v47, val_main_v46, val_main_v45, val_main_v44, val_main_cst_10, val_main_v43, val_main_v42]
  simp only [sees_apply, bias_apply]
  rfl

end Cert.Proof.SwaRef

end
-- ==== Proof.SwaRef2.lean ====
/-
  The softmax of the sliding-window attention's reference: over the keys' scores with one more, the sink.
-/
module

public import proofs.«01_k».proof.Proof.SoftmaxSpec
public import proofs.«01_k».proof.Proof.SwaRef
public import proofs.«01_k».proof.Proof.Gen.ReferenceIdeal.Read
public import Idealize.ShloMosaic.Lib.Pointwise

@[expose] public section

set_option maxRecDepth 16384

noncomputable section

namespace Cert.Proof.SwaRef

open Cert.ReferenceIdeal Cert.ReferenceIdeal.Gen Cert.ReferenceIdeal.Read
open Idealize.ShloMosaic Idealize.ShloMosaic.TcCoe Idealize.ShloMosaic.Tactic
open Cert.Proof.Swa Cert.Proof.Softmax

variable (T : Vec Ideal S32x24 .f32) (σ : Vec Ideal S8 .f32) (q : Vec Ideal S8x2048x2x4x64 .f32) (k v : Vec Ideal S8x2048x2x64 .f32)

theorem joined_apply (b : Fin 8) (h : Fin 2) (g : Fin 4) (n : Fin 2048) (j : Fin 2049) :
    val_main_v52 (F := Ideal) T σ q k (ix5 b h g n j) = if hj : j.val < 2048 then score T q k b h g n ⟨j.val, hj⟩ else σ (ix1 ⟨h.val * 4 + g.val, by omega⟩) := by
  pointwise [val_main_v52, val_main_v51, val_main_v50]
  simp only [score_apply]

/-- A running maximum from −∞, its last entry apart. -/
theorem fold_split {n : ℕ} (y : Fin (n + 1) → EReal) :
    Finset.univ.fold max ⊥ y = max (Finset.univ.sup fun j : Fin n => y j.castSucc) (y (Fin.last n)) := by
  show Finset.univ.sup y = _
  rw [Fin.univ_castSuccEmb, Finset.sup_cons, Finset.sup_map, sup_comm]
  rfl

/-- The largest entry along the last axis. -/
theorem max_apply (x : Vec Ideal S8x2x4x2048x2049 .f32) (c : Vec Ideal S_ .f32) (b : Fin 8) (h : Fin 2) (g : Fin 4) (n : Fin 2048) :
    (Host.reduce (FloatOps.maximumf (F := Ideal) (φ := .f32)) x c reducesTo_S8x2x4x2048x2049_S8x2x4x2048_d4 h_S_ : Vec Ideal S8x2x4x2048 .f32) (ix4 b h g n)
      = Finset.univ.fold max (c (Shape.Idx.first h_S_)) fun j : Fin 2049 => x (ix5 b h g n j) := by
  pointwise

theorem bot_word : Ideal.ofBits .f32 0xFF800000#32 = ⊥ := rfl

/-- The running maximum along the scores and the sink. -/
theorem fold_apply (b : Fin 8) (h : Fin 2) (g : Fin 4) (n : Fin 2048) :
    val_main_v53 (F := Ideal) T σ q k (ix4 b h g n) = Finset.univ.fold max ⊥ fun j : Fin 2049 => val_main_v52 (F := Ideal) T σ q k (ix5 b h g n j) := by
  unfold val_main_v53
  generalize val_main_v52 (F := Ideal) T σ q k = x
  rw [max_apply]
  rfl

theorem fold_joined (s : Fin 2048 → EReal) (z : EReal) (y : Fin 2049 → EReal) (hy : ∀ j : Fin 2049, y j = if hj : j.val < 2048 then s ⟨j.val, hj⟩ else z) :
    Finset.univ.fold max ⊥ y = max (Finset.univ.sup s) z := by
  refine (fold_split (n := 2048) y).trans ?_
  congr 1
  · refine Finset.sup_congr rfl fun j _ => ?_
    rw [hy, dif_pos (show j.castSucc.val < 2048 from j.isLt)]
    rfl
  · rw [hy, dif_neg (show ¬ (Fin.last 2048).val < 2048 from Nat.lt_irrefl _)]

theorem max_step (x : Vec Ideal S8x2x4x2048 .f32) (b : Fin 8) (h : Fin 2) (g : Fin 4) (n : Fin 2048) :
    (maximumf (broadcastInDim S8x2x4x2048 ![] bcast_S_S8x2x4x2048 (constant (F := Ideal) S_ .f32 0xFF800000#32)) x : Vec Ideal S8x2x4x2048 .f32) (ix4 b h g n) = x (ix4 b h g n) := by
  pointwise
  rw [bot_word]
  exact max_eq_right bot_le

/-- The largest of the scores and the sink. -/
theorem top_apply (b : Fin 8) (h : Fin 2) (g : Fin 4) (n : Fin 2048) :
    val_main_v55 (F := Ideal) T σ q k (ix4 b h g n) = max (Finset.univ.sup (score T q k b h g n)) (σ (ix1 ⟨h.val * 4 + g.val, by omega⟩)) := by
  have e := (fold_apply T σ q k b h g n).trans (fold_joined (score T q k b h g n) (σ (ix1 ⟨h.val * 4 + g.val, by omega⟩)) _ (joined_apply T σ q k b h g n))
  unfold val_main_v55 val_main_v54 val_main_cst_13
  exact (max_step _ b h g n).trans e

/-- The exponentials. -/
theorem exp_apply (b : Fin 8) (h : Fin 2) (g : Fin 4) (n : Fin 2048) (j : Fin 2049) :
    val_main_v59 (F := Ideal) T σ q k (ix5 b h g n j)
      = Ideal.exp ((if hj : j.val < 2048 then score T q k b h g n ⟨j.val, hj⟩ else σ (ix1 ⟨h.val * 4 + g.val, by omega⟩))
          - max (Finset.univ.sup (score T q k b h g n)) (σ (ix1 ⟨h.val * 4 + g.val, by omega⟩))) := by
  pointwise [val_main_v59, val_main_v58, val_main_v57, val_main_v56]
  rw [joined_apply, top_apply]

/-- A sum over the scores and the sink. -/
theorem sum_joined (s : Fin 2048 → EReal) (z : EReal) (f : EReal → EReal) :
    ∑ j : Fin 2049, f (if hj : j.val < 2048 then s ⟨j.val, hj⟩ else z) = ∑ j, f (s j) + f z := by
  refine (Fin.sum_univ_castSucc (n := 2048) _).trans ?_
  congr 1

/-- Their sum. -/
theorem total_apply (b : Fin 8) (h : Fin 2) (g : Fin 4) (n : Fin 2048) :
    val_main_v60 (F := Ideal) T σ q k (ix4 b h g n)
      = ∑ j : Fin 2048, Ideal.exp (score T q k b h g n j - max (Finset.univ.sup (score T q k b h g n)) (σ (ix1 ⟨h.val * 4 + g.val, by omega⟩)))
        + Ideal.exp (σ (ix1 ⟨h.val * 4 + g.val, by omega⟩) - max (Finset.univ.sup (score T q k b h g n)) (σ (ix1 ⟨h.val * 4 + g.val, by omega⟩))) := by
  pointwise [val_main_v60, val_main_cst_14]
  simp only [exp_apply]
  exact sum_joined (score T q k b h g n) (σ (ix1 ⟨h.val * 4 + g.val, by omega⟩)) fun z => Ideal.exp (z - max (Finset.univ.sup (score T q k b h g n)) (σ (ix1 ⟨h.val * 4 + g.val, by omega⟩)))

/-- A weight. -/
theorem weight_apply (b : Fin 8) (h : Fin 2) (g : Fin 4) (n j : Fin 2048) :
    val_main_v64 (F := Ideal) T σ q k (ix5 b h g n j)
      = Ideal.div (Ideal.exp (score T q k b h g n j - max (Finset.univ.sup (score T q k b h g n)) (σ (ix1 ⟨h.val * 4 + g.val, by omega⟩))))
          (∑ j : Fin 2048, Ideal.exp (score T q k b h g n j - max (Finset.univ.sup (score T q k b h g n)) (σ (ix1 ⟨h.val * 4 + g.val, by omega⟩)))
            + Ideal.exp (σ (ix1 ⟨h.val * 4 + g.val, by omega⟩) - max (Finset.univ.sup (score T q k b h g n)) (σ (ix1 ⟨h.val * 4 + g.val, by omega⟩)))) := by
  pointwise [val_main_v64, val_main_v63, val_main_v62, val_main_v61]
  rw [total_apply, exp_apply, dif_pos j.isLt]

/-- An entry of the result. -/
theorem out_apply (b : Fin 8) (n : Fin 2048) (c : Fin 512) :
    val_main_v68 (F := Ideal) T σ q k v (ix3 b n c)
      = sinked (score T q k b ⟨c.val / 256, by omega⟩ ⟨c.val / 64 % 4, by omega⟩ n) (fun j => v (ix4 b j ⟨c.val / 256, by omega⟩ ⟨c.val % 64, by omega⟩))
          (σ (ix1 ⟨c.val / 256 * 4 + c.val / 64 % 4, by omega⟩)) := by
  pointwise [val_main_v68, val_main_v67, val_main_v66, val_main_v65]
  simp only [weight_apply]
  rfl

end Cert.Proof.SwaRef

end
-- ==== Proof.SwaAgree.lean ====
/-
  The sliding-window attention's cell and its reference's entry agree where the table, the sinks, the queries and the
  keys are finite.
-/
module

public import proofs.«01_k».proof.Proof.SwaOut
public import proofs.«01_k».proof.Proof.SwaRef2

@[expose] public section

set_option maxRecDepth 16384

noncomputable section

namespace Cert.Proof.SwaEq

open Idealize.ShloMosaic Idealize.ShloMosaic.TcCoe Idealize.ShloMosaic.Tactic
open Cert.KernelIdeal Cert.KernelIdeal.Gen
open Cert.Proof.SwaRef (δ score)
open Cert.Proof.Softmax
open Cert.Proof.Swa hiding score

/-- A distance depends on the difference alone. -/
theorem word_shift (a x y : ℕ) : BitVec.ofNat 32 (a + x) - BitVec.ofNat 32 (a + y) = BitVec.ofNat 32 x - BitVec.ofNat 32 y := by
  apply BitVec.eq_of_toNat_eq
  rw [BitVec.toNat_sub, BitVec.toNat_sub]
  simp only [BitVec.toNat_ofNat]
  omega

/-- A distance, read signed. -/
theorem δ_toInt (n j : Fin 2048) : (δ n j).toInt = (n.val : ℤ) - j.val := by
  have hn := n.isLt
  have hj := j.isLt
  unfold SwaRef.δ
  rw [BitVec.toInt_sub, WordCmp.toInt_ofNat_of_lt (by omega), WordCmp.toInt_ofNat_of_lt (by omega)]
  have e : ((2 ^ 32 : ℕ) : ℤ) = 4294967296 := by norm_num
  simp only [Int.bmod, e]
  omega

/-- A query sees the 128 keys up to its own. -/
theorem sees_eq (n j : Fin 2048) : IntOp.andi (IntOp.cmpi .sge (δ n j) 0#32) (IntOp.cmpi .slt (δ n j) 128#32)
    = BitVec.ofBool (decide (j.val ≤ n.val ∧ n.val < j.val + 128)) := by
  have h0 : (0#32 : BitVec 32).toInt = 0 := by decide
  have h1 : (128#32 : BitVec 32).toInt = 128 := by decide
  rw [WordCmp.cmpi_sge_eq, WordCmp.cmpi_slt_eq, WordCmp.andi_ofBool, δ_toInt, h0, h1]
  refine congrArg _ ?_
  rw [Bool.eq_iff_iff, Bool.and_eq_true, decide_eq_true_iff, decide_eq_true_iff, decide_eq_true_iff]
  omega

theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem eighth : Ideal.ofBits .f32 0x3E000000#32 = (((1 / 8 : ℝ)) : EReal) := by
  simp [Ideal.ofBits, Ideal.ieee, -EReal.coe_mul]; norm_num

/-- The scaled scores: the kernel scales the query by `S`, the reference scales the product by an eighth. -/
theorem scale_eq (k q : Fin 64 → EReal) (β : EReal) (hk : ∀ e, k e ≠ ⊤ ∧ k e ≠ ⊥) (hq : ∀ e, q e ≠ ⊤ ∧ q e ≠ ⊥) (hβ : β ≠ ⊤ ∧ β ≠ ⊥) :
    ∑ e, k e * (q e * S) + L * β = L * ((∑ e, k e * q e) * Ideal.ofBits .f32 0x3E000000#32 + β)
      ∧ (∑ e, k e * q e) * Ideal.ofBits .f32 0x3E000000#32 + β ≠ ⊤ := by
  obtain ⟨k', rfl⟩ : ∃ k' : Fin 64 → ℝ, k = fun e => (k' e : EReal) := ⟨fun e => (k e).toReal, funext fun e => (EReal.coe_toReal (hk e).1 (hk e).2).symm⟩
  obtain ⟨q', rfl⟩ : ∃ q' : Fin 64 → ℝ, q = fun e => (q' e : EReal) := ⟨fun e => (q e).toReal, funext fun e => (EReal.coe_toReal (hq e).1 (hq e).2).symm⟩
  lift β to ℝ using hβ
  rw [eighth]
  unfold S L
  simp only [← EReal.coe_mul, coe_sum, ← EReal.coe_add]
  refine ⟨congrArg _ ?_, EReal.coe_ne_top _⟩
  rw [mul_add, Finset.sum_mul, Finset.mul_sum]
  exact congrArg (· + _) (Finset.sum_congr rfl fun e _ => by ring)

variable (T : Vec Ideal S32x24 .f32) (q : Vec Ideal S8x2048x2x4x64 .f32) (k v : Vec Ideal S8x2048x2x64 .f32)

/-- A score the query does not see. -/
theorem score_unseen (b : Fin 8) (h : Fin 2) (g : Fin 4) (n j : Fin 2048) (hs : ¬ (j.val ≤ n.val ∧ n.val < j.val + 128)) : score T q k b h g n j = ⊥ := by
  unfold SwaRef.score
  rw [sees_eq, decide_eq_false hs]
  rfl

/-- A score the query sees. -/
theorem score_seen (b : Fin 8) (h : Fin 2) (g : Fin 4) (n j : Fin 2048) (hs : j.val ≤ n.val ∧ n.val < j.val + 128) : score T q k b h g n j
    = (∑ e : Fin 64, k (ix4 b j h e) * q (ix5 b n h g e)) * Ideal.ofBits .f32 0x3E000000#32 + T (ix2 (row (bucket (δ n j))) ⟨h.val * 4 + g.val, by omega⟩) := by
  unfold SwaRef.score
  rw [sees_eq, decide_eq_true hs]
  rfl

/-- One entry of the two results. -/
theorem cell_eq (hT : ∀ i, T i ≠ ⊤ ∧ T i ≠ ⊥) (hq : ∀ i, q i ≠ ⊤ ∧ q i ≠ ⊥) (hk : ∀ i, k i ≠ ⊤ ∧ k i ≠ ⊥)
    (x0 : Vec Ideal S8 .f32) (hσ : ∀ i, x0 i ≠ ⊤ ∧ x0 i ≠ ⊥)
    (x1 : Vec Ideal S1x2048x512 .f32) (x2 : Vec Ideal S1x2048x128 .bf16) (x3 : Vec Ideal S1x16x160x128 .bf16) (x4 : Vec Ideal S8x2x128x128 .f32) (b : Fin 8)
    (h1 : ∀ (n : Fin 2048) (h : Fin 8) (e : Fin 64), x1 (ix3 0 n ⟨64 * h.val + e.val, by omega⟩) = q (ix5 b n ⟨h.val / 4, by omega⟩ ⟨h.val % 4, by omega⟩ e))
    (h2 : ∀ (n : Fin 2048) (h : Fin 8) (e : Fin 64), x2 (ix3 0 n ⟨64 * (h.val / 4) + e.val, by omega⟩) = k (ix4 b n ⟨h.val / 4, by omega⟩ e))
    (h3 : ∀ (t : Fin 16) (h : Fin 8) (d : Fin 64) (x : Fin 128), x3 (ix4 0 t ⟨80 * (h.val / 4) + d.val, by omega⟩ x) = v (ix4 b ⟨128 * t.val + x.val, by omega⟩ ⟨h.val / 4, by omega⟩ d))
    (h4 : ∀ (h : Fin 8) (p : Fin 2) (x r : Fin 128), x4 (ix4 h p x r) = T (ix2 (row (bucket (BitVec.ofNat 32 (128 * p.val + r.val) - BitVec.ofNat 32 x.val))) ⟨h.val, by omega⟩))
    (t : Fin 16) (r : Fin 128) (h : Fin 8) (d : Fin 64) :
    cell x0 x1 x2 x3 x4 t r h d
      = sinked (score T q k b ⟨h.val / 4, by omega⟩ ⟨h.val % 4, by omega⟩ ⟨128 * t.val + r.val, by omega⟩) (fun j => v (ix4 b j ⟨h.val / 4, by omega⟩ d)) (x0 (ix1 h)) := by
  have ht := t.isLt
  have hr := r.isLt
  have key : ∀ (j : Fin 2048) (p : Fin 2) (x : Fin 128), j.val ≤ 128 * t.val + r.val → 128 * t.val + r.val < j.val + 128 →
      j.val + 128 * p.val = 128 * t.val + x.val →
      ∑ e : Fin 64, x2 (ix3 0 j ⟨64 * (h.val / 4) + e.val, by omega⟩) * (x1 (ix3 0 ⟨128 * t.val + r.val, by omega⟩ ⟨64 * h.val + e.val, by omega⟩) * S) + L * x4 (ix4 h p x r)
        = L * score T q k b ⟨h.val / 4, by omega⟩ ⟨h.val % 4, by omega⟩ ⟨128 * t.val + r.val, by omega⟩ j := by
    intro j p x hj hj' hp
    rw [score_seen T q k b _ _ _ j ⟨hj, hj'⟩]
    simp only [h1, h2, h4]
    have hδ : BitVec.ofNat 32 (128 * p.val + r.val) - BitVec.ofNat 32 x.val = δ ⟨128 * t.val + r.val, by omega⟩ j := by
      show _ = BitVec.ofNat 32 (128 * t.val + r.val) - BitVec.ofNat 32 j.val
      have e1 := word_shift (128 * t.val) (128 * p.val + r.val) x.val
      rw [← hp, show 128 * t.val + (128 * p.val + r.val) = 128 * p.val + (128 * t.val + r.val) by omega,
        show j.val + 128 * p.val = 128 * p.val + j.val by omega, word_shift] at e1
      exact e1.symm
    rw [hδ]
    have hc : (⟨h.val, by omega⟩ : Fin 24) = ⟨h.val / 4 * 4 + h.val % 4, by omega⟩ := Fin.ext (by show h.val = h.val / 4 * 4 + h.val % 4; omega)
    rw [hc]
    exact (scale_eq _ _ _ (fun e => hk _) (fun e => hq _) (hT _)).1
  have hσ' := hσ (ix1 h)
  obtain ⟨z, hz⟩ : ∃ z : ℝ, x0 (ix1 h) = z := ⟨_, (EReal.coe_toReal hσ'.1 hσ'.2).symm⟩
  unfold cell
  rw [hz]
  refine windowed_eq _ _ z t.val ht ?_ ?_ _ _ _ _ ?_ ?_ ?_ ?_
  · intro j
    by_cases hs : j.val ≤ 128 * t.val + r.val ∧ 128 * t.val + r.val < j.val + 128
    · rw [score_seen T q k b _ _ _ j hs]
      exact (scale_eq _ _ _ (fun e => hk _) (fun e => hq _) (hT _)).2
    · rw [score_unseen T q k b _ _ _ j hs]
      exact bot_ne_top
  · intro j ha hb
    exact score_unseen T q k b _ _ _ j (by show ¬ (j.val ≤ 128 * t.val + r.val ∧ 128 * t.val + r.val < j.val + 128); omega)
  · intro x
    have hx := x.isLt
    by_cases hs : x.val ≤ r.val
    · rw [if_pos hs]
      exact key ⟨128 * t.val + x.val, by omega⟩ 0 x (by show 128 * t.val + x.val ≤ _; omega) (by show _ < 128 * t.val + x.val + 128; omega) rfl
    · rw [if_neg hs, score_unseen T q k b _ _ _ _ (by show ¬ (128 * t.val + x.val ≤ 128 * t.val + r.val ∧ 128 * t.val + r.val < 128 * t.val + x.val + 128); omega), L_bot]
  · intro x
    have hx := x.isLt
    by_cases h0 : t.val = 0
    · rw [dif_pos h0, if_neg]
      rw [decide_eq_false (fun hne => hne h0)]
      show ¬ (r.val + 128 < x.val)
      omega
    · rw [dif_neg h0, decide_eq_true (show t.val ≠ 0 from h0)]
      by_cases hs : r.val + 0 < x.val
      · rw [if_pos (show r.val + gap true < x.val from hs)]
        exact key ⟨128 * (t.val - 1) + x.val, by omega⟩ 1 x (by show 128 * (t.val - 1) + x.val ≤ _; omega) (by show _ < 128 * (t.val - 1) + x.val + 128; omega)
          (by show 128 * (t.val - 1) + x.val + 128 * 1 = 128 * t.val + x.val; omega)
      · rw [if_neg (show ¬ r.val + gap true < x.val from hs), score_unseen T q k b _ _ _ _ (by show ¬ (128 * (t.val - 1) + x.val ≤ 128 * t.val + r.val ∧ 128 * t.val + r.val < 128 * (t.val - 1) + x.val + 128); omega), L_bot]
  · intro x
    exact h3 t h d x
  · intro x h0
    exact h3 ⟨t.val - 1, by omega⟩ h d x

end Cert.Proof.SwaEq

end
-- ==== Proof.SwaClaim.lean ====
/-
  The sliding-window attention and its reference compute the same array over the extended reals, where the table, the
  sinks, the queries and the keys are finite.
-/
module

public import proofs.«01_k».proof.Defs
public import proofs.«01_k».proof.Proof.SwaArray
public import proofs.«01_k».proof.Proof.SwaHost
public import proofs.«01_k».proof.Proof.SwaAgree
public import Idealize.ShloMosaic.Lib.StableHlo.Run

@[expose] public section

set_option maxRecDepth 16384

noncomputable section

open Idealize.ShloMosaic Idealize.ShloMosaic.TcCoe Idealize.ShloMosaic.Tactic Idealize.SL.Sem

namespace Cert.Proof.SwaEq

open Cert.KernelIdeal Cert.KernelIdeal.Gen
open Cert.Proof.Softmax
open Cert.Proof.Swa hiding score

theorem inf_word : Ideal.ofBits .f32 0x7F800000#32 = ⊤ := by
  simp [Ideal.ofBits, Ideal.ieee]

/-- A value whose magnitude is below +∞ is a real. -/
theorem real_of_lt (x : EReal) (h : FloatOps.cmpf (F := Ideal) (φ := .f32) .olt (FloatOps.absf (F := Ideal) (φ := .f32) x) (Ideal.ofBits .f32 0x7F800000#32) = 1#1) : x ≠ ⊤ ∧ x ≠ ⊥ := by
  rw [inf_word] at h
  constructor
  · rintro rfl
    exact absurd h (by
      have e : FloatOps.absf (F := Ideal) (φ := .f32) (⊤ : EReal) = (⊤ : EReal) := by
        show max (⊤ : EReal) (-⊤) = ⊤
        exact max_eq_left le_top
      rw [e]
      show ¬ Ideal.cmp .olt ⊤ ⊤ = 1#1
      simp [Ideal.cmp])
  · rintro rfl
    exact absurd h (by
      have e : FloatOps.absf (F := Ideal) (φ := .f32) (⊥ : EReal) = (⊤ : EReal) := by
        show max (⊥ : EReal) (-⊥) = ⊤
        rw [EReal.neg_bot]
        exact max_eq_right le_top
      rw [e]
      show ¬ Ideal.cmp .olt ⊤ ⊤ = 1#1
      simp [Ideal.cmp])

variable (m : (ℓ : Loc nD τ sig) → Buf (Elt Ideal) ℓ)

/-- What the precondition says of the arguments. -/
theorem finite_args [hP : Cert.Pre_finite.Facts] (T : Vec Ideal S32x24 .f32) (σ : Vec Ideal S8 .f32) (q : Vec Ideal S8x2048x2x4x64 .f32) (k v : Vec Ideal S8x2048x2x64 .f32)
    (h : (Cert.Pre_finite.fn (F := Ideal) T σ q k v).1 = (fun _ => 1#1) ∧ (Cert.Pre_finite.fn (F := Ideal) T σ q k v).2.1 = (fun _ => 1#1)
      ∧ (Cert.Pre_finite.fn (F := Ideal) T σ q k v).2.2.1 = (fun _ => 1#1) ∧ (Cert.Pre_finite.fn (F := Ideal) T σ q k v).2.2.2 = (fun _ => 1#1)) :
    (∀ i, T i ≠ ⊤ ∧ T i ≠ ⊥) ∧ (∀ i, σ i ≠ ⊤ ∧ σ i ≠ ⊥) ∧ (∀ i, q i ≠ ⊤ ∧ q i ≠ ⊥) ∧ ∀ i, k i ≠ ⊤ ∧ k i ≠ ⊥ := by
  obtain ⟨h0, h1, h2, h3⟩ := h
  exact ⟨fun i => real_of_lt _ (congrFun h0 i), fun i => real_of_lt _ (congrFun h1 i), fun i => real_of_lt _ (congrFun h2 i), fun i => real_of_lt _ (congrFun h3 i)⟩

/-- The rows of ones. -/
theorem ones (d : Dev nD) (b : Fin 8) (t : Fin 16) (kv : Fin 2) (x : Fin 128) : V m d main_v51 (ix4 b t ⟨80 * kv.val + 64, by omega⟩ x) = (1 : EReal) := by
  refine (congrFun (V_v51_eq m d) _).trans ((merge_apply _ b t _ x).trans ?_)
  refine (val_apply _ b t _ _ x).trans (dif_neg ?_)
  show ¬ (80 * kv.val + 64) % 80 < 64
  omega

/-- A column of the queries. -/
theorem queries (d : Dev nD) (b : Fin 8) (n : Fin 2048) (h : Fin 8) (e : Fin 64) :
    qAt m d b (ix3 0 n ⟨64 * h.val + e.val, by omega⟩) = m ((d : Thread nD τ).loc main_arg2) (ix5 b n ⟨h.val / 4, by omega⟩ ⟨h.val % 4, by omega⟩ e) := by
  refine (congrFun (V_v43_eq m d) _).trans ((q_apply _ b n ⟨64 * h.val + e.val, by omega⟩).trans ?_)
  have e1 : (64 * h.val + e.val) / 256 = h.val / 4 := by omega
  have e2 : (64 * h.val + e.val) / 64 % 4 = h.val % 4 := by omega
  have e3 : (64 * h.val + e.val) % 64 = e.val := by omega
  simp only [e1, e2, e3]

/-- A column of the keys. -/
theorem keys (d : Dev nD) (b : Fin 8) (n : Fin 2048) (h : Fin 8) (e : Fin 64) :
    kAt m d b (ix3 0 n ⟨64 * (h.val / 4) + e.val, by omega⟩) = m ((d : Thread nD τ).loc main_arg3) (ix4 b n ⟨h.val / 4, by omega⟩ e) := by
  refine (congrFun (V_v45_eq m d) _).trans ((k_apply _ b n ⟨64 * (h.val / 4) + e.val, by omega⟩).trans ?_)
  have e1 : (64 * (h.val / 4) + e.val) / 64 = h.val / 4 := by omega
  have e3 : (64 * (h.val / 4) + e.val) % 64 = e.val := by omega
  simp only [e1, e3]

/-- A row of the values. -/
theorem values (d : Dev nD) (b : Fin 8) (t : Fin 16) (h : Fin 8) (e : Fin 64) (x : Fin 128) :
    vAt m d b (ix4 0 t ⟨80 * (h.val / 4) + e.val, by omega⟩ x) = m ((d : Thread nD τ).loc main_arg4) (ix4 b ⟨128 * t.val + x.val, by omega⟩ ⟨h.val / 4, by omega⟩ e) := by
  refine (congrFun (V_v51_eq m d) _).trans ((merge_apply _ b t ⟨80 * (h.val / 4) + e.val, by omega⟩ x).trans ?_)
  have e1 : (80 * (h.val / 4) + e.val) / 80 = h.val / 4 := by omega
  have e3 : (80 * (h.val / 4) + e.val) % 80 = e.val := by omega
  simp only [e1, e3]
  refine (val_apply _ b t _ _ x).trans ((dif_pos e.isLt).trans ?_)
  simp only [Nat.mul_comm t.val 128]

/-- The bias of a query and a key of two tiles. -/
theorem bias (d : Dev nD) (h : Fin 8) (p : Fin 2) (x r : Fin 128) :
    V m d main_v42 (ix4 h p x r) = m ((d : Thread nD τ).loc main_arg0) (ix2 (row (bucket (BitVec.ofNat 32 (128 * p.val + r.val) - BitVec.ofNat 32 x.val))) ⟨h.val, by omega⟩) := by
  refine (congrFun (V_v42_eq m d) _).trans ((biasArr_apply _ h p x r).trans ?_)
  rw [bucket_apply, dist_apply]

/-- The result array is the reference's last stage of the same arguments. -/
theorem res_eq [Cert.Pre_finite.Facts] (hpre : Cert.Pre_KernelIdeal_finite m) (d : Dev nD) : res m d = Cert.ReferenceIdeal.Read.val_main_v68 (F := Ideal) (m ((d : Thread nD τ).loc main_arg0)) (m ((d : Thread nD τ).loc main_arg1)) (m ((d : Thread nD τ).loc main_arg2)) (m ((d : Thread nD τ).loc main_arg3)) (m ((d : Thread nD τ).loc main_arg4)) := by
  funext i
  obtain ⟨b, n, c, rfl⟩ : ∃ (b : Fin 8) (n : Fin 2048) (c : Fin 512), i = ix3 b n c := ⟨i 0, i 1, i 2, eq_ix3 i⟩
  obtain ⟨hT, hσ, hq, hk⟩ := finite_args _ _ _ _ _ (hpre d)
  refine (res_apply m d b n c).trans (Eq.trans ?_ (Cert.Proof.SwaRef.out_apply _ _ _ _ _ b n c).symm)
  have hn := n.isLt
  have hc := c.isLt
  rw [V_main_arg1]
  refine (cell_eq _ _ _ (m ((d : Thread nD τ).loc main_arg4)) hT hq hk _ hσ _ _ _ _ b (queries m d b) (keys m d b) (values m d b) (bias m d) ⟨n.val / 128, by omega⟩ ⟨n.val % 128, by omega⟩ ⟨c.val / 64, by omega⟩ ⟨c.val % 64, by omega⟩).trans ?_
  have e1 : c.val / 64 / 4 = c.val / 256 := by omega
  have e2 : 128 * (n.val / 128) + n.val % 128 = n.val := by omega
  have e3 : c.val / 256 * 4 + c.val / 64 % 4 = c.val / 64 := by omega
  simp only [e1, e2, e3]

end Cert.Proof.SwaEq

/-- Both run, with equal results and unchanged arguments. -/
theorem Cert.Proof.SwaEq.claim [Cert.Pre_finite.Facts] : Cert.algebraic_KernelIdeal_ReferenceIdeal_pre_finite := by
  intro m g m' g' hpre hagree
  refine ⟨fun c => Cert.Proof.Swa.res m c, ?_, ?_⟩
  · refine (θ_run _ _ _).mono (fun r h c => ?_) (Cert.KernelIdeal.Value.run_blocks m g)
    obtain ⟨h0, hr⟩ := h c
    exact ⟨h0.trans (Cert.Proof.Swa.final m c (Cert.Proof.SwaEq.ones m c)), hr⟩
  · refine (θ_run _ _ _).mono (fun r h c => ?_) (Cert.ReferenceIdeal.Value.run (F := Ideal) m' g')
    obtain ⟨h0, hr⟩ := h c
    refine ⟨h0.trans ?_, hr⟩
    obtain ⟨a0, a1, a2, a3, a4⟩ := hagree c
    rw [Cert.ReferenceIdeal.Read.val_main_v68_eq, a0, a1, a2, a3, a4]
    exact (Cert.Proof.SwaEq.res_eq m hpre c).symm

end
-- ==== Proof.SwaNeed.lean ====
module

public import proofs.«01_k».proof.Proof.SoftmaxSpec

public section

/-! Why the sliding-window claim asks for finite scores and sinks: with a sink of +∞, or a score of +∞, and values of zero,
    the kernel divides 0 by 0 and gives −∞, the reference gives 0. -/

open Idealize.ShloMosaic

namespace Cert.Proof.Softmax

private theorem exp2_sub_top (x : EReal) : Ideal.exp2 (x - ⊤) = 0 := by
  rw [EReal.sub_top]; rfl

private theorem div_zero_zero : Ideal.div 0 0 = ⊥ := by
  simp [Ideal.div]

/-- The kernel's formula, with values of zero and the largest of scores and sink +∞. -/
theorem windowed_top (a b : Fin 128 → EReal) (w : EReal) (h : max (max (Finset.univ.sup a) (Finset.univ.sup b)) w = ⊤) :
    windowed a b (fun _ => 0) (fun _ => 0) w = ⊥ := by
  unfold windowed
  simp only [h, exp2_sub_top, zero_mul, mul_zero, Finset.sum_const_zero, add_zero, div_zero_zero]

/-- The reference's formula, with values of zero. -/
theorem sinked_zero (s : Fin 2048 → EReal) (σ : EReal) : sinked s (fun _ => 0) σ = 0 := by
  unfold sinked
  simp only [zero_mul, Finset.sum_const_zero]

end Cert.Proof.Softmax

end
-- ==== Proof.MlaIdealLoop.lean ====
module

public import proofs.«01_k».proof.Proof.Gen.Kernel4Ideal.Loops
public import proofs.«01_k».proof.Proof.Gen.Kernel4Ideal.Frame

@[expose] public section

set_option maxRecDepth 16384

noncomputable section

namespace Cert.Proof.Kernel4Ideal

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- What one query tile of the latent attention needs and hands back: the padded queries, keys and values
    at their contents, and the output block, the accumulator and the two score buffers at some contents. -/
abbrev tileRes (c : Dev nD) (arg1 : Memref sig .tc .vmem S1x2048x1024 .f32) (arg2 : Memref sig .tc .vmem S1x2048x1024 .bf16) (arg3 : Memref sig .tc .vmem S1x8x640x256 .bf16) (arg4 : Memref sig .tc .vmem S1x2048x512 .bf16) (arg5 : Memref sig .tc .vmem S80x2048 .f32) (arg6 : Memref sig .tc .vmem S2x256x2048 .f32) (X1 : BufTy.Contents (Elt F) arg1.view.ty) (X2 : BufTy.Contents (Elt F) arg2.view.ty) (X3 : BufTy.Contents (Elt F) arg3.view.ty) : sProp 𝕄 :=
  iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (∃ f, (arg4.view.loc (c : Thread nD τ) ↦[arg4.view.set]{fullShare} f)) ∗ (∃ f, (arg5.view.loc (c : Thread nD τ) ↦[arg5.view.set]{fullShare} f)) ∗ (∃ f, (arg6.view.loc (c : Thread nD τ) ↦[arg6.view.set]{fullShare} f)))

set_option maxHeartbeats 4000000 in
/-- One query tile of the latent attention, the tile's number symbolic: it runs from its resources to its
    resources, whether the tile's last key block is the second of a pair or alone (the conditional's two cases). -/
theorem tile_run (c : Dev nD) (i : grid0.Coords) (arg1 : Memref sig .tc .vmem S1x2048x1024 .f32) (harg1 : arg1.IsWhole) (arg2 : Memref sig .tc .vmem S1x2048x1024 .bf16) (harg2 : arg2.IsWhole) (arg3 : Memref sig .tc .vmem S1x8x640x256 .bf16) (harg3 : arg3.IsWhole) (arg4 : Memref sig .tc .vmem S1x2048x512 .bf16) (harg4 : arg4.IsWhole) (arg5 : Memref sig .tc .vmem S80x2048 .f32) (harg5 : arg5.IsWhole) (arg6 : Memref sig .tc .vmem S2x256x2048 .f32) (harg6 : arg6.IsWhole) (X1 : BufTy.Contents (Elt F) arg1.view.ty) (X2 : BufTy.Contents (Elt F) arg2.view.ty) (X3 : BufTy.Contents (Elt F) arg3.view.ty)
    (k : Fin k0_t1_loop.trips) (acc : Unit) :
    tileRes (F := F) c arg1 arg2 arg3 arg4 arg5 arg6 X1 X2 X3
      ⊢ wp frame (wpE (defs₀ (F := F)) Variants.none (c : Thread nD τ) none) Set.univ (k0_t1_body (F := F) i arg1 harg1 arg2 harg2 arg3 harg3 arg4 harg4 arg5 harg5 arg6 harg6 k acc)
          (fun _ => tileRes (F := F) c arg1 arg2 arg3 arg4 arg5 arg6 X1 X2 X3) := by
  by_cases hc : k0_cond1 k = 1#1
  · unfold k0_t1_body
    iintro ⟨H1, H2, H3, ⟨%f4, H4⟩, ⟨%f5, H5⟩, ⟨%f6, H6⟩⟩
    sl_exec
    sl_step
    isplitl [H1]; · iexact H1
    isplitl [H2]; · iexact H2
    isplitl [H3]; · iexact H3
    isplitl [H4]; · iexists _; iexact H4
    isplitl [H5]; · iexists _; iexact H5
    iexists _; iexact H6
  · unfold k0_t1_body
    iintro ⟨H1, H2, H3, ⟨%f4, H4⟩, ⟨%f5, H5⟩, ⟨%f6, H6⟩⟩
    sl_exec
    sl_step
    isplitl [H1]; · iexact H1
    isplitl [H2]; · iexact H2
    isplitl [H3]; · iexact H3
    isplitl [H4]; · iexists _; iexact H4
    isplitl [H5]; · iexists _; iexact H5
    iexists _; iexact H6

/-- The loop over the query tiles by its invariant: the resources of one tile. -/
@[sl_loop] def loopInv_k0_t1 (c : Dev nD) (i : grid0.Coords) (arg1 : Memref sig .tc .vmem S1x2048x1024 .f32) (harg1 : arg1.IsWhole) (arg2 : Memref sig .tc .vmem S1x2048x1024 .bf16) (harg2 : arg2.IsWhole) (arg3 : Memref sig .tc .vmem S1x8x640x256 .bf16) (harg3 : arg3.IsWhole) (arg4 : Memref sig .tc .vmem S1x2048x512 .bf16) (harg4 : arg4.IsWhole) (arg5 : Memref sig .tc .vmem S80x2048 .f32) (harg5 : arg5.IsWhole) (arg6 : Memref sig .tc .vmem S2x256x2048 .f32) (harg6 : arg6.IsWhole) (X1 : BufTy.Contents (Elt F) arg1.view.ty) (X2 : BufTy.Contents (Elt F) arg2.view.ty) (X3 : BufTy.Contents (Elt F) arg3.view.ty) :
    LoopInvTy_k0_t1 (F := F) Unit ℕ (UR sig nD τ) ℕ Variants.none c none Set.univ i arg1 harg1 arg2 harg2 arg3 harg3 arg4 harg4 arg5 harg5 arg6 harg6 where
  inv := fun _ _ => tileRes (F := F) c arg1 arg2 arg3 arg4 arg5 arg6 X1 X2 X3
  step := fun k acc => tile_run c i arg1 harg1 arg2 harg2 arg3 harg3 arg4 harg4 arg5 harg5 arg6 harg6 X1 X2 X3 k acc

end Cert.Proof.Kernel4Ideal

end
-- ==== Proof.MlaIdealRun.lean ====
module

public import proofs.«01_k».proof.Proof.MlaIdealLoop

@[expose] public section

set_option maxRecDepth 16384

noncomputable section

namespace Cert.Proof.Kernel4Ideal

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The whole body at one grid point, on any whole staging buffers: the inputs at their contents, the output and
    the scratch at anything; the inputs come back as they were, the rest at some contents. -/
theorem body_run (c : Dev nD) (i : grid0.Coords) (arg1 : Memref sig .tc .vmem S1x2048x1024 .f32) (harg1 : arg1.IsWhole) (arg2 : Memref sig .tc .vmem S1x2048x1024 .bf16) (harg2 : arg2.IsWhole) (arg3 : Memref sig .tc .vmem S1x8x640x256 .bf16) (harg3 : arg3.IsWhole) (arg4 : Memref sig .tc .vmem S1x2048x512 .bf16) (harg4 : arg4.IsWhole) (arg5 : Memref sig .tc .vmem S80x2048 .f32) (harg5 : arg5.IsWhole) (arg6 : Memref sig .tc .vmem S2x256x2048 .f32) (harg6 : arg6.IsWhole)
    (x0 : Vec F S1x2048x1024 .f32) (x1 : Vec F S1x2048x1024 .bf16) (x2 : Vec F S1x8x640x256 .bf16) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d)) -∗ K ⟨⟩))
      ⊢ wp frame (wpE (defs₀ (F := F)) Variants.none c none) Set.univ (cc0_mla i arg1 harg1 arg2 harg2 arg3 harg3 arg4 harg4 arg5 harg5 arg6 harg6) K := by
    simp only [cc0_mla_eq_skeleton]; unfold cc0_mla_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _, _; isplitr; swap; · iexact H3
      ipureintro; rfl
    isplitl [H4]
    · iexists _, _; isplitr; swap; · iexact H4
      ipureintro; rfl
    iexists _, _; isplitr; swap; · iexact H5
    ipureintro; rfl

end Cert.Proof.Kernel4Ideal

end
-- ==== Proof.MlaIdealFrame.lean ====
module

public import proofs.«01_k».proof.Proof.MlaIdealRun
public import Idealize.ShloMosaic.Adequacy

@[expose] public section

set_option maxRecDepth 16384

noncomputable section

namespace Cert.Proof.Kernel4Ideal

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The staging buffers and the scratch -/

abbrev ms0_0 (t : Fin cfg0.N) : Memref sig .tc .vmem S1x2048x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x8x640x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2048x512 .bf16 := win0_3.stage (cfg0.slots t 3)
abbrev hs0_3 (t : Fin cfg0.N) : (ms0_3 t).IsWhole := hstage0_3 ((cfg0.slots t 3).cast nbuf0_3)

abbrev scM0 : Memref sig .tc .vmem S80x2048 .f32 := Memref.whole cc0_scratch0
abbrev scM1 : Memref sig .tc .vmem S2x256x2048 .f32 := Memref.whole cc0_scratch1

/-- The pipeline's invariant: the two scratch buffers at some contents, and the generator register. -/
theorem PhiA_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

/-! ## The pipeline's data -/

/-- The output window: nothing reads back what the kernel leaves in it. -/
def outs : Fin 4 → Bool := fun w => decide (3 ≤ w.val)

/-- The pipeline's data on core `c`: the arrays as the region finds them, each input's buffer at its block after
    the body, the output not named. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
  Φ _ := Pipeline.ΦA spec0 c
  q _ := fullShare
  owed _ := 0

/-- The data's arrays are the contents at the region's entry. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body at a generic grid point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ (∃ d, owns (c : Thread nD τ) (ms0_3 t) fullShare d))

set_option maxHeartbeats 1200000 in
/-- The body at any point takes what the pipeline hands it to what the pipeline expects back. -/
theorem point_run (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2]
  rw [show (dats m 0 c).Φ t.castSucc = Pipeline.ΦA spec0 c from rfl, PhiA_eq]
  iintro ⟨⟨⟨HS0, HS1⟩, Hg⟩, Ho, ⟨%d0, H0⟩, ⟨%d1, H1⟩, ⟨%d2, H2⟩, H3⟩
  iapply (body_run c (grid0.coords t) _ _ _ _ _ _ _ _ _ _ _ _ (iblk m c 0 t) (iblk m c 1 t) (iblk m c 2 t) _)
  isplitl [H0]; · iexact H0
  isplitl [H1]; · iexact H1
  isplitl [H2]; · iexact H2
  isplitl [H3]; · iexact H3
  isplitl [HS0]; · iexact HS0
  isplitl [HS1]; · iexact HS1
  iintro ⟨H0, H1, H2, H3, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  iexact H3

/-- The body table's row at point `t`'s slots is the body as the pipeline calls it. -/
theorem defs₀_row (t : Fin cfg0.N) :
    defs₀ (F := F) .tc cfg0.body (cfg0.bodyArgs t (cfg0.slots t)) = bodyAt0 t := by
  unfold defs₀; rw [Defs.onTc_tc]

/-- The body's obligation at every point, the output left unnamed. -/
theorem body_obligation (c : Dev nD) : BodyObligation (dats (F := F) m 0 c) (defs₀ (F := F)) Variants.none () Set.univ outs := fun t => by
  rw [bigSep_W0, bigSep_W0, defs₀_row]
  exact triple_restated (point_run m c t) rfl .rfl fun _ => .rfl

/-! ## The launch and the frame -/

set_option backward.isDefEq.respectTransparency.types false in
/-- The whole program runs to its end from any memory, with every semaphore counter at zero, every array the
    pipeline does not write as the region found it. -/
theorem run_main : θ_run defs (onTc (τ := τ) (main (F := F))) (s₀ m ρ) (fun r => (Pipeline.RDat.FramePost (cfgs 0) (fun c => (dats m 0 c).toRForget outs) (V m)) r ∧ r.2.sem = fun _ => 0) :=
  Pipeline.θ_run_frame_forget (Q' := _) cfgs (dats m) (0 : Fin 1) launch0 defs₀ Variants.none outs m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- THE FRAME of the latent attention call: it terminates, leaves its three argument arrays unchanged and every
    semaphore counter at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun _ h' => ⟨fun c => by
      have h := h'.1
      exact ⟨((h c).2 main_arg0 (Pipeline.mem_restRefs_of main_arg0 (by decide) (by decide))).trans (V_main_arg0 m c),
        ((h c).2 main_arg1 (Pipeline.mem_restRefs_of main_arg1 (by decide) (by decide))).trans (V_main_arg1 m c),
        ((h c).2 main_arg2 (Pipeline.mem_restRefs_of main_arg2 (by decide) (by decide))).trans (V_main_arg2 m c)⟩, h'.2⟩)
    (run_main m ρ)

end Cert.Proof.Kernel4Ideal

end
-- ==== Proof.FfnSpec.lean ====
/-
  The feed-forward block on one row, as a function on the extended reals, and the two facts about it that the programs'
  texts need: the sum over the hidden axis may be taken in eleven chunks of 256, and the two printed forms of the
  logistic gate agree.
-/
module

public import Idealize.ShloMosaic.Lib.Pointwise

@[expose] public section

noncomputable section

namespace Cert.Proof.Ffn

open Idealize.ShloMosaic

/-- The root-mean-square normalisation of a row `x` with gains `g`: each entry times the reciprocal root of the row's
    mean square (1024 entries) plus a small constant, times its gain. -/
def rms (x g : Fin 1024 → EReal) (j : Fin 1024) : EReal :=
  x j * Ideal.rsqrt (Ideal.div (∑ k, x k * x k) (Ideal.ofBits .f32 0x44800000#32) + Ideal.ofBits .f32 0x358637BD#32) * g j

/-- The logistic gate of `t`: `t / (1 + exp (0 - t))`. -/
def silu (t : EReal) : EReal := Ideal.div t (1 + Ideal.exp (0 - t))

/-- The gated activation of a row at hidden unit `k`. -/
def act (h : Fin 1024 → EReal) (wg wu : Fin 1024 → Fin 2816 → EReal) (k : Fin 2816) : EReal :=
  silu (∑ i, h i * wg i k) * ∑ i, h i * wu i k

/-- The down projection of the activations: the sum over all 2816 hidden units. -/
def down (h : Fin 1024 → EReal) (wg wu : Fin 1024 → Fin 2816 → EReal) (wd : Fin 2816 → Fin 1024 → EReal) (c : Fin 1024) : EReal :=
  ∑ k, act h wg wu k * wd k c

/-- The block on one row: the row plus one half of the normalised down projection of the activations of the normalised
    row. -/
def row (x pre post : Fin 1024 → EReal) (wg wu : Fin 1024 → Fin 2816 → EReal) (wd : Fin 2816 → Fin 1024 → EReal) (c : Fin 1024) : EReal :=
  x c + Ideal.ofBits .f32 0x3F000000#32 * rms (down (rms x pre) wg wu wd) post c

/-- The output projection of a row's two halves `o1`, `o2`: the first against the upper 512 rows of `w`, the second
    against the lower. -/
def proj (o1 o2 : Fin 512 → EReal) (w : Fin 1024 → Fin 1024 → EReal) (c : Fin 1024) : EReal :=
  ∑ k : Fin 512, o1 k * w ⟨k, by omega⟩ c + ∑ k : Fin 512, o2 k * w ⟨512 + k, by omega⟩ c

/-- The residual row after the attention: the row plus its normalised output projection. -/
def mixed (x : Fin 1024 → EReal) (o1 o2 : Fin 512 → EReal) (w : Fin 1024 → Fin 1024 → EReal) (g : Fin 1024 → EReal) (c : Fin 1024) : EReal :=
  x c + rms (proj o1 o2 w) g c

/-- The part of a sum over 2816 terms that the 256 terms from `o` on make. -/
def chunk (f : Fin 2816 → EReal) (o : ℕ) (ho : o + 256 ≤ 2816) : EReal := ∑ k : Fin 256, f ⟨o + k, by omega⟩

/-- Eleven chunks, added in order, are the whole sum. -/
theorem sum_chunks (f : Fin 2816 → EReal) :
    chunk f 0 (by omega) + chunk f 256 (by omega) + chunk f 512 (by omega) + chunk f 768 (by omega) + chunk f 1024 (by omega)
      + chunk f 1280 (by omega) + chunk f 1536 (by omega) + chunk f 1792 (by omega) + chunk f 2048 (by omega)
      + chunk f 2304 (by omega) + chunk f 2560 (by omega) = ∑ k, f k := by
  have e : ∀ (o : ℕ) (ho : o + 256 ≤ 2816), chunk f o ho
      = ∑ k ∈ Finset.range 256, (fun n => if h : n < 2816 then f ⟨n, h⟩ else 0) (o + k) := by
    intro o ho
    rw [Finset.sum_range]
    refine Finset.sum_congr rfl fun k _ => ?_
    have : o + (k : ℕ) < 2816 := by omega
    simp only [this, dif_pos]
  have s : ∑ k, f k = ∑ k ∈ Finset.range 2816, (fun n => if h : n < 2816 then f ⟨n, h⟩ else 0) k := by
    rw [Finset.sum_range]
    refine Finset.sum_congr rfl fun k _ => ?_
    simp only [k.isLt, dif_pos]
  rw [s]
  rw [e, e, e, e, e, e, e, e, e, e, e]
  generalize (fun n => if h : n < 2816 then f ⟨n, h⟩ else 0) = g
  have r : ∀ n, ∑ k ∈ Finset.range (n + 256), g k = ∑ k ∈ Finset.range n, g k + ∑ k ∈ Finset.range 256, g (n + k) :=
    fun n => Finset.sum_range_add g n 256
  rw [r 2560, r 2304, r 2048, r 1792, r 1536, r 1280, r 1024, r 768, r 512, r 256]
  simp only [zero_add]

/-- The exponential of an extended real is not below zero. -/
theorem exp_nonneg (t : EReal) : 0 ≤ Ideal.exp t := by
  induction t using EReal.rec with
  | bot => exact le_refl _
  | top => exact le_top
  | coe r => exact EReal.coe_nonneg.mpr (Real.exp_pos r).le

/-- A quotient by `1 + exp` is the product with the quotient of 1 by it: the divisor is not zero. -/
theorem silu_eq (t : EReal) : t * Ideal.div 1 (1 + Ideal.exp (-t)) = silu t := by
  have h : (1 : EReal) + Ideal.exp (-t) ≠ 0 := by
    have := exp_nonneg (-t)
    have : (1 : EReal) ≤ 1 + Ideal.exp (-t) := by simpa [add_comm] using add_le_add_left this 1
    exact (lt_of_lt_of_le one_pos this).ne'
  unfold silu
  rw [zero_sub]
  unfold Ideal.div
  rw [if_neg h, if_neg h, one_mul]

end Cert.Proof.Ffn

end
-- ==== Proof.Ffn2Tile.lean ====
/-
  What one point of the kernel of the output projection and the feed-forward block writes: `Ffn.mixed`, then `Ffn.row`,
  on each of the tile's 512 rows.
-/
module

public import proofs.«01_k».proof.Proof.Gen.Kernel2Ideal.Value
public import proofs.«01_k».proof.Proof.FfnSpec
public import Idealize.ShloMosaic.Lib.Pointwise

@[expose] public section

set_option maxRecDepth 16384

noncomputable section

namespace Cert.Proof.Ffn2

open Cert.Kernel2Ideal Cert.Kernel2Ideal.Gen
open Idealize.ShloMosaic Idealize.ShloMosaic.TcCoe Idealize.ShloMosaic.Tactic
open Cert.Proof.Ffn (rms silu act down row chunk sum_chunks proj mixed)

/-- What one chunk of 256 hidden units adds to entry `(r, c)` of the accumulator: `H` the normalised rows, `a`, `b`, `w`
    the chunk's gate, up and down weights. -/
def part (H : Vec Ideal S512x1024 .bf16) (a b : Vec Ideal S1024x256 .f32) (w : Vec Ideal S256x1024 .f32) (r : Fin 512) (c : Fin 1024) : EReal :=
  ∑ k : Fin 256, silu (∑ i, H (ix2 r i) * a (ix2 i k)) * (∑ i, H (ix2 r i) * b (ix2 i k)) * w (ix2 k c)

variable (H : Vec Ideal S512x1024 .bf16) (a b : Vec Ideal S1024x256 .f32) (w : Vec Ideal S256x1024 .f32)
  (acc : Vec Ideal S512x1024 .f32) (r : Fin 512) (c : Fin 1024)
  (X : FVec Ideal S512x1024 .f32) (P : FVec Ideal S1x1024 .f32) (Q : FVec Ideal S512x1 .f32)

/-- The tile's residual rows after the attention. -/
theorem mixed_apply (o1 o2 : Vec Ideal S512x512 .bf16) (wo : Vec Ideal S1024x1024 .f32) (x : Vec Ideal S512x1024 .f32) (g : Vec Ideal S1x1024 .f32) (i1 i2) (j : Fin 1024) :
    k0_pay2 o1 (View.ld wo (Rect.unit (s := S1024x1024) ![0, 0] ![512, 1024] i1)) o2 (View.ld wo (Rect.unit (s := S1024x1024) ![512, 0] ![512, 1024] i2)) x g (ix2 r j)
      = mixed (fun k => x (ix2 r k)) (fun k => o1 (ix2 r k)) (fun k => o2 (ix2 r k)) (fun i k => wo (ix2 i k)) (fun k => g (ix2 0 k)) j := by
  pointwise [k0_pay2]
  simp only [mixed, rms, proj]

/-- The normalised tile, entry by entry. -/
theorem head_apply (o1 o2 : Vec Ideal S512x512 .bf16) (w1 w2 : Vec Ideal S512x1024 .f32) (x : Vec Ideal S512x1024 .f32) (g p : Vec Ideal S1x1024 .f32) (j : Fin 1024) :
    k0_pay5 (k0_pay2 o1 w1 o2 w2 x g) (k0_pay3 p) (k0_pay4 o1 w1 o2 w2 x g) (ix2 r j)
      = rms (fun k => k0_pay2 o1 w1 o2 w2 x g (ix2 r k)) (fun k => p (ix2 0 k)) j := by
  unfold k0_pay4
  generalize k0_pay2 o1 w1 o2 w2 x g = X
  pointwise [k0_pay5, k0_pay3]
  rfl

/-- The first chunk starts the accumulator. -/
theorem part0 : k0_pay6 X P Q a b w (ix2 r c) = part (k0_pay5 X P Q) a b w r c := by
  unfold k0_pay6
  generalize k0_pay5 X P Q = H
  pointwise
  rfl

/-- Chunk 1 adds its part. -/
theorem part1 : k0_pay9 (k0_pay7 X P Q b) (k0_pay8 X P Q a) w acc (ix2 r c) = acc (ix2 r c) + part (k0_pay5 X P Q) a b w r c := by
  unfold k0_pay7 k0_pay8
  generalize k0_pay5 X P Q = H
  pointwise [k0_pay9]
  rfl

/-- The last step: the residual tile plus one half of the normalised accumulator. -/
theorem tail_apply (g : Vec Ideal S1x1024 .f32) :
    k0_pay1 X acc g (ix2 r c)
      = X (ix2 r c) + Ideal.ofBits .f32 0x3F000000#32 * rms (fun k => acc (ix2 r k)) (fun k => g (ix2 0 k)) c := by
  pointwise [k0_pay1]
  rfl

/-- Chunk 2 adds its part. -/
theorem part2 : k0_pay10 H a b w acc (ix2 r c) = acc (ix2 r c) + part H a b w r c := by
  pointwise [k0_pay10]
  rfl

/-- Chunk 3 adds its part. -/
theorem part3 : k0_pay12 H (k0_pay11 a) b w acc (ix2 r c) = acc (ix2 r c) + part H a b w r c := by
  pointwise [k0_pay12, k0_pay11]
  rfl

/-- Chunk 4 adds its part. -/
theorem part4 : k0_pay15 (k0_pay13 H a b) (k0_pay14 w) acc (ix2 r c) = acc (ix2 r c) + part H a b w r c := by
  pointwise [k0_pay15, k0_pay14, k0_pay13]
  rfl

/-- Chunk 5 adds its part. -/
theorem part5 : k0_pay16 H a b w acc (ix2 r c) = acc (ix2 r c) + part H a b w r c := by
  pointwise [k0_pay16]
  rfl

/-- Chunk 6 adds its part. -/
theorem part6 : k0_pay19 H (k0_pay17 H a) (k0_pay18 b) w acc (ix2 r c) = acc (ix2 r c) + part H a b w r c := by
  pointwise [k0_pay19, k0_pay18, k0_pay17]
  rfl

/-- Chunk 7 adds its part. -/
theorem part7 : k0_pay21 (k0_pay20 H a b w acc) (ix2 r c) = acc (ix2 r c) + part H a b w r c := by
  pointwise [k0_pay21, k0_pay20]
  rfl

/-- Chunk 8 adds its part. -/
theorem part8 : k0_pay22 H a b w acc (ix2 r c) = acc (ix2 r c) + part H a b w r c := by
  pointwise [k0_pay22]
  rfl

/-- Chunk 9 adds its part. -/
theorem part9 : k0_pay26 (k0_pay23 H a) (k0_pay24 H b) (k0_pay25 H a) w acc (ix2 r c) = acc (ix2 r c) + part H a b w r c := by
  pointwise [k0_pay26, k0_pay25, k0_pay24, k0_pay23]
  rfl

/-- Chunk 10 adds its part. -/
theorem part10 : k0_pay27 H a b w acc (ix2 r c) = acc (ix2 r c) + part H a b w r c := by
  pointwise [k0_pay27]
  rfl

/-- The 256 columns from `o` on of the up weights. -/
theorem ld_cols (Y : Vec Ideal S1024x2816 .f32) (o : ℕ) (inb) (ho : o + 256 ≤ 2816) (i : Fin 1024) (k : Fin 256) :
    View.ld Y (Rect.unit (s := S1024x2816) ![0, o] ![1024, 256] inb) (ix2 i k) = Y (ix2 i ⟨o + k, by omega⟩) := by
  pointwise

/-- The 256 rows from `o` on of the down weights. -/
theorem ld_rows (Y : Vec Ideal S2816x1024 .f32) (o : ℕ) (inb) (ho : o + 256 ≤ 2816) (k : Fin 256) (c : Fin 1024) :
    View.ld Y (Rect.unit (s := S2816x1024) ![o, 0] ![256, 1024] inb) (ix2 k c) = Y (ix2 ⟨o + k, by omega⟩ c) := by
  pointwise

/-- A chunk's part is the matching chunk of the sum over all hidden units. -/
theorem part_eq (G U : Vec Ideal S1024x2816 .f32) (D : Vec Ideal S2816x1024 .f32) (o : ℕ) (ho : o + 256 ≤ 2816) (i1 i2) :
    part H (View.ld G (Rect.unit (s := S1024x2816) ![0, o] ![1024, 256] i1)) (View.ld U (Rect.unit (s := S1024x2816) ![0, o] ![1024, 256] i1))
        (View.ld D (Rect.unit (s := S2816x1024) ![o, 0] ![256, 1024] i2)) r c
      = chunk (fun k => act (fun i => H (ix2 r i)) (fun i k => G (ix2 i k)) (fun i k => U (ix2 i k)) k * D (ix2 k c)) o ho := by
  unfold part chunk act
  exact Finset.sum_congr rfl fun k _ => congrArg₂ (· * ·)
    (congrArg₂ (· * ·) (congrArg silu (Finset.sum_congr rfl fun i _ => congrArg (H (ix2 r i) * ·) (ld_cols G o i1 ho i k)))
      (Finset.sum_congr rfl fun i _ => congrArg (H (ix2 r i) * ·) (ld_cols U o i1 ho i k)))
    (ld_rows D o i2 ho k c)

set_option maxHeartbeats 4000000 in
/-- One point's block, from the tile `x0`, its two attention tiles, the output weights, the three gains and the three
    weights, at row `r` and column `c`. -/
theorem out_apply (d : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x2816 .f32) (harg8 : arg8.IsWhole) (arg9 : Memref sig .tc .vmem S1024x2816 .f32) (harg9 : arg9.IsWhole) (arg10 : Memref sig .tc .vmem S2816x1024 .f32) (harg10 : arg10.IsWhole) (arg11 : Memref sig .tc .vmem S512x1024 .f32) (harg11 : arg11.IsWhole) (arg12 : Memref sig .tc .vmem S512x1024 .f32) (harg12 : arg12.IsWhole)
    (x0 : Vec Ideal S512x1024 .f32) (x1 : Vec Ideal S512x512 .bf16) (x2 : Vec Ideal S512x512 .bf16) (x3 : Vec Ideal S1024x1024 .f32) (x4 : Vec Ideal S1x1024 .f32) (x5 : Vec Ideal S1x1024 .f32) (x6 : Vec Ideal S1x1024 .f32) (x7 : Vec Ideal S1024x2816 .f32) (x8 : Vec Ideal S1024x2816 .f32) (x9 : Vec Ideal S2816x1024 .f32) :
    out0_A_10 d i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 (ix2 r c)
      = row (mixed (fun k => x0 (ix2 r k)) (fun k => x1 (ix2 r k)) (fun k => x2 (ix2 r k)) (fun i k => x3 (ix2 i k)) (fun k => x4 (ix2 0 k))) (fun k => x5 (ix2 0 k)) (fun k => x6 (ix2 0 k)) (fun i k => x7 (ix2 i k)) (fun i k => x8 (ix2 i k)) (fun k c => x9 (ix2 k c)) c := by
  unfold out0_A_10
  rw [View.read_writes_eq_canon _ _ _ (cover0_A_10 d i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread]
  have z1 : (![0, 0] : Fin S512x1024.rank → Nat) = fun _ => 0 := by decide
  have z2 : (![0, 0] : Fin S1x1024.rank → Nat) = fun _ => 0 := by decide
  have z3 : (![0, 0] : Fin S512x512.rank → Nat) = fun _ => 0 := by decide
  rw [View.canon_cons_unit_zero (S := S512x1024) z1]
  simp only [View.readCov_cons_toLoadRect]
  rw [View.ld_unit_zero (S := S512x1024) z1, View.ld_unit_zero (S := S1x1024) z2 _ x4, View.ld_unit_zero (S := S1x1024) z2 _ x5, View.ld_unit_zero (S := S1x1024) z2 _ x6,
    View.ld_unit_zero (S := S512x512) z3 _ x1, View.ld_unit_zero (S := S512x512) z3 _ x2]
  rw [tail_apply]
  unfold row down
  have hx := fun j => mixed_apply r x1 x2 x3 x0 x4 inb_S1024x1024_S512x1024_0_0 inb_S1024x1024_S512x1024_512_0 j
  rw [hx]
  refine congrArg (fun f => (mixed (fun k => x0 (ix2 r k)) (fun k => x1 (ix2 r k)) (fun k => x2 (ix2 r k)) (fun i k => x3 (ix2 i k)) (fun k => x4 (ix2 0 k))) c + Ideal.ofBits .f32 0x3F000000#32 * rms f (fun k => x6 (ix2 0 k)) c) (funext fun c => ?_)
  rw [part10, part9, part8, part7, part6, part5, part4, part3, part2, part1, part0]
  have hh : (fun j => k0_pay5 (k0_pay2 x1 _ x2 _ x0 x4) (k0_pay3 x5) (k0_pay4 x1 _ x2 _ x0 x4) (ix2 r j)) = rms (mixed (fun k => x0 (ix2 r k)) (fun k => x1 (ix2 r k)) (fun k => x2 (ix2 r k)) (fun i k => x3 (ix2 i k)) (fun k => x4 (ix2 0 k))) (fun k => x5 (ix2 0 k)) :=
    (funext fun j => head_apply r x1 x2 (View.ld x3 (Rect.unit (s := S1024x1024) ![0, 0] ![512, 1024] inb_S1024x1024_S512x1024_0_0)) (View.ld x3 (Rect.unit (s := S1024x1024) ![512, 0] ![512, 1024] inb_S1024x1024_S512x1024_512_0)) x0 x4 x5 j).trans
      (congrArg (fun f => rms f (fun k => x5 (ix2 0 k))) (funext hx))
  rw [← hh, ← sum_chunks]
  generalize k0_pay5 (F := Ideal) _ _ _ = H
  rw [part_eq H r c x7 x8 x9 0 (by omega), part_eq H r c x7 x8 x9 256 (by omega), part_eq H r c x7 x8 x9 512 (by omega), part_eq H r c x7 x8 x9 768 (by omega), part_eq H r c x7 x8 x9 1024 (by omega), part_eq H r c x7 x8 x9 1280 (by omega), part_eq H r c x7 x8 x9 1536 (by omega), part_eq H r c x7 x8 x9 1792 (by omega), part_eq H r c x7 x8 x9 2048 (by omega), part_eq H r c x7 x8 x9 2304 (by omega), part_eq H r c x7 x8 x9 2560 (by omega)]

end Cert.Proof.Ffn2

end
-- ==== Proof.Ffn2Array.lean ====
/-
  The result array of the output projection and the feed-forward block: entry `(R, c)` is `Ffn.row` on `Ffn.mixed` of
  row `R`.
-/
module

public import proofs.«01_k».proof.Proof.Ffn2Tile

@[expose] public section

set_option maxRecDepth 16384

noncomputable section

namespace Cert.Proof.Ffn2

open Cert.Kernel2Ideal Cert.Kernel2Ideal.Gen
open Idealize.ShloMosaic Idealize.ShloMosaic.TcCoe Idealize.ShloMosaic.Tactic
open Idealize.ShloMosaic.Pipeline (Dat)

variable (m : (ℓ : Loc nD τ sig) → Buf (Elt Ideal) ℓ)

/-- Row `R` after the attention, from the arrays the region finds. -/
def xrow (d : Dev nD) (R : Fin 16384) : Fin 1024 → EReal :=
  Ffn.mixed (fun k => V m d main_v0 (ix2 R k)) (fun k => V m d main_v2 (ix2 R k)) (fun k => V m d main_v4 (ix2 R k)) (fun i k => V m d main_arg3 (ix2 i k)) (fun k => V m d main_v5 (ix2 0 k))

/-- The result as a function of the arrays the region finds. -/
def res (d : Dev nD) : Vec Ideal S16384x1024 .f32 := fun i =>
  Ffn.row (xrow m d (i 0)) (fun k => V m d main_v6 (ix2 0 k)) (fun k => V m d main_v7 (ix2 0 k))
    (fun i k => V m d main_arg7 (ix2 i k)) (fun i k => V m d main_arg8 (ix2 i k)) (fun k c => V m d main_arg9 (ix2 k c)) (i 1)

/-- Where each window's block lies at each point. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = t.val ∧ win0_10.index t (1 : Fin 2) = 0 ∧ (cfg0.win 10).flush t = true :=
  (by decide +kernel : ∀ t : Fin grid0.N, _)

/-- Window 0's block at point `t`, entry by entry. -/
theorem iblk0_apply (d : Dev nD) (t : Fin cfg0.N) (r : Fin 512) (k : Fin 1024) :
    iblk m d 0 t (ix2 r k) = V m d main_v0 (ix2 ⟨t.val * 512 + r.val, by have h : t.val < 32 := t.isLt; omega⟩ k) := by
  obtain ⟨a0, a1, b0, b1, c0, c1, d0, d1, e0, e1, f0, f1, g0, g1, h0, h1, p0, p1, j0, j1, q0, q1, -⟩ := idx_facts t
  show V m d main_v0 (((cfg0.win 0).blk t).view.emb (ix2 r k)) = _
  refine congrArg (V m d main_v0) (funext fun a => Fin.ext ?_)
  match a with
  | ⟨0, _⟩ => show win0_0.index t (0 : Fin 2) * 512 + 1 * r.val = t.val * 512 + r.val; omega
  | ⟨1, _⟩ => show win0_0.index t (1 : Fin 2) * 1024 + 1 * k.val = k.val; omega

/-- Window 1's block at point `t`, entry by entry. -/
theorem iblk1_apply (d : Dev nD) (t : Fin cfg0.N) (r : Fin 512) (k : Fin 512) :
    iblk m d 1 t (ix2 r k) = V m d main_v2 (ix2 ⟨t.val * 512 + r.val, by have h : t.val < 32 := t.isLt; omega⟩ k) := by
  obtain ⟨a0, a1, b0, b1, c0, c1, d0, d1, e0, e1, f0, f1, g0, g1, h0, h1, p0, p1, j0, j1, q0, q1, -⟩ := idx_facts t
  show V m d main_v2 (((cfg0.win 1).blk t).view.emb (ix2 r k)) = _
  refine congrArg (V m d main_v2) (funext fun a => Fin.ext ?_)
  match a with
  | ⟨0, _⟩ => show win0_1.index t (0 : Fin 2) * 512 + 1 * r.val = t.val * 512 + r.val; omega
  | ⟨1, _⟩ => show win0_1.index t (1 : Fin 2) * 512 + 1 * k.val = k.val; omega

/-- Window 2's block at point `t`, entry by entry. -/
theorem iblk2_apply (d : Dev nD) (t : Fin cfg0.N) (r : Fin 512) (k : Fin 512) :
    iblk m d 2 t (ix2 r k) = V m d main_v4 (ix2 ⟨t.val * 512 + r.val, by have h : t.val < 32 := t.isLt; omega⟩ k) := by
  obtain ⟨a0, a1, b0, b1, c0, c1, d0, d1, e0, e1, f0, f1, g0, g1, h0, h1, p0, p1, j0, j1, q0, q1, -⟩ := idx_facts t
  show V m d main_v4 (((cfg0.win 2).blk t).view.emb (ix2 r k)) = _
  refine congrArg (V m d main_v4) (funext fun a => Fin.ext ?_)
  match a with
  | ⟨0, _⟩ => show win0_2.index t (0 : Fin 2) * 512 + 1 * r.val = t.val * 512 + r.val; omega
  | ⟨1, _⟩ => show win0_2.index t (1 : Fin 2) * 512 + 1 * k.val = k.val; omega

/-- Window 3's block at point `t`, entry by entry. -/
theorem iblk3_apply (d : Dev nD) (t : Fin cfg0.N) (r : Fin 1024) (k : Fin 1024) :
    iblk m d 3 t (ix2 r k) = V m d main_arg3 (ix2 r k) := by
  obtain ⟨a0, a1, b0, b1, c0, c1, d0, d1, e0, e1, f0, f1, g0, g1, h0, h1, p0, p1, j0, j1, q0, q1, -⟩ := idx_facts t
  show V m d main_arg3 (((cfg0.win 3).blk t).view.emb (ix2 r k)) = _
  refine congrArg (V m d main_arg3) (funext fun a => Fin.ext ?_)
  match a with
  | ⟨0, _⟩ => show win0_3.index t (0 : Fin 2) * 1024 + 1 * r.val = r.val; omega
  | ⟨1, _⟩ => show win0_3.index t (1 : Fin 2) * 1024 + 1 * k.val = k.val; omega

/-- Window 4's block at point `t`, entry by entry. -/
theorem iblk4_apply (d : Dev nD) (t : Fin cfg0.N) (r : Fin 1) (k : Fin 1024) :
    iblk m d 4 t (ix2 r k) = V m d main_v5 (ix2 r k) := by
  obtain ⟨a0, a1, b0, b1, c0, c1, d0, d1, e0, e1, f0, f1, g0, g1, h0, h1, p0, p1, j0, j1, q0, q1, -⟩ := idx_facts t
  show V m d main_v5 (((cfg0.win 4).blk t).view.emb (ix2 r k)) = _
  refine congrArg (V m d main_v5) (funext fun a => Fin.ext ?_)
  match a with
  | ⟨0, _⟩ => show win0_4.index t (0 : Fin 2) * 1 + 1 * r.val = r.val; omega
  | ⟨1, _⟩ => show win0_4.index t (1 : Fin 2) * 1024 + 1 * k.val = k.val; omega

/-- Window 5's block at point `t`, entry by entry. -/
theorem iblk5_apply (d : Dev nD) (t : Fin cfg0.N) (r : Fin 1) (k : Fin 1024) :
    iblk m d 5 t (ix2 r k) = V m d main_v6 (ix2 r k) := by
  obtain ⟨a0, a1, b0, b1, c0, c1, d0, d1, e0, e1, f0, f1, g0, g1, h0, h1, p0, p1, j0, j1, q0, q1, -⟩ := idx_facts t
  show V m d main_v6 (((cfg0.win 5).blk t).view.emb (ix2 r k)) = _
  refine congrArg (V m d main_v6) (funext fun a => Fin.ext ?_)
  match a with
  | ⟨0, _⟩ => show win0_5.index t (0 : Fin 2) * 1 + 1 * r.val = r.val; omega
  | ⟨1, _⟩ => show win0_5.index t (1 : Fin 2) * 1024 + 1 * k.val = k.val; omega

/-- Window 6's block at point `t`, entry by entry. -/
theorem iblk6_apply (d : Dev nD) (t : Fin cfg0.N) (r : Fin 1) (k : Fin 1024) :
    iblk m d 6 t (ix2 r k) = V m d main_v7 (ix2 r k) := by
  obtain ⟨a0, a1, b0, b1, c0, c1, d0, d1, e0, e1, f0, f1, g0, g1, h0, h1, p0, p1, j0, j1, q0, q1, -⟩ := idx_facts t
  show V m d main_v7 (((cfg0.win 6).blk t).view.emb (ix2 r k)) = _
  refine congrArg (V m d main_v7) (funext fun a => Fin.ext ?_)
  match a with
  | ⟨0, _⟩ => show win0_6.index t (0 : Fin 2) * 1 + 1 * r.val = r.val; omega
  | ⟨1, _⟩ => show win0_6.index t (1 : Fin 2) * 1024 + 1 * k.val = k.val; omega

/-- Window 7's block at point `t`, entry by entry. -/
theorem iblk7_apply (d : Dev nD) (t : Fin cfg0.N) (r : Fin 1024) (k : Fin 2816) :
    iblk m d 7 t (ix2 r k) = V m d main_arg7 (ix2 r k) := by
  obtain ⟨a0, a1, b0, b1, c0, c1, d0, d1, e0, e1, f0, f1, g0, g1, h0, h1, p0, p1, j0, j1, q0, q1, -⟩ := idx_facts t
  show V m d main_arg7 (((cfg0.win 7).blk t).view.emb (ix2 r k)) = _
  refine congrArg (V m d main_arg7) (funext fun a => Fin.ext ?_)
  match a with
  | ⟨0, _⟩ => show win0_7.index t (0 : Fin 2) * 1024 + 1 * r.val = r.val; omega
  | ⟨1, _⟩ => show win0_7.index t (1 : Fin 2) * 2816 + 1 * k.val = k.val; omega

/-- Window 8's block at point `t`, entry by entry. -/
theorem iblk8_apply (d : Dev nD) (t : Fin cfg0.N) (r : Fin 1024) (k : Fin 2816) :
    iblk m d 8 t (ix2 r k) = V m d main_arg8 (ix2 r k) := by
  obtain ⟨a0, a1, b0, b1, c0, c1, d0, d1, e0, e1, f0, f1, g0, g1, h0, h1, p0, p1, j0, j1, q0, q1, -⟩ := idx_facts t
  show V m d main_arg8 (((cfg0.win 8).blk t).view.emb (ix2 r k)) = _
  refine congrArg (V m d main_arg8) (funext fun a => Fin.ext ?_)
  match a with
  | ⟨0, _⟩ => show win0_8.index t (0 : Fin 2) * 1024 + 1 * r.val = r.val; omega
  | ⟨1, _⟩ => show win0_8.index t (1 : Fin 2) * 2816 + 1 * k.val = k.val; omega

/-- Window 9's block at point `t`, entry by entry. -/
theorem iblk9_apply (d : Dev nD) (t : Fin cfg0.N) (r : Fin 2816) (k : Fin 1024) :
    iblk m d 9 t (ix2 r k) = V m d main_arg9 (ix2 r k) := by
  obtain ⟨a0, a1, b0, b1, c0, c1, d0, d1, e0, e1, f0, f1, g0, g1, h0, h1, p0, p1, j0, j1, q0, q1, -⟩ := idx_facts t
  show V m d main_arg9 (((cfg0.win 9).blk t).view.emb (ix2 r k)) = _
  refine congrArg (V m d main_arg9) (funext fun a => Fin.ext ?_)
  match a with
  | ⟨0, _⟩ => show win0_9.index t (0 : Fin 2) * 2816 + 1 * r.val = r.val; omega
  | ⟨1, _⟩ => show win0_9.index t (1 : Fin 2) * 1024 + 1 * k.val = k.val; omega

/-- What point `t` writes back is its block of `res`. -/
theorem flushed_eq (d : Dev nD) (t : Fin cfg0.N) :
    (dats m 0 d).flushed 10 t = ((cfg0.win 10).blk t).view.read (Elt Ideal) (res m d) := by
  rw [Value.flushed10_A]
  funext j
  obtain ⟨a0, a1, b0, b1, c0, c1, d0, d1, e0, e1, f0, f1, g0, g1, h0, h1, p0, p1, j0, j1, q0, q1, -⟩ := idx_facts t
  obtain ⟨r, c, rfl⟩ : ∃ (r : Fin 512) (c : Fin 1024), j = ix2 r c := ⟨j 0, j 1, eq_ix2 j⟩
  refine (out_apply r c d _ _ _ _ _ _ _ _ _ _ _ _ _ _ _ _ _ _ _ _ _ _ _ _ _ _ _ _ _ _ _ _ _ _ _).trans ?_
  have hq : ((cfg0.win 10).blk t).view.emb (ix2 r c)
      = (ix2 ⟨t.val * 512 + r.val, by have h : t.val < 32 := t.isLt; omega⟩ c : S16384x1024.Idx) := funext fun a => Fin.ext (by
    match a with
    | ⟨0, _⟩ => show win0_10.index t (0 : Fin 2) * 512 + 1 * r.val = t.val * 512 + r.val; omega
    | ⟨1, _⟩ => show win0_10.index t (1 : Fin 2) * 1024 + 1 * c.val = c.val; omega)
  show _ = res m d (((cfg0.win 10).blk t).view.emb (ix2 r c))
  rw [hq]
  simp only [iblk0_apply, iblk1_apply, iblk2_apply, iblk3_apply, iblk4_apply, iblk5_apply, iblk6_apply, iblk7_apply, iblk8_apply, iblk9_apply]
  rfl

/-- So the whole result array is `res`. -/
theorem final (d : Dev nD) : (dats m 0 d).arrAt 10 cfg0.N = res m d :=
  (dats m 0 d).arrAt_eq_of_cover 10 (res m d) (fun t _ => flushed_eq m d t) fun i => by
    have h0 : (i 0 : Nat) < 16384 := (i 0).isLt
    have h1 : (i 1 : Nat) < 1024 := (i 1).isLt
    obtain ⟨t, ht⟩ : ∃ t : Fin cfg0.N, t.val = (i 0 : Nat) / 512 := ⟨⟨(i 0 : Nat) / 512, by show _ < 32; omega⟩, rfl⟩
    obtain ⟨a0, a1, b0, b1, c0, c1, d0, d1, e0, e1, f0, f1, g0, g1, h0, h1, p0, p1, j0, j1, q0, q1, hf⟩ := idx_facts t
    refine ⟨t, hf, ?_⟩
    show i ∈ ((View.whole main_v8).slice (win0_10.rect t)).set
    rw [View.set_slice_whole, Rect.mem_set_unit]
    intro a
    match a with
    | ⟨0, _⟩ =>
      show win0_10.index t (0 : Fin 2) * 512 ≤ (i 0 : Nat) ∧ (i 0 : Nat) < win0_10.index t (0 : Fin 2) * 512 + 512
      omega
    | ⟨1, _⟩ =>
      show win0_10.index t (1 : Fin 2) * 1024 ≤ (i 1 : Nat) ∧ (i 1 : Nat) < win0_10.index t (1 : Fin 2) * 1024 + 1024
      omega

end Cert.Proof.Ffn2

end
-- ==== Proof.Ffn2Ref.lean ====
/-
  The reference of the output projection and the feed-forward block, entry by entry: `Ffn.mixed`, then `Ffn.row`.
-/
module

public import proofs.«01_k».proof.Proof.FfnSpec
public import proofs.«01_k».proof.Proof.Gen.Reference2Ideal.Read
public import Idealize.ShloMosaic.Lib.Pointwise

@[expose] public section

set_option maxRecDepth 16384

noncomputable section

namespace Cert.Proof.Ref2

open Cert.Reference2Ideal Cert.Reference2Ideal.Gen Cert.Reference2Ideal.Read
open Idealize.ShloMosaic Idealize.ShloMosaic.TcCoe Idealize.ShloMosaic.Tactic
open Cert.Proof.Ffn

variable (x : Vec Ideal S8x2048x1024 .f32) (o1 o2 : Vec Ideal S8x2048x512 .f32) (w : Vec Ideal S1024x1024 .f32) (mix pre post : Vec Ideal S1024 .f32)
  (wg wu : Vec Ideal S1024x2816 .f32) (wd : Vec Ideal S2816x1024 .f32) (b : Fin 8) (s : Fin 2048)

/-- The residual row after the attention. -/
abbrev xrow : Fin 1024 → EReal :=
  mixed (fun k => x (ix3 b s k)) (fun k => o1 (ix3 b s k)) (fun k => o2 (ix3 b s k)) (fun i k => w (ix2 i k)) (fun k => mix (ix1 k))

/-- The output projection of the joined halves is the sum of the halves' projections. -/
theorem proj_eq (j : Fin 1024) : val_main_v1 (F := Ideal) o1 o2 w (ix3 b s j)
    = proj (fun k => o1 (ix3 b s k)) (fun k => o2 (ix3 b s k)) (fun i k => w (ix2 i k)) j := by
  pointwise [val_main_v1, val_main_v0]
  rfl

/-- The residual rows. -/
theorem mixed_eq (j : Fin 1024) : val_main_v15 (F := Ideal) x o1 o2 w mix (ix3 b s j) = xrow x o1 o2 w mix b s j := by
  pointwise [val_main_v15, val_main_v14, val_main_v13, val_main_v12, val_main_v11, val_main_v10, val_main_v9, val_main_v8, val_main_v7, val_main_v6, val_main_v5, val_main_v4, val_main_v3, val_main_v2, val_main_cst, val_main_cst_0, val_main_cst_1]
  simp only [proj_eq]
  rfl

/-- The normalised rows. -/
theorem head (j : Fin 1024) : val_main_v28 (F := Ideal) x o1 o2 w mix pre (ix3 b s j) = rms (xrow x o1 o2 w mix b s) (fun k => pre (ix1 k)) j := by
  pointwise [val_main_v28, val_main_v27, val_main_v26, val_main_v25, val_main_v24, val_main_v23, val_main_v22, val_main_v21, val_main_v20, val_main_v19, val_main_v18, val_main_v17, val_main_v16, val_main_cst_2, val_main_cst_3, val_main_cst_4]
  simp only [mixed_eq]
  rfl

/-- The gated activations. -/
theorem act_eq (k : Fin 2816) : val_main_v32 (F := Ideal) x o1 o2 w mix pre wg wu (ix3 b s k)
    = act (rms (xrow x o1 o2 w mix b s) (fun k => pre (ix1 k))) (fun i k => wg (ix2 i k)) (fun i k => wu (ix2 i k)) k := by
  pointwise [val_main_v32, val_main_v31, val_main_v30, val_main_v29, val_main_call0_v5, val_main_call0_v4, val_main_call0_v3, val_main_call0_v2, val_main_call0_v1, val_main_call0_v0, val_main_call0_cst, val_main_call0_cst_0]
  simp only [silu_eq, head]
  rfl

/-- The down projection. -/
theorem down_eq (j : Fin 1024) : val_main_v33 (F := Ideal) x o1 o2 w mix pre wg wu wd (ix3 b s j)
    = down (rms (xrow x o1 o2 w mix b s) (fun k => pre (ix1 k))) (fun i k => wg (ix2 i k)) (fun i k => wu (ix2 i k)) (fun k c => wd (ix2 k c)) j := by
  pointwise [val_main_v33]
  simp only [act_eq]
  rfl

/-- The result before the last reshape. -/
theorem row_eq (j : Fin 1024) : val_main_v49 (F := Ideal) x o1 o2 w mix pre post wg wu wd (ix3 b s j)
    = row (xrow x o1 o2 w mix b s) (fun k => pre (ix1 k)) (fun k => post (ix1 k)) (fun i k => wg (ix2 i k)) (fun i k => wu (ix2 i k)) (fun k c => wd (ix2 k c)) j := by
  pointwise [val_main_v49, val_main_v48, val_main_v47, val_main_v46, val_main_v45, val_main_v44, val_main_v43, val_main_v42, val_main_v41, val_main_v40, val_main_v39, val_main_v38, val_main_v37, val_main_v36, val_main_v35, val_main_v34, val_main_cst_5, val_main_cst_6, val_main_cst_7, val_main_cst_8]
  simp only [down_eq, mixed_eq]
  rfl

/-- The result. -/
theorem out_eq (r : Fin 16384) (j : Fin 1024) : val_main_v50 (F := Ideal) x o1 o2 w mix pre post wg wu wd (ix2 r j)
    = row (xrow x o1 o2 w mix ⟨r / 2048, by omega⟩ ⟨r % 2048, by omega⟩) (fun k => pre (ix1 k)) (fun k => post (ix1 k)) (fun i k => wg (ix2 i k)) (fun i k => wu (ix2 i k)) (fun k c => wd (ix2 k c)) j := by
  rw [← row_eq]
  unfold val_main_v50
  generalize val_main_v49 (F := Ideal) x o1 o2 w mix pre post wg wu wd = y
  pointwise

end Cert.Proof.Ref2

end
-- ==== Proof.Ffn2Claim.lean ====
/-
  The output projection with the feed-forward block and its reference compute the same array over the extended reals.
-/
module

public import proofs.«01_k».proof.Defs
public import proofs.«01_k».proof.Proof.Ffn2Array
public import proofs.«01_k».proof.Proof.Ffn2Ref
public import Idealize.ShloMosaic.Lib.StableHlo.Run

@[expose] public section

set_option maxRecDepth 16384

noncomputable section

open Idealize.ShloMosaic Idealize.ShloMosaic.TcCoe Idealize.ShloMosaic.Tactic Idealize.SL.Sem

namespace Cert.Proof.Ffn2

open Cert.Kernel2Ideal Cert.Kernel2Ideal.Gen

variable (m : (ℓ : Loc nD τ sig) → Buf (Elt Ideal) ℓ)

/-- A row of the merged rows. -/
theorem rows_apply (x : Vec Ideal S8x2048x1024 .f32) (r : Fin 16384) (k : Fin 1024) :
    shapeCast S16384x1024 x shapeCasts_S8x2048x1024_S16384x1024 (ix2 r k) = x (ix3 ⟨r.val / 2048, by omega⟩ ⟨r.val % 2048, by omega⟩ k) := by
  pointwise

/-- A vector as one row. -/
theorem gain_apply (x : Vec Ideal S1024 .f32) (k : Fin 1024) : shapeCast S1x1024 x shapeCasts_S1024_S1x1024 (ix2 0 k) = x (ix1 k) := by
  pointwise

/-- A row of the merged rows of one attention's output. -/
theorem half_apply (x : Vec Ideal S8x2048x512 .bf16) (r : Fin 16384) (k : Fin 512) :
    shapeCast S16384x512 x shapeCasts_S8x2048x512_S16384x512 (ix2 r k) = x (ix3 ⟨r.val / 2048, by omega⟩ ⟨r.val % 2048, by omega⟩ k) := by
  pointwise

/-- The region finds the input as rows. -/
theorem V_v0_apply (d : Dev nD) (r : Fin 16384) (k : Fin 1024) :
    V m d main_v0 (ix2 r k) = m ((d : Thread nD τ).loc main_arg0) (ix3 ⟨r.val / 2048, by omega⟩ ⟨r.val % 2048, by omega⟩ k) := by
  have h : V m d main_v0 = shapeCast S16384x1024 (m ((d : Thread nD τ).loc main_arg0)) shapeCasts_S8x2048x1024_S16384x1024 := by
    unfold V
    simp only [hostOps0]
    after_results
    rfl
  exact (congrFun h _).trans (rows_apply _ r k)

/-- The region finds the first attention's output as rows. -/
theorem V_v2_apply (d : Dev nD) (r : Fin 16384) (k : Fin 512) :
    V m d main_v2 (ix2 r k) = m ((d : Thread nD τ).loc main_arg1) (ix3 ⟨r.val / 2048, by omega⟩ ⟨r.val % 2048, by omega⟩ k) := by
  have h : V m d main_v2 = shapeCast S16384x512 ((m ((d : Thread nD τ).loc main_arg1) : Vec Ideal S8x2048x512 .f32) : S8x2048x512.Idx → EReal) shapeCasts_S8x2048x512_S16384x512 := by
    unfold V
    simp only [hostOps0]
    after_results
    rfl
  exact (congrFun h _).trans (half_apply _ r k)

/-- The region finds the second attention's output as rows. -/
theorem V_v4_apply (d : Dev nD) (r : Fin 16384) (k : Fin 512) :
    V m d main_v4 (ix2 r k) = m ((d : Thread nD τ).loc main_arg2) (ix3 ⟨r.val / 2048, by omega⟩ ⟨r.val % 2048, by omega⟩ k) := by
  have h : V m d main_v4 = shapeCast S16384x512 ((m ((d : Thread nD τ).loc main_arg2) : Vec Ideal S8x2048x512 .f32) : S8x2048x512.Idx → EReal) shapeCasts_S8x2048x512_S16384x512 := by
    unfold V
    simp only [hostOps0]
    after_results
    rfl
  exact (congrFun h _).trans (half_apply _ r k)

/-- Window array `v5` is a gain vector as one row. -/
theorem V_v5_apply (d : Dev nD) (k : Fin 1024) : V m d main_v5 (ix2 0 k) = m ((d : Thread nD τ).loc main_arg4) (ix1 k) := by
  have h : V m d main_v5 = shapeCast S1x1024 (m ((d : Thread nD τ).loc main_arg4)) shapeCasts_S1024_S1x1024 := by
    unfold V
    simp only [hostOps0]
    after_results
    rfl
  exact (congrFun h _).trans (gain_apply _ k)

/-- Window array `v6` is a gain vector as one row. -/
theorem V_v6_apply (d : Dev nD) (k : Fin 1024) : V m d main_v6 (ix2 0 k) = m ((d : Thread nD τ).loc main_arg5) (ix1 k) := by
  have h : V m d main_v6 = shapeCast S1x1024 (m ((d : Thread nD τ).loc main_arg5)) shapeCasts_S1024_S1x1024 := by
    unfold V
    simp only [hostOps0]
    after_results
    rfl
  exact (congrFun h _).trans (gain_apply _ k)

/-- Window array `v7` is a gain vector as one row. -/
theorem V_v7_apply (d : Dev nD) (k : Fin 1024) : V m d main_v7 (ix2 0 k) = m ((d : Thread nD τ).loc main_arg6) (ix1 k) := by
  have h : V m d main_v7 = shapeCast S1x1024 (m ((d : Thread nD τ).loc main_arg6)) shapeCasts_S1024_S1x1024 := by
    unfold V
    simp only [hostOps0]
    after_results
    rfl
  exact (congrFun h _).trans (gain_apply _ k)

/-- The result array is the reference's last stage of the same arguments. -/
theorem res_eq (d : Dev nD) : res m d = Cert.Reference2Ideal.Read.val_main_v50 (F := Ideal) (m ((d : Thread nD τ).loc main_arg0)) (m ((d : Thread nD τ).loc main_arg1)) (m ((d : Thread nD τ).loc main_arg2)) (m ((d : Thread nD τ).loc main_arg3)) (m ((d : Thread nD τ).loc main_arg4)) (m ((d : Thread nD τ).loc main_arg5)) (m ((d : Thread nD τ).loc main_arg6)) (m ((d : Thread nD τ).loc main_arg7)) (m ((d : Thread nD τ).loc main_arg8)) (m ((d : Thread nD τ).loc main_arg9)) := by
  funext i
  obtain ⟨r, c, rfl⟩ : ∃ (r : Fin 16384) (c : Fin 1024), i = ix2 r c := ⟨i 0, i 1, eq_ix2 i⟩
  refine Eq.trans ?_ (Cert.Proof.Ref2.out_eq _ _ _ _ _ _ _ _ _ _ r c).symm
  show Cert.Proof.Ffn.row (Cert.Proof.Ffn.mixed (fun k => V m d main_v0 (ix2 r k)) (fun k => V m d main_v2 (ix2 r k)) (fun k => V m d main_v4 (ix2 r k)) (fun i k => V m d main_arg3 (ix2 i k)) (fun k => V m d main_v5 (ix2 0 k)))
    (fun k => V m d main_v6 (ix2 0 k)) (fun k => V m d main_v7 (ix2 0 k))
    (fun i k => V m d main_arg7 (ix2 i k)) (fun i k => V m d main_arg8 (ix2 i k)) (fun k c => V m d main_arg9 (ix2 k c)) c = _
  rw [show (fun k => V m d main_v0 (ix2 r k)) = _ from funext (V_v0_apply m d r), show (fun k => V m d main_v2 (ix2 r k)) = _ from funext (V_v2_apply m d r),
    show (fun k => V m d main_v4 (ix2 r k)) = _ from funext (V_v4_apply m d r), show (fun k => V m d main_v5 (ix2 0 k)) = _ from funext (V_v5_apply m d),
    show (fun k => V m d main_v6 (ix2 0 k)) = _ from funext (V_v6_apply m d), show (fun k => V m d main_v7 (ix2 0 k)) = _ from funext (V_v7_apply m d),
    V_main_arg3, V_main_arg7, V_main_arg8, V_main_arg9]

end Cert.Proof.Ffn2

/-- Both run, with equal results and unchanged arguments. -/
theorem Cert.Proof.Ffn2.claim : Cert.algebraic_Kernel2Ideal_Reference2Ideal := by
  intro m g m' g' _ hagree
  refine ⟨fun c => Cert.Proof.Ffn2.res m c, ?_, ?_⟩
  · refine (θ_run _ _ _).mono (fun r h c => ?_) (Cert.Kernel2Ideal.Value.run_blocks m g)
    obtain ⟨h0, hr⟩ := h c
    exact ⟨h0.trans (Cert.Proof.Ffn2.final m c), hr⟩
  · refine (θ_run _ _ _).mono (fun r h c => ?_) (Cert.Reference2Ideal.Value.run (F := Ideal) m' g')
    obtain ⟨h0, hr⟩ := h c
    refine ⟨h0.trans ?_, hr⟩
    obtain ⟨a0, a1, a2, a3, a4, a5, a6, a7, a8, a9⟩ := hagree c
    rw [Cert.Reference2Ideal.Read.val_main_v50_eq, a0, a1, a2, a3, a4, a5, a6, a7, a8, a9]
    exact (Cert.Proof.Ffn2.res_eq m c).symm

end
-- ==== Proof.Ffn3Tile.lean ====
/-
  What one point of the feed-forward kernel writes: the block `Ffn.row` on each of the tile's 512 rows.
-/
module

public import proofs.«01_k».proof.Proof.Gen.Kernel3Ideal.Value
public import proofs.«01_k».proof.Proof.FfnSpec
public import Idealize.ShloMosaic.Lib.Pointwise

@[expose] public section

set_option maxRecDepth 16384

noncomputable section

namespace Cert.Proof.Ffn3

open Cert.Kernel3Ideal Cert.Kernel3Ideal.Gen
open Idealize.ShloMosaic Idealize.ShloMosaic.TcCoe Idealize.ShloMosaic.Tactic
open Cert.Proof.Ffn (rms silu act down row chunk sum_chunks)

/-- What one chunk of 256 hidden units adds to entry `(r, c)` of the accumulator: `H` the normalised rows, `a`, `b`, `w`
    the chunk's gate, up and down weights. -/
def part (H : Vec Ideal S512x1024 .bf16) (a b : Vec Ideal S1024x256 .f32) (w : Vec Ideal S256x1024 .f32) (r : Fin 512) (c : Fin 1024) : EReal :=
  ∑ k : Fin 256, silu (∑ i, H (ix2 r i) * a (ix2 i k)) * (∑ i, H (ix2 r i) * b (ix2 i k)) * w (ix2 k c)

variable (H : Vec Ideal S512x1024 .bf16) (a b : Vec Ideal S1024x256 .f32) (w : Vec Ideal S256x1024 .f32)
  (acc : Vec Ideal S512x1024 .f32) (r : Fin 512) (c : Fin 1024)

/-- The normalised tile, entry by entry. -/
theorem head_apply (x : Vec Ideal S512x1024 .f32) (g : Vec Ideal S1x1024 .f32) (j : Fin 1024) :
    k0_pay4 x g (ix2 r j) = rms (fun k => x (ix2 r k)) (fun k => g (ix2 0 k)) j := by
  pointwise [k0_pay4, k0_pay3]
  rfl

/-- The first chunk starts the accumulator. -/
theorem part0 (x : Vec Ideal S512x1024 .f32) (g : Vec Ideal S1x1024 .f32) :
    k0_pay5 x g a b w (ix2 r c) = part (k0_pay4 x g) a b w r c := by
  unfold k0_pay5
  generalize k0_pay4 x g = H
  pointwise
  rfl

/-- The last step: the tile plus one half of the normalised accumulator. -/
theorem tail_apply (x : Vec Ideal S512x1024 .f32) (g : Vec Ideal S1x1024 .f32) :
    k0_pay2 (k0_pay3 x) acc g (ix2 r c)
      = x (ix2 r c) + Ideal.ofBits .f32 0x3F000000#32 * rms (fun k => acc (ix2 r k)) (fun k => g (ix2 0 k)) c := by
  pointwise [k0_pay2, k0_pay3]
  rfl

/-- Chunk 1 adds its part. -/
theorem part1 : k0_pay6 H a b w acc (ix2 r c) = acc (ix2 r c) + part H a b w r c := by
  pointwise [k0_pay6]
  rfl

/-- Chunk 2 adds its part. -/
theorem part2 : k0_pay8 (k0_pay7 H a b) w acc (ix2 r c) = acc (ix2 r c) + part H a b w r c := by
  pointwise [k0_pay8, k0_pay7]
  rfl

/-- Chunk 3 adds its part. -/
theorem part3 : k0_pay9 H a b w acc (ix2 r c) = acc (ix2 r c) + part H a b w r c := by
  pointwise [k0_pay9]
  rfl

/-- Chunk 4 adds its part. -/
theorem part4 : k0_pay11 H (k0_pay10 H a) b w acc (ix2 r c) = acc (ix2 r c) + part H a b w r c := by
  pointwise [k0_pay11, k0_pay10]
  rfl

/-- Chunk 5 adds its part. -/
theorem part5 : k0_pay13 (k0_pay12 H a b w) acc (ix2 r c) = acc (ix2 r c) + part H a b w r c := by
  pointwise [k0_pay13, k0_pay12]
  rfl

/-- Chunk 6 adds its part. -/
theorem part6 : k0_pay14 H a b w acc (ix2 r c) = acc (ix2 r c) + part H a b w r c := by
  pointwise [k0_pay14]
  rfl

/-- Chunk 7 adds its part. -/
theorem part7 : k0_pay17 (k0_pay15 H a) (k0_pay16 H b) (FloatOps.ofBits FTy.f32 0#32) w acc (ix2 r c) = acc (ix2 r c) + part H a b w r c := by
  pointwise [k0_pay17, k0_pay15, k0_pay16]
  rfl

/-- Chunk 8 adds its part. -/
theorem part8 : k0_pay19 (k0_pay18 H a b w acc) (ix2 r c) = acc (ix2 r c) + part H a b w r c := by
  pointwise [k0_pay19, k0_pay18]
  rfl

/-- Chunk 9 adds its part. -/
theorem part9 : k0_pay20 H a b w acc (ix2 r c) = acc (ix2 r c) + part H a b w r c := by
  pointwise [k0_pay20]
  rfl

/-- Chunk 10 adds its part. -/
theorem part10 : k0_pay1 (k0_pay21 H a) (k0_pay22 H b) (k0_pay23 H a) w acc (ix2 r c) = acc (ix2 r c) + part H a b w r c := by
  pointwise [k0_pay1, k0_pay21, k0_pay22, k0_pay23]
  rfl

/-- The 256 columns from `o` on of the up weights. -/
theorem ld_cols (X : Vec Ideal S1024x2816 .f32) (o : ℕ) (inb) (ho : o + 256 ≤ 2816) (i : Fin 1024) (k : Fin 256) :
    View.ld X (Rect.unit (s := S1024x2816) ![0, o] ![1024, 256] inb) (ix2 i k) = X (ix2 i ⟨o + k, by omega⟩) := by
  pointwise

/-- The 256 rows from `o` on of the down weights. -/
theorem ld_rows (X : Vec Ideal S2816x1024 .f32) (o : ℕ) (inb) (ho : o + 256 ≤ 2816) (k : Fin 256) (c : Fin 1024) :
    View.ld X (Rect.unit (s := S2816x1024) ![o, 0] ![256, 1024] inb) (ix2 k c) = X (ix2 ⟨o + k, by omega⟩ c) := by
  pointwise

/-- A chunk's part is the matching chunk of the sum over all hidden units. -/
theorem part_eq (G U : Vec Ideal S1024x2816 .f32) (D : Vec Ideal S2816x1024 .f32) (o : ℕ) (ho : o + 256 ≤ 2816) (i1 i2) :
    part H (View.ld G (Rect.unit (s := S1024x2816) ![0, o] ![1024, 256] i1)) (View.ld U (Rect.unit (s := S1024x2816) ![0, o] ![1024, 256] i1))
        (View.ld D (Rect.unit (s := S2816x1024) ![o, 0] ![256, 1024] i2)) r c
      = chunk (fun k => act (fun i => H (ix2 r i)) (fun i k => G (ix2 i k)) (fun i k => U (ix2 i k)) k * D (ix2 k c)) o ho := by
  unfold part chunk act
  exact Finset.sum_congr rfl fun k _ => congrArg₂ (· * ·)
    (congrArg₂ (· * ·) (congrArg silu (Finset.sum_congr rfl fun i _ => congrArg (H (ix2 r i) * ·) (ld_cols G o i1 ho i k)))
      (Finset.sum_congr rfl fun i _ => congrArg (H (ix2 r i) * ·) (ld_cols U o i1 ho i k)))
    (ld_rows D o i2 ho k c)

set_option maxHeartbeats 4000000 in
/-- One point's block, from the tile `x0`, the two gains and the three weights, at row `r` and column `c`. -/
theorem out_apply (d : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1024x2816 .f32) (harg4 : arg4.IsWhole) (arg5 : Memref sig .tc .vmem S1024x2816 .f32) (harg5 : arg5.IsWhole) (arg6 : Memref sig .tc .vmem S2816x1024 .f32) (harg6 : arg6.IsWhole) (arg7 : Memref sig .tc .vmem S512x1024 .f32) (harg7 : arg7.IsWhole) (arg8 : Memref sig .tc .vmem S512x1024 .f32) (harg8 : arg8.IsWhole)
    (x0 : Vec Ideal S512x1024 .f32) (x1 : Vec Ideal S1x1024 .f32) (x2 : Vec Ideal S1x1024 .f32) (x3 : Vec Ideal S1024x2816 .f32) (x4 : Vec Ideal S1024x2816 .f32) (x5 : Vec Ideal S2816x1024 .f32) :
    out0_A_6 d i arg1 harg1 arg2 harg2 arg3 harg3 arg4 harg4 arg5 harg5 arg6 harg6 arg7 harg7 arg8 harg8 x0 x1 x2 x3 x4 x5 (ix2 r c)
      = row (fun k => x0 (ix2 r k)) (fun k => x1 (ix2 0 k)) (fun k => x2 (ix2 0 k)) (fun i k => x3 (ix2 i k)) (fun i k => x4 (ix2 i k)) (fun k c => x5 (ix2 k c)) c := by
  unfold out0_A_6
  rw [View.read_writes_eq_canon _ _ _ (cover0_A_6 d i arg1 harg1 arg2 harg2 arg3 harg3 arg4 harg4 arg5 harg5 arg6 harg6 arg7 harg7 arg8 harg8 x0 x1 x2 x3 x4 x5)]
  unfold kernelRun0_A
  dsimp only
  sl_unfold_words
  simp only [View.readAt_eq_ld, harg1.read_unread, harg2.read_unread, harg3.read_unread, harg4.read_unread, harg5.read_unread, harg6.read_unread]
  have z1 : (![0, 0] : Fin S512x1024.rank → Nat) = fun _ => 0 := by decide
  have z2 : (![0, 0] : Fin S1x1024.rank → Nat) = fun _ => 0 := by decide
  rw [View.canon_cons_unit_zero (S := S512x1024) z1]
  simp only [View.readCov_cons_toLoadRect]
  rw [View.ld_unit_zero (S := S512x1024) z1, View.ld_unit_zero (S := S1x1024) z2 _ x1, View.ld_unit_zero (S := S1x1024) z2 _ x2]
  rw [tail_apply]
  unfold row down
  refine congrArg (fun f => x0 (ix2 r c) + Ideal.ofBits .f32 0x3F000000#32 * rms f (fun k => x2 (ix2 0 k)) c) (funext fun c => ?_)
  rw [part10, part9, part8, part7, part6, part5, part4, part3, part2, part1, part0]
  have hh : (fun j => k0_pay4 x0 x1 (ix2 r j)) = rms (fun k => x0 (ix2 r k)) (fun k => x1 (ix2 0 k)) :=
    funext fun j => head_apply r x0 x1 j
  rw [← hh, ← sum_chunks]
  generalize k0_pay4 x0 x1 = H
  rw [part_eq H r c x3 x4 x5 0 (by omega), part_eq H r c x3 x4 x5 256 (by omega), part_eq H r c x3 x4 x5 512 (by omega),
    part_eq H r c x3 x4 x5 768 (by omega), part_eq H r c x3 x4 x5 1024 (by omega), part_eq H r c x3 x4 x5 1280 (by omega),
    part_eq H r c x3 x4 x5 1536 (by omega), part_eq H r c x3 x4 x5 1792 (by omega), part_eq H r c x3 x4 x5 2048 (by omega),
    part_eq H r c x3 x4 x5 2304 (by omega), part_eq H r c x3 x4 x5 2560 (by omega)]

end Cert.Proof.Ffn3

end
-- ==== Proof.Ffn3Array.lean ====
/-
  The feed-forward kernel's result array: entry `(R, c)` is `Ffn.row` on row `R` of the input.
-/
module

public import proofs.«01_k».proof.Proof.Ffn3Tile

@[expose] public section

set_option maxRecDepth 16384

noncomputable section

namespace Cert.Proof.Ffn3

open Cert.Kernel3Ideal Cert.Kernel3Ideal.Gen
open Idealize.ShloMosaic Idealize.ShloMosaic.TcCoe Idealize.ShloMosaic.Tactic
open Idealize.ShloMosaic.Pipeline (Dat)

variable (m : (ℓ : Loc nD τ sig) → Buf (Elt Ideal) ℓ)

/-- The result as a function of the arrays the region finds. -/
def res (d : Dev nD) : Vec Ideal S16384x1024 .f32 := fun i =>
  Ffn.row (fun k => V m d main_v0 (ix2 (i 0) k)) (fun k => V m d main_v1 (ix2 0 k)) (fun k => V m d main_v2 (ix2 0 k))
    (fun i k => V m d main_arg3 (ix2 i k)) (fun i k => V m d main_arg4 (ix2 i k)) (fun k c => V m d main_arg5 (ix2 k c)) (i 1)

/-- Where each window's block lies at each point. -/
theorem idx_facts : ∀ t : Fin cfg0.N,
    win0_0.index t (0 : Fin 2) = win0_6.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 ∧ (cfg0.win 6).flush t = true :=
  (by decide +kernel : ∀ t : Fin grid0.N, _)

/-- Window 0's block at point `t`, entry by entry. -/
theorem iblk0_apply (d : Dev nD) (t : Fin cfg0.N) (r : Fin 512) (k : Fin 1024) :
    iblk m d 0 t (ix2 r k) = V m d main_v0 (ix2 ⟨t.val * 512 + r.val, by have h : t.val < 32 := t.isLt; omega⟩ k) := by
  obtain ⟨a0, a1, b0, b1, c0, c1, d0, d1, e0, e1, f0, f1, g0, g1, -⟩ := idx_facts t
  show V m d main_v0 (((cfg0.win 0).blk t).view.emb (ix2 r k)) = _
  refine congrArg (V m d main_v0) (funext fun a => Fin.ext ?_)
  match a with
  | ⟨0, _⟩ => show win0_0.index t (0 : Fin 2) * 512 + 1 * r.val = t.val * 512 + r.val; omega
  | ⟨1, _⟩ => show win0_0.index t (1 : Fin 2) * 1024 + 1 * k.val = k.val; omega

/-- Window 1's block at point `t`, entry by entry. -/
theorem iblk1_apply (d : Dev nD) (t : Fin cfg0.N) (r : Fin 1) (k : Fin 1024) :
    iblk m d 1 t (ix2 r k) = V m d main_v1 (ix2 r k) := by
  obtain ⟨a0, a1, b0, b1, c0, c1, d0, d1, e0, e1, f0, f1, g0, g1, -⟩ := idx_facts t
  show V m d main_v1 (((cfg0.win 1).blk t).view.emb (ix2 r k)) = _
  refine congrArg (V m d main_v1) (funext fun a => Fin.ext ?_)
  match a with
  | ⟨0, _⟩ => show win0_1.index t (0 : Fin 2) * 1 + 1 * r.val = r.val; omega
  | ⟨1, _⟩ => show win0_1.index t (1 : Fin 2) * 1024 + 1 * k.val = k.val; omega

/-- Window 2's block at point `t`, entry by entry. -/
theorem iblk2_apply (d : Dev nD) (t : Fin cfg0.N) (r : Fin 1) (k : Fin 1024) :
    iblk m d 2 t (ix2 r k) = V m d main_v2 (ix2 r k) := by
  obtain ⟨a0, a1, b0, b1, c0, c1, d0, d1, e0, e1, f0, f1, g0, g1, -⟩ := idx_facts t
  show V m d main_v2 (((cfg0.win 2).blk t).view.emb (ix2 r k)) = _
  refine congrArg (V m d main_v2) (funext fun a => Fin.ext ?_)
  match a with
  | ⟨0, _⟩ => show win0_2.index t (0 : Fin 2) * 1 + 1 * r.val = r.val; omega
  | ⟨1, _⟩ => show win0_2.index t (1 : Fin 2) * 1024 + 1 * k.val = k.val; omega

/-- Window 3's block at point `t`, entry by entry. -/
theorem iblk3_apply (d : Dev nD) (t : Fin cfg0.N) (r : Fin 1024) (k : Fin 2816) :
    iblk m d 3 t (ix2 r k) = V m d main_arg3 (ix2 r k) := by
  obtain ⟨a0, a1, b0, b1, c0, c1, d0, d1, e0, e1, f0, f1, g0, g1, -⟩ := idx_facts t
  show V m d main_arg3 (((cfg0.win 3).blk t).view.emb (ix2 r k)) = _
  refine congrArg (V m d main_arg3) (funext fun a => Fin.ext ?_)
  match a with
  | ⟨0, _⟩ => show win0_3.index t (0 : Fin 2) * 1024 + 1 * r.val = r.val; omega
  | ⟨1, _⟩ => show win0_3.index t (1 : Fin 2) * 2816 + 1 * k.val = k.val; omega

/-- Window 4's block at point `t`, entry by entry. -/
theorem iblk4_apply (d : Dev nD) (t : Fin cfg0.N) (r : Fin 1024) (k : Fin 2816) :
    iblk m d 4 t (ix2 r k) = V m d main_arg4 (ix2 r k) := by
  obtain ⟨a0, a1, b0, b1, c0, c1, d0, d1, e0, e1, f0, f1, g0, g1, -⟩ := idx_facts t
  show V m d main_arg4 (((cfg0.win 4).blk t).view.emb (ix2 r k)) = _
  refine congrArg (V m d main_arg4) (funext fun a => Fin.ext ?_)
  match a with
  | ⟨0, _⟩ => show win0_4.index t (0 : Fin 2) * 1024 + 1 * r.val = r.val; omega
  | ⟨1, _⟩ => show win0_4.index t (1 : Fin 2) * 2816 + 1 * k.val = k.val; omega

/-- Window 5's block at point `t`, entry by entry. -/
theorem iblk5_apply (d : Dev nD) (t : Fin cfg0.N) (r : Fin 2816) (k : Fin 1024) :
    iblk m d 5 t (ix2 r k) = V m d main_arg5 (ix2 r k) := by
  obtain ⟨a0, a1, b0, b1, c0, c1, d0, d1, e0, e1, f0, f1, g0, g1, -⟩ := idx_facts t
  show V m d main_arg5 (((cfg0.win 5).blk t).view.emb (ix2 r k)) = _
  refine congrArg (V m d main_arg5) (funext fun a => Fin.ext ?_)
  match a with
  | ⟨0, _⟩ => show win0_5.index t (0 : Fin 2) * 2816 + 1 * r.val = r.val; omega
  | ⟨1, _⟩ => show win0_5.index t (1 : Fin 2) * 1024 + 1 * k.val = k.val; omega

/-- What point `t` writes back is its block of `res`. -/
theorem flushed_eq (d : Dev nD) (t : Fin cfg0.N) :
    (dats m 0 d).flushed 6 t = ((cfg0.win 6).blk t).view.read (Elt Ideal) (res m d) := by
  rw [Value.flushed6_A]
  funext j
  obtain ⟨a0, a1, b0, b1, c0, c1, d0, d1, e0, e1, f0, f1, g0, g1, -⟩ := idx_facts t
  obtain ⟨r, c, rfl⟩ : ∃ (r : Fin 512) (c : Fin 1024), j = ix2 r c := ⟨j 0, j 1, eq_ix2 j⟩
  refine (out_apply r c d _ _ _ _ _ _ _ _ _ _ _ _ _ _ _ _ _ _ _ _ _ _ _).trans ?_
  have hq : ((cfg0.win 6).blk t).view.emb (ix2 r c)
      = (ix2 ⟨t.val * 512 + r.val, by have h : t.val < 32 := t.isLt; omega⟩ c : S16384x1024.Idx) := funext fun a => Fin.ext (by
    match a with
    | ⟨0, _⟩ => show win0_6.index t (0 : Fin 2) * 512 + 1 * r.val = t.val * 512 + r.val; omega
    | ⟨1, _⟩ => show win0_6.index t (1 : Fin 2) * 1024 + 1 * c.val = c.val; omega)
  show _ = res m d (((cfg0.win 6).blk t).view.emb (ix2 r c))
  rw [hq]
  simp only [iblk0_apply, iblk1_apply, iblk2_apply, iblk3_apply, iblk4_apply, iblk5_apply]
  rfl

/-- So the whole result array is `res`. -/
theorem final (d : Dev nD) : (dats m 0 d).arrAt 6 cfg0.N = res m d :=
  (dats m 0 d).arrAt_eq_of_cover 6 (res m d) (fun t _ => flushed_eq m d t) fun i => by
    have h0 : (i 0 : Nat) < 16384 := (i 0).isLt
    have h1 : (i 1 : Nat) < 1024 := (i 1).isLt
    obtain ⟨t, ht⟩ : ∃ t : Fin cfg0.N, t.val = (i 0 : Nat) / 512 := ⟨⟨(i 0 : Nat) / 512, by show _ < 32; omega⟩, rfl⟩
    obtain ⟨a0, a1, b0, b1, c0, c1, d0, d1, e0, e1, f0, f1, g0, g1, hf⟩ := idx_facts t
    refine ⟨t, hf, ?_⟩
    show i ∈ ((View.whole main_v3).slice (win0_6.rect t)).set
    rw [View.set_slice_whole, Rect.mem_set_unit]
    intro a
    match a with
    | ⟨0, _⟩ =>
      show win0_6.index t (0 : Fin 2) * 512 ≤ (i 0 : Nat) ∧ (i 0 : Nat) < win0_6.index t (0 : Fin 2) * 512 + 512
      omega
    | ⟨1, _⟩ =>
      show win0_6.index t (1 : Fin 2) * 1024 ≤ (i 1 : Nat) ∧ (i 1 : Nat) < win0_6.index t (1 : Fin 2) * 1024 + 1024
      omega

end Cert.Proof.Ffn3

end
-- ==== Proof.Ffn3Ref.lean ====
/-
  The feed-forward reference, entry by entry: `Ffn.row` on each row.
-/
module

public import proofs.«01_k».proof.Proof.FfnSpec
public import proofs.«01_k».proof.Proof.Gen.Reference3Ideal.Read
public import Idealize.ShloMosaic.Lib.Pointwise

@[expose] public section

set_option maxRecDepth 16384

noncomputable section

namespace Cert.Proof.Ref3

open Cert.Reference3Ideal Cert.Reference3Ideal.Gen Cert.Reference3Ideal.Read
open Idealize.ShloMosaic Idealize.ShloMosaic.TcCoe Idealize.ShloMosaic.Tactic
open Cert.Proof.Ffn

variable (x : Vec Ideal S8x2048x1024 .f32) (pre post : Vec Ideal S1024 .f32) (wg wu : Vec Ideal S1024x2816 .f32) (wd : Vec Ideal S2816x1024 .f32)
  (b : Fin 8) (s : Fin 2048)

/-- The normalised rows. -/
theorem head (j : Fin 1024) : val_main_v12 (F := Ideal) x pre (ix3 b s j) = rms (fun k => x (ix3 b s k)) (fun k => pre (ix1 k)) j := by
  pointwise [val_main_v12, val_main_v11, val_main_v10, val_main_v9, val_main_v8, val_main_v7, val_main_v6, val_main_v5, val_main_v4, val_main_v3, val_main_v2, val_main_v1, val_main_v0, val_main_cst, val_main_cst_0, val_main_cst_1]
  rfl

/-- The gated activations. -/
theorem act_eq (k : Fin 2816) : val_main_v16 (F := Ideal) x pre wg wu (ix3 b s k)
    = act (rms (fun k => x (ix3 b s k)) (fun k => pre (ix1 k))) (fun i k => wg (ix2 i k)) (fun i k => wu (ix2 i k)) k := by
  pointwise [val_main_v16, val_main_v15, val_main_v14, val_main_v13, val_main_call0_v5, val_main_call0_v4, val_main_call0_v3, val_main_call0_v2, val_main_call0_v1, val_main_call0_v0, val_main_call0_cst, val_main_call0_cst_0]
  simp only [silu_eq, head]
  rfl

/-- The down projection. -/
theorem down_eq (j : Fin 1024) : val_main_v17 (F := Ideal) x pre wg wu wd (ix3 b s j)
    = down (rms (fun k => x (ix3 b s k)) (fun k => pre (ix1 k))) (fun i k => wg (ix2 i k)) (fun i k => wu (ix2 i k)) (fun k c => wd (ix2 k c)) j := by
  pointwise [val_main_v17]
  simp only [act_eq]
  rfl

/-- The result before the last reshape. -/
theorem row_eq (j : Fin 1024) : val_main_v33 (F := Ideal) x pre post wg wu wd (ix3 b s j)
    = row (fun k => x (ix3 b s k)) (fun k => pre (ix1 k)) (fun k => post (ix1 k)) (fun i k => wg (ix2 i k)) (fun i k => wu (ix2 i k)) (fun k c => wd (ix2 k c)) j := by
  pointwise [val_main_v33, val_main_v32, val_main_v31, val_main_v30, val_main_v29, val_main_v28, val_main_v27, val_main_v26, val_main_v25, val_main_v24, val_main_v23, val_main_v22, val_main_v21, val_main_v20, val_main_v19, val_main_v18, val_main_cst_2, val_main_cst_3, val_main_cst_4, val_main_cst_5]
  simp only [down_eq]
  rfl

/-- The result. -/
theorem out_eq (r : Fin 16384) (j : Fin 1024) : val_main_v34 (F := Ideal) x pre post wg wu wd (ix2 r j)
    = row (fun k => x (ix3 ⟨r / 2048, by omega⟩ ⟨r % 2048, by omega⟩ k)) (fun k => pre (ix1 k)) (fun k => post (ix1 k)) (fun i k => wg (ix2 i k)) (fun i k => wu (ix2 i k)) (fun k c => wd (ix2 k c)) j := by
  rw [← row_eq]
  unfold val_main_v34
  generalize val_main_v33 (F := Ideal) x pre post wg wu wd = y
  pointwise

end Cert.Proof.Ref3

end
-- ==== Proof.Ffn3Claim.lean ====
/-
  The feed-forward kernel and its reference compute the same array over the extended reals.
-/
module

public import proofs.«01_k».proof.Defs
public import proofs.«01_k».proof.Proof.Ffn3Array
public import proofs.«01_k».proof.Proof.Ffn3Ref
public import Idealize.ShloMosaic.Lib.StableHlo.Run

@[expose] public section

set_option maxRecDepth 16384

noncomputable section

open Idealize.ShloMosaic Idealize.ShloMosaic.TcCoe Idealize.ShloMosaic.Tactic Idealize.SL.Sem

namespace Cert.Proof.Ffn3

open Cert.Kernel3Ideal Cert.Kernel3Ideal.Gen

variable (m : (ℓ : Loc nD τ sig) → Buf (Elt Ideal) ℓ)

/-- A row of the merged rows. -/
theorem rows_apply (x : Vec Ideal S8x2048x1024 .f32) (r : Fin 16384) (k : Fin 1024) :
    shapeCast S16384x1024 x shapeCasts_S8x2048x1024_S16384x1024 (ix2 r k) = x (ix3 ⟨r.val / 2048, by omega⟩ ⟨r.val % 2048, by omega⟩ k) := by
  pointwise

/-- A vector as one row. -/
theorem gain_apply (x : Vec Ideal S1024 .f32) (k : Fin 1024) : shapeCast S1x1024 x shapeCasts_S1024_S1x1024 (ix2 0 k) = x (ix1 k) := by
  pointwise

/-- The region finds the input as rows. -/
theorem V_v0 (d : Dev nD) : V m d main_v0 = shapeCast S16384x1024 (m ((d : Thread nD τ).loc main_arg0)) shapeCasts_S8x2048x1024_S16384x1024 := by
  unfold V
  simp only [hostOps0]
  after_results
  rfl

/-- The region finds the first gains as a row. -/
theorem V_v1 (d : Dev nD) : V m d main_v1 = shapeCast S1x1024 (m ((d : Thread nD τ).loc main_arg1)) shapeCasts_S1024_S1x1024 := by
  unfold V
  simp only [hostOps0]
  after_results
  rfl

/-- The region finds the second gains as a row. -/
theorem V_v2 (d : Dev nD) : V m d main_v2 = shapeCast S1x1024 (m ((d : Thread nD τ).loc main_arg2)) shapeCasts_S1024_S1x1024 := by
  unfold V
  simp only [hostOps0]
  after_results
  rfl

/-- Its rows are the input's. -/
theorem V_v0_apply (d : Dev nD) (r : Fin 16384) (k : Fin 1024) :
    V m d main_v0 (ix2 r k) = m ((d : Thread nD τ).loc main_arg0) (ix3 ⟨r.val / 2048, by omega⟩ ⟨r.val % 2048, by omega⟩ k) :=
  (congrFun (V_v0 m d) _).trans (rows_apply _ r k)

/-- Its one row is the first gains. -/
theorem V_v1_apply (d : Dev nD) (k : Fin 1024) : V m d main_v1 (ix2 0 k) = m ((d : Thread nD τ).loc main_arg1) (ix1 k) :=
  (congrFun (V_v1 m d) _).trans (gain_apply _ k)

/-- Its one row is the second gains. -/
theorem V_v2_apply (d : Dev nD) (k : Fin 1024) : V m d main_v2 (ix2 0 k) = m ((d : Thread nD τ).loc main_arg2) (ix1 k) :=
  (congrFun (V_v2 m d) _).trans (gain_apply _ k)

/-- The result array is the reference's last stage of the same arguments. -/
theorem res_eq (d : Dev nD) : res m d = Cert.Reference3Ideal.Read.val_main_v34 (F := Ideal) (m ((d : Thread nD τ).loc main_arg0)) (m ((d : Thread nD τ).loc main_arg1))
    (m ((d : Thread nD τ).loc main_arg2)) (m ((d : Thread nD τ).loc main_arg3)) (m ((d : Thread nD τ).loc main_arg4)) (m ((d : Thread nD τ).loc main_arg5)) := by
  funext i
  obtain ⟨r, c, rfl⟩ : ∃ (r : Fin 16384) (c : Fin 1024), i = ix2 r c := ⟨i 0, i 1, eq_ix2 i⟩
  refine Eq.trans ?_ (Cert.Proof.Ref3.out_eq _ _ _ _ _ _ r c).symm
  show Cert.Proof.Ffn.row (fun k => V m d main_v0 (ix2 r k)) (fun k => V m d main_v1 (ix2 0 k)) (fun k => V m d main_v2 (ix2 0 k))
    (fun i k => V m d main_arg3 (ix2 i k)) (fun i k => V m d main_arg4 (ix2 i k)) (fun k c => V m d main_arg5 (ix2 k c)) c = _
  rw [show (fun k => V m d main_v0 (ix2 r k)) = _ from funext (V_v0_apply m d r), show (fun k => V m d main_v1 (ix2 0 k)) = _ from funext (V_v1_apply m d),
    show (fun k => V m d main_v2 (ix2 0 k)) = _ from funext (V_v2_apply m d), V_main_arg3, V_main_arg4, V_main_arg5]

end Cert.Proof.Ffn3

/-- Both run, with equal results and unchanged arguments. -/
theorem Cert.Proof.Ffn3.claim : Cert.algebraic_Kernel3Ideal_Reference3Ideal := by
  intro m g m' g' _ hagree
  refine ⟨fun c => Cert.Proof.Ffn3.res m c, ?_, ?_⟩
  · refine (θ_run _ _ _).mono (fun r h c => ?_) (Cert.Kernel3Ideal.Value.run_blocks m g)
    obtain ⟨h0, hr⟩ := h c
    exact ⟨h0.trans (Cert.Proof.Ffn3.final m c), hr⟩
  · refine (θ_run _ _ _).mono (fun r h c => ?_) (Cert.Reference3Ideal.Value.run (F := Ideal) m' g')
    obtain ⟨h0, hr⟩ := h c
    refine ⟨h0.trans ?_, hr⟩
    obtain ⟨a0, a1, a2, a3, a4, a5⟩ := hagree c
    rw [Cert.Reference3Ideal.Read.val_main_v34_eq, a0, a1, a2, a3, a4, a5]
    exact (Cert.Proof.Ffn3.res_eq m c).symm

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.ReferenceIdeal.Run
public import proofs.«01_k».proof.Proof.Gen.ReferenceIdeal.Read
public import proofs.«01_k».proof.Proof.Gen.Kernel4
public import proofs.«01_k».proof.Proof.Gen.Kernel4.Skeleton
public import proofs.«01_k».proof.Proof.Gen.Kernel4.Loops
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Loops
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Pre_finite
public import proofs.«01_k».proof.Proof.SwaClaim
public import proofs.«01_k».proof.Proof.SwaNeed
public import proofs.«01_k».proof.Proof.MlaFrame
public import proofs.«01_k».proof.Proof.MlaIdealFrame
public import proofs.«01_k».proof.Proof.Ffn2Claim
public import proofs.«01_k».proof.Proof.Ffn3Claim
public import Idealize.ShloMosaic.Lib.Quiescent
public import Idealize.ShloMosaic.Adequacy
public import Idealize.ShloMosaic.Init

@[expose] public section

noncomputable section

namespace Cert.Proof

open Idealize.ShloMosaic Idealize.SL.Sem

/-- The attention's reference leaves its arguments and every counter as they were. -/
theorem refFrame : Cert.quiescent_ReferenceIdeal := fun m g _ =>
  (θ_run _ _ _).mono (fun r h => ⟨fun c => (h c).2, sem_eq_zero_of_no_sems rfl _⟩) (Cert.ReferenceIdeal.Value.run (F := Ideal) m g)

/-- So does the reference of the output projection with the feed-forward block. -/
theorem ref2Frame : Cert.quiescent_Reference2Ideal := fun m g _ =>
  (θ_run _ _ _).mono (fun r h => ⟨fun c => (h c).2, sem_eq_zero_of_no_sems rfl _⟩) (Cert.Reference2Ideal.Value.run (F := Ideal) m g)

/-- So does the feed-forward block's reference. -/
theorem ref3Frame : Cert.quiescent_Reference3Ideal := fun m g _ =>
  (θ_run _ _ _).mono (fun r h => ⟨fun c => (h c).2, sem_eq_zero_of_no_sems rfl _⟩) (Cert.Reference3Ideal.Value.run (F := Ideal) m g)

/-- So does the latent attention's reference. -/
theorem ref4Frame : Cert.quiescent_Reference4Ideal := fun m g _ =>
  (θ_run _ _ _).mono (fun r h => ⟨fun c => (h c).2, sem_eq_zero_of_no_sems rfl _⟩) (Cert.Reference4Ideal.Value.run (F := Ideal) m g)

/-- Every claim. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Pre_finite.Gen.facts,
  fun m g _ => Cert.Kernel.Gen.frame m g,
  fun m g _ => Cert.KernelIdeal.Gen.frame m g,
  fun m g _ => Cert.KernelIdeal.Gen.frame m g,
  refFrame,
  fun m g _ => refFrame m g trivial,
  fun m g _ => Cert.Kernel2.Gen.frame m g,
  fun m g _ => Cert.Kernel2Ideal.Gen.frame m g,
  ref2Frame,
  fun m g _ => Cert.Kernel3.Gen.frame m g,
  fun m g _ => Cert.Kernel3Ideal.Gen.frame m g,
  ref3Frame,
  fun m g _ => Cert.Proof.Kernel4.frame_main m g,
  fun m g _ => Cert.Proof.Kernel4Ideal.frame_main m g,
  ref4Frame,
  ⟨IdealRules.named_const.statement Cert.KernelIdeal.κ "scale" .f32 0x3E38AA3B#32 (((Real.log 2)⁻¹ * (1 / 8) : ℝ) : EReal) rfl,
    IdealRules.named_const.statement Cert.KernelIdeal.κ "log2e" .f32 0x3FB8AA3B#32 (((Real.log 2)⁻¹ : ℝ) : EReal) rfl,
    IdealRules.named_const.statement Cert.KernelIdeal.κ "mask" .f32 0xF149F2CA#32 ⊥ rfl⟩,
  Cert.Proof.SwaEq.claim,
  trivial,
  Cert.Proof.Ffn2.claim,
  trivial,
  Cert.Proof.Ffn3.claim,
  ⟨IdealRules.named_const.statement Cert.Kernel4Ideal.κ "mask" .f32 0xF149F2CA#32 ⊥ rfl,
    IdealRules.named_const.statement Cert.Kernel4Ideal.κ "scale" .f32 0x3E16C740#32 (((Real.log 2)⁻¹ * (Real.sqrt 96)⁻¹ : ℝ) : EReal) rfl⟩⟩

end Cert.Proof

end
